-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_ProjectionIdeal (m : (ℓ : Loc Cert.ProjectionIdeal.nD Cert.ProjectionIdeal.τ Cert.ProjectionIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_ProjectionSampleIdeal (m : (ℓ : Loc Cert.ProjectionSampleIdeal.nD Cert.ProjectionSampleIdeal.τ Cert.ProjectionSampleIdeal.sig) → Buf (Elt Ideal) ℓ) : Prop :=
  True

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeIdeal (m : (ℓ : Loc Cert.MergeIdeal.nD Cert.MergeIdeal.τ Cert.MergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4)
      ∧ r.2.mem ((c.tc : Thread Cert.ProjectionIdeal.nD Cert.ProjectionIdeal.τ).loc Cert.ProjectionIdeal.main_arg5) = m ((c.tc : Thread Cert.ProjectionIdeal.nD Cert.ProjectionIdeal.τ).loc Cert.ProjectionIdeal.main_arg5)
      ∧ r.2.mem ((c.tc : Thread Cert.ProjectionIdeal.nD Cert.ProjectionIdeal.τ).loc Cert.ProjectionIdeal.main_arg6) = m ((c.tc : Thread Cert.ProjectionIdeal.nD Cert.ProjectionIdeal.τ).loc Cert.ProjectionIdeal.main_arg6)
      ∧ r.2.mem ((c.tc : Thread Cert.ProjectionIdeal.nD Cert.ProjectionIdeal.τ).loc Cert.ProjectionIdeal.main_arg7) = m ((c.tc : Thread Cert.ProjectionIdeal.nD Cert.ProjectionIdeal.τ).loc Cert.ProjectionIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4)
      ∧ r.2.mem ((c.tc : Thread Cert.FeedForwardIdeal.nD Cert.FeedForwardIdeal.τ).loc Cert.FeedForwardIdeal.main_arg5) = m ((c.tc : Thread Cert.FeedForwardIdeal.nD Cert.FeedForwardIdeal.τ).loc Cert.FeedForwardIdeal.main_arg5))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3)
      ∧ r.2.mem ((c.tc : Thread Cert.InprojSample.nD Cert.InprojSample.τ).loc Cert.InprojSample.main_arg4) = m ((c.tc : Thread Cert.InprojSample.nD Cert.InprojSample.τ).loc Cert.InprojSample.main_arg4)
      ∧ r.2.mem ((c.tc : Thread Cert.InprojSample.nD Cert.InprojSample.τ).loc Cert.InprojSample.main_arg5) = m ((c.tc : Thread Cert.InprojSample.nD Cert.InprojSample.τ).loc Cert.InprojSample.main_arg5)
      ∧ r.2.mem ((c.tc : Thread Cert.InprojSample.nD Cert.InprojSample.τ).loc Cert.InprojSample.main_arg6) = m ((c.tc : Thread Cert.InprojSample.nD Cert.InprojSample.τ).loc Cert.InprojSample.main_arg6)
      ∧ r.2.mem ((c.tc : Thread Cert.InprojSample.nD Cert.InprojSample.τ).loc Cert.InprojSample.main_arg7) = m ((c.tc : Thread Cert.InprojSample.nD Cert.InprojSample.τ).loc Cert.InprojSample.main_arg7))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
      ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
      ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
      ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6)
      ∧ r.2.mem ((c.tc : Thread Cert.InprojSampleIdeal.nD Cert.InprojSampleIdeal.τ).loc Cert.InprojSampleIdeal.main_arg7) = m ((c.tc : Thread Cert.InprojSampleIdeal.nD Cert.InprojSampleIdeal.τ).loc Cert.InprojSampleIdeal.main_arg7))
      ∧ r.2.sem = fun _ => 0)

def quiescent_ProjectionSampleIdeal [hProjectionSampleIdeal : Cert.ProjectionSampleIdeal.Facts] : Prop :=
  ∀ (m : (ℓ : Loc Cert.ProjectionSampleIdeal.nD Cert.ProjectionSampleIdeal.τ Cert.ProjectionSampleIdeal.sig) → Buf (Elt Ideal) ℓ) (g : Dev Cert.ProjectionSampleIdeal.nD → PrngReg), Pre_ProjectionSampleIdeal m →
    θ_run (Cert.ProjectionSampleIdeal.defs (F := Ideal)) (onTc (τ := Cert.ProjectionSampleIdeal.τ) (Cert.ProjectionSampleIdeal.main (F := Ideal))) ⟨m, fun _ => 0, g⟩ (fun r => (∀ c : Dev Cert.ProjectionSampleIdeal.nD,
      r.2.mem ((c.tc : Thread Cert.ProjectionSampleIdeal.nD Cert.ProjectionSampleIdeal.τ).loc Cert.ProjectionSampleIdeal.main_arg0) = m ((c.tc : Thread Cert.ProjectionSampleIdeal.nD Cert.ProjectionSampleIdeal.τ).loc Cert.ProjectionSampleIdeal.main_arg0)
      ∧ r.2.mem ((c.tc : Thread Cert.ProjectionSampleIdeal.nD Cert.ProjectionSampleIdeal.τ).loc Cert.ProjectionSampleIdeal.main_arg1) = m ((c.tc : Thread Cert.ProjectionSampleIdeal.nD Cert.ProjectionSampleIdeal.τ).loc Cert.ProjectionSampleIdeal.main_arg1)
      ∧ r.2.mem ((c.tc : Thread Cert.ProjectionSampleIdeal.nD Cert.ProjectionSampleIdeal.τ).loc Cert.ProjectionSampleIdeal.main_arg2) = m ((c.tc : Thread Cert.ProjectionSampleIdeal.nD Cert.ProjectionSampleIdeal.τ).loc Cert.ProjectionSampleIdeal.main_arg2)
      ∧ r.2.mem ((c.tc : Thread Cert.ProjectionSampleIdeal.nD Cert.ProjectionSampleIdeal.τ).loc Cert.ProjectionSampleIdeal.main_arg3) = m ((c.tc : Thread Cert.ProjectionSampleIdeal.nD Cert.ProjectionSampleIdeal.τ).loc Cert.ProjectionSampleIdeal.main_arg3)
      ∧ r.2.mem ((c.tc : Thread Cert.ProjectionSampleIdeal.nD Cert.ProjectionSampleIdeal.τ).loc Cert.ProjectionSampleIdeal.main_arg4) = m ((c.tc : Thread Cert.ProjectionSampleIdeal.nD Cert.ProjectionSampleIdeal.τ).loc Cert.ProjectionSampleIdeal.main_arg4)
      ∧ r.2.mem ((c.tc : Thread Cert.ProjectionSampleIdeal.nD Cert.ProjectionSampleIdeal.τ).loc Cert.ProjectionSampleIdeal.main_arg5) = m ((c.tc : Thread Cert.ProjectionSampleIdeal.nD Cert.ProjectionSampleIdeal.τ).loc Cert.ProjectionSampleIdeal.main_arg5)
      ∧ r.2.mem ((c.tc : Thread Cert.ProjectionSampleIdeal.nD Cert.ProjectionSampleIdeal.τ).loc Cert.ProjectionSampleIdeal.main_arg6) = m ((c.tc : Thread Cert.ProjectionSampleIdeal.nD Cert.ProjectionSampleIdeal.τ).loc Cert.ProjectionSampleIdeal.main_arg6)
      ∧ r.2.mem ((c.tc : Thread Cert.ProjectionSampleIdeal.nD Cert.ProjectionSampleIdeal.τ).loc Cert.ProjectionSampleIdeal.main_arg7) = m ((c.tc : Thread Cert.ProjectionSampleIdeal.nD Cert.ProjectionSampleIdeal.τ).loc Cert.ProjectionSampleIdeal.main_arg7))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10)
      ∧ r.2.mem ((c.tc : Thread Cert.MergeSample.nD Cert.MergeSample.τ).loc Cert.MergeSample.main_arg11) = m ((c.tc : Thread Cert.MergeSample.nD Cert.MergeSample.τ).loc Cert.MergeSample.main_arg11)
      ∧ r.2.mem ((c.tc : Thread Cert.MergeSample.nD Cert.MergeSample.τ).loc Cert.MergeSample.main_arg12) = m ((c.tc : Thread Cert.MergeSample.nD Cert.MergeSample.τ).loc Cert.MergeSample.main_arg12)
      ∧ r.2.mem ((c.tc : Thread Cert.MergeSample.nD Cert.MergeSample.τ).loc Cert.MergeSample.main_arg13) = m ((c.tc : Thread Cert.MergeSample.nD Cert.MergeSample.τ).loc Cert.MergeSample.main_arg13)
      ∧ r.2.mem ((c.tc : Thread Cert.MergeSample.nD Cert.MergeSample.τ).loc Cert.MergeSample.main_arg14) = m ((c.tc : Thread Cert.MergeSample.nD Cert.MergeSample.τ).loc Cert.MergeSample.main_arg14))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
      ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
      ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
      ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
      ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_ProjectionIdeal [hInprojIdeal : Cert.InprojIdeal.Facts] [hProjectionIdeal : Cert.ProjectionIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.ProjectionIdeal.nD Cert.ProjectionIdeal.τ Cert.ProjectionIdeal.sig) → Buf (Elt Ideal) ℓ) (g' : Dev Cert.ProjectionIdeal.nD → PrngReg), Pre_InprojIdeal m →
    (∀ c : Dev Cert.InprojIdeal.nD,
      m' ((c.tc : Thread Cert.ProjectionIdeal.nD Cert.ProjectionIdeal.τ).loc Cert.ProjectionIdeal.main_arg0) = m ((c.tc : Thread Cert.InprojIdeal.nD Cert.InprojIdeal.τ).loc Cert.InprojIdeal.main_arg0)
      ∧ m' ((c.tc : Thread Cert.ProjectionIdeal.nD Cert.ProjectionIdeal.τ).loc Cert.ProjectionIdeal.main_arg1) = m ((c.tc : Thread Cert.InprojIdeal.nD Cert.InprojIdeal.τ).loc Cert.InprojIdeal.main_arg1)
      ∧ m' ((c.tc : Thread Cert.ProjectionIdeal.nD Cert.ProjectionIdeal.τ).loc Cert.ProjectionIdeal.main_arg2) = m ((c.tc : Thread Cert.InprojIdeal.nD Cert.InprojIdeal.τ).loc Cert.InprojIdeal.main_arg2)
      ∧ m' ((c.tc : Thread Cert.ProjectionIdeal.nD Cert.ProjectionIdeal.τ).loc Cert.ProjectionIdeal.main_arg3) = m ((c.tc : Thread Cert.InprojIdeal.nD Cert.InprojIdeal.τ).loc Cert.InprojIdeal.main_arg3)
      ∧ m' ((c.tc : Thread Cert.ProjectionIdeal.nD Cert.ProjectionIdeal.τ).loc Cert.ProjectionIdeal.main_arg4) = m ((c.tc : Thread Cert.InprojIdeal.nD Cert.InprojIdeal.τ).loc Cert.InprojIdeal.main_arg4)
      ∧ m' ((c.tc : Thread Cert.ProjectionIdeal.nD Cert.ProjectionIdeal.τ).loc Cert.ProjectionIdeal.main_arg5) = m ((c.tc : Thread Cert.InprojIdeal.nD Cert.InprojIdeal.τ).loc Cert.InprojIdeal.main_arg5)
      ∧ m' ((c.tc : Thread Cert.ProjectionIdeal.nD Cert.ProjectionIdeal.τ).loc Cert.ProjectionIdeal.main_arg6) = m ((c.tc : Thread Cert.InprojIdeal.nD Cert.InprojIdeal.τ).loc Cert.InprojIdeal.main_arg6)
      ∧ m' ((c.tc : Thread Cert.ProjectionIdeal.nD Cert.ProjectionIdeal.τ).loc Cert.ProjectionIdeal.main_arg7) = m ((c.tc : Thread Cert.InprojIdeal.nD Cert.InprojIdeal.τ).loc Cert.InprojIdeal.main_arg7)) →
    ∃ (v0 : (c : Dev Cert.InprojIdeal.nD) → Buf (Elt Ideal) ((c.tc : Thread Cert.InprojIdeal.nD Cert.InprojIdeal.τ).loc Cert.InprojIdeal.main_v16_2)) (v1 : (c : Dev Cert.InprojIdeal.nD) → Buf (Elt Ideal) ((c.tc : Thread Cert.InprojIdeal.nD Cert.InprojIdeal.τ).loc Cert.InprojIdeal.main_v16_3)) (v2 : (c : Dev Cert.InprojIdeal.nD) → Buf (Elt Ideal) ((c.tc : Thread Cert.InprojIdeal.nD Cert.InprojIdeal.τ).loc Cert.InprojIdeal.main_v16_4)) (v3 : (c : Dev Cert.InprojIdeal.nD) → Buf (Elt Ideal) ((c.tc : Thread Cert.InprojIdeal.nD Cert.InprojIdeal.τ).loc Cert.InprojIdeal.main_v16_5)) (v4 : (c : Dev Cert.InprojIdeal.nD) → Buf (Elt Ideal) ((c.tc : Thread Cert.InprojIdeal.nD Cert.InprojIdeal.τ).loc Cert.InprojIdeal.main_v16_6)) (v5 : (c : Dev Cert.InprojIdeal.nD) → Buf (Elt Ideal) ((c.tc : Thread Cert.InprojIdeal.nD Cert.InprojIdeal.τ).loc Cert.InprojIdeal.main_v16_7)) (v6 : (c : Dev Cert.InprojIdeal.nD) → Buf (Elt Ideal) ((c.tc : Thread Cert.InprojIdeal.nD Cert.InprojIdeal.τ).loc Cert.InprojIdeal.main_v16_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v16_2) = v0 c
          ∧ r.2.mem ((c.tc : Thread Cert.InprojIdeal.nD Cert.InprojIdeal.τ).loc Cert.InprojIdeal.main_v16_3) = v1 c
          ∧ r.2.mem ((c.tc : Thread Cert.InprojIdeal.nD Cert.InprojIdeal.τ).loc Cert.InprojIdeal.main_v16_4) = v2 c
          ∧ r.2.mem ((c.tc : Thread Cert.InprojIdeal.nD Cert.InprojIdeal.τ).loc Cert.InprojIdeal.main_v16_5) = v3 c
          ∧ r.2.mem ((c.tc : Thread Cert.InprojIdeal.nD Cert.InprojIdeal.τ).loc Cert.InprojIdeal.main_v16_6) = v4 c
          ∧ r.2.mem ((c.tc : Thread Cert.InprojIdeal.nD Cert.InprojIdeal.τ).loc Cert.InprojIdeal.main_v16_7) = v5 c
          ∧ r.2.mem ((c.tc : Thread Cert.InprojIdeal.nD Cert.InprojIdeal.τ).loc Cert.InprojIdeal.main_v16_8) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7))
      ∧ θ_run (Cert.ProjectionIdeal.defs (F := Ideal)) (onTc (τ := Cert.ProjectionIdeal.τ) (Cert.ProjectionIdeal.main (F := Ideal))) ⟨m', fun _ => 0, g'⟩ (fun r => ∀ c : Dev Cert.ProjectionIdeal.nD,
          r.2.mem ((c.tc : Thread Cert.ProjectionIdeal.nD Cert.ProjectionIdeal.τ).loc Cert.ProjectionIdeal.main_v62) = v0 c
          ∧ r.2.mem ((c.tc : Thread Cert.ProjectionIdeal.nD Cert.ProjectionIdeal.τ).loc Cert.ProjectionIdeal.main_v64) = v1 c
          ∧ r.2.mem ((c.tc : Thread Cert.ProjectionIdeal.nD Cert.ProjectionIdeal.τ).loc Cert.ProjectionIdeal.main_v66) = v2 c
          ∧ r.2.mem ((c.tc : Thread Cert.ProjectionIdeal.nD Cert.ProjectionIdeal.τ).loc Cert.ProjectionIdeal.main_v68) = v3 c
          ∧ r.2.mem ((c.tc : Thread Cert.ProjectionIdeal.nD Cert.ProjectionIdeal.τ).loc Cert.ProjectionIdeal.main_v60) = v4 c
          ∧ r.2.mem ((c.tc : Thread Cert.ProjectionIdeal.nD Cert.ProjectionIdeal.τ).loc Cert.ProjectionIdeal.main_v70) = v5 c
          ∧ r.2.mem ((c.tc : Thread Cert.ProjectionIdeal.nD Cert.ProjectionIdeal.τ).loc Cert.ProjectionIdeal.main_v72) = v6 c
          ∧ r.2.mem ((c.tc : Thread Cert.ProjectionIdeal.nD Cert.ProjectionIdeal.τ).loc Cert.ProjectionIdeal.main_arg0) = m' ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m' ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m' ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m' ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m' ((c.tc : Thread Cert.ProjectionIdeal.nD Cert.ProjectionIdeal.τ).loc Cert.ProjectionIdeal.main_arg4)
          ∧ r.2.mem ((c.tc : Thread Cert.ProjectionIdeal.nD Cert.ProjectionIdeal.τ).loc Cert.ProjectionIdeal.main_arg5) = m' ((c.tc : Thread Cert.ProjectionIdeal.nD Cert.ProjectionIdeal.τ).loc Cert.ProjectionIdeal.main_arg5)
          ∧ r.2.mem ((c.tc : Thread Cert.ProjectionIdeal.nD Cert.ProjectionIdeal.τ).loc Cert.ProjectionIdeal.main_arg6) = m' ((c.tc : Thread Cert.ProjectionIdeal.nD Cert.ProjectionIdeal.τ).loc Cert.ProjectionIdeal.main_arg6)
          ∧ r.2.mem ((c.tc : Thread Cert.ProjectionIdeal.nD Cert.ProjectionIdeal.τ).loc Cert.ProjectionIdeal.main_arg7) = m' ((c.tc : Thread Cert.ProjectionIdeal.nD Cert.ProjectionIdeal.τ).loc Cert.ProjectionIdeal.main_arg7))

def preserves_Ffn_FfnIdeal : Prop :=
  True

def algebraic_FfnIdeal_FeedForwardIdeal [hFfnIdeal : Cert.FfnIdeal.Facts] [hFeedForwardIdeal : Cert.FeedForwardIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FeedForwardIdeal.nD Cert.FeedForwardIdeal.τ Cert.FeedForwardIdeal.sig) → Buf (Elt Ideal) ℓ) (g' : Dev Cert.FeedForwardIdeal.nD → PrngReg), Pre_FfnIdeal m →
    (∀ c : Dev Cert.FfnIdeal.nD,
      m' ((c.tc : Thread Cert.FeedForwardIdeal.nD Cert.FeedForwardIdeal.τ).loc Cert.FeedForwardIdeal.main_arg0) = m ((c.tc : Thread Cert.FfnIdeal.nD Cert.FfnIdeal.τ).loc Cert.FfnIdeal.main_arg0)
      ∧ m' ((c.tc : Thread Cert.FeedForwardIdeal.nD Cert.FeedForwardIdeal.τ).loc Cert.FeedForwardIdeal.main_arg1) = m ((c.tc : Thread Cert.FfnIdeal.nD Cert.FfnIdeal.τ).loc Cert.FfnIdeal.main_arg1)
      ∧ m' ((c.tc : Thread Cert.FeedForwardIdeal.nD Cert.FeedForwardIdeal.τ).loc Cert.FeedForwardIdeal.main_arg2) = m ((c.tc : Thread Cert.FfnIdeal.nD Cert.FfnIdeal.τ).loc Cert.FfnIdeal.main_arg2)
      ∧ m' ((c.tc : Thread Cert.FeedForwardIdeal.nD Cert.FeedForwardIdeal.τ).loc Cert.FeedForwardIdeal.main_arg3) = m ((c.tc : Thread Cert.FfnIdeal.nD Cert.FfnIdeal.τ).loc Cert.FfnIdeal.main_arg3)
      ∧ m' ((c.tc : Thread Cert.FeedForwardIdeal.nD Cert.FeedForwardIdeal.τ).loc Cert.FeedForwardIdeal.main_arg4) = m ((c.tc : Thread Cert.FfnIdeal.nD Cert.FfnIdeal.τ).loc Cert.FfnIdeal.main_arg4)
      ∧ m' ((c.tc : Thread Cert.FeedForwardIdeal.nD Cert.FeedForwardIdeal.τ).loc Cert.FeedForwardIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FeedForwardIdeal.defs (F := Ideal)) (onTc (τ := Cert.FeedForwardIdeal.τ) (Cert.FeedForwardIdeal.main (F := Ideal))) ⟨m', fun _ => 0, g'⟩ (fun r => ∀ c : Dev Cert.FeedForwardIdeal.nD,
          r.2.mem ((c.tc : Thread Cert.FeedForwardIdeal.nD Cert.FeedForwardIdeal.τ).loc Cert.FeedForwardIdeal.main_v54) = v0 c
          ∧ r.2.mem ((c.tc : Thread Cert.FeedForwardIdeal.nD Cert.FeedForwardIdeal.τ).loc Cert.FeedForwardIdeal.main_arg0) = m' ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m' ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m' ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m' ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m' ((c.tc : Thread Cert.FeedForwardIdeal.nD Cert.FeedForwardIdeal.τ).loc Cert.FeedForwardIdeal.main_arg4)
          ∧ r.2.mem ((c.tc : Thread Cert.FeedForwardIdeal.nD Cert.FeedForwardIdeal.τ).loc Cert.FeedForwardIdeal.main_arg5) = m' ((c.tc : Thread Cert.FeedForwardIdeal.nD Cert.FeedForwardIdeal.τ).loc Cert.FeedForwardIdeal.main_arg5))

def preserves_InprojSample_InprojSampleIdeal : Prop :=
  True

def algebraic_InprojSampleIdeal_ProjectionSampleIdeal [hInprojSampleIdeal : Cert.InprojSampleIdeal.Facts] [hProjectionSampleIdeal : Cert.ProjectionSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.ProjectionSampleIdeal.nD Cert.ProjectionSampleIdeal.τ Cert.ProjectionSampleIdeal.sig) → Buf (Elt Ideal) ℓ) (g' : Dev Cert.ProjectionSampleIdeal.nD → PrngReg), Pre_InprojSampleIdeal m →
    (∀ c : Dev Cert.InprojSampleIdeal.nD,
      m' ((c.tc : Thread Cert.ProjectionSampleIdeal.nD Cert.ProjectionSampleIdeal.τ).loc Cert.ProjectionSampleIdeal.main_arg0) = m ((c.tc : Thread Cert.InprojSampleIdeal.nD Cert.InprojSampleIdeal.τ).loc Cert.InprojSampleIdeal.main_arg0)
      ∧ m' ((c.tc : Thread Cert.ProjectionSampleIdeal.nD Cert.ProjectionSampleIdeal.τ).loc Cert.ProjectionSampleIdeal.main_arg1) = m ((c.tc : Thread Cert.InprojSampleIdeal.nD Cert.InprojSampleIdeal.τ).loc Cert.InprojSampleIdeal.main_arg1)
      ∧ m' ((c.tc : Thread Cert.ProjectionSampleIdeal.nD Cert.ProjectionSampleIdeal.τ).loc Cert.ProjectionSampleIdeal.main_arg2) = m ((c.tc : Thread Cert.InprojSampleIdeal.nD Cert.InprojSampleIdeal.τ).loc Cert.InprojSampleIdeal.main_arg2)
      ∧ m' ((c.tc : Thread Cert.ProjectionSampleIdeal.nD Cert.ProjectionSampleIdeal.τ).loc Cert.ProjectionSampleIdeal.main_arg3) = m ((c.tc : Thread Cert.InprojSampleIdeal.nD Cert.InprojSampleIdeal.τ).loc Cert.InprojSampleIdeal.main_arg3)
      ∧ m' ((c.tc : Thread Cert.ProjectionSampleIdeal.nD Cert.ProjectionSampleIdeal.τ).loc Cert.ProjectionSampleIdeal.main_arg4) = m ((c.tc : Thread Cert.InprojSampleIdeal.nD Cert.InprojSampleIdeal.τ).loc Cert.InprojSampleIdeal.main_arg4)
      ∧ m' ((c.tc : Thread Cert.ProjectionSampleIdeal.nD Cert.ProjectionSampleIdeal.τ).loc Cert.ProjectionSampleIdeal.main_arg5) = m ((c.tc : Thread Cert.InprojSampleIdeal.nD Cert.InprojSampleIdeal.τ).loc Cert.InprojSampleIdeal.main_arg5)
      ∧ m' ((c.tc : Thread Cert.ProjectionSampleIdeal.nD Cert.ProjectionSampleIdeal.τ).loc Cert.ProjectionSampleIdeal.main_arg6) = m ((c.tc : Thread Cert.InprojSampleIdeal.nD Cert.InprojSampleIdeal.τ).loc Cert.InprojSampleIdeal.main_arg6)
      ∧ m' ((c.tc : Thread Cert.ProjectionSampleIdeal.nD Cert.ProjectionSampleIdeal.τ).loc Cert.ProjectionSampleIdeal.main_arg7) = m ((c.tc : Thread Cert.InprojSampleIdeal.nD Cert.InprojSampleIdeal.τ).loc Cert.InprojSampleIdeal.main_arg7)) →
    ∃ (v0 : (c : Dev Cert.InprojSampleIdeal.nD) → Buf (Elt Ideal) ((c.tc : Thread Cert.InprojSampleIdeal.nD Cert.InprojSampleIdeal.τ).loc Cert.InprojSampleIdeal.main_v16_1)) (v1 : (c : Dev Cert.InprojSampleIdeal.nD) → Buf (Elt Ideal) ((c.tc : Thread Cert.InprojSampleIdeal.nD Cert.InprojSampleIdeal.τ).loc Cert.InprojSampleIdeal.main_v16_2)) (v2 : (c : Dev Cert.InprojSampleIdeal.nD) → Buf (Elt Ideal) ((c.tc : Thread Cert.InprojSampleIdeal.nD Cert.InprojSampleIdeal.τ).loc Cert.InprojSampleIdeal.main_v16_3)) (v3 : (c : Dev Cert.InprojSampleIdeal.nD) → Buf (Elt Ideal) ((c.tc : Thread Cert.InprojSampleIdeal.nD Cert.InprojSampleIdeal.τ).loc Cert.InprojSampleIdeal.main_v16_5)) (v4 : (c : Dev Cert.InprojSampleIdeal.nD) → Buf (Elt Ideal) ((c.tc : Thread Cert.InprojSampleIdeal.nD Cert.InprojSampleIdeal.τ).loc Cert.InprojSampleIdeal.main_v16_6)) (v5 : (c : Dev Cert.InprojSampleIdeal.nD) → Buf (Elt Ideal) ((c.tc : Thread Cert.InprojSampleIdeal.nD Cert.InprojSampleIdeal.τ).loc Cert.InprojSampleIdeal.main_v16_7)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v16_1) = v0 c
          ∧ r.2.mem ((c.tc : Thread Cert.InprojSampleIdeal.nD Cert.InprojSampleIdeal.τ).loc Cert.InprojSampleIdeal.main_v16_2) = v1 c
          ∧ r.2.mem ((c.tc : Thread Cert.InprojSampleIdeal.nD Cert.InprojSampleIdeal.τ).loc Cert.InprojSampleIdeal.main_v16_3) = v2 c
          ∧ r.2.mem ((c.tc : Thread Cert.InprojSampleIdeal.nD Cert.InprojSampleIdeal.τ).loc Cert.InprojSampleIdeal.main_v16_5) = v3 c
          ∧ r.2.mem ((c.tc : Thread Cert.InprojSampleIdeal.nD Cert.InprojSampleIdeal.τ).loc Cert.InprojSampleIdeal.main_v16_6) = v4 c
          ∧ r.2.mem ((c.tc : Thread Cert.InprojSampleIdeal.nD Cert.InprojSampleIdeal.τ).loc Cert.InprojSampleIdeal.main_v16_7) = v5 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3)
          ∧ r.2.mem ((c.tc : Thread Cert.InprojSampleIdeal.nD Cert.InprojSampleIdeal.τ).loc Cert.InprojSampleIdeal.main_arg4) = m ((c.tc : Thread Cert.InprojSampleIdeal.nD Cert.InprojSampleIdeal.τ).loc Cert.InprojSampleIdeal.main_arg4)
          ∧ r.2.mem ((c.tc : Thread Cert.InprojSampleIdeal.nD Cert.InprojSampleIdeal.τ).loc Cert.InprojSampleIdeal.main_arg5) = m ((c.tc : Thread Cert.InprojSampleIdeal.nD Cert.InprojSampleIdeal.τ).loc Cert.InprojSampleIdeal.main_arg5)
          ∧ r.2.mem ((c.tc : Thread Cert.InprojSampleIdeal.nD Cert.InprojSampleIdeal.τ).loc Cert.InprojSampleIdeal.main_arg6) = m ((c.tc : Thread Cert.InprojSampleIdeal.nD Cert.InprojSampleIdeal.τ).loc Cert.InprojSampleIdeal.main_arg6)
          ∧ r.2.mem ((c.tc : Thread Cert.InprojSampleIdeal.nD Cert.InprojSampleIdeal.τ).loc Cert.InprojSampleIdeal.main_arg7) = m ((c.tc : Thread Cert.InprojSampleIdeal.nD Cert.InprojSampleIdeal.τ).loc Cert.InprojSampleIdeal.main_arg7))
      ∧ θ_run (Cert.ProjectionSampleIdeal.defs (F := Ideal)) (onTc (τ := Cert.ProjectionSampleIdeal.τ) (Cert.ProjectionSampleIdeal.main (F := Ideal))) ⟨m', fun _ => 0, g'⟩ (fun r => ∀ c : Dev Cert.ProjectionSampleIdeal.nD,
          r.2.mem ((c.tc : Thread Cert.ProjectionSampleIdeal.nD Cert.ProjectionSampleIdeal.τ).loc Cert.ProjectionSampleIdeal.main_v61) = v0 c
          ∧ r.2.mem ((c.tc : Thread Cert.ProjectionSampleIdeal.nD Cert.ProjectionSampleIdeal.τ).loc Cert.ProjectionSampleIdeal.main_v62) = v1 c
          ∧ r.2.mem ((c.tc : Thread Cert.ProjectionSampleIdeal.nD Cert.ProjectionSampleIdeal.τ).loc Cert.ProjectionSampleIdeal.main_v63) = v2 c
          ∧ r.2.mem ((c.tc : Thread Cert.ProjectionSampleIdeal.nD Cert.ProjectionSampleIdeal.τ).loc Cert.ProjectionSampleIdeal.main_v60) = v3 c
          ∧ r.2.mem ((c.tc : Thread Cert.ProjectionSampleIdeal.nD Cert.ProjectionSampleIdeal.τ).loc Cert.ProjectionSampleIdeal.main_v65) = v4 c
          ∧ r.2.mem ((c.tc : Thread Cert.ProjectionSampleIdeal.nD Cert.ProjectionSampleIdeal.τ).loc Cert.ProjectionSampleIdeal.main_v67) = v5 c
          ∧ r.2.mem ((c.tc : Thread Cert.ProjectionSampleIdeal.nD Cert.ProjectionSampleIdeal.τ).loc Cert.ProjectionSampleIdeal.main_arg0) = m' ((c.tc : Thread Cert.ProjectionSampleIdeal.nD Cert.ProjectionSampleIdeal.τ).loc Cert.ProjectionSampleIdeal.main_arg0)
          ∧ r.2.mem ((c.tc : Thread Cert.ProjectionSampleIdeal.nD Cert.ProjectionSampleIdeal.τ).loc Cert.ProjectionSampleIdeal.main_arg1) = m' ((c.tc : Thread Cert.ProjectionSampleIdeal.nD Cert.ProjectionSampleIdeal.τ).loc Cert.ProjectionSampleIdeal.main_arg1)
          ∧ r.2.mem ((c.tc : Thread Cert.ProjectionSampleIdeal.nD Cert.ProjectionSampleIdeal.τ).loc Cert.ProjectionSampleIdeal.main_arg2) = m' ((c.tc : Thread Cert.ProjectionSampleIdeal.nD Cert.ProjectionSampleIdeal.τ).loc Cert.ProjectionSampleIdeal.main_arg2)
          ∧ r.2.mem ((c.tc : Thread Cert.ProjectionSampleIdeal.nD Cert.ProjectionSampleIdeal.τ).loc Cert.ProjectionSampleIdeal.main_arg3) = m' ((c.tc : Thread Cert.ProjectionSampleIdeal.nD Cert.ProjectionSampleIdeal.τ).loc Cert.ProjectionSampleIdeal.main_arg3)
          ∧ r.2.mem ((c.tc : Thread Cert.ProjectionSampleIdeal.nD Cert.ProjectionSampleIdeal.τ).loc Cert.ProjectionSampleIdeal.main_arg4) = m' ((c.tc : Thread Cert.ProjectionSampleIdeal.nD Cert.ProjectionSampleIdeal.τ).loc Cert.ProjectionSampleIdeal.main_arg4)
          ∧ r.2.mem ((c.tc : Thread Cert.ProjectionSampleIdeal.nD Cert.ProjectionSampleIdeal.τ).loc Cert.ProjectionSampleIdeal.main_arg5) = m' ((c.tc : Thread Cert.ProjectionSampleIdeal.nD Cert.ProjectionSampleIdeal.τ).loc Cert.ProjectionSampleIdeal.main_arg5)
          ∧ r.2.mem ((c.tc : Thread Cert.ProjectionSampleIdeal.nD Cert.ProjectionSampleIdeal.τ).loc Cert.ProjectionSampleIdeal.main_arg6) = m' ((c.tc : Thread Cert.ProjectionSampleIdeal.nD Cert.ProjectionSampleIdeal.τ).loc Cert.ProjectionSampleIdeal.main_arg6)
          ∧ r.2.mem ((c.tc : Thread Cert.ProjectionSampleIdeal.nD Cert.ProjectionSampleIdeal.τ).loc Cert.ProjectionSampleIdeal.main_arg7) = m' ((c.tc : Thread Cert.ProjectionSampleIdeal.nD Cert.ProjectionSampleIdeal.τ).loc Cert.ProjectionSampleIdeal.main_arg7))

def preserves_MergeSample_MergeSampleIdeal : Prop :=
  True

def algebraic_MergeSampleIdeal_MergeIdeal [hMergeSampleIdeal : Cert.MergeSampleIdeal.Facts] [hMergeIdeal : Cert.MergeIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeIdeal.nD Cert.MergeIdeal.τ Cert.MergeIdeal.sig) → Buf (Elt Ideal) ℓ) (g' : Dev Cert.MergeIdeal.nD → PrngReg), Pre_MergeSampleIdeal m →
    (∀ c : Dev Cert.MergeSampleIdeal.nD,
      m' ((c.tc : Thread Cert.MergeIdeal.nD Cert.MergeIdeal.τ).loc Cert.MergeIdeal.main_arg0) = m ((c.tc : Thread Cert.MergeSampleIdeal.nD Cert.MergeSampleIdeal.τ).loc Cert.MergeSampleIdeal.main_arg0)
      ∧ m' ((c.tc : Thread Cert.MergeIdeal.nD Cert.MergeIdeal.τ).loc Cert.MergeIdeal.main_arg1) = m ((c.tc : Thread Cert.MergeSampleIdeal.nD Cert.MergeSampleIdeal.τ).loc Cert.MergeSampleIdeal.main_arg1)
      ∧ m' ((c.tc : Thread Cert.MergeIdeal.nD Cert.MergeIdeal.τ).loc Cert.MergeIdeal.main_arg2) = m ((c.tc : Thread Cert.MergeSampleIdeal.nD Cert.MergeSampleIdeal.τ).loc Cert.MergeSampleIdeal.main_arg2)
      ∧ m' ((c.tc : Thread Cert.MergeIdeal.nD Cert.MergeIdeal.τ).loc Cert.MergeIdeal.main_arg3) = m ((c.tc : Thread Cert.MergeSampleIdeal.nD Cert.MergeSampleIdeal.τ).loc Cert.MergeSampleIdeal.main_arg3)
      ∧ m' ((c.tc : Thread Cert.MergeIdeal.nD Cert.MergeIdeal.τ).loc Cert.MergeIdeal.main_arg4) = m ((c.tc : Thread Cert.MergeSampleIdeal.nD Cert.MergeSampleIdeal.τ).loc Cert.MergeSampleIdeal.main_arg4)
      ∧ m' ((c.tc : Thread Cert.MergeIdeal.nD Cert.MergeIdeal.τ).loc Cert.MergeIdeal.main_arg5) = m ((c.tc : Thread Cert.MergeSampleIdeal.nD Cert.MergeSampleIdeal.τ).loc Cert.MergeSampleIdeal.main_arg5)
      ∧ m' ((c.tc : Thread Cert.MergeIdeal.nD Cert.MergeIdeal.τ).loc Cert.MergeIdeal.main_arg6) = m ((c.tc : Thread Cert.MergeSampleIdeal.nD Cert.MergeSampleIdeal.τ).loc Cert.MergeSampleIdeal.main_arg6)
      ∧ m' ((c.tc : Thread Cert.MergeIdeal.nD Cert.MergeIdeal.τ).loc Cert.MergeIdeal.main_arg7) = m ((c.tc : Thread Cert.MergeSampleIdeal.nD Cert.MergeSampleIdeal.τ).loc Cert.MergeSampleIdeal.main_arg7)
      ∧ m' ((c.tc : Thread Cert.MergeIdeal.nD Cert.MergeIdeal.τ).loc Cert.MergeIdeal.main_arg8) = m ((c.tc : Thread Cert.MergeSampleIdeal.nD Cert.MergeSampleIdeal.τ).loc Cert.MergeSampleIdeal.main_arg8)
      ∧ m' ((c.tc : Thread Cert.MergeIdeal.nD Cert.MergeIdeal.τ).loc Cert.MergeIdeal.main_arg9) = m ((c.tc : Thread Cert.MergeSampleIdeal.nD Cert.MergeSampleIdeal.τ).loc Cert.MergeSampleIdeal.main_arg9)
      ∧ m' ((c.tc : Thread Cert.MergeIdeal.nD Cert.MergeIdeal.τ).loc Cert.MergeIdeal.main_arg10) = m ((c.tc : Thread Cert.MergeSampleIdeal.nD Cert.MergeSampleIdeal.τ).loc Cert.MergeSampleIdeal.main_arg10)
      ∧ m' ((c.tc : Thread Cert.MergeIdeal.nD Cert.MergeIdeal.τ).loc Cert.MergeIdeal.main_arg11) = m ((c.tc : Thread Cert.MergeSampleIdeal.nD Cert.MergeSampleIdeal.τ).loc Cert.MergeSampleIdeal.main_arg11)
      ∧ m' ((c.tc : Thread Cert.MergeIdeal.nD Cert.MergeIdeal.τ).loc Cert.MergeIdeal.main_arg12) = m ((c.tc : Thread Cert.MergeSampleIdeal.nD Cert.MergeSampleIdeal.τ).loc Cert.MergeSampleIdeal.main_arg12)
      ∧ m' ((c.tc : Thread Cert.MergeIdeal.nD Cert.MergeIdeal.τ).loc Cert.MergeIdeal.main_arg13) = m ((c.tc : Thread Cert.MergeSampleIdeal.nD Cert.MergeSampleIdeal.τ).loc Cert.MergeSampleIdeal.main_arg13)
      ∧ m' ((c.tc : Thread Cert.MergeIdeal.nD Cert.MergeIdeal.τ).loc Cert.MergeIdeal.main_arg14) = m ((c.tc : Thread Cert.MergeSampleIdeal.nD Cert.MergeSampleIdeal.τ).loc Cert.MergeSampleIdeal.main_arg14)) →
    ∃ (v0 : (c : Dev Cert.MergeSampleIdeal.nD) → Buf (Elt Ideal) ((c.tc : Thread Cert.MergeSampleIdeal.nD Cert.MergeSampleIdeal.τ).loc Cert.MergeSampleIdeal.main_v24)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v24) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
          ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11)
          ∧ r.2.mem ((c.tc : Thread Cert.MergeSampleIdeal.nD Cert.MergeSampleIdeal.τ).loc Cert.MergeSampleIdeal.main_arg12) = m ((c.tc : Thread Cert.MergeSampleIdeal.nD Cert.MergeSampleIdeal.τ).loc Cert.MergeSampleIdeal.main_arg12)
          ∧ r.2.mem ((c.tc : Thread Cert.MergeSampleIdeal.nD Cert.MergeSampleIdeal.τ).loc Cert.MergeSampleIdeal.main_arg13) = m ((c.tc : Thread Cert.MergeSampleIdeal.nD Cert.MergeSampleIdeal.τ).loc Cert.MergeSampleIdeal.main_arg13)
          ∧ r.2.mem ((c.tc : Thread Cert.MergeSampleIdeal.nD Cert.MergeSampleIdeal.τ).loc Cert.MergeSampleIdeal.main_arg14) = m ((c.tc : Thread Cert.MergeSampleIdeal.nD Cert.MergeSampleIdeal.τ).loc Cert.MergeSampleIdeal.main_arg14))
      ∧ θ_run (Cert.MergeIdeal.defs (F := Ideal)) (onTc (τ := Cert.MergeIdeal.τ) (Cert.MergeIdeal.main (F := Ideal))) ⟨m', fun _ => 0, g'⟩ (fun r => ∀ c : Dev Cert.MergeIdeal.nD,
          r.2.mem ((c.tc : Thread Cert.MergeIdeal.nD Cert.MergeIdeal.τ).loc Cert.MergeIdeal.main_v277) = v0 c
          ∧ r.2.mem ((c.tc : Thread Cert.MergeIdeal.nD Cert.MergeIdeal.τ).loc Cert.MergeIdeal.main_arg0) = m' ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m' ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m' ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m' ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m' ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m' ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m' ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m' ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m' ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m' ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m' ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m' ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m' ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m' ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m' ((c.tc : Thread Cert.MergeIdeal.nD Cert.MergeIdeal.τ).loc Cert.MergeIdeal.main_arg14))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hProjectionIdeal : Cert.ProjectionIdeal.Facts) (hFfn : Cert.Ffn.Facts) (hFfnIdeal : Cert.FfnIdeal.Facts) (hFeedForwardIdeal : Cert.FeedForwardIdeal.Facts) (hInprojSample : Cert.InprojSample.Facts) (hInprojSampleIdeal : Cert.InprojSampleIdeal.Facts) (hProjectionSampleIdeal : Cert.ProjectionSampleIdeal.Facts) (hMergeSample : Cert.MergeSample.Facts) (hMergeSampleIdeal : Cert.MergeSampleIdeal.Facts) (hMergeIdeal : Cert.MergeIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Inproj (hInproj := hInproj)
    ∧ quiescent_InprojIdeal (hInprojIdeal := hInprojIdeal)
    ∧ quiescent_ProjectionIdeal (hProjectionIdeal := hProjectionIdeal)
    ∧ quiescent_Ffn (hFfn := hFfn)
    ∧ quiescent_FfnIdeal (hFfnIdeal := hFfnIdeal)
    ∧ quiescent_FeedForwardIdeal (hFeedForwardIdeal := hFeedForwardIdeal)
    ∧ quiescent_InprojSample (hInprojSample := hInprojSample)
    ∧ quiescent_InprojSampleIdeal (hInprojSampleIdeal := hInprojSampleIdeal)
    ∧ quiescent_ProjectionSampleIdeal (hProjectionSampleIdeal := hProjectionSampleIdeal)
    ∧ quiescent_MergeSample (hMergeSample := hMergeSample)
    ∧ quiescent_MergeSampleIdeal (hMergeSampleIdeal := hMergeSampleIdeal)
    ∧ quiescent_MergeIdeal (hMergeIdeal := hMergeIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Inproj_InprojIdeal
    ∧ algebraic_InprojIdeal_ProjectionIdeal (hInprojIdeal := hInprojIdeal) (hProjectionIdeal := hProjectionIdeal)
    ∧ preserves_Ffn_FfnIdeal
    ∧ algebraic_FfnIdeal_FeedForwardIdeal (hFfnIdeal := hFfnIdeal) (hFeedForwardIdeal := hFeedForwardIdeal)
    ∧ preserves_InprojSample_InprojSampleIdeal
    ∧ algebraic_InprojSampleIdeal_ProjectionSampleIdeal (hInprojSampleIdeal := hInprojSampleIdeal) (hProjectionSampleIdeal := hProjectionSampleIdeal)
    ∧ preserves_MergeSample_MergeSampleIdeal
    ∧ algebraic_MergeSampleIdeal_MergeIdeal (hMergeSampleIdeal := hMergeSampleIdeal) (hMergeIdeal := hMergeIdeal)
-- ==== Pre_finite_logits.lean ====
abbrev S2x1024x8192 : Shape := ⟨3, ![2, 1024, 8192]⟩
abbrev S16384x1024 : Shape := ⟨2, ![16384, 1024]⟩
abbrev S2x512x8192 : Shape := ⟨3, ![2, 512, 8192]⟩
abbrev S_ : Shape := ⟨0, ![]⟩

class Facts : Prop where
  bitsLt_bf16_f32 : FTy.bits .bf16 < FTy.bits .f32
  bcast_S_S2x1024x8192 : S_.BroadcastsInDim S2x1024x8192 (![] : Fin 0 → Fin S2x1024x8192.rank)
  reducesTo_S2x1024x8192_S_d0_1_2 : S2x1024x8192.ReducesTo [0, 1, 2] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S2x1024x8192 .bf16) (main_arg1 : FVec F S16384x1024 .bf16) (main_arg2 : FVec F S2x512x8192 .bf16) : IVec S_ 1 :=
  let main_v0 : FVec F S2x1024x8192 .f32 := (extf .f32 · bitsLt_bf16_f32) main_arg0
  let main_v1 : FVec F S2x1024x8192 .f32 := Host.absf main_v0
  let main_cst : FVec F S_ .f32 := constant S_ .f32 0x7F800000#32
  let main_v2 : FVec F S2x1024x8192 .f32 := broadcastInDim S2x1024x8192 ![] bcast_S_S2x1024x8192 main_cst
  let main_v3 : IVec S2x1024x8192 1 := cmpf .olt main_v1 main_v2
  let main_c : IVec S_ 1 := constantI S_ 1 1#1
  let main_v4 : IVec S_ 1 := (fun x v => Host.reduce IntOp.andi x v reducesTo_S2x1024x8192_S_d0_1_2 h_S_) main_v3 main_c
  let main_v5 : FVec F S16384x1024 .f32 := (extf .f32 · bitsLt_bf16_f32) main_arg1
  let main_v6 : FVec F S16384x1024 .f32 := Host.absf main_v5
  let main_cst_0 : FVec F S_ .f32 := constant S_ .f32 0x7F800000#32
  let main_v7 : FVec F S16384x1024 .f32 := broadcastInDim S16384x1024 ![] bcast_S_S16384x1024 main_cst_0
  let main_v8 : IVec S16384x1024 1 := cmpf .olt main_v6 main_v7
  let main_c_1 : IVec S_ 1 := constantI S_ 1 1#1
  let main_v9 : IVec S_ 1 := (fun x v => Host.reduce IntOp.andi x v reducesTo_S16384x1024_S_d0_1 h_S_) main_v8 main_c_1
  let main_v10 : IVec S_ 1 := andi main_v4 main_v9
  main_v10
-- ==== Kernel.lean ====
abbrev S2x1024x8192 : Shape := ⟨3, ![2, 1024, 8192]⟩
abbrev S16384x1024 : Shape := ⟨2, ![16384, 1024]⟩
abbrev S2x512x8192 : Shape := ⟨3, ![2, 512, 8192]⟩
abbrev S2x8192x1024 : Shape := ⟨3, ![2, 8192, 1024]⟩
abbrev S2x8192x512 : Shape := ⟨3, ![2, 8192, 512]⟩
abbrev S1x256x1024 : Shape := ⟨3, ![1, 256, 1024]⟩
abbrev S1x8192x256 : Shape := ⟨3, ![1, 8192, 256]⟩
abbrev S1x128x8192 : Shape := ⟨3, ![1, 128, 8192]⟩
abbrev S1x1024x128 : Shape := ⟨3, ![1, 1024, 128]⟩
abbrev S8x512x256 : Shape := ⟨3, ![8, 512, 256]⟩
abbrev S8x1x256 : Shape := ⟨3, ![8, 1, 256]⟩
abbrev S1x128x1024 : Shape := ⟨3, ![1, 128, 1024]⟩
abbrev S128x1024 : Shape := ⟨2, ![128, 1024]⟩
abbrev S512x256 : Shape := ⟨2, ![512, 256]⟩
abbrev S16x512 : Shape := ⟨2, ![16, 512]⟩
abbrev S1x256 : Shape := ⟨2, ![1, 256]⟩
abbrev S80x256 : Shape := ⟨2, ![80, 256]⟩
abbrev S1x512x128 : Shape := ⟨3, ![1, 512, 128]⟩
abbrev S512x128 : Shape := ⟨2, ![512, 128]⟩
abbrev S128x256 : Shape := ⟨2, ![128, 256]⟩
abbrev S1x512x256 : Shape := ⟨3, ![1, 512, 256]⟩
abbrev S256 : Shape := ⟨1, ![256]⟩
abbrev S1x1x256 : Shape := ⟨3, ![1, 1, 256]⟩
abbrev S1x64x512 : Shape := ⟨3, ![1, 64, 512]⟩
abbrev S64x512 : Shape := ⟨2, ![64, 512]⟩
abbrev S80x512 : Shape := ⟨2, ![80, 512]⟩
abbrev S64x256 : Shape := ⟨2, ![64, 256]⟩
abbrev S64x1024 : Shape := ⟨2, ![64, 1024]⟩
abbrev S1024x128 : Shape := ⟨2, ![1024, 128]⟩

abbrev nBuf : Space → Nat
  | .hbm => 5
  | .vmem => 12
  | .smem => 0
  | _ => 0

abbrev bufTy : (tb : Table) → Fin (tcTables nBuf tb) → BufTy
  | .hbm, ⟨0, _⟩ => ⟨S2x1024x8192, .bf16⟩
  | .hbm, ⟨1, _⟩ => ⟨S16384x1024, .bf16⟩
  | .hbm, ⟨2, _⟩ => ⟨S2x512x8192, .bf16⟩
  | .hbm, ⟨3, _⟩ => ⟨S2x8192x1024, .bf16⟩
  | .hbm, ⟨4, _⟩ => ⟨S2x8192x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x128x8192, .bf16⟩
  | .local _ .vmem, ⟨5, _⟩ => ⟨S1x128x8192, .bf16⟩
  | .local _ .vmem, ⟨6, _⟩ => ⟨S1x1024x128, .bf16⟩
  | .local _ .vmem, ⟨7, _⟩ => ⟨S1x1024x128, .bf16⟩
  | .local _ .vmem, ⟨8, _⟩ => ⟨S8x512x256, .f32⟩
  | .local _ .vmem, ⟨9, _⟩ => ⟨S8x512x256, .f32⟩
  | .local _ .vmem, ⟨10, _⟩ => ⟨S8x1x256, .f32⟩
  | .local _ .vmem, ⟨11, _⟩ => ⟨S8x1x256, .f32⟩
  | _, _ => ⟨S2x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_6 : BitVec 32 := 0#32
  let v11 : BitVec 1 := Scalar.cmpi .ne v10 c0_i32_6
  v11

def k0_mult1 : BitVec 32 :=
  let c0_i32_9 : BitVec 32 := 0#32
  c0_i32_9
def k0_mult2 : BitVec 32 :=
  let c0_i32_23 : BitVec 32 := 0#32
  c0_i32_23
def k0_mult3 : BitVec 32 :=
  let c0_i32_35 : BitVec 32 := 0#32
  c0_i32_35
def k0_mult4 : BitVec 32 :=
  let c0_i32_45 : BitVec 32 := 0#32
  c0_i32_45
def k0_mult5 : BitVec 32 :=
  let c0_i32_55 : BitVec 32 := 0#32
  c0_i32_55
def k0_mult6 : BitVec 32 :=
  let c0_i32_68 : BitVec 32 := 0#32
  c0_i32_68
def k0_mult7 : BitVec 32 :=
  let c0_i32_81 : BitVec 32 := 0#32
  c0_i32_81
def k0_mult8 : BitVec 32 :=
  let c0_i32_91 : BitVec 32 := 0#32
  c0_i32_91
def k0_mult9 : BitVec 32 :=
  let c0_i32_107 : BitVec 32 := 0#32
  c0_i32_107
def k0_mult10 : BitVec 32 :=
  let c0_i32_117 : BitVec 32 := 0#32
  c0_i32_117
def k0_mult11 : BitVec 32 :=
  let c512_i32 : BitVec 32 := 512#32
  c512_i32
def k0_mult12 : BitVec 32 :=
  let c0_i32_140 : BitVec 32 := 0#32
  c0_i32_140
def k0_mult13 : BitVec 32 :=
  let c512_i32_144 : BitVec 32 := 512#32
  c512_i32_144
def k0_mult14 : BitVec 32 :=
  let c0_i32_163 : BitVec 32 := 0#32
  c0_i32_163
def k0_mult15 : BitVec 32 :=
  let c0_i32_173 : BitVec 32 := 0#32
  c0_i32_173
def k0_mult16 : BitVec 32 :=
  let c0_i32_182 : BitVec 32 := 0#32
  c0_i32_182
def k0_mult17 : BitVec 32 :=
  let c512_i32_186 : BitVec 32 := 512#32
  c512_i32_186
def k0_mult18 : BitVec 32 :=
  let c0_i32_206 : BitVec 32 := 0#32
  c0_i32_206
def k0_mult19 : BitVec 32 :=
  let c512_i32_210 : BitVec 32 := 512#32
  c512_i32_210
def k0_mult20 : BitVec 32 :=
  let c0_i32_230 : BitVec 32 := 0#32
  c0_i32_230
def k0_mult21 (i : grid0.Coords) : BitVec 32 :=
  let c2_i32 : BitVec 32 := 2#32
  let arg2 : BitVec 32 := BitVec.ofNat 32 (i 2).val
  let v407 : BitVec 32 := Scalar.muli c2_i32 arg2
  let c1_i32 : BitVec 32 := 1#32
  let v408 : BitVec 32 := Scalar.addi v407 c1_i32
  let c512_i32_240 : BitVec 32 := 512#32
  let v420 : BitVec 32 := Scalar.muli v408 c512_i32_240
  v420
def k0_off1 (i : grid0.Coords) : Fin 3 → Nat :=
  let c0_241 : Index := 0#32
  let c0_242 : Index := 0#32
  let c2_i32 : BitVec 32 := 2#32
  let arg2 : BitVec 32 := BitVec.ofNat 32 (i 2).val
  let v407 : BitVec 32 := Scalar.muli c2_i32 arg2
  let c1_i32 : BitVec 32 := 1#32
  let v408 : BitVec 32 := Scalar.addi v407 c1_i32
  let c512_i32_240 : BitVec 32 := 512#32
  let v420 : BitVec 32 := Scalar.muli v408 c512_i32_240
  let v421 : BitVec 32 := v420
  let v422 : Index := Scalar.indexCast v421
  ![0, 0, v422.toNat]
def k0_mult22 (i : grid0.Coords) : BitVec 32 :=
  let c2_i32_244 : BitVec 32 := 2#32
  let arg2 : BitVec 32 := BitVec.ofNat 32 (i 2).val
  let v434 : BitVec 32 := Scalar.muli c2_i32_244 arg2
  let c1_i32_245 : BitVec 32 := 1#32
  let v435 : BitVec 32 := Scalar.addi v434 c1_i32_245
  let c512_i32_252 : BitVec 32 := 512#32
  let v447 : BitVec 32 := Scalar.muli v435 c512_i32_252
  v447
def k0_mult23 (i : grid0.Coords) : BitVec 32 :=
  let c2_i32_256 : BitVec 32 := 2#32
  let arg2 : BitVec 32 := BitVec.ofNat 32 (i 2).val
  let v469 : BitVec 32 := Scalar.muli c2_i32_256 arg2
  let c1_i32_257 : BitVec 32 := 1#32
  let v470 : BitVec 32 := Scalar.addi v469 c1_i32_257
  let c512_i32_264 : BitVec 32 := 512#32
  let v482 : BitVec 32 := Scalar.muli v470 c512_i32_264
  v482
def k0_off2 (i : grid0.Coords) : Fin 3 → Nat :=
  let c0_265 : Index := 0#32
  let c64_266 : Index := 64#32
  let c2_i32_256 : BitVec 32 := 2#32
  let arg2 : BitVec 32 := BitVec.ofNat 32 (i 2).val
  let v469 : BitVec 32 := Scalar.muli c2_i32_256 arg2
  let c1_i32_257 : BitVec 32 := 1#32
  let v470 : BitVec 32 := Scalar.addi v469 c1_i32_257
  let c512_i32_264 : BitVec 32 := 512#32
  let v482 : BitVec 32 := Scalar.muli v470 c512_i32_264
  let v483 : BitVec 32 := v482
  let v484 : Index := Scalar.indexCast v483
  ![0, 64, v484.toNat]
def k0_mult24 (i : grid0.Coords) : BitVec 32 :=
  let c2_i32_268 : BitVec 32 := 2#32
  let arg2 : BitVec 32 := BitVec.ofNat 32 (i 2).val
  let v496 : BitVec 32 := Scalar.muli c2_i32_268 arg2
  let c1_i32_269 : BitVec 32 := 1#32
  let v497 : BitVec 32 := Scalar.addi v496 c1_i32_269
  let c512_i32_276 : BitVec 32 := 512#32
  let v509 : BitVec 32 := Scalar.muli v497 c512_i32_276
  v509
def k0_cond2 (i : grid0.Coords) : BitVec 1 :=
  let arg2 : BitVec 32 := BitVec.ofNat 32 (i 2).val
  let c0_i32_7 : BitVec 32 := 0#32
  let v12 : BitVec 1 := Scalar.cmpi .sgt arg2 c0_i32_7
  let v13 : BitVec 32 := Scalar.extui v12
  let c0_i32_8 : BitVec 32 := 0#32
  let v14 : BitVec 1 := Scalar.cmpi .ne v13 c0_i32_8
  v14

def k0_mult25 : BitVec 32 :=
  let c0_i32_9 : BitVec 32 := 0#32
  c0_i32_9
def k0_mult26 : BitVec 32 :=
  let c0_i32_20 : BitVec 32 := 0#32
  c0_i32_20
def k0_mult27 : BitVec 32 :=
  let c0_i32_30 : BitVec 32 := 0#32
  c0_i32_30
def k0_mult28 : BitVec 32 :=
  let c0_i32_40 : BitVec 32 := 0#32
  c0_i32_40
def k0_mult29 : BitVec 32 :=
  let c0_i32_50 : BitVec 32 := 0#32
  c0_i32_50
def k0_mult30 : BitVec 32 :=
  let c0_i32_60 : BitVec 32 := 0#32
  c0_i32_60
def k0_mult31 : BitVec 32 :=
  let c0_i32_70 : BitVec 32 := 0#32
  c0_i32_70
def k0_mult32 : BitVec 32 :=
  let c0_i32_80 : BitVec 32 := 0#32
  c0_i32_80
@[reducible] def k0_t1_loop (i : grid0.Coords) : Scf.Loop 32 :=
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_92 : BitVec 32 := 1#32
  ⟨c0_i32_90, v132, c1_i32_92⟩
def k0_mult33 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_637 : BitVec 32 := 512#32
  let v1140 : BitVec 32 := Scalar.muli v1138 c512_i32_637
  v1140
def k0_off3 (i : grid0.Coords) (k0_t1 : Fin (k0_t1_loop i).trips) (c1_i32_635 : BitVec 32) : Fin 3 → Nat :=
  let c0_638 : Index := 0#32
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let v1138 : BitVec 32 := Scalar.addi v1137 c1_i32_635
  let c512_i32_637 : BitVec 32 := 512#32
  let v1140 : BitVec 32 := Scalar.muli v1138 c512_i32_637
  let v1141 : BitVec 32 := v1140
  let v1142 : Index := Scalar.indexCast v1141
  let c0_639 : Index := 0#32
  ![0, v1142.toNat, 0]
def k0_mult34 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_654 : BitVec 32 := 512#32
  let v1166 : BitVec 32 := Scalar.muli v1139 c512_i32_654
  v1166
def k0_off4 (i : grid0.Coords) (k0_t1 : Fin (k0_t1_loop i).trips) : Fin 3 → Nat :=
  let c0_655 : Index := 0#32
  let c0_656 : Index := 0#32
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_654 : BitVec 32 := 512#32
  let v1166 : BitVec 32 := Scalar.muli v1139 c512_i32_654
  let v1167 : BitVec 32 := v1166
  let v1168 : Index := Scalar.indexCast v1167
  ![0, 0, v1168.toNat]
def k0_mult35 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_658 : BitVec 32 := 512#32
  let v1176 : BitVec 32 := Scalar.muli v1138 c512_i32_658
  v1176
def k0_mult36 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_675 : BitVec 32 := 512#32
  let v1202 : BitVec 32 := Scalar.muli v1139 c512_i32_675
  v1202
def k0_mult37 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_679 : BitVec 32 := 512#32
  let v1212 : BitVec 32 := Scalar.muli v1138 c512_i32_679
  v1212
def k0_mult38 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_696 : BitVec 32 := 512#32
  let v1238 : BitVec 32 := Scalar.muli v1139 c512_i32_696
  v1238
def k0_mult39 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_700 : BitVec 32 := 512#32
  let v1248 : BitVec 32 := Scalar.muli v1138 c512_i32_700
  v1248
def k0_mult40 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_717 : BitVec 32 := 512#32
  let v1274 : BitVec 32 := Scalar.muli v1139 c512_i32_717
  v1274
def k0_mult41 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_721 : BitVec 32 := 512#32
  let v1284 : BitVec 32 := Scalar.muli v1138 c512_i32_721
  v1284
def k0_off5 (i : grid0.Coords) (k0_t1 : Fin (k0_t1_loop i).trips) (c1_i32_635 : BitVec 32) : Fin 3 → Nat :=
  let c0_722 : Index := 0#32
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let v1138 : BitVec 32 := Scalar.addi v1137 c1_i32_635
  let c512_i32_721 : BitVec 32 := 512#32
  let v1284 : BitVec 32 := Scalar.muli v1138 c512_i32_721
  let v1285 : BitVec 32 := v1284
  let v1286 : Index := Scalar.indexCast v1285
  let c128_723 : Index := 128#32
  ![0, v1286.toNat, 128]
def k0_mult42 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_738 : BitVec 32 := 512#32
  let v1310 : BitVec 32 := Scalar.muli v1139 c512_i32_738
  v1310
def k0_off6 (i : grid0.Coords) (k0_t1 : Fin (k0_t1_loop i).trips) : Fin 3 → Nat :=
  let c0_739 : Index := 0#32
  let c64_740 : Index := 64#32
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_738 : BitVec 32 := 512#32
  let v1310 : BitVec 32 := Scalar.muli v1139 c512_i32_738
  let v1311 : BitVec 32 := v1310
  let v1312 : Index := Scalar.indexCast v1311
  ![0, 64, v1312.toNat]
def k0_mult43 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_742 : BitVec 32 := 512#32
  let v1320 : BitVec 32 := Scalar.muli v1138 c512_i32_742
  v1320
def k0_mult44 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_759 : BitVec 32 := 512#32
  let v1346 : BitVec 32 := Scalar.muli v1139 c512_i32_759
  v1346
def k0_mult45 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_763 : BitVec 32 := 512#32
  let v1356 : BitVec 32 := Scalar.muli v1138 c512_i32_763
  v1356
def k0_mult46 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_780 : BitVec 32 := 512#32
  let v1382 : BitVec 32 := Scalar.muli v1139 c512_i32_780
  v1382
def k0_mult47 (i : grid0.Coords) (k0_t1 : Fin (k0_t1_loop i).trips) : BitVec 32 :=
  let c2_i32_634 : BitVec 32 := 2#32
  let c0_i32_90 : BitVec 32 := 0#32
  let c1_i32_92 : BitVec 32 := 1#32
  let arg11 : BitVec 32 := Scf.iv c0_i32_90 c1_i32_92 k0_t1
  let v1137 : BitVec 32 := Scalar.muli c2_i32_634 arg11
  let c1_i32_635 : BitVec 32 := 1#32
  let v1138 : BitVec 32 := Scalar.addi v1137 c1_i32_635
  let c512_i32_784 : BitVec 32 := 512#32
  let v1392 : BitVec 32 := Scalar.muli v1138 c512_i32_784
  v1392
def k0_mult48 (i : grid0.Coords) (k0_t1 : Fin (k0_t1_loop i).trips) : BitVec 32 :=
  let c2_i32_636 : BitVec 32 := 2#32
  let c0_i32_90 : BitVec 32 := 0#32
  let c1_i32_92 : BitVec 32 := 1#32
  let arg11 : BitVec 32 := Scf.iv c0_i32_90 c1_i32_92 k0_t1
  let v1139 : BitVec 32 := Scalar.muli c2_i32_636 arg11
  let c512_i32_801 : BitVec 32 := 512#32
  let v1418 : BitVec 32 := Scalar.muli v1139 c512_i32_801
  v1418
def k0_mult49 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_809 : BitVec 32 := 512#32
  let v1432 : BitVec 32 := Scalar.muli v1429 c512_i32_809
  v1432
def k0_mult50 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_826 : BitVec 32 := 512#32
  let v1458 : BitVec 32 := Scalar.muli v1431 c512_i32_826
  v1458
def k0_off7 (i : grid0.Coords) (k0_t1 : Fin (k0_t1_loop i).trips) : Fin 3 → Nat :=
  let c0_827 : Index := 0#32
  let c0_828 : Index := 0#32
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_826 : BitVec 32 := 512#32
  let v1458 : BitVec 32 := Scalar.muli v1431 c512_i32_826
  let v1459 : BitVec 32 := v1458
  let v1460 : Index := Scalar.indexCast v1459
  ![0, 0, v1460.toNat]
def k0_mult51 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_830 : BitVec 32 := 512#32
  let v1468 : BitVec 32 := Scalar.muli v1429 c512_i32_830
  v1468
def k0_mult52 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_847 : BitVec 32 := 512#32
  let v1494 : BitVec 32 := Scalar.muli v1431 c512_i32_847
  v1494
def k0_mult53 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_851 : BitVec 32 := 512#32
  let v1504 : BitVec 32 := Scalar.muli v1429 c512_i32_851
  v1504
def k0_mult54 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_868 : BitVec 32 := 512#32
  let v1530 : BitVec 32 := Scalar.muli v1431 c512_i32_868
  v1530
def k0_mult55 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_872 : BitVec 32 := 512#32
  let v1540 : BitVec 32 := Scalar.muli v1429 c512_i32_872
  v1540
def k0_mult56 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_889 : BitVec 32 := 512#32
  let v1566 : BitVec 32 := Scalar.muli v1431 c512_i32_889
  v1566
def k0_mult57 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_893 : BitVec 32 := 512#32
  let v1576 : BitVec 32 := Scalar.muli v1429 c512_i32_893
  v1576
def k0_mult58 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_910 : BitVec 32 := 512#32
  let v1602 : BitVec 32 := Scalar.muli v1431 c512_i32_910
  v1602
def k0_off8 (i : grid0.Coords) (k0_t1 : Fin (k0_t1_loop i).trips) : Fin 3 → Nat :=
  let c0_911 : Index := 0#32
  let c64_912 : Index := 64#32
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_910 : BitVec 32 := 512#32
  let v1602 : BitVec 32 := Scalar.muli v1431 c512_i32_910
  let v1603 : BitVec 32 := v1602
  let v1604 : Index := Scalar.indexCast v1603
  ![0, 64, v1604.toNat]
def k0_mult59 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_914 : BitVec 32 := 512#32
  let v1612 : BitVec 32 := Scalar.muli v1429 c512_i32_914
  v1612
def k0_mult60 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_931 : BitVec 32 := 512#32
  let v1638 : BitVec 32 := Scalar.muli v1431 c512_i32_931
  v1638
def k0_mult61 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_935 : BitVec 32 := 512#32
  let v1648 : BitVec 32 := Scalar.muli v1429 c512_i32_935
  v1648
def k0_mult62 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_952 : BitVec 32 := 512#32
  let v1674 : BitVec 32 := Scalar.muli v1431 c512_i32_952
  v1674
def k0_mult63 (i : grid0.Coords) (k0_t1 : Fin (k0_t1_loop i).trips) : BitVec 32 :=
  let c2_i32_805 : BitVec 32 := 2#32
  let c0_i32_90 : BitVec 32 := 0#32
  let c1_i32_92 : BitVec 32 := 1#32
  let arg11 : BitVec 32 := Scf.iv c0_i32_90 c1_i32_92 k0_t1
  let v1428 : BitVec 32 := Scalar.muli c2_i32_805 arg11
  let c2_i32_806 : BitVec 32 := 2#32
  let v1429 : BitVec 32 := Scalar.addi v1428 c2_i32_806
  let c512_i32_956 : BitVec 32 := 512#32
  let v1684 : BitVec 32 := Scalar.muli v1429 c512_i32_956
  v1684
def k0_mult64 (i : grid0.Coords) (k0_t1 : Fin (k0_t1_loop i).trips) : BitVec 32 :=
  let c2_i32_807 : BitVec 32 := 2#32
  let c0_i32_90 : BitVec 32 := 0#32
  let c1_i32_92 : BitVec 32 := 1#32
  let arg11 : BitVec 32 := Scf.iv c0_i32_90 c1_i32_92 k0_t1
  let v1430 : BitVec 32 := Scalar.muli c2_i32_807 arg11
  let c1_i32_808 : BitVec 32 := 1#32
  let v1431 : BitVec 32 := Scalar.addi v1430 c1_i32_808
  let c512_i32_973 : BitVec 32 := 512#32
  let v1710 : BitVec 32 := Scalar.muli v1431 c512_i32_973
  v1710
@[reducible] def k0_t2_loop (i : grid0.Coords) : Scf.Loop 32 :=
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let v129 : BitVec 32 := Scalar.addi c0_i32_90 v128
  let c1_i32_93 : BitVec 32 := 1#32
  ⟨v132, v129, c1_i32_93⟩
def k0_mult65 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_637 : BitVec 32 := 512#32
  let v1140 : BitVec 32 := Scalar.muli v1138 c512_i32_637
  v1140
def k0_off9 (i : grid0.Coords) (k0_t2 : Fin (k0_t2_loop i).trips) (c1_i32_635 : BitVec 32) : Fin 3 → Nat :=
  let c0_638 : Index := 0#32
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let v1138 : BitVec 32 := Scalar.addi v1137 c1_i32_635
  let c512_i32_637 : BitVec 32 := 512#32
  let v1140 : BitVec 32 := Scalar.muli v1138 c512_i32_637
  let v1141 : BitVec 32 := v1140
  let v1142 : Index := Scalar.indexCast v1141
  let c0_639 : Index := 0#32
  ![0, v1142.toNat, 0]
def k0_mult66 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_654 : BitVec 32 := 512#32
  let v1166 : BitVec 32 := Scalar.muli v1139 c512_i32_654
  v1166
def k0_off10 (i : grid0.Coords) (k0_t2 : Fin (k0_t2_loop i).trips) : Fin 3 → Nat :=
  let c0_655 : Index := 0#32
  let c0_656 : Index := 0#32
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_654 : BitVec 32 := 512#32
  let v1166 : BitVec 32 := Scalar.muli v1139 c512_i32_654
  let v1167 : BitVec 32 := v1166
  let v1168 : Index := Scalar.indexCast v1167
  ![0, 0, v1168.toNat]
def k0_mult67 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_658 : BitVec 32 := 512#32
  let v1176 : BitVec 32 := Scalar.muli v1138 c512_i32_658
  v1176
def k0_mult68 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_675 : BitVec 32 := 512#32
  let v1202 : BitVec 32 := Scalar.muli v1139 c512_i32_675
  v1202
def k0_mult69 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_679 : BitVec 32 := 512#32
  let v1212 : BitVec 32 := Scalar.muli v1138 c512_i32_679
  v1212
def k0_mult70 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_696 : BitVec 32 := 512#32
  let v1238 : BitVec 32 := Scalar.muli v1139 c512_i32_696
  v1238
def k0_mult71 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_700 : BitVec 32 := 512#32
  let v1248 : BitVec 32 := Scalar.muli v1138 c512_i32_700
  v1248
def k0_mult72 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_717 : BitVec 32 := 512#32
  let v1274 : BitVec 32 := Scalar.muli v1139 c512_i32_717
  v1274
def k0_mult73 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_721 : BitVec 32 := 512#32
  let v1284 : BitVec 32 := Scalar.muli v1138 c512_i32_721
  v1284
def k0_off11 (i : grid0.Coords) (k0_t2 : Fin (k0_t2_loop i).trips) (c1_i32_635 : BitVec 32) : Fin 3 → Nat :=
  let c0_722 : Index := 0#32
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let v1138 : BitVec 32 := Scalar.addi v1137 c1_i32_635
  let c512_i32_721 : BitVec 32 := 512#32
  let v1284 : BitVec 32 := Scalar.muli v1138 c512_i32_721
  let v1285 : BitVec 32 := v1284
  let v1286 : Index := Scalar.indexCast v1285
  let c128_723 : Index := 128#32
  ![0, v1286.toNat, 128]
def k0_mult74 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_738 : BitVec 32 := 512#32
  let v1310 : BitVec 32 := Scalar.muli v1139 c512_i32_738
  v1310
def k0_off12 (i : grid0.Coords) (k0_t2 : Fin (k0_t2_loop i).trips) : Fin 3 → Nat :=
  let c0_739 : Index := 0#32
  let c64_740 : Index := 64#32
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_738 : BitVec 32 := 512#32
  let v1310 : BitVec 32 := Scalar.muli v1139 c512_i32_738
  let v1311 : BitVec 32 := v1310
  let v1312 : Index := Scalar.indexCast v1311
  ![0, 64, v1312.toNat]
def k0_mult75 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_742 : BitVec 32 := 512#32
  let v1320 : BitVec 32 := Scalar.muli v1138 c512_i32_742
  v1320
def k0_mult76 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_759 : BitVec 32 := 512#32
  let v1346 : BitVec 32 := Scalar.muli v1139 c512_i32_759
  v1346
def k0_mult77 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_763 : BitVec 32 := 512#32
  let v1356 : BitVec 32 := Scalar.muli v1138 c512_i32_763
  v1356
def k0_mult78 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_780 : BitVec 32 := 512#32
  let v1382 : BitVec 32 := Scalar.muli v1139 c512_i32_780
  v1382
def k0_mult79 (i : grid0.Coords) (k0_t2 : Fin (k0_t2_loop i).trips) : BitVec 32 :=
  let c2_i32_634 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1137 : BitVec 32 := Scalar.muli c2_i32_634 arg11
  let c1_i32_635 : BitVec 32 := 1#32
  let v1138 : BitVec 32 := Scalar.addi v1137 c1_i32_635
  let c512_i32_784 : BitVec 32 := 512#32
  let v1392 : BitVec 32 := Scalar.muli v1138 c512_i32_784
  v1392
def k0_mult80 (i : grid0.Coords) (k0_t2 : Fin (k0_t2_loop i).trips) : BitVec 32 :=
  let c2_i32_636 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1139 : BitVec 32 := Scalar.muli c2_i32_636 arg11
  let c512_i32_801 : BitVec 32 := 512#32
  let v1418 : BitVec 32 := Scalar.muli v1139 c512_i32_801
  v1418
def k0_mult81 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_809 : BitVec 32 := 512#32
  let v1432 : BitVec 32 := Scalar.muli v1429 c512_i32_809
  v1432
def k0_mult82 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_826 : BitVec 32 := 512#32
  let v1458 : BitVec 32 := Scalar.muli v1431 c512_i32_826
  v1458
def k0_off13 (i : grid0.Coords) (k0_t2 : Fin (k0_t2_loop i).trips) : Fin 3 → Nat :=
  let c0_827 : Index := 0#32
  let c0_828 : Index := 0#32
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_826 : BitVec 32 := 512#32
  let v1458 : BitVec 32 := Scalar.muli v1431 c512_i32_826
  let v1459 : BitVec 32 := v1458
  let v1460 : Index := Scalar.indexCast v1459
  ![0, 0, v1460.toNat]
def k0_mult83 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_830 : BitVec 32 := 512#32
  let v1468 : BitVec 32 := Scalar.muli v1429 c512_i32_830
  v1468
def k0_mult84 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_847 : BitVec 32 := 512#32
  let v1494 : BitVec 32 := Scalar.muli v1431 c512_i32_847
  v1494
def k0_mult85 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_851 : BitVec 32 := 512#32
  let v1504 : BitVec 32 := Scalar.muli v1429 c512_i32_851
  v1504
def k0_mult86 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_868 : BitVec 32 := 512#32
  let v1530 : BitVec 32 := Scalar.muli v1431 c512_i32_868
  v1530
def k0_mult87 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_872 : BitVec 32 := 512#32
  let v1540 : BitVec 32 := Scalar.muli v1429 c512_i32_872
  v1540
def k0_mult88 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_889 : BitVec 32 := 512#32
  let v1566 : BitVec 32 := Scalar.muli v1431 c512_i32_889
  v1566
def k0_mult89 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_893 : BitVec 32 := 512#32
  let v1576 : BitVec 32 := Scalar.muli v1429 c512_i32_893
  v1576
def k0_mult90 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_910 : BitVec 32 := 512#32
  let v1602 : BitVec 32 := Scalar.muli v1431 c512_i32_910
  v1602
def k0_off14 (i : grid0.Coords) (k0_t2 : Fin (k0_t2_loop i).trips) : Fin 3 → Nat :=
  let c0_911 : Index := 0#32
  let c64_912 : Index := 64#32
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_910 : BitVec 32 := 512#32
  let v1602 : BitVec 32 := Scalar.muli v1431 c512_i32_910
  let v1603 : BitVec 32 := v1602
  let v1604 : Index := Scalar.indexCast v1603
  ![0, 64, v1604.toNat]
def k0_mult91 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_914 : BitVec 32 := 512#32
  let v1612 : BitVec 32 := Scalar.muli v1429 c512_i32_914
  v1612
def k0_mult92 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_931 : BitVec 32 := 512#32
  let v1638 : BitVec 32 := Scalar.muli v1431 c512_i32_931
  v1638
def k0_mult93 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_935 : BitVec 32 := 512#32
  let v1648 : BitVec 32 := Scalar.muli v1429 c512_i32_935
  v1648
def k0_mult94 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_952 : BitVec 32 := 512#32
  let v1674 : BitVec 32 := Scalar.muli v1431 c512_i32_952
  v1674
def k0_mult95 (i : grid0.Coords) (k0_t2 : Fin (k0_t2_loop i).trips) : BitVec 32 :=
  let c2_i32_805 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1428 : BitVec 32 := Scalar.muli c2_i32_805 arg11
  let c2_i32_806 : BitVec 32 := 2#32
  let v1429 : BitVec 32 := Scalar.addi v1428 c2_i32_806
  let c512_i32_956 : BitVec 32 := 512#32
  let v1684 : BitVec 32 := Scalar.muli v1429 c512_i32_956
  v1684
def k0_mult96 (i : grid0.Coords) (k0_t2 : Fin (k0_t2_loop i).trips) : BitVec 32 :=
  let c2_i32_807 : BitVec 32 := 2#32
  let c0_i32_90 : BitVec 32 := 0#32
  let arg2 : BitVec 32 := BitVec.ofNat 32 (i 2).val
  let c1_i32 : BitVec 32 := 1#32
  let v127 : BitVec 32 := Scalar.subi arg2 c1_i32
  let v128 : BitVec 32 := Scalar.subi v127 c0_i32_90
  let c1_i32_91 : BitVec 32 := 1#32
  let v130 : BitVec 32 := Scalar.divsi v128 c1_i32_91
  let v131 : BitVec 32 := Scalar.muli v130 c1_i32_91
  let v132 : BitVec 32 := Scalar.addi c0_i32_90 v131
  let c1_i32_93 : BitVec 32 := 1#32
  let arg11 : BitVec 32 := Scf.iv v132 c1_i32_93 k0_t2
  let v1430 : BitVec 32 := Scalar.muli c2_i32_807 arg11
  let c1_i32_808 : BitVec 32 := 1#32
  let v1431 : BitVec 32 := Scalar.addi v1430 c1_i32_808
  let c512_i32_973 : BitVec 32 := 512#32
  let v1710 : BitVec 32 := Scalar.muli v1431 c512_i32_973
  v1710
def k0_mult97 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32 : BitVec 32 := 512#32
  let v139 : BitVec 32 := Scalar.muli v136 c512_i32
  v139
def k0_off15 (i : grid0.Coords) : Fin 3 → Nat :=
  let c0_97 : Index := 0#32
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32 : BitVec 32 := 512#32
  let v139 : BitVec 32 := Scalar.muli v136 c512_i32
  let v140 : BitVec 32 := v139
  let v141 : Index := Scalar.indexCast v140
  let c0_98 : Index := 0#32
  ![0, v141.toNat, 0]
def k0_mult98 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_113 : BitVec 32 := 512#32
  let v165 : BitVec 32 := Scalar.muli v138 c512_i32_113
  v165
def k0_off16 (i : grid0.Coords) (c2_i32_96 : BitVec 32) : Fin 3 → Nat :=
  let c0_114 : Index := 0#32
  let c0_115 : Index := 0#32
  let c2_i32_95 : BitVec 32 := 2#32
  let arg2 : BitVec 32 := BitVec.ofNat 32 (i 2).val
  let v137 : BitVec 32 := Scalar.muli c2_i32_95 arg2
  let v138 : BitVec 32 := Scalar.subi v137 c2_i32_96
  let c512_i32_113 : BitVec 32 := 512#32
  let v165 : BitVec 32 := Scalar.muli v138 c512_i32_113
  let v166 : BitVec 32 := v165
  let v167 : Index := Scalar.indexCast v166
  ![0, 0, v167.toNat]
def k0_mult99 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_117 : BitVec 32 := 512#32
  let v175 : BitVec 32 := Scalar.muli v136 c512_i32_117
  v175
def k0_mult100 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_134 : BitVec 32 := 512#32
  let v201 : BitVec 32 := Scalar.muli v138 c512_i32_134
  v201
def k0_mult101 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_138 : BitVec 32 := 512#32
  let v211 : BitVec 32 := Scalar.muli v136 c512_i32_138
  v211
def k0_mult102 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_155 : BitVec 32 := 512#32
  let v237 : BitVec 32 := Scalar.muli v138 c512_i32_155
  v237
def k0_mult103 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_159 : BitVec 32 := 512#32
  let v247 : BitVec 32 := Scalar.muli v136 c512_i32_159
  v247
def k0_mult104 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_176 : BitVec 32 := 512#32
  let v273 : BitVec 32 := Scalar.muli v138 c512_i32_176
  v273
def k0_mult105 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_180 : BitVec 32 := 512#32
  let v283 : BitVec 32 := Scalar.muli v136 c512_i32_180
  v283
def k0_off17 (i : grid0.Coords) : Fin 3 → Nat :=
  let c0_181 : Index := 0#32
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_180 : BitVec 32 := 512#32
  let v283 : BitVec 32 := Scalar.muli v136 c512_i32_180
  let v284 : BitVec 32 := v283
  let v285 : Index := Scalar.indexCast v284
  let c128_182 : Index := 128#32
  ![0, v285.toNat, 128]
def k0_mult106 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_197 : BitVec 32 := 512#32
  let v309 : BitVec 32 := Scalar.muli v138 c512_i32_197
  v309
def k0_off18 (i : grid0.Coords) (c2_i32_96 : BitVec 32) : Fin 3 → Nat :=
  let c0_198 : Index := 0#32
  let c64 : Index := 64#32
  let c2_i32_95 : BitVec 32 := 2#32
  let arg2 : BitVec 32 := BitVec.ofNat 32 (i 2).val
  let v137 : BitVec 32 := Scalar.muli c2_i32_95 arg2
  let v138 : BitVec 32 := Scalar.subi v137 c2_i32_96
  let c512_i32_197 : BitVec 32 := 512#32
  let v309 : BitVec 32 := Scalar.muli v138 c512_i32_197
  let v310 : BitVec 32 := v309
  let v311 : Index := Scalar.indexCast v310
  ![0, 64, v311.toNat]
def k0_mult107 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_200 : BitVec 32 := 512#32
  let v319 : BitVec 32 := Scalar.muli v136 c512_i32_200
  v319
def k0_mult108 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_217 : BitVec 32 := 512#32
  let v345 : BitVec 32 := Scalar.muli v138 c512_i32_217
  v345
def k0_mult109 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_221 : BitVec 32 := 512#32
  let v355 : BitVec 32 := Scalar.muli v136 c512_i32_221
  v355
def k0_mult110 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_238 : BitVec 32 := 512#32
  let v381 : BitVec 32 := Scalar.muli v138 c512_i32_238
  v381
def k0_mult111 (i : grid0.Coords) : BitVec 32 :=
  let c2_i32 : BitVec 32 := 2#32
  let arg2 : BitVec 32 := BitVec.ofNat 32 (i 2).val
  let v135 : BitVec 32 := Scalar.muli c2_i32 arg2
  let c1_i32_94 : BitVec 32 := 1#32
  let v136 : BitVec 32 := Scalar.subi v135 c1_i32_94
  let c512_i32_242 : BitVec 32 := 512#32
  let v391 : BitVec 32 := Scalar.muli v136 c512_i32_242
  v391
def k0_mult112 (i : grid0.Coords) : BitVec 32 :=
  let c2_i32_95 : BitVec 32 := 2#32
  let arg2 : BitVec 32 := BitVec.ofNat 32 (i 2).val
  let v137 : BitVec 32 := Scalar.muli c2_i32_95 arg2
  let c2_i32_96 : BitVec 32 := 2#32
  let v138 : BitVec 32 := Scalar.subi v137 c2_i32_96
  let c512_i32_259 : BitVec 32 := 512#32
  let v417 : BitVec 32 := Scalar.muli v138 c512_i32_259
  v417
def k0_mult113 (i : grid0.Coords) : BitVec 32 :=
  let c2_i32_263 : BitVec 32 := 2#32
  let arg2 : BitVec 32 := BitVec.ofNat 32 (i 2).val
  let v427 : BitVec 32 := Scalar.muli c2_i32_263 arg2
  let c512_i32_266 : BitVec 32 := 512#32
  let v430 : BitVec 32 := Scalar.muli v427 c512_i32_266
  v430
def k0_off19 (i : grid0.Coords) : Fin 3 → Nat :=
  let c0_267 : Index := 0#32
  let c2_i32_263 : BitVec 32 := 2#32
  let arg2 : BitVec 32 := BitVec.ofNat 32 (i 2).val
  let v427 : BitVec 32 := Scalar.muli c2_i32_263 arg2
  let c512_i32_266 : BitVec 32 := 512#32
  let v430 : BitVec 32 := Scalar.muli v427 c512_i32_266
  let v431 : BitVec 32 := v430
  let v432 : Index := Scalar.indexCast v431
  let c0_268 : Index := 0#32
  ![0, v432.toNat, 0]
def k0_mult114 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_286 : BitVec 32 := 512#32
  let v463 : BitVec 32 := Scalar.muli v429 c512_i32_286
  v463
def k0_mult115 (i : grid0.Coords) : BitVec 32 :=
  let c2_i32_263 : BitVec 32 := 2#32
  let arg2 : BitVec 32 := BitVec.ofNat 32 (i 2).val
  let v427 : BitVec 32 := Scalar.muli c2_i32_263 arg2
  let c512_i32_290 : BitVec 32 := 512#32
  let v473 : BitVec 32 := Scalar.muli v427 c512_i32_290
  v473
def k0_mult116 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_309 : BitVec 32 := 512#32
  let v506 : BitVec 32 := Scalar.muli v429 c512_i32_309
  v506
def k0_mult117 (i : grid0.Coords) : BitVec 32 :=
  let c2_i32_263 : BitVec 32 := 2#32
  let arg2 : BitVec 32 := BitVec.ofNat 32 (i 2).val
  let v427 : BitVec 32 := Scalar.muli c2_i32_263 arg2
  let c512_i32_313 : BitVec 32 := 512#32
  let v516 : BitVec 32 := Scalar.muli v427 c512_i32_313
  v516
def k0_mult118 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_330 : BitVec 32 := 512#32
  let v542 : BitVec 32 := Scalar.muli v429 c512_i32_330
  v542
def k0_mult119 (i : grid0.Coords) : BitVec 32 :=
  let c2_i32_263 : BitVec 32 := 2#32
  let arg2 : BitVec 32 := BitVec.ofNat 32 (i 2).val
  let v427 : BitVec 32 := Scalar.muli c2_i32_263 arg2
  let c512_i32_334 : BitVec 32 := 512#32
  let v552 : BitVec 32 := Scalar.muli v427 c512_i32_334
  v552
def k0_mult120 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_351 : BitVec 32 := 512#32
  let v578 : BitVec 32 := Scalar.muli v429 c512_i32_351
  v578
def k0_mult121 (i : grid0.Coords) : BitVec 32 :=
  let c2_i32_263 : BitVec 32 := 2#32
  let arg2 : BitVec 32 := BitVec.ofNat 32 (i 2).val
  let v427 : BitVec 32 := Scalar.muli c2_i32_263 arg2
  let c512_i32_355 : BitVec 32 := 512#32
  let v588 : BitVec 32 := Scalar.muli v427 c512_i32_355
  v588
def k0_off20 (i : grid0.Coords) : Fin 3 → Nat :=
  let c0_356 : Index := 0#32
  let c2_i32_263 : BitVec 32 := 2#32
  let arg2 : BitVec 32 := BitVec.ofNat 32 (i 2).val
  let v427 : BitVec 32 := Scalar.muli c2_i32_263 arg2
  let c512_i32_355 : BitVec 32 := 512#32
  let v588 : BitVec 32 := Scalar.muli v427 c512_i32_355
  let v589 : BitVec 32 := v588
  let v590 : Index := Scalar.indexCast v589
  let c128_357 : Index := 128#32
  ![0, v590.toNat, 128]
def k0_mult122 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_375 : BitVec 32 := 512#32
  let v621 : BitVec 32 := Scalar.muli v429 c512_i32_375
  v621
def k0_mult123 (i : grid0.Coords) : BitVec 32 :=
  let c2_i32_263 : BitVec 32 := 2#32
  let arg2 : BitVec 32 := BitVec.ofNat 32 (i 2).val
  let v427 : BitVec 32 := Scalar.muli c2_i32_263 arg2
  let c512_i32_379 : BitVec 32 := 512#32
  let v631 : BitVec 32 := Scalar.muli v427 c512_i32_379
  v631
def k0_mult124 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_399 : BitVec 32 := 512#32
  let v664 : BitVec 32 := Scalar.muli v429 c512_i32_399
  v664
def k0_mult125 (i : grid0.Coords) : BitVec 32 :=
  let c2_i32_263 : BitVec 32 := 2#32
  let arg2 : BitVec 32 := BitVec.ofNat 32 (i 2).val
  let v427 : BitVec 32 := Scalar.muli c2_i32_263 arg2
  let c512_i32_403 : BitVec 32 := 512#32
  let v674 : BitVec 32 := Scalar.muli v427 c512_i32_403
  v674
def k0_mult126 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_420 : BitVec 32 := 512#32
  let v700 : BitVec 32 := Scalar.muli v429 c512_i32_420
  v700
def k0_mult127 (i : grid0.Coords) : BitVec 32 :=
  let c2_i32_263 : BitVec 32 := 2#32
  let arg2 : BitVec 32 := BitVec.ofNat 32 (i 2).val
  let v427 : BitVec 32 := Scalar.muli c2_i32_263 arg2
  let c512_i32_424 : BitVec 32 := 512#32
  let v710 : BitVec 32 := Scalar.muli v427 c512_i32_424
  v710
def k0_mult128 (i : grid0.Coords) : BitVec 32 :=
  let c2_i32_264 : BitVec 32 := 2#32
  let arg2 : BitVec 32 := BitVec.ofNat 32 (i 2).val
  let v428 : BitVec 32 := Scalar.muli c2_i32_264 arg2
  let c1_i32_265 : BitVec 32 := 1#32
  let v429 : BitVec 32 := Scalar.subi v428 c1_i32_265
  let c512_i32_441 : BitVec 32 := 512#32
  let v736 : BitVec 32 := Scalar.muli v429 c512_i32_441
  v736
def k0_mult129 (i : grid0.Coords) : BitVec 32 :=
  let c2_i32_447 : BitVec 32 := 2#32
  let arg2 : BitVec 32 := BitVec.ofNat 32 (i 2).val
  let v748 : BitVec 32 := Scalar.muli c2_i32_447 arg2
  let c512_i32_454 : BitVec 32 := 512#32
  let v760 : BitVec 32 := Scalar.muli v748 c512_i32_454
  v760
def k0_off21 (i : grid0.Coords) : Fin 3 → Nat :=
  let c0_455 : Index := 0#32
  let c0_456 : Index := 0#32
  let c2_i32_447 : BitVec 32 := 2#32
  let arg2 : BitVec 32 := BitVec.ofNat 32 (i 2).val
  let v748 : BitVec 32 := Scalar.muli c2_i32_447 arg2
  let c512_i32_454 : BitVec 32 := 512#32
  let v760 : BitVec 32 := Scalar.muli v748 c512_i32_454
  let v761 : BitVec 32 := v760
  let v762 : Index := Scalar.indexCast v761
  ![0, 0, v762.toNat]
def k0_mult130 (i : grid0.Coords) : BitVec 32 :=
  let c2_i32_447 : BitVec 32 := 2#32
  let arg2 : BitVec 32 := BitVec.ofNat 32 (i 2).val
  let v748 : BitVec 32 := Scalar.muli c2_i32_447 arg2
  let c512_i32_464 : BitVec 32 := 512#32
  let v781 : BitVec 32 := Scalar.muli v748 c512_i32_464
  v781
def k0_mult131 (i : grid0.Coords) : BitVec 32 :=
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_468 : BitVec 32 := 512#32
  let v791 : BitVec 32 := Scalar.muli v747 c512_i32_468
  v791
def k0_off22 (i : grid0.Coords) : Fin 3 → Nat :=
  let c0_469 : Index := 0#32
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_468 : BitVec 32 := 512#32
  let v791 : BitVec 32 := Scalar.muli v747 c512_i32_468
  let v792 : BitVec 32 := v791
  let v793 : Index := Scalar.indexCast v792
  let c0_470 : Index := 0#32
  ![0, v793.toNat, 0]
def k0_mult132 (i : grid0.Coords) : BitVec 32 :=
  let c2_i32_447 : BitVec 32 := 2#32
  let arg2 : BitVec 32 := BitVec.ofNat 32 (i 2).val
  let v748 : BitVec 32 := Scalar.muli c2_i32_447 arg2
  let c512_i32_488 : BitVec 32 := 512#32
  let v824 : BitVec 32 := Scalar.muli v748 c512_i32_488
  v824
def k0_mult133 (i : grid0.Coords) : BitVec 32 :=
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_492 : BitVec 32 := 512#32
  let v834 : BitVec 32 := Scalar.muli v747 c512_i32_492
  v834
def k0_mult134 (i : grid0.Coords) : BitVec 32 :=
  let c2_i32_447 : BitVec 32 := 2#32
  let arg2 : BitVec 32 := BitVec.ofNat 32 (i 2).val
  let v748 : BitVec 32 := Scalar.muli c2_i32_447 arg2
  let c512_i32_511 : BitVec 32 := 512#32
  let v867 : BitVec 32 := Scalar.muli v748 c512_i32_511
  v867
def k0_mult135 (i : grid0.Coords) : BitVec 32 :=
  let c2_i32_447 : BitVec 32 := 2#32
  let arg2 : BitVec 32 := BitVec.ofNat 32 (i 2).val
  let v748 : BitVec 32 := Scalar.muli c2_i32_447 arg2
  let c512_i32_521 : BitVec 32 := 512#32
  let v888 : BitVec 32 := Scalar.muli v748 c512_i32_521
  v888
def k0_off23 (i : grid0.Coords) : Fin 3 → Nat :=
  let c0_522 : Index := 0#32
  let c64_523 : Index := 64#32
  let c2_i32_447 : BitVec 32 := 2#32
  let arg2 : BitVec 32 := BitVec.ofNat 32 (i 2).val
  let v748 : BitVec 32 := Scalar.muli c2_i32_447 arg2
  let c512_i32_521 : BitVec 32 := 512#32
  let v888 : BitVec 32 := Scalar.muli v748 c512_i32_521
  let v889 : BitVec 32 := v888
  let v890 : Index := Scalar.indexCast v889
  ![0, 64, v890.toNat]
def k0_mult136 (i : grid0.Coords) : BitVec 32 :=
  let c2_i32_447 : BitVec 32 := 2#32
  let arg2 : BitVec 32 := BitVec.ofNat 32 (i 2).val
  let v748 : BitVec 32 := Scalar.muli c2_i32_447 arg2
  let c512_i32_531 : BitVec 32 := 512#32
  let v909 : BitVec 32 := Scalar.muli v748 c512_i32_531
  v909
def k0_mult137 (i : grid0.Coords) : BitVec 32 :=
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_535 : BitVec 32 := 512#32
  let v919 : BitVec 32 := Scalar.muli v747 c512_i32_535
  v919
def k0_off24 (i : grid0.Coords) : Fin 3 → Nat :=
  let c0_536 : Index := 0#32
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_535 : BitVec 32 := 512#32
  let v919 : BitVec 32 := Scalar.muli v747 c512_i32_535
  let v920 : BitVec 32 := v919
  let v921 : Index := Scalar.indexCast v920
  let c128_537 : Index := 128#32
  ![0, v921.toNat, 128]
def k0_mult138 (i : grid0.Coords) : BitVec 32 :=
  let c2_i32_447 : BitVec 32 := 2#32
  let arg2 : BitVec 32 := BitVec.ofNat 32 (i 2).val
  let v748 : BitVec 32 := Scalar.muli c2_i32_447 arg2
  let c512_i32_555 : BitVec 32 := 512#32
  let v952 : BitVec 32 := Scalar.muli v748 c512_i32_555
  v952
def k0_mult139 (i : grid0.Coords) : BitVec 32 :=
  let c2_i32_445 : BitVec 32 := 2#32
  let arg2 : BitVec 32 := BitVec.ofNat 32 (i 2).val
  let v746 : BitVec 32 := Scalar.muli c2_i32_445 arg2
  let c1_i32_446 : BitVec 32 := 1#32
  let v747 : BitVec 32 := Scalar.addi v746 c1_i32_446
  let c512_i32_559 : BitVec 32 := 512#32
  let v962 : BitVec 32 := Scalar.muli v747 c512_i32_559
  v962
def k0_mult140 (i : grid0.Coords) : BitVec 32 :=
  let c2_i32_447 : BitVec 32 := 2#32
  let arg2 : BitVec 32 := BitVec.ofNat 32 (i 2).val
  let v748 : BitVec 32 := Scalar.muli c2_i32_447 arg2
  let c512_i32_579 : BitVec 32 := 512#32
  let v995 : BitVec 32 := Scalar.muli v748 c512_i32_579
  v995
def k0_mult141 (i : grid0.Coords) : BitVec 32 :=
  let c2_i32_583 : BitVec 32 := 2#32
  let arg2 : BitVec 32 := BitVec.ofNat 32 (i 2).val
  let v1013 : BitVec 32 := Scalar.muli c2_i32_583 arg2
  let c1_i32_584 : BitVec 32 := 1#32
  let v1014 : BitVec 32 := Scalar.addi v1013 c1_i32_584
  let c512_i32_591 : BitVec 32 := 512#32
  let v1026 : BitVec 32 := Scalar.muli v1014 c512_i32_591
  v1026
def k0_off25 (i : grid0.Coords) : Fin 3 → Nat :=
  let c0_592 : Index := 0#32
  let c0_593 : Index := 0#32
  let c2_i32_583 : BitVec 32 := 2#32
  let arg2 : BitVec 32 := BitVec.ofNat 32 (i 2).val
  let v1013 : BitVec 32 := Scalar.muli c2_i32_583 arg2
  let c1_i32_584 : BitVec 32 := 1#32
  let v1014 : BitVec 32 := Scalar.addi v1013 c1_i32_584
  let c512_i32_591 : BitVec 32 := 512#32
  let v1026 : BitVec 32 := Scalar.muli v1014 c512_i32_591
  let v1027 : BitVec 32 := v1026
  let v1028 : Index := Scalar.indexCast v1027
  ![0, 0, v1028.toNat]
def k0_mult142 (i : grid0.Coords) : BitVec 32 :=
  let c2_i32_595 : BitVec 32 := 2#32
  let arg2 : BitVec 32 := BitVec.ofNat 32 (i 2).val
  let v1040 : BitVec 32 := Scalar.muli c2_i32_595 arg2
  let c1_i32_596 : BitVec 32 := 1#32
  let v1041 : BitVec 32 := Scalar.addi v1040 c1_i32_596
  let c512_i32_603 : BitVec 32 := 512#32
  let v1053 : BitVec 32 := Scalar.muli v1041 c512_i32_603
  v1053
def k0_mult143 (i : grid0.Coords) : BitVec 32 :=
  let c2_i32_607 : BitVec 32 := 2#32
  let arg2 : BitVec 32 := BitVec.ofNat 32 (i 2).val
  let v1075 : BitVec 32 := Scalar.muli c2_i32_607 arg2
  let c1_i32_608 : BitVec 32 := 1#32
  let v1076 : BitVec 32 := Scalar.addi v1075 c1_i32_608
  let c512_i32_615 : BitVec 32 := 512#32
  let v1088 : BitVec 32 := Scalar.muli v1076 c512_i32_615
  v1088
def k0_off26 (i : grid0.Coords) : Fin 3 → Nat :=
  let c0_616 : Index := 0#32
  let c64_617 : Index := 64#32
  let c2_i32_607 : BitVec 32 := 2#32
  let arg2 : BitVec 32 := BitVec.ofNat 32 (i 2).val
  let v1075 : BitVec 32 := Scalar.muli c2_i32_607 arg2
  let c1_i32_608 : BitVec 32 := 1#32
  let v1076 : BitVec 32 := Scalar.addi v1075 c1_i32_608
  let c512_i32_615 : BitVec 32 := 512#32
  let v1088 : BitVec 32 := Scalar.muli v1076 c512_i32_615
  let v1089 : BitVec 32 := v1088
  let v1090 : Index := Scalar.indexCast v1089
  ![0, 64, v1090.toNat]
def k0_mult144 (i : grid0.Coords) : BitVec 32 :=
  let c2_i32_619 : BitVec 32 := 2#32
  let arg2 : BitVec 32 := BitVec.ofNat 32 (i 2).val
  let v1102 : BitVec 32 := Scalar.muli c2_i32_619 arg2
  let c1_i32_620 : BitVec 32 := 1#32
  let v1103 : BitVec 32 := Scalar.addi v1102 c1_i32_620
  let c512_i32_627 : BitVec 32 := 512#32
  let v1115 : BitVec 32 := Scalar.muli v1103 c512_i32_627
  v1115
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x1024x8192 : Shape := ⟨3, ![2, 1024, 8192]⟩
abbrev S16384x1024 : Shape := ⟨2, ![16384, 1024]⟩
abbrev S2x512x8192 : Shape := ⟨3, ![2, 512, 8192]⟩
abbrev S2x8x128x8192 : Shape := ⟨4, ![2, 8, 128, 8192]⟩
abbrev S2x8192x8x128 : Shape := ⟨4, ![2, 8192, 8, 128]⟩
abbrev S2x8x64x8192 : Shape := ⟨4, ![2, 8, 64, 8192]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x8192x8x64 : Shape := ⟨4, ![2, 8192, 8, 64]⟩
abbrev S2x8192x512 : Shape := ⟨3, ![2, 8192, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x1024x8192, .bf16⟩
  | .hbm, ⟨1, _⟩ => ⟨S16384x1024, .bf16⟩
  | .hbm, ⟨2, _⟩ => ⟨S2x512x8192, .bf16⟩
  | .hbm, ⟨3, _⟩ => ⟨S2x1024x8192, .f32⟩
  | .hbm, ⟨4, _⟩ => ⟨S2x8x128x8192, .f32⟩
  | .hbm, ⟨5, _⟩ => ⟨S16384x1024, .f32⟩
  | .hbm, ⟨6, _⟩ => ⟨S2x8192x8x128, .f32⟩
  | .hbm, ⟨7, _⟩ => ⟨S2x512x8192, .f32⟩
  | .hbm, ⟨8, _⟩ => ⟨S2x8x64x8192, .f32⟩
  | .hbm, ⟨9, _⟩ => ⟨S2x8x8192x8192, .f32⟩
  | .hbm, ⟨10, _⟩ => ⟨S_, .f32⟩
  | .hbm, ⟨11, _⟩ => ⟨S_, .f32⟩
  | .hbm, ⟨12, _⟩ => ⟨S2x8x8192x8192, .f32⟩
  | .hbm, ⟨13, _⟩ => ⟨S2x8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S_, .f32⟩
  | .hbm, ⟨21, _⟩ => ⟨S_, .f32⟩
  | .hbm, ⟨22, _⟩ => ⟨S2x8x8192x8192, .i1⟩
  | .hbm, ⟨23, _⟩ => ⟨S2x8x8192x8192, .f32⟩
  | .hbm, ⟨24, _⟩ => ⟨S2x8x8192x8192, .f32⟩
  | .hbm, ⟨25, _⟩ => ⟨S_, .f32⟩
  | .hbm, ⟨26, _⟩ => ⟨S2x8x8192, .f32⟩
  | .hbm, ⟨27, _⟩ => ⟨S_, .f32⟩
  | .hbm, ⟨28, _⟩ => ⟨S2x8x8192, .f32⟩
  | .hbm, ⟨29, _⟩ => ⟨S2x8x8192, .f32⟩
  | .hbm, ⟨30, _⟩ => ⟨S2x8x8192x1, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S2x8x8192, .f32⟩
  | .hbm, ⟨36, _⟩ => ⟨S2x8x8192x1, .f32⟩
  | .hbm, ⟨37, _⟩ => ⟨S2x8x8192x8192, .f32⟩
  | .hbm, ⟨38, _⟩ => ⟨S2x8x8192x8192, .f32⟩
  | .hbm, ⟨39, _⟩ => ⟨S2x8x64x8192, .f32⟩
  | .hbm, ⟨40, _⟩ => ⟨S2x8192x8x64, .f32⟩
  | .hbm, ⟨41, _⟩ => ⟨S2x8192x512, .f32⟩
  | .hbm, ⟨42, _⟩ => ⟨S2x8192x512, .bf16⟩
  | _, _ => ⟨S2x1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Inproj.lean ====
abbrev S2x8192x1024 : Shape := ⟨3, ![2, 8192, 1024]⟩
abbrev S6x40x1024 : Shape := ⟨3, ![6, 40, 1024]⟩
abbrev S1x1024 : Shape := ⟨2, ![1, 1024]⟩
abbrev S1x1024x4616 : Shape := ⟨3, ![1, 1024, 4616]⟩
abbrev S1x4616 : Shape := ⟨2, ![1, 4616]⟩
abbrev S512x512 : Shape := ⟨2, ![512, 512]⟩
abbrev S128x2048 : Shape := ⟨2, ![128, 2048]⟩
abbrev S1x2048 : Shape := ⟨2, ![1, 2048]⟩
abbrev S1024x4616 : Shape := ⟨2, ![1024, 4616]⟩
abbrev S4616x1024 : Shape := ⟨2, ![4616, 1024]⟩
abbrev S4616 : Shape := ⟨1, ![4616]⟩
abbrev S1544x1024 : Shape := ⟨2, ![1544, 1024]⟩
abbrev S_ : Shape := ⟨0, ![]⟩
abbrev S120x1024 : Shape := ⟨2, ![120, 1024]⟩
abbrev S3072x1024 : Shape := ⟨2, ![3072, 1024]⟩
abbrev S4736x1024 : Shape := ⟨2, ![4736, 1024]⟩
abbrev S1544 : Shape := ⟨1, ![1544]⟩
abbrev S120 : Shape := ⟨1, ![120]⟩
abbrev S3072 : Shape := ⟨1, ![3072]⟩
abbrev S4736 : Shape := ⟨1, ![4736]⟩
abbrev S1x4736 : Shape := ⟨2, ![1, 4736]⟩
abbrev S16384x1024 : Shape := ⟨2, ![16384, 1024]⟩
abbrev S1024 : Shape := ⟨1, ![1024]⟩
abbrev S2x1024x8192 : Shape := ⟨3, ![2, 1024, 8192]⟩
abbrev S128x512x128 : Shape := ⟨3, ![128, 512, 128]⟩
abbrev S2x512x8192 : Shape := ⟨3, ![2, 512, 8192]⟩
abbrev S128x8x128 : Shape := ⟨3, ![128, 8, 128]⟩
abbrev S4x16384x128 : Shape := ⟨3, ![4, 16384, 128]⟩
abbrev S512x1024 : Shape := ⟨2, ![512, 1024]⟩
abbrev S1x40x1024 : Shape := ⟨3, ![1, 40, 1024]⟩
abbrev S1x1024x512 : Shape := ⟨3, ![1, 1024, 512]⟩
abbrev S4x512x128 : Shape := ⟨3, ![4, 512, 128]⟩
abbrev S1x512x512 : Shape := ⟨3, ![1, 512, 512]⟩
abbrev S4x8x128 : Shape := ⟨3, ![4, 8, 128]⟩
abbrev S1x128 : Shape := ⟨2, ![1, 128]⟩
abbrev S512 : Shape := ⟨1, ![512]⟩
abbrev S512x1 : Shape := ⟨2, ![512, 1]⟩
abbrev S1x1x1024 : Shape := ⟨3, ![1, 1, 1024]⟩
abbrev S512x128 : Shape := ⟨2, ![512, 128]⟩
abbrev S128x1024 : Shape := ⟨2, ![128, 1024]⟩
abbrev S1x512 : Shape := ⟨2, ![1, 512]⟩
abbrev S128x512 : Shape := ⟨2, ![128, 512]⟩
abbrev S1x512x128 : Shape := ⟨3, ![1, 512, 128]⟩
abbrev S128x128 : Shape := ⟨2, ![128, 128]⟩
abbrev S8x128 : Shape := ⟨2, ![8, 128]⟩
abbrev S1x8x128 : Shape := ⟨3, ![1, 8, 128]⟩
abbrev S512x2048 : Shape := ⟨2, ![512, 2048]⟩
abbrev S1x128x512 : Shape := ⟨3, ![1, 128, 512]⟩
abbrev S1024x1024 : Shape := ⟨2, ![1024, 1024]⟩

abbrev nBuf : Space → Nat
  | .hbm => 35
  | .vmem => 29
  | .smem => 0
  | _ => 0

abbrev bufTy : (tb : Table) → Fin (tcTables nBuf tb) → BufTy
  | .hbm, ⟨0, _⟩ => ⟨S2x8192x1024, .f32⟩
  | .hbm, ⟨1, _⟩ => ⟨S6x40x1024, .f32⟩
  | .hbm, ⟨2, _⟩ => ⟨S1x1024, .f32⟩
  | .hbm, ⟨3, _⟩ => ⟨S1x1024x4616, .f32⟩
  | .hbm, ⟨4, _⟩ => ⟨S1x4616, .f32⟩
  | .hbm, ⟨5, _⟩ => ⟨S512x512, .bf16⟩
  | .hbm, ⟨6, _⟩ => ⟨S128x2048, .bf16⟩
  | .hbm, ⟨7, _⟩ => ⟨S1x2048, .f32⟩
  | .hbm, ⟨8, _⟩ => ⟨S1024x4616, .f32⟩
  | .hbm, ⟨9, _⟩ => ⟨S4616x1024, .f32⟩
  | .hbm, ⟨10, _⟩ => ⟨S4616, .f32⟩
  | .hbm, ⟨11, _⟩ => ⟨S1544x1024, .f32⟩
  | .hbm, ⟨12, _⟩ => ⟨S_, .f32⟩
  | .hbm, ⟨13, _⟩ => ⟨S120x1024, .f32⟩
  | .hbm, ⟨14, _⟩ => ⟨S3072x1024, .f32⟩
  | .hbm, ⟨15, _⟩ => ⟨S4736x1024, .f32⟩
  | .hbm, ⟨16, _⟩ => ⟨S4736x1024, .bf16⟩
  | .hbm, ⟨17, _⟩ => ⟨S1544, .f32⟩
  | .hbm, ⟨18, _⟩ => ⟨S_, .f32⟩
  | .hbm, ⟨19, _⟩ => ⟨S120, .f32⟩
  | .hbm, ⟨20, _⟩ => ⟨S3072, .f32⟩
  | .hbm, ⟨21, _⟩ => ⟨S4736, .f32⟩
  | .hbm, ⟨22, _⟩ => ⟨S1x4736, .f32⟩
  | .hbm, ⟨23, _⟩ => ⟨S16384x1024, .f32⟩
  | .hbm, ⟨24, _⟩ => ⟨S1024, .f32⟩
  | .hbm, ⟨25, _⟩ => ⟨S1x1024, .f32⟩
  | .hbm, ⟨26, _⟩ => ⟨S2x1024x8192, .bf16⟩
  | .hbm, ⟨27, _⟩ => ⟨S16384x1024, .bf16⟩
  | .hbm, ⟨28, _⟩ => ⟨S128x512x128, .f32⟩
  | .hbm, ⟨29, _⟩ => ⟨S128x512x128, .f32⟩
  | .hbm, ⟨30, _⟩ => ⟨S2x512x8192, .bf16⟩
  | .hbm, ⟨31, _⟩ => ⟨S128x8x128, .f32⟩
  | .hbm, ⟨32, _⟩ => ⟨S4x16384x128, .f32⟩
  | .hbm, ⟨33, _⟩ => ⟨S16384x1024, .bf16⟩
  | .hbm, ⟨34, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x40x1024, .f32⟩
  | .local _ .vmem, ⟨3, _⟩ => ⟨S1x40x1024, .f32⟩
  | .local _ .vmem, ⟨4, _⟩ => ⟨S1x1024, .f32⟩
  | .local _ .vmem, ⟨5, _⟩ => ⟨S4736x1024, .bf16⟩
  | .local _ .vmem, ⟨6, _⟩ => ⟨S1x4736, .f32⟩
  | .local _ .vmem, ⟨7, _⟩ => ⟨S512x512, .bf16⟩
  | .local _ .vmem, ⟨8, _⟩ => ⟨S128x2048, .bf16⟩
  | .local _ .vmem, ⟨9, _⟩ => ⟨S1x2048, .f32⟩
  | .local _ .vmem, ⟨10, _⟩ => ⟨S1x1024x512, .bf16⟩
  | .local _ .vmem, ⟨11, _⟩ => ⟨S1x1024x512, .bf16⟩
  | .local _ .vmem, ⟨12, _⟩ => ⟨S512x1024, .bf16⟩
  | .local _ .vmem, ⟨13, _⟩ => ⟨S512x1024, .bf16⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S1x512x512, .bf16⟩
  | .local _ .vmem, ⟨19, _⟩ => ⟨S1x512x512, .bf16⟩
  | .local _ .vmem, ⟨20, _⟩ => ⟨S4x8x128, .f32⟩
  | .local _ .vmem, ⟨21, _⟩ => ⟨S4x8x128, .f32⟩
  | .local _ .vmem, ⟨22, _⟩ => ⟨S4x512x128, .f32⟩
  | .local _ .vmem, ⟨23, _⟩ => ⟨S4x512x128, .f32⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev main_v16_8 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_6 : Index := 0#32
  let c32_i32 : BitVec 32 := 32#32
  let arg0 : BitVec 32 := BitVec.ofNat 32 (i 0).val
  let v19 : BitVec 32 := Scalar.addi c32_i32 arg0
  let v20 : Index := Scalar.indexCast v19
  let c0_7 : Index := 0#32
  ![0, v20.toNat, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4736x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4736 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S4x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S4x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S4x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjectionIdeal.lean ====
abbrev S2x8192x1024 : Shape := ⟨3, ![2, 8192, 1024]⟩
abbrev S6x40x1024 : Shape := ⟨3, ![6, 40, 1024]⟩
abbrev S1x1024 : Shape := ⟨2, ![1, 1024]⟩
abbrev S1x1024x4616 : Shape := ⟨3, ![1, 1024, 4616]⟩
abbrev S1x4616 : Shape := ⟨2, ![1, 4616]⟩
abbrev S512x512 : Shape := ⟨2, ![512, 512]⟩
abbrev S128x2048 : Shape := ⟨2, ![128, 2048]⟩
abbrev S1x2048 : Shape := ⟨2, ![1, 2048]⟩
abbrev S1x2x1024 : Shape := ⟨3, ![1, 2, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩
abbrev S2x1x1024 : Shape := ⟨3, ![2, 1, 1024]⟩
abbrev S1024x4616 : Shape := ⟨2, ![1024, 4616]⟩
abbrev S2x8192x4616 : Shape := ⟨3, ![2, 8192, 4616]⟩
abbrev S4616 : Shape := ⟨1, ![4616]⟩
abbrev S1x1x4616 : Shape := ⟨3, ![1, 1, 4616]⟩
abbrev S2x8192x512 : Shape := ⟨3, ![2, 8192, 512]⟩
abbrev S2x8192x8 : Shape := ⟨3, ![2, 8192, 8]⟩
abbrev S16384x4x128 : Shape := ⟨3, ![16384, 4, 128]⟩
abbrev S4x16384x128 : Shape := ⟨3, ![4, 16384, 128]⟩
abbrev S128x128x512 : Shape := ⟨3, ![128, 128, 512]⟩
abbrev S128x512x128 : Shape := ⟨3, ![128, 512, 128]⟩
abbrev S2x512x8192 : Shape := ⟨3, ![2, 512, 8192]⟩
abbrev S128x128x8 : Shape := ⟨3, ![128, 128, 8]⟩
abbrev S128x8x128 : Shape := ⟨3, ![128, 8, 128]⟩
abbrev S16384x1024 : Shape := ⟨2, ![16384, 1024]⟩

abbrev nBuf : Space → Nat
  | .hbm => 106
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S6x40x1024, .f32⟩
  | .hbm, ⟨2, _⟩ => ⟨S1x1024, .f32⟩
  | .hbm, ⟨3, _⟩ => ⟨S1x1024x4616, .f32⟩
  | .hbm, ⟨4, _⟩ => ⟨S1x4616, .f32⟩
  | .hbm, ⟨5, _⟩ => ⟨S512x512, .bf16⟩
  | .hbm, ⟨6, _⟩ => ⟨S128x2048, .bf16⟩
  | .hbm, ⟨7, _⟩ => ⟨S1x2048, .f32⟩
  | .hbm, ⟨8, _⟩ => ⟨S1x2x1024, .f32⟩
  | .hbm, ⟨9, _⟩ => ⟨S2x1024, .f32⟩
  | .hbm, ⟨10, _⟩ => ⟨S1x2x1024, .f32⟩
  | .hbm, ⟨11, _⟩ => ⟨S2x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S1024, .f32⟩
  | .hbm, ⟨26, _⟩ => ⟨S1x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S2x8192x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S1024x4616, .f32⟩
  | .hbm, ⟨39, _⟩ => ⟨S2x8192x4616, .f32⟩
  | .hbm, ⟨40, _⟩ => ⟨S4616, .f32⟩
  | .hbm, ⟨41, _⟩ => ⟨S1x1x4616, .f32⟩
  | .hbm, ⟨42, _⟩ => ⟨S2x8192x4616, .f32⟩
  | .hbm, ⟨43, _⟩ => ⟨S2x8192x4616, .f32⟩
  | .hbm, ⟨44, _⟩ => ⟨S2x8192x512, .f32⟩
  | .hbm, ⟨45, _⟩ => ⟨S2x8192x512, .f32⟩
  | .hbm, ⟨46, _⟩ => ⟨S2x8192x8, .f32⟩
  | .hbm, ⟨47, _⟩ => ⟨S2x8192x8, .f32⟩
  | .hbm, ⟨48, _⟩ => ⟨S_, .f32⟩
  | .hbm, ⟨49, _⟩ => ⟨S2x8192x8, .f32⟩
  | .hbm, ⟨50, _⟩ => ⟨S2x8192x8, .f32⟩
  | .hbm, ⟨51, _⟩ => ⟨S2x8192x8, .f32⟩
  | .hbm, ⟨52, _⟩ => ⟨S2x8192x8, .f32⟩
  | .hbm, ⟨53, _⟩ => ⟨S2x8192x8, .i1⟩
  | .hbm, ⟨54, _⟩ => ⟨S2x8192x8, .f32⟩
  | .hbm, ⟨55, _⟩ => ⟨S2x8192x8, .f32⟩
  | .hbm, ⟨56, _⟩ => ⟨S2x8192x8, .f32⟩
  | .hbm, ⟨57, _⟩ => ⟨S2x8192x8, .f32⟩
  | .hbm, ⟨58, _⟩ => ⟨S2x8192x8, .f32⟩
  | .hbm, ⟨59, _⟩ => ⟨S2x8192x8, .f32⟩
  | .hbm, ⟨60, _⟩ => ⟨S2x8192x8, .f32⟩
  | .hbm, ⟨61, _⟩ => ⟨S2x8192x8, .f32⟩
  | .hbm, ⟨62, _⟩ => ⟨S2x8192x8, .f32⟩
  | .hbm, ⟨63, _⟩ => ⟨S2x8192x512, .f32⟩
  | .hbm, ⟨64, _⟩ => ⟨S2x8192x512, .f32⟩
  | .hbm, ⟨65, _⟩ => ⟨S2x8192x512, .f32⟩
  | .hbm, ⟨66, _⟩ => ⟨S2x8192x512, .f32⟩
  | .hbm, ⟨67, _⟩ => ⟨S_, .f32⟩
  | .hbm, ⟨68, _⟩ => ⟨S2x8192x512, .f32⟩
  | .hbm, ⟨69, _⟩ => ⟨S2x8192x512, .f32⟩
  | .hbm, ⟨70, _⟩ => ⟨S_, .f32⟩
  | .hbm, ⟨71, _⟩ => ⟨S2x8192x512, .f32⟩
  | .hbm, ⟨72, _⟩ => ⟨S2x8192x512, .f32⟩
  | .hbm, ⟨73, _⟩ => ⟨S2x8192x512, .f32⟩
  | .hbm, ⟨74, _⟩ => ⟨S2x8192x1024, .f32⟩
  | .hbm, ⟨75, _⟩ => ⟨S2x8192x1024, .f32⟩
  | .hbm, ⟨76, _⟩ => ⟨S2x8192x1024, .f32⟩
  | .hbm, ⟨77, _⟩ => ⟨S_, .f32⟩
  | .hbm, ⟨78, _⟩ => ⟨S2x8192x1024, .f32⟩
  | .hbm, ⟨79, _⟩ => ⟨S2x8192x1024, .f32⟩
  | .hbm, ⟨80, _⟩ => ⟨S_, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192x1024, .f32⟩
  | .hbm, ⟨91, _⟩ => ⟨S2x8192x1024, .f32⟩
  | .hbm, ⟨92, _⟩ => ⟨S16384x4x128, .f32⟩
  | .hbm, ⟨93, _⟩ => ⟨S4x16384x128, .f32⟩
  | .hbm, ⟨94, _⟩ => ⟨S128x128x512, .f32⟩
  | .hbm, ⟨95, _⟩ => ⟨S128x512x128, .f32⟩
  | .hbm, ⟨96, _⟩ => ⟨S128x128x512, .f32⟩
  | .hbm, ⟨97, _⟩ => ⟨S128x512x128, .f32⟩
  | .hbm, ⟨98, _⟩ => ⟨S2x512x8192, .f32⟩
  | .hbm, ⟨99, _⟩ => ⟨S2x512x8192, .bf16⟩
  | .hbm, ⟨100, _⟩ => ⟨S128x128x8, .f32⟩
  | .hbm, ⟨101, _⟩ => ⟨S128x8x128, .f32⟩
  | .hbm, ⟨102, _⟩ => ⟨S16384x1024, .f32⟩
  | .hbm, ⟨103, _⟩ => ⟨S16384x1024, .bf16⟩
  | .hbm, ⟨104, _⟩ => ⟨S16384x1024, .f32⟩
  | .hbm, ⟨105, _⟩ => ⟨S16384x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩

abbrev nD : Nat := 1
abbrev τ : Topo := Topo.v7x

variable {F : FTy → Type} [FloatOps F]
-- ==== Ffn.lean ====
abbrev S256x1024 : Shape := ⟨2, ![256, 1024]⟩
abbrev S6x40x1024 : Shape := ⟨3, ![6, 40, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1024x5632 : Shape := ⟨2, ![1024, 5632]⟩
abbrev S2816x1024 : Shape := ⟨2, ![2816, 1024]⟩
abbrev S1x40x1024 : Shape := ⟨3, ![1, 40, 1024]⟩
abbrev S256 : Shape := ⟨1, ![256]⟩
abbrev S256x1 : Shape := ⟨2, ![256, 1]⟩
abbrev S1x32x1024 : Shape := ⟨3, ![1, 32, 1024]⟩
abbrev S32x1024 : Shape := ⟨2, ![32, 1024]⟩
abbrev S32x1x1024 : Shape := ⟨3, ![32, 1, 1024]⟩
abbrev S32x8x1024 : Shape := ⟨3, ![32, 8, 1024]⟩
abbrev S1024x1280 : Shape := ⟨2, ![1024, 1280]⟩
abbrev S256x1280 : Shape := ⟨2, ![256, 1280]⟩
abbrev S1280x1024 : Shape := ⟨2, ![1280, 1024]⟩
abbrev S1024x1536 : Shape := ⟨2, ![1024, 1536]⟩
abbrev S256x1536 : Shape := ⟨2, ![256, 1536]⟩
abbrev S1536x1024 : Shape := ⟨2, ![1536, 1024]⟩

abbrev nBuf : Space → Nat
  | .hbm => 14
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S6x40x1024, .f32⟩
  | .hbm, ⟨2, _⟩ => ⟨S1x1024, .f32⟩
  | .hbm, ⟨3, _⟩ => ⟨S1024, .f32⟩
  | .hbm, ⟨4, _⟩ => ⟨S1x1024x5632, .f32⟩
  | .hbm, ⟨5, _⟩ => ⟨S1x2816x1024, .f32⟩
  | .hbm, ⟨6, _⟩ => ⟨S1024x5632, .f32⟩
  | .hbm, ⟨7, _⟩ => ⟨S1024x5632, .bf16⟩
  | .hbm, ⟨8, _⟩ => ⟨S2816x1024, .f32⟩
  | .hbm, ⟨9, _⟩ => ⟨S2816x1024, .bf16⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S256x1024, .f32⟩
  | .local _ .vmem, ⟨0, _⟩ => ⟨S256x1024, .f32⟩
  | .local _ .vmem, ⟨1, _⟩ => ⟨S1x40x1024, .f32⟩
  | .local _ .vmem, ⟨2, _⟩ => ⟨S1x40x1024, .f32⟩
  | .local _ .vmem, ⟨3, _⟩ => ⟨S1x40x1024, .f32⟩
  | .local _ .vmem, ⟨4, _⟩ => ⟨S1x1024, .f32⟩
  | .local _ .vmem, ⟨5, _⟩ => ⟨S1x1024, .f32⟩
  | .local _ .vmem, ⟨6, _⟩ => ⟨S1024x5632, .bf16⟩
  | .local _ .vmem, ⟨7, _⟩ => ⟨S2816x1024, .bf16⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x40x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== FeedForwardIdeal.lean ====
abbrev S256x1024 : Shape := ⟨2, ![256, 1024]⟩
abbrev S6x40x1024 : Shape := ⟨3, ![6, 40, 1024]⟩
abbrev S1x1024 : Shape := ⟨2, ![1, 1024]⟩
abbrev S1024 : Shape := ⟨1, ![1024]⟩
abbrev S1x1024x5632 : Shape := ⟨3, ![1, 1024, 5632]⟩
abbrev S1x2816x1024 : Shape := ⟨3, ![1, 2816, 1024]⟩
abbrev S1x32x1024 : Shape := ⟨3, ![1, 32, 1024]⟩
abbrev S32x1024 : Shape := ⟨2, ![32, 1024]⟩
abbrev S32x8x1024 : Shape := ⟨3, ![32, 8, 1024]⟩
abbrev S_ : Shape := ⟨0, ![]⟩
abbrev S32x8 : Shape := ⟨2, ![32, 8]⟩
abbrev S32x8x1 : Shape := ⟨3, ![32, 8, 1]⟩
abbrev S1x1x1024 : Shape := ⟨3, ![1, 1, 1024]⟩
abbrev S32x1x1024 : Shape := ⟨3, ![32, 1, 1024]⟩
abbrev S1024x5632 : Shape := ⟨2, ![1024, 5632]⟩
abbrev S32x8x5632 : Shape := ⟨3, ![32, 8, 5632]⟩
abbrev S32x8x2816 : Shape := ⟨3, ![32, 8, 2816]⟩
abbrev S2816x1024 : Shape := ⟨2, ![2816, 1024]⟩

abbrev nBuf : Space → Nat
  | .hbm => 76
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S6x40x1024, .f32⟩
  | .hbm, ⟨2, _⟩ => ⟨S1x1024, .f32⟩
  | .hbm, ⟨3, _⟩ => ⟨S1024, .f32⟩
  | .hbm, ⟨4, _⟩ => ⟨S1x1024x5632, .f32⟩
  | .hbm, ⟨5, _⟩ => ⟨S1x2816x1024, .f32⟩
  | .hbm, ⟨6, _⟩ => ⟨S1x32x1024, .f32⟩
  | .hbm, ⟨7, _⟩ => ⟨S32x1024, .f32⟩
  | .hbm, ⟨8, _⟩ => ⟨S1x32x1024, .f32⟩
  | .hbm, ⟨9, _⟩ => ⟨S32x1024, .f32⟩
  | .hbm, ⟨10, _⟩ => ⟨S1x32x1024, .f32⟩
  | .hbm, ⟨11, _⟩ => ⟨S32x1024, .f32⟩
  | .hbm, ⟨12, _⟩ => ⟨S32x8x1024, .f32⟩
  | .hbm, ⟨13, _⟩ => ⟨S32x8x1024, .f32⟩
  | .hbm, ⟨14, _⟩ => ⟨S_, .f32⟩
  | .hbm, ⟨15, _⟩ => ⟨S32x8, .f32⟩
  | .hbm, ⟨16, _⟩ => ⟨S32x8x1, .f32⟩
  | .hbm, ⟨17, _⟩ => ⟨S_, .f32⟩
  | .hbm, ⟨18, _⟩ => ⟨S32x8x1, .f32⟩
  | .hbm, ⟨19, _⟩ => ⟨S32x8x1, .f32⟩
  | .hbm, ⟨20, _⟩ => ⟨S_, .f32⟩
  | .hbm, ⟨21, _⟩ => ⟨S32x8x1, .f32⟩
  | .hbm, ⟨22, _⟩ => ⟨S32x8x1, .f32⟩
  | .hbm, ⟨23, _⟩ => ⟨S32x8x1, .f32⟩
  | .hbm, ⟨24, _⟩ => ⟨S32x8x1024, .f32⟩
  | .hbm, ⟨25, _⟩ => ⟨S32x8x1024, .f32⟩
  | .hbm, ⟨26, _⟩ => ⟨S1024, .f32⟩
  | .hbm, ⟨27, _⟩ => ⟨S1x1x1024, .f32⟩
  | .hbm, ⟨28, _⟩ => ⟨S32x8x1024, .f32⟩
  | .hbm, ⟨29, _⟩ => ⟨S32x8x1024, .f32⟩
  | .hbm, ⟨30, _⟩ => ⟨S32x1x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x8x1024, .f32⟩
  | .hbm, ⟨35, _⟩ => ⟨S32x8x1024, .f32⟩
  | .hbm, ⟨36, _⟩ => ⟨S32x1x1024, .f32⟩
  | .hbm, ⟨37, _⟩ => ⟨S32x8x1024, .f32⟩
  | .hbm, ⟨38, _⟩ => ⟨S32x8x1024, .f32⟩
  | .hbm, ⟨39, _⟩ => ⟨S1024x5632, .f32⟩
  | .hbm, ⟨40, _⟩ => ⟨S32x8x5632, .f32⟩
  | .hbm, ⟨41, _⟩ => ⟨S32x8x2816, .f32⟩
  | .hbm, ⟨42, _⟩ => ⟨S32x8x2816, .f32⟩
  | .hbm, ⟨43, _⟩ => ⟨S32x1x1024, .f32⟩
  | .hbm, ⟨44, _⟩ => ⟨S32x8x2816, .f32⟩
  | .hbm, ⟨45, _⟩ => ⟨S32x8x2816, .f32⟩
  | .hbm, ⟨46, _⟩ => ⟨S_, .f32⟩
  | .hbm, ⟨47, _⟩ => ⟨S32x8x2816, .f32⟩
  | .hbm, ⟨48, _⟩ => ⟨S32x8x2816, .f32⟩
  | .hbm, ⟨49, _⟩ => ⟨S_, .f32⟩
  | .hbm, ⟨50, _⟩ => ⟨S32x8x2816, .f32⟩
  | .hbm, ⟨51, _⟩ => ⟨S32x8x2816, .f32⟩
  | .hbm, ⟨52, _⟩ => ⟨S32x8x2816, .f32⟩
  | .hbm, ⟨53, _⟩ => ⟨S32x8x2816, .f32⟩
  | .hbm, ⟨54, _⟩ => ⟨S2816x1024, .f32⟩
  | .hbm, ⟨55, _⟩ => ⟨S32x8x1024, .f32⟩
  | .hbm, ⟨56, _⟩ => ⟨S32x8x1024, .f32⟩
  | .hbm, ⟨57, _⟩ => ⟨S32x8x1024, .f32⟩
  | .hbm, ⟨58, _⟩ => ⟨S32x8x1024, .f32⟩
  | .hbm, ⟨59, _⟩ => ⟨S32x8x1024, .f32⟩
  | .hbm, ⟨60, _⟩ => ⟨S_, .f32⟩
  | .hbm, ⟨61, _⟩ => ⟨S32x8, .f32⟩
  | .hbm, ⟨62, _⟩ => ⟨S32x8x1, .f32⟩
  | .hbm, ⟨63, _⟩ => ⟨S_, .f32⟩
  | .hbm, ⟨64, _⟩ => ⟨S32x8x1, .f32⟩
  | .hbm, ⟨65, _⟩ => ⟨S32x8x1, .f32⟩
  | .hbm, ⟨66, _⟩ => ⟨S_, .f32⟩
  | .hbm, ⟨67, _⟩ => ⟨S32x8x1, .f32⟩
  | .hbm, ⟨68, _⟩ => ⟨S32x8x1, .f32⟩
  | .hbm, ⟨69, _⟩ => ⟨S32x8x1, .f32⟩
  | .hbm, ⟨70, _⟩ => ⟨S32x8x1024, .f32⟩
  | .hbm, ⟨71, _⟩ => ⟨S32x8x1024, .f32⟩
  | .hbm, ⟨72, _⟩ => ⟨S1x1x1024, .f32⟩
  | .hbm, ⟨73, _⟩ => ⟨S32x8x1024, .f32⟩
  | .hbm, ⟨74, _⟩ => ⟨S32x8x1024, .f32⟩
  | .hbm, ⟨75, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== InprojSample.lean ====
abbrev S32x8x1024 : Shape := ⟨3, ![32, 8, 1024]⟩
abbrev S6x40x1024 : Shape := ⟨3, ![6, 40, 1024]⟩
abbrev S1x1024 : Shape := ⟨2, ![1, 1024]⟩
abbrev S1x1024x4616 : Shape := ⟨3, ![1, 1024, 4616]⟩
abbrev S1x4616 : Shape := ⟨2, ![1, 4616]⟩
abbrev S256x256 : Shape := ⟨2, ![256, 256]⟩
abbrev S128x2048 : Shape := ⟨2, ![128, 2048]⟩
abbrev S1x2048 : Shape := ⟨2, ![1, 2048]⟩
abbrev S1024x4616 : Shape := ⟨2, ![1024, 4616]⟩
abbrev S4616x1024 : Shape := ⟨2, ![4616, 1024]⟩
abbrev S4616 : Shape := ⟨1, ![4616]⟩
abbrev S1544x1024 : Shape := ⟨2, ![1544, 1024]⟩
abbrev S_ : Shape := ⟨0, ![]⟩
abbrev S120x1024 : Shape := ⟨2, ![120, 1024]⟩
abbrev S3072x1024 : Shape := ⟨2, ![3072, 1024]⟩
abbrev S4736x1024 : Shape := ⟨2, ![4736, 1024]⟩
abbrev S1544 : Shape := ⟨1, ![1544]⟩
abbrev S120 : Shape := ⟨1, ![120]⟩
abbrev S3072 : Shape := ⟨1, ![3072]⟩
abbrev S4736 : Shape := ⟨1, ![4736]⟩
abbrev S1x4736 : Shape := ⟨2, ![1, 4736]⟩
abbrev S256x1024 : Shape := ⟨2, ![256, 1024]⟩
abbrev S1024 : Shape := ⟨1, ![1024]⟩
abbrev S256x512 : Shape := ⟨2, ![256, 512]⟩
abbrev S256x8 : Shape := ⟨2, ![256, 8]⟩
abbrev S256x128 : Shape := ⟨2, ![256, 128]⟩
abbrev S4x256x128 : Shape := ⟨3, ![4, 256, 128]⟩
abbrev S1x40x1024 : Shape := ⟨3, ![1, 40, 1024]⟩
abbrev S1x128 : Shape := ⟨2, ![1, 128]⟩
abbrev S256 : Shape := ⟨1, ![256]⟩
abbrev S256x1 : Shape := ⟨2, ![256, 1]⟩
abbrev S1x32x1024 : Shape := ⟨3, ![1, 32, 1024]⟩
abbrev S32x1024 : Shape := ⟨2, ![32, 1024]⟩
abbrev S32x1x1024 : Shape := ⟨3, ![32, 1, 1024]⟩
abbrev S128x1024 : Shape := ⟨2, ![128, 1024]⟩
abbrev S512x1024 : Shape := ⟨2, ![512, 1024]⟩
abbrev S1x512 : Shape := ⟨2, ![1, 512]⟩
abbrev S1x256x128 : Shape := ⟨3, ![1, 256, 128]⟩
abbrev S1024x1024 : Shape := ⟨2, ![1024, 1024]⟩

abbrev nBuf : Space → Nat
  | .hbm => 34
  | .vmem => 18
  | .smem => 0
  | _ => 0

abbrev bufTy : (tb : Table) → Fin (tcTables nBuf tb) → BufTy
  | .hbm, ⟨0, _⟩ => ⟨S32x8x1024, .f32⟩
  | .hbm, ⟨1, _⟩ => ⟨S6x40x1024, .f32⟩
  | .hbm, ⟨2, _⟩ => ⟨S1x1024, .f32⟩
  | .hbm, ⟨3, _⟩ => ⟨S1x1024x4616, .f32⟩
  | .hbm, ⟨4, _⟩ => ⟨S1x4616, .f32⟩
  | .hbm, ⟨5, _⟩ => ⟨S256x256, .bf16⟩
  | .hbm, ⟨6, _⟩ => ⟨S128x2048, .bf16⟩
  | .hbm, ⟨7, _⟩ => ⟨S1x2048, .f32⟩
  | .hbm, ⟨8, _⟩ => ⟨S1024x4616, .f32⟩
  | .hbm, ⟨9, _⟩ => ⟨S4616x1024, .f32⟩
  | .hbm, ⟨10, _⟩ => ⟨S4616, .f32⟩
  | .hbm, ⟨11, _⟩ => ⟨S1544x1024, .f32⟩
  | .hbm, ⟨12, _⟩ => ⟨S_, .f32⟩
  | .hbm, ⟨13, _⟩ => ⟨S120x1024, .f32⟩
  | .hbm, ⟨14, _⟩ => ⟨S3072x1024, .f32⟩
  | .hbm, ⟨15, _⟩ => ⟨S4736x1024, .f32⟩
  | .hbm, ⟨16, _⟩ => ⟨S4736x1024, .bf16⟩
  | .hbm, ⟨17, _⟩ => ⟨S1544, .f32⟩
  | .hbm, ⟨18, _⟩ => ⟨S_, .f32⟩
  | .hbm, ⟨19, _⟩ => ⟨S120, .f32⟩
  | .hbm, ⟨20, _⟩ => ⟨S3072, .f32⟩
  | .hbm, ⟨21, _⟩ => ⟨S4736, .f32⟩
  | .hbm, ⟨22, _⟩ => ⟨S1x4736, .f32⟩
  | .hbm, ⟨23, _⟩ => ⟨S256x1024, .f32⟩
  | .hbm, ⟨24, _⟩ => ⟨S1024, .f32⟩
  | .hbm, ⟨25, _⟩ => ⟨S1x1024, .f32⟩
  | .hbm, ⟨26, _⟩ => ⟨S256x512, .bf16⟩
  | .hbm, ⟨27, _⟩ => ⟨S256x512, .f32⟩
  | .hbm, ⟨28, _⟩ => ⟨S256x512, .f32⟩
  | .hbm, ⟨29, _⟩ => ⟨S256x8, .f32⟩
  | .hbm, ⟨30, _⟩ => ⟨S256x128, .f32⟩
  | .hbm, ⟨31, _⟩ => ⟨S4x256x128, .f32⟩
  | .hbm, ⟨32, _⟩ => ⟨S256x1024, .bf16⟩
  | .hbm, ⟨33, _⟩ => ⟨S256x1024, .bf16⟩
  | .local _ .vmem, ⟨0, _⟩ => ⟨S256x1024, .f32⟩
  | .local _ .vmem, ⟨1, _⟩ => ⟨S1x40x1024, .f32⟩
  | .local _ .vmem, ⟨2, _⟩ => ⟨S1x40x1024, .f32⟩
  | .local _ .vmem, ⟨3, _⟩ => ⟨S1x1024, .f32⟩
  | .local _ .vmem, ⟨4, _⟩ => ⟨S4736x1024, .bf16⟩
  | .local _ .vmem, ⟨5, _⟩ => ⟨S1x4736, .f32⟩
  | .local _ .vmem, ⟨6, _⟩ => ⟨S256x256, .bf16⟩
  | .local _ .vmem, ⟨7, _⟩ => ⟨S128x2048, .bf16⟩
  | .local _ .vmem, ⟨8, _⟩ => ⟨S1x2048, .f32⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x8, .f32⟩
  | .local _ .vmem, ⟨13, _⟩ => ⟨S256x128, .f32⟩
  | .local _ .vmem, ⟨14, _⟩ => ⟨S4x256x128, .f32⟩
  | .local _ .vmem, ⟨15, _⟩ => ⟨S256x1024, .bf16⟩
  | .local _ .vmem, ⟨16, _⟩ => ⟨S256x1024, .bf16⟩
  | .local _ .vmem, ⟨17, _⟩ => ⟨S1x128, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_scratch0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_15 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x40x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4736x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4736 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S256x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S4x256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]
-- ==== ProjectionSampleIdeal.lean ====
abbrev S32x8x1024 : Shape := ⟨3, ![32, 8, 1024]⟩
abbrev S6x40x1024 : Shape := ⟨3, ![6, 40, 1024]⟩
abbrev S1x1024 : Shape := ⟨2, ![1, 1024]⟩
abbrev S1x1024x4616 : Shape := ⟨3, ![1, 1024, 4616]⟩
abbrev S1x4616 : Shape := ⟨2, ![1, 4616]⟩
abbrev S256x256 : Shape := ⟨2, ![256, 256]⟩
abbrev S128x2048 : Shape := ⟨2, ![128, 2048]⟩
abbrev S1x2048 : Shape := ⟨2, ![1, 2048]⟩
abbrev S1x32x1024 : Shape := ⟨3, ![1, 32, 1024]⟩
abbrev S32x1024 : Shape := ⟨2, ![32, 1024]⟩
abbrev S_ : Shape := ⟨0, ![]⟩
abbrev S32x8 : Shape := ⟨2, ![32, 8]⟩
abbrev S32x8x1 : Shape := ⟨3, ![32, 8, 1]⟩
abbrev S1024 : Shape := ⟨1, ![1024]⟩
abbrev S1x1x1024 : Shape := ⟨3, ![1, 1, 1024]⟩
abbrev S32x1x1024 : Shape := ⟨3, ![32, 1, 1024]⟩
abbrev S1024x4616 : Shape := ⟨2, ![1024, 4616]⟩
abbrev S32x8x4616 : Shape := ⟨3, ![32, 8, 4616]⟩
abbrev S4616 : Shape := ⟨1, ![4616]⟩
abbrev S1x1x4616 : Shape := ⟨3, ![1, 1, 4616]⟩
abbrev S32x8x512 : Shape := ⟨3, ![32, 8, 512]⟩
abbrev S32x8x8 : Shape := ⟨3, ![32, 8, 8]⟩
abbrev S256x4x128 : Shape := ⟨3, ![256, 4, 128]⟩
abbrev S4x256x128 : Shape := ⟨3, ![4, 256, 128]⟩
abbrev S256x512 : Shape := ⟨2, ![256, 512]⟩
abbrev S256x8 : Shape := ⟨2, ![256, 8]⟩
abbrev S256x1024 : Shape := ⟨2, ![256, 1024]⟩

abbrev nBuf : Space → Nat
  | .hbm => 101
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S6x40x1024, .f32⟩
  | .hbm, ⟨2, _⟩ => ⟨S1x1024, .f32⟩
  | .hbm, ⟨3, _⟩ => ⟨S1x1024x4616, .f32⟩
  | .hbm, ⟨4, _⟩ => ⟨S1x4616, .f32⟩
  | .hbm, ⟨5, _⟩ => ⟨S256x256, .bf16⟩
  | .hbm, ⟨6, _⟩ => ⟨S128x2048, .bf16⟩
  | .hbm, ⟨7, _⟩ => ⟨S1x2048, .f32⟩
  | .hbm, ⟨8, _⟩ => ⟨S1x32x1024, .f32⟩
  | .hbm, ⟨9, _⟩ => ⟨S32x1024, .f32⟩
  | .hbm, ⟨10, _⟩ => ⟨S1x32x1024, .f32⟩
  | .hbm, ⟨11, _⟩ => ⟨S32x1024, .f32⟩
  | .hbm, ⟨12, _⟩ => ⟨S32x8x1024, .f32⟩
  | .hbm, ⟨13, _⟩ => ⟨S_, .f32⟩
  | .hbm, ⟨14, _⟩ => ⟨S32x8, .f32⟩
  | .hbm, ⟨15, _⟩ => ⟨S32x8x1, .f32⟩
  | .hbm, ⟨16, _⟩ => ⟨S_, .f32⟩
  | .hbm, ⟨17, _⟩ => ⟨S32x8x1, .f32⟩
  | .hbm, ⟨18, _⟩ => ⟨S32x8x1, .f32⟩
  | .hbm, ⟨19, _⟩ => ⟨S_, .f32⟩
  | .hbm, ⟨20, _⟩ => ⟨S32x8x1, .f32⟩
  | .hbm, ⟨21, _⟩ => ⟨S32x8x1, .f32⟩
  | .hbm, ⟨22, _⟩ => ⟨S32x8x1, .f32⟩
  | .hbm, ⟨23, _⟩ => ⟨S32x8x1024, .f32⟩
  | .hbm, ⟨24, _⟩ => ⟨S32x8x1024, .f32⟩
  | .hbm, ⟨25, _⟩ => ⟨S1024, .f32⟩
  | .hbm, ⟨26, _⟩ => ⟨S1x1x1024, .f32⟩
  | .hbm, ⟨27, _⟩ => ⟨S32x8x1024, .f32⟩
  | .hbm, ⟨28, _⟩ => ⟨S32x8x1024, .f32⟩
  | .hbm, ⟨29, _⟩ => ⟨S32x1x1024, .f32⟩
  | .hbm, ⟨30, _⟩ => ⟨S_, .f32⟩
  | .hbm, ⟨31, _⟩ => ⟨S32x1x1024, .f32⟩
  | .hbm, ⟨32, _⟩ => ⟨S32x1x1024, .f32⟩
  | .hbm, ⟨33, _⟩ => ⟨S32x8x1024, .f32⟩
  | .hbm, ⟨34, _⟩ => ⟨S32x8x1024, .f32⟩
  | .hbm, ⟨35, _⟩ => ⟨S32x1x1024, .f32⟩
  | .hbm, ⟨36, _⟩ => ⟨S32x8x1024, .f32⟩
  | .hbm, ⟨37, _⟩ => ⟨S32x8x1024, .f32⟩
  | .hbm, ⟨38, _⟩ => ⟨S1024x4616, .f32⟩
  | .hbm, ⟨39, _⟩ => ⟨S32x8x4616, .f32⟩
  | .hbm, ⟨40, _⟩ => ⟨S4616, .f32⟩
  | .hbm, ⟨41, _⟩ => ⟨S1x1x4616, .f32⟩
  | .hbm, ⟨42, _⟩ => ⟨S32x8x4616, .f32⟩
  | .hbm, ⟨43, _⟩ => ⟨S32x8x4616, .f32⟩
  | .hbm, ⟨44, _⟩ => ⟨S32x8x512, .f32⟩
  | .hbm, ⟨45, _⟩ => ⟨S32x8x512, .f32⟩
  | .hbm, ⟨46, _⟩ => ⟨S32x8x8, .f32⟩
  | .hbm, ⟨47, _⟩ => ⟨S32x8x8, .f32⟩
  | .hbm, ⟨48, _⟩ => ⟨S_, .f32⟩
  | .hbm, ⟨49, _⟩ => ⟨S32x8x8, .f32⟩
  | .hbm, ⟨50, _⟩ => ⟨S32x8x8, .f32⟩
  | .hbm, ⟨51, _⟩ => ⟨S32x8x8, .f32⟩
  | .hbm, ⟨52, _⟩ => ⟨S32x8x8, .f32⟩
  | .hbm, ⟨53, _⟩ => ⟨S32x8x8, .i1⟩
  | .hbm, ⟨54, _⟩ => ⟨S32x8x8, .f32⟩
  | .hbm, ⟨55, _⟩ => ⟨S32x8x8, .f32⟩
  | .hbm, ⟨56, _⟩ => ⟨S32x8x8, .f32⟩
  | .hbm, ⟨57, _⟩ => ⟨S32x8x8, .f32⟩
  | .hbm, ⟨58, _⟩ => ⟨S32x8x8, .f32⟩
  | .hbm, ⟨59, _⟩ => ⟨S32x8x8, .f32⟩
  | .hbm, ⟨60, _⟩ => ⟨S32x8x8, .f32⟩
  | .hbm, ⟨61, _⟩ => ⟨S32x8x8, .f32⟩
  | .hbm, ⟨62, _⟩ => ⟨S32x8x8, .f32⟩
  | .hbm, ⟨63, _⟩ => ⟨S32x8x512, .f32⟩
  | .hbm, ⟨64, _⟩ => ⟨S32x8x512, .f32⟩
  | .hbm, ⟨65, _⟩ => ⟨S32x8x512, .f32⟩
  | .hbm, ⟨66, _⟩ => ⟨S32x8x512, .f32⟩
  | .hbm, ⟨67, _⟩ => ⟨S_, .f32⟩
  | .hbm, ⟨68, _⟩ => ⟨S32x8x512, .f32⟩
  | .hbm, ⟨69, _⟩ => ⟨S32x8x512, .f32⟩
  | .hbm, ⟨70, _⟩ => ⟨S_, .f32⟩
  | .hbm, ⟨71, _⟩ => ⟨S32x8x512, .f32⟩
  | .hbm, ⟨72, _⟩ => ⟨S32x8x512, .f32⟩
  | .hbm, ⟨73, _⟩ => ⟨S32x8x512, .f32⟩
  | .hbm, ⟨74, _⟩ => ⟨S32x8x1024, .f32⟩
  | .hbm, ⟨75, _⟩ => ⟨S32x8x1024, .f32⟩
  | .hbm, ⟨76, _⟩ => ⟨S32x8x1024, .f32⟩
  | .hbm, ⟨77, _⟩ => ⟨S_, .f32⟩
  | .hbm, ⟨78, _⟩ => ⟨S32x8x1024, .f32⟩
  | .hbm, ⟨79, _⟩ => ⟨S32x8x1024, .f32⟩
  | .hbm, ⟨80, _⟩ => ⟨S_, .f32⟩
  | .hbm, ⟨81, _⟩ => ⟨S32x8x1024, .f32⟩
  | .hbm, ⟨82, _⟩ => ⟨S32x8x1024, .f32⟩
  | .hbm, ⟨83, _⟩ => ⟨S32x8x1024, .f32⟩
  | .hbm, ⟨84, _⟩ => ⟨S32x8x1024, .f32⟩
  | .hbm, ⟨85, _⟩ => ⟨S32x8x1024, .f32⟩
  | .hbm, ⟨86, _⟩ => ⟨S_, .f32⟩
  | .hbm, ⟨87, _⟩ => ⟨S32x8x1024, .f32⟩
  | .hbm, ⟨88, _⟩ => ⟨S32x8x1024, .f32⟩
  | .hbm, ⟨89, _⟩ => ⟨S_, .f32⟩
  | .hbm, ⟨90, _⟩ => ⟨S32x8x1024, .f32⟩
  | .hbm, ⟨91, _⟩ => ⟨S32x8x1024, .f32⟩
  | .hbm, ⟨92, _⟩ => ⟨S256x4x128, .f32⟩
  | .hbm, ⟨93, _⟩ => ⟨S4x256x128, .f32⟩
  | .hbm, ⟨94, _⟩ => ⟨S256x512, .f32⟩
  | .hbm, ⟨95, _⟩ => ⟨S256x512, .f32⟩
  | .hbm, ⟨96, _⟩ => ⟨S256x8, .f32⟩
  | .hbm, ⟨97, _⟩ => ⟨S256x1024, .f32⟩
  | .hbm, ⟨98, _⟩ => ⟨S256x1024, .bf16⟩
  | .hbm, ⟨99, _⟩ => ⟨S256x1024, .f32⟩
  | .hbm, ⟨100, _⟩ => ⟨S256x1024, .bf16⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_call0_cst : Ref sig .tc := ⟨.hbm, 48, rfl⟩
abbrev main_call0_call0_v0 : Ref sig .tc := ⟨.hbm, 49, rfl⟩
abbrev main_call0_call0_v1 : Ref sig .tc := ⟨.hbm, 50, rfl⟩
abbrev main_call0_call0_v2 : Ref sig .tc := ⟨.hbm, 51, rfl⟩
abbrev main_call0_call0_v3 : Ref sig .tc := ⟨.hbm, 52, rfl⟩
abbrev main_call0_call0_v4 : Ref sig .tc := ⟨.hbm, 53, rfl⟩
abbrev main_call0_call0_v5 : Ref sig .tc := ⟨.hbm, 54, rfl⟩
abbrev main_call0_call0_v6 : Ref sig .tc := ⟨.hbm, 55, rfl⟩
abbrev main_call0_call0_v7 : Ref sig .tc := ⟨.hbm, 56, rfl⟩
abbrev main_call0_call0_v8 : Ref sig .tc := ⟨.hbm, 57, rfl⟩
abbrev main_call0_call0_v9 : Ref sig .tc := ⟨.hbm, 58, rfl⟩
abbrev main_call0_call0_v10 : Ref sig .tc := ⟨.hbm, 59, rfl⟩
abbrev main_call0_call0_v11 : Ref sig .tc := ⟨.hbm, 60, rfl⟩
abbrev main_call0_v1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_cst_4 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_cst_6 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_7 : Ref sig .tc := ⟨.hbm, 86, rfl⟩
abbrev main_v55 : Ref sig .tc := ⟨.hbm, 87, rfl⟩
abbrev main_v56 : Ref sig .tc := ⟨.hbm, 88, rfl⟩
abbrev main_cst_8 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== MergeSample.lean ====
abbrev S256x1024 : Shape := ⟨2, ![256, 1024]⟩
abbrev S256x512 : Shape := ⟨2, ![256, 512]⟩
abbrev S1x32x30x512 : Shape := ⟨4, ![1, 32, 30, 512]⟩
abbrev S4x256x128 : Shape := ⟨3, ![4, 256, 128]⟩
abbrev S6x40x1024 : Shape := ⟨3, ![6, 40, 1024]⟩
abbrev S1x31x512 : Shape := ⟨3, ![1, 31, 512]⟩
abbrev S1x512 : Shape := ⟨2, ![1, 512]⟩
abbrev S1x512x1024 : Shape := ⟨3, ![1, 512, 1024]⟩
abbrev S1x1024 : Shape := ⟨2, ![1, 1024]⟩
abbrev S1x1024x1024 : Shape := ⟨3, ![1, 1024, 1024]⟩
abbrev S31x512 : Shape := ⟨2, ![31, 512]⟩
abbrev S_ : Shape := ⟨0, ![]⟩
abbrev S32x512 : Shape := ⟨2, ![32, 512]⟩
abbrev S32x4x128 : Shape := ⟨3, ![32, 4, 128]⟩
abbrev S4x32x128 : Shape := ⟨3, ![4, 32, 128]⟩
abbrev S512 : Shape := ⟨1, ![512]⟩
abbrev S512x1024 : Shape := ⟨2, ![512, 1024]⟩
abbrev S1024 : Shape := ⟨1, ![1024]⟩
abbrev S1024x1024 : Shape := ⟨2, ![1024, 1024]⟩
abbrev S32x30x512 : Shape := ⟨3, ![32, 30, 512]⟩
abbrev S32x30x4x128 : Shape := ⟨4, ![32, 30, 4, 128]⟩
abbrev S4x32x30x128 : Shape := ⟨4, ![4, 32, 30, 128]⟩
abbrev S4x32x8x128 : Shape := ⟨4, ![4, 32, 8, 128]⟩
abbrev S4x32x2x128 : Shape := ⟨4, ![4, 32, 2, 128]⟩
abbrev S4x32x40x128 : Shape := ⟨4, ![4, 32, 40, 128]⟩
abbrev S1x40x1024 : Shape := ⟨3, ![1, 40, 1024]⟩
abbrev S32x8x128 : Shape := ⟨3, ![32, 8, 128]⟩
abbrev S1x1x128 : Shape := ⟨3, ![1, 1, 128]⟩
abbrev S1x128 : Shape := ⟨2, ![1, 128]⟩
abbrev S1x32x8x128 : Shape := ⟨4, ![1, 32, 8, 128]⟩
abbrev S256x128 : Shape := ⟨2, ![256, 128]⟩
abbrev S1x32x1024 : Shape := ⟨3, ![1, 32, 1024]⟩
abbrev S32x1024 : Shape := ⟨2, ![32, 1024]⟩
abbrev S32x1x1024 : Shape := ⟨3, ![32, 1, 1024]⟩
abbrev S32x8x1024 : Shape := ⟨3, ![32, 8, 1024]⟩
abbrev S256 : Shape := ⟨1, ![256]⟩
abbrev S256x1 : Shape := ⟨2, ![256, 1]⟩

abbrev nBuf : Space → Nat
  | .hbm => 43
  | .vmem => 15
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S1x32x30x512, .f32⟩
  | .hbm, ⟨3, _⟩ => ⟨S4x256x128, .f32⟩
  | .hbm, ⟨4, _⟩ => ⟨S256x1024, .bf16⟩
  | .hbm, ⟨5, _⟩ => ⟨S256x1024, .bf16⟩
  | .hbm, ⟨6, _⟩ => ⟨S6x40x1024, .f32⟩
  | .hbm, ⟨7, _⟩ => ⟨S1x31x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512x1024, .f32⟩
  | .hbm, ⟨12, _⟩ => ⟨S1x512x1024, .f32⟩
  | .hbm, ⟨13, _⟩ => ⟨S1x1024, .f32⟩
  | .hbm, ⟨14, _⟩ => ⟨S1x1024x1024, .f32⟩
  | .hbm, ⟨15, _⟩ => ⟨S31x512, .f32⟩
  | .hbm, ⟨16, _⟩ => ⟨S_, .i32⟩
  | .hbm, ⟨17, _⟩ => ⟨S_, .f32⟩
  | .hbm, ⟨18, _⟩ => ⟨S32x512, .f32⟩
  | .hbm, ⟨19, _⟩ => ⟨S32x4x128, .f32⟩
  | .hbm, ⟨20, _⟩ => ⟨S4x32x128, .f32⟩
  | .hbm, ⟨21, _⟩ => ⟨S512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S512x1024, .f32⟩
  | .hbm, ⟨28, _⟩ => ⟨S512x1024, .bf16⟩
  | .hbm, ⟨29, _⟩ => ⟨S512x1024, .f32⟩
  | .hbm, ⟨30, _⟩ => ⟨S512x1024, .bf16⟩
  | .hbm, ⟨31, _⟩ => ⟨S1024, .f32⟩
  | .hbm, ⟨32, _⟩ => ⟨S1x1024, .f32⟩
  | .hbm, ⟨33, _⟩ => ⟨S1024x1024, .f32⟩
  | .hbm, ⟨34, _⟩ => ⟨S1024x1024, .bf16⟩
  | .hbm, ⟨35, _⟩ => ⟨S32x30x512, .f32⟩
  | .hbm, ⟨36, _⟩ => ⟨S32x30x4x128, .f32⟩
  | .hbm, ⟨37, _⟩ => ⟨S4x32x30x128, .f32⟩
  | .hbm, ⟨38, _⟩ => ⟨S4x32x8x128, .f32⟩
  | .hbm, ⟨39, _⟩ => ⟨S_, .f32⟩
  | .hbm, ⟨40, _⟩ => ⟨S4x32x2x128, .f32⟩
  | .hbm, ⟨41, _⟩ => ⟨S4x32x40x128, .f32⟩
  | .hbm, ⟨42, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S4x32x40x128, .f32⟩
  | .local _ .vmem, ⟨3, _⟩ => ⟨S256x1024, .bf16⟩
  | .local _ .vmem, ⟨4, _⟩ => ⟨S256x1024, .bf16⟩
  | .local _ .vmem, ⟨5, _⟩ => ⟨S1x40x1024, .f32⟩
  | .local _ .vmem, ⟨6, _⟩ => ⟨S4x32x128, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_call0_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x32x40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x40x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]
-- ==== MergeIdeal.lean ====
abbrev S256x1024 : Shape := ⟨2, ![256, 1024]⟩
abbrev S256x512 : Shape := ⟨2, ![256, 512]⟩
abbrev S1x32x30x512 : Shape := ⟨4, ![1, 32, 30, 512]⟩
abbrev S4x256x128 : Shape := ⟨3, ![4, 256, 128]⟩
abbrev S6x40x1024 : Shape := ⟨3, ![6, 40, 1024]⟩
abbrev S1x31x512 : Shape := ⟨3, ![1, 31, 512]⟩
abbrev S1x512 : Shape := ⟨2, ![1, 512]⟩
abbrev S1x512x1024 : Shape := ⟨3, ![1, 512, 1024]⟩
abbrev S1x1024 : Shape := ⟨2, ![1, 1024]⟩
abbrev S1x1024x1024 : Shape := ⟨3, ![1, 1024, 1024]⟩
abbrev S4x32x8x128 : Shape := ⟨4, ![4, 32, 8, 128]⟩
abbrev S32x8x4x128 : Shape := ⟨4, ![32, 8, 4, 128]⟩
abbrev S32x8x512 : Shape := ⟨3, ![32, 8, 512]⟩
abbrev S32x30x512 : Shape := ⟨3, ![32, 30, 512]⟩
abbrev S32x38x512 : Shape := ⟨3, ![32, 38, 512]⟩
abbrev S1x1x512 : Shape := ⟨3, ![1, 1, 512]⟩
abbrev S512 : Shape := ⟨1, ![512]⟩
abbrev S_ : Shape := ⟨0, ![]⟩
abbrev S32x8 : Shape := ⟨2, ![32, 8]⟩
abbrev S32x8x1 : Shape := ⟨3, ![32, 8, 1]⟩
abbrev S512x1024 : Shape := ⟨2, ![512, 1024]⟩
abbrev S1024 : Shape := ⟨1, ![1024]⟩
abbrev S1x32x1024 : Shape := ⟨3, ![1, 32, 1024]⟩
abbrev S32x1024 : Shape := ⟨2, ![32, 1024]⟩
abbrev S32x1x1024 : Shape := ⟨3, ![32, 1, 1024]⟩
abbrev S32x8x1024 : Shape := ⟨3, ![32, 8, 1024]⟩
abbrev S1024x1024 : Shape := ⟨2, ![1024, 1024]⟩

abbrev nBuf : Space → Nat
  | .hbm => 307
  | .vmem => 0
  | .smem => 0
  | _ => 0

abbrev hbmTy0_0 (i : Nat) : BufTy := match i % 128 with
  | 0 => ⟨S256x1024, .f32⟩
  | 1 => ⟨S256x512, .bf16⟩
  | 2 => ⟨S1x32x30x512, .f32⟩
  | 3 => ⟨S4x256x128, .f32⟩
  | 4 => ⟨S256x1024, .bf16⟩
  | 5 => ⟨S256x1024, .bf16⟩
  | 6 => ⟨S6x40x1024, .f32⟩
  | 7 => ⟨S1x31x512, .f32⟩
  | 8 => ⟨S1x512, .f32⟩
  | 9 => ⟨S1x512, .f32⟩
  | 10 => ⟨S1x512, .f32⟩
  | 11 => ⟨S1x512x1024, .f32⟩
  | 12 => ⟨S1x512x1024, .f32⟩
  | 13 => ⟨S1x1024, .f32⟩
  | 14 => ⟨S1x1024x1024, .f32⟩
  | 15 => ⟨S4x32x8x128, .f32⟩
  | 16 => ⟨S32x8x4x128, .f32⟩
  | 17 => ⟨S32x8x512, .f32⟩
  | 18 => ⟨S32x30x512, .f32⟩
  | 19 => ⟨S32x38x512, .f32⟩
  | 20 => ⟨S32x8x512, .f32⟩
  | 21 => ⟨S1x1x512, .f32⟩
  | 22 => ⟨S512, .f32⟩
  | 23 => ⟨S1x1x512, .f32⟩
  | 24 => ⟨S32x8x512, .f32⟩
  | 25 => ⟨S32x8x512, .f32⟩
  | 26 => ⟨S_, .f32⟩
  | 27 => ⟨S32x8x512, .f32⟩
  | 28 => ⟨S32x8x512, .f32⟩
  | 29 => ⟨S32x8x512, .f32⟩
  | 30 => ⟨S1x1x512, .f32⟩
  | 31 => ⟨S512, .f32⟩
  | 32 => ⟨S1x1x512, .f32⟩
  | 33 => ⟨S32x8x512, .f32⟩
  | 34 => ⟨S32x8x512, .f32⟩
  | 35 => ⟨S32x8x512, .f32⟩
  | 36 => ⟨S32x8x512, .f32⟩
  | 37 => ⟨S1x1x512, .f32⟩
  | 38 => ⟨S512, .f32⟩
  | 39 => ⟨S1x1x512, .f32⟩
  | 40 => ⟨S32x8x512, .f32⟩
  | 41 => ⟨S32x8x512, .f32⟩
  | 42 => ⟨S32x8x512, .f32⟩
  | 43 => ⟨S32x8x512, .f32⟩
  | 44 => ⟨S1x1x512, .f32⟩
  | 45 => ⟨S512, .f32⟩
  | 46 => ⟨S1x1x512, .f32⟩
  | 47 => ⟨S32x8x512, .f32⟩
  | 48 => ⟨S32x8x512, .f32⟩
  | 49 => ⟨S32x8x512, .f32⟩
  | 50 => ⟨S32x8x512, .f32⟩
  | 51 => ⟨S1x1x512, .f32⟩
  | 52 => ⟨S512, .f32⟩
  | 53 => ⟨S1x1x512, .f32⟩
  | 54 => ⟨S32x8x512, .f32⟩
  | 55 => ⟨S32x8x512, .f32⟩
  | 56 => ⟨S32x8x512, .f32⟩
  | 57 => ⟨S32x8x512, .f32⟩
  | 58 => ⟨S1x1x512, .f32⟩
  | 59 => ⟨S512, .f32⟩
  | 60 => ⟨S1x1x512, .f32⟩
  | 61 => ⟨S32x8x512, .f32⟩
  | 62 => ⟨S32x8x512, .f32⟩
  | 63 => ⟨S32x8x512, .f32⟩
  | 64 => ⟨S32x8x512, .f32⟩
  | 65 => ⟨S1x1x512, .f32⟩
  | 66 => ⟨S512, .f32⟩
  | 67 => ⟨S1x1x512, .f32⟩
  | 68 => ⟨S32x8x512, .f32⟩
  | 69 => ⟨S32x8x512, .f32⟩
  | 70 => ⟨S32x8x512, .f32⟩
  | 71 => ⟨S32x8x512, .f32⟩
  | 72 => ⟨S1x1x512, .f32⟩
  | 73 => ⟨S512, .f32⟩
  | 74 => ⟨S1x1x512, .f32⟩
  | 75 => ⟨S32x8x512, .f32⟩
  | 76 => ⟨S32x8x512, .f32⟩
  | 77 => ⟨S32x8x512, .f32⟩
  | 78 => ⟨S32x8x512, .f32⟩
  | 79 => ⟨S1x1x512, .f32⟩
  | 80 => ⟨S512, .f32⟩
  | 81 => ⟨S1x1x512, .f32⟩
  | 82 => ⟨S32x8x512, .f32⟩
  | 83 => ⟨S32x8x512, .f32⟩
  | 84 => ⟨S32x8x512, .f32⟩
  | 85 => ⟨S32x8x512, .f32⟩
  | 86 => ⟨S1x1x512, .f32⟩
  | 87 => ⟨S512, .f32⟩
  | 88 => ⟨S1x1x512, .f32⟩
  | 89 => ⟨S32x8x512, .f32⟩
  | 90 => ⟨S32x8x512, .f32⟩
  | 91 => ⟨S32x8x512, .f32⟩
  | 92 => ⟨S32x8x512, .f32⟩
  | 93 => ⟨S1x1x512, .f32⟩
  | 94 => ⟨S512, .f32⟩
  | 95 => ⟨S1x1x512, .f32⟩
  | 96 => ⟨S32x8x512, .f32⟩
  | 97 => ⟨S32x8x512, .f32⟩
  | 98 => ⟨S32x8x512, .f32⟩
  | 99 => ⟨S32x8x512, .f32⟩
  | 100 => ⟨S1x1x512, .f32⟩
  | 101 => ⟨S512, .f32⟩
  | 102 => ⟨S1x1x512, .f32⟩
  | 103 => ⟨S32x8x512, .f32⟩
  | 104 => ⟨S32x8x512, .f32⟩
  | 105 => ⟨S32x8x512, .f32⟩
  | 106 => ⟨S32x8x512, .f32⟩
  | 107 => ⟨S1x1x512, .f32⟩
  | 108 => ⟨S512, .f32⟩
  | 109 => ⟨S1x1x512, .f32⟩
  | 110 => ⟨S32x8x512, .f32⟩
  | 111 => ⟨S32x8x512, .f32⟩
  | 112 => ⟨S32x8x512, .f32⟩
  | 113 => ⟨S32x8x512, .f32⟩
  | 114 => ⟨S1x1x512, .f32⟩
  | 115 => ⟨S512, .f32⟩
  | 116 => ⟨S1x1x512, .f32⟩
  | 117 => ⟨S32x8x512, .f32⟩
  | 118 => ⟨S32x8x512, .f32⟩
  | 119 => ⟨S32x8x512, .f32⟩
  | 120 => ⟨S32x8x512, .f32⟩
  | 121 => ⟨S1x1x512, .f32⟩
  | 122 => ⟨S512, .f32⟩
  | 123 => ⟨S1x1x512, .f32⟩
  | 124 => ⟨S32x8x512, .f32⟩
  | 125 => ⟨S32x8x512, .f32⟩
  | 126 => ⟨S32x8x512, .f32⟩
  | 127 => ⟨S32x8x512, .f32⟩
  | _ => ⟨S256x1024, .f32⟩

abbrev hbmTy0_1 (i : Nat) : BufTy := match i % 128 with
  | 0 => ⟨S1x1x512, .f32⟩
  | 1 => ⟨S512, .f32⟩
  | 2 => ⟨S1x1x512, .f32⟩
  | 3 => ⟨S32x8x512, .f32⟩
  | 4 => ⟨S32x8x512, .f32⟩
  | 5 => ⟨S32x8x512, .f32⟩
  | 6 => ⟨S32x8x512, .f32⟩
  | 7 => ⟨S1x1x512, .f32⟩
  | 8 => ⟨S512, .f32⟩
  | 9 => ⟨S1x1x512, .f32⟩
  | 10 => ⟨S32x8x512, .f32⟩
  | 11 => ⟨S32x8x512, .f32⟩
  | 12 => ⟨S32x8x512, .f32⟩
  | 13 => ⟨S32x8x512, .f32⟩
  | 14 => ⟨S1x1x512, .f32⟩
  | 15 => ⟨S512, .f32⟩
  | 16 => ⟨S1x1x512, .f32⟩
  | 17 => ⟨S32x8x512, .f32⟩
  | 18 => ⟨S32x8x512, .f32⟩
  | 19 => ⟨S32x8x512, .f32⟩
  | 20 => ⟨S32x8x512, .f32⟩
  | 21 => ⟨S1x1x512, .f32⟩
  | 22 => ⟨S512, .f32⟩
  | 23 => ⟨S1x1x512, .f32⟩
  | 24 => ⟨S32x8x512, .f32⟩
  | 25 => ⟨S32x8x512, .f32⟩
  | 26 => ⟨S32x8x512, .f32⟩
  | 27 => ⟨S32x8x512, .f32⟩
  | 28 => ⟨S1x1x512, .f32⟩
  | 29 => ⟨S512, .f32⟩
  | 30 => ⟨S1x1x512, .f32⟩
  | 31 => ⟨S32x8x512, .f32⟩
  | 32 => ⟨S32x8x512, .f32⟩
  | 33 => ⟨S32x8x512, .f32⟩
  | 34 => ⟨S32x8x512, .f32⟩
  | 35 => ⟨S1x1x512, .f32⟩
  | 36 => ⟨S512, .f32⟩
  | 37 => ⟨S1x1x512, .f32⟩
  | 38 => ⟨S32x8x512, .f32⟩
  | 39 => ⟨S32x8x512, .f32⟩
  | 40 => ⟨S32x8x512, .f32⟩
  | 41 => ⟨S32x8x512, .f32⟩
  | 42 => ⟨S1x1x512, .f32⟩
  | 43 => ⟨S512, .f32⟩
  | 44 => ⟨S1x1x512, .f32⟩
  | 45 => ⟨S32x8x512, .f32⟩
  | 46 => ⟨S32x8x512, .f32⟩
  | 47 => ⟨S32x8x512, .f32⟩
  | 48 => ⟨S32x8x512, .f32⟩
  | 49 => ⟨S1x1x512, .f32⟩
  | 50 => ⟨S512, .f32⟩
  | 51 => ⟨S1x1x512, .f32⟩
  | 52 => ⟨S32x8x512, .f32⟩
  | 53 => ⟨S32x8x512, .f32⟩
  | 54 => ⟨S32x8x512, .f32⟩
  | 55 => ⟨S32x8x512, .f32⟩
  | 56 => ⟨S1x1x512, .f32⟩
  | 57 => ⟨S512, .f32⟩
  | 58 => ⟨S1x1x512, .f32⟩
  | 59 => ⟨S32x8x512, .f32⟩
  | 60 => ⟨S32x8x512, .f32⟩
  | 61 => ⟨S32x8x512, .f32⟩
  | 62 => ⟨S32x8x512, .f32⟩
  | 63 => ⟨S1x1x512, .f32⟩
  | 64 => ⟨S512, .f32⟩
  | 65 => ⟨S1x1x512, .f32⟩
  | 66 => ⟨S32x8x512, .f32⟩
  | 67 => ⟨S32x8x512, .f32⟩
  | 68 => ⟨S32x8x512, .f32⟩
  | 69 => ⟨S32x8x512, .f32⟩
  | 70 => ⟨S1x1x512, .f32⟩
  | 71 => ⟨S512, .f32⟩
  | 72 => ⟨S1x1x512, .f32⟩
  | 73 => ⟨S32x8x512, .f32⟩
  | 74 => ⟨S32x8x512, .f32⟩
  | 75 => ⟨S32x8x512, .f32⟩
  | 76 => ⟨S32x8x512, .f32⟩
  | 77 => ⟨S1x1x512, .f32⟩
  | 78 => ⟨S512, .f32⟩
  | 79 => ⟨S1x1x512, .f32⟩
  | 80 => ⟨S32x8x512, .f32⟩
  | 81 => ⟨S32x8x512, .f32⟩
  | 82 => ⟨S32x8x512, .f32⟩
  | 83 => ⟨S32x8x512, .f32⟩
  | 84 => ⟨S1x1x512, .f32⟩
  | 85 => ⟨S512, .f32⟩
  | 86 => ⟨S1x1x512, .f32⟩
  | 87 => ⟨S32x8x512, .f32⟩
  | 88 => ⟨S32x8x512, .f32⟩
  | 89 => ⟨S32x8x512, .f32⟩
  | 90 => ⟨S32x8x512, .f32⟩
  | 91 => ⟨S1x1x512, .f32⟩
  | 92 => ⟨S512, .f32⟩
  | 93 => ⟨S1x1x512, .f32⟩
  | 94 => ⟨S32x8x512, .f32⟩
  | 95 => ⟨S32x8x512, .f32⟩
  | 96 => ⟨S32x8x512, .f32⟩
  | 97 => ⟨S32x8x512, .f32⟩
  | 98 => ⟨S1x1x512, .f32⟩
  | 99 => ⟨S512, .f32⟩
  | 100 => ⟨S1x1x512, .f32⟩
  | 101 => ⟨S32x8x512, .f32⟩
  | 102 => ⟨S32x8x512, .f32⟩
  | 103 => ⟨S32x8x512, .f32⟩
  | 104 => ⟨S32x8x512, .f32⟩
  | 105 => ⟨S1x1x512, .f32⟩
  | 106 => ⟨S512, .f32⟩
  | 107 => ⟨S1x1x512, .f32⟩
  | 108 => ⟨S32x8x512, .f32⟩
  | 109 => ⟨S32x8x512, .f32⟩
  | 110 => ⟨S32x8x512, .f32⟩
  | 111 => ⟨S512, .f32⟩
  | 112 => ⟨S1x1x512, .f32⟩
  | 113 => ⟨S32x8x512, .f32⟩
  | 114 => ⟨S32x8x512, .f32⟩
  | 115 => ⟨S_, .f32⟩
  | 116 => ⟨S32x8, .f32⟩
  | 117 => ⟨S32x8x1, .f32⟩
  | 118 => ⟨S_, .f32⟩
  | 119 => ⟨S32x8x1, .f32⟩
  | 120 => ⟨S32x8x1, .f32⟩
  | 121 => ⟨S32x8x512, .f32⟩
  | 122 => ⟨S32x8x512, .f32⟩
  | 123 => ⟨S32x8x512, .f32⟩
  | 124 => ⟨S_, .f32⟩
  | 125 => ⟨S32x8, .f32⟩
  | 126 => ⟨S32x8x1, .f32⟩
  | 127 => ⟨S_, .f32⟩
  | _ => ⟨S256x1024, .f32⟩

abbrev hbmTy0_2 (i : Nat) : BufTy := match i % 128 with
  | 0 => ⟨S32x8x1, .f32⟩
  | 1 => ⟨S32x8x1, .f32⟩
  | 2 => ⟨S32x8x512, .f32⟩
  | 3 => ⟨S32x8x512, .f32⟩
  | 4 => ⟨S_, .f32⟩
  | 5 => ⟨S32x8x1, .f32⟩
  | 6 => ⟨S32x8x1, .f32⟩
  | 7 => ⟨S32x8x1, .f32⟩
  | 8 => ⟨S32x8x512, .f32⟩
  | 9 => ⟨S32x8x512, .f32⟩
  | 10 => ⟨S512, .f32⟩
  | 11 => ⟨S1x1x512, .f32⟩
  | 12 => ⟨S32x8x512, .f32⟩
  | 13 => ⟨S32x8x512, .f32⟩
  | 14 => ⟨S512, .f32⟩
  | 15 => ⟨S1x1x512, .f32⟩
  | 16 => ⟨S32x8x512, .f32⟩
  | 17 => ⟨S32x8x512, .f32⟩
  | 18 => ⟨S32x8x512, .f32⟩
  | 19 => ⟨S32x8x512, .f32⟩
  | 20 => ⟨S_, .f32⟩
  | 21 => ⟨S32x8x512, .f32⟩
  | 22 => ⟨S32x8x512, .f32⟩
  | 23 => ⟨S_, .f32⟩
  | 24 => ⟨S32x8x512, .f32⟩
  | 25 => ⟨S32x8x512, .f32⟩
  | 26 => ⟨S32x8x512, .f32⟩
  | 27 => ⟨S256x512, .f32⟩
  | 28 => ⟨S512x1024, .f32⟩
  | 29 => ⟨S256x1024, .f32⟩
  | 30 => ⟨S1024, .f32⟩
  | 31 => ⟨S1x1024, .f32⟩
  | 32 => ⟨S256x1024, .f32⟩
  | 33 => ⟨S256x1024, .f32⟩
  | 34 => ⟨S256x512, .f32⟩
  | 35 => ⟨S512x1024, .f32⟩
  | 36 => ⟨S256x1024, .f32⟩
  | 37 => ⟨S256x1024, .f32⟩
  | 38 => ⟨S256x1024, .f32⟩
  | 39 => ⟨S256x1024, .f32⟩
  | 40 => ⟨S256x1024, .f32⟩
  | 41 => ⟨S256x1024, .f32⟩
  | 42 => ⟨S1x32x1024, .f32⟩
  | 43 => ⟨S32x1024, .f32⟩
  | 44 => ⟨S32x1x1024, .f32⟩
  | 45 => ⟨S32x8x1024, .f32⟩
  | 46 => ⟨S256x1024, .f32⟩
  | 47 => ⟨S1024x1024, .f32⟩
  | 48 => ⟨S256x1024, .f32⟩
  | 49 => ⟨S256x1024, .f32⟩
  | 50 => ⟨S256x1024, .f32⟩
  | _ => ⟨S256x1024, .f32⟩

abbrev hbmTy (i : Nat) : BufTy := match i / 128 with
  | 0 => hbmTy0_0 i
  | 1 => hbmTy0_1 i
  | 2 => hbmTy0_2 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_cst_0 : Ref sig .tc := ⟨.hbm, 243, rfl⟩
abbrev main_v227 : Ref sig .tc := ⟨.hbm, 244, rfl⟩
abbrev main_v228 : Ref sig .tc := ⟨.hbm, 245, rfl⟩
abbrev main_cst_1 : Ref sig .tc := ⟨.hbm, 246, rfl⟩
abbrev main_v229 : Ref sig .tc := ⟨.hbm, 247, rfl⟩
abbrev main_v230 : Ref sig .tc := ⟨.hbm, 248, rfl⟩
abbrev main_v231 : Ref sig .tc := ⟨.hbm, 249, rfl⟩
abbrev main_v232 : Ref sig .tc := ⟨.hbm, 250, rfl⟩
abbrev main_v233 : Ref sig .tc := ⟨.hbm, 251, rfl⟩
abbrev main_cst_2 : Ref sig .tc := ⟨.hbm, 252, rfl⟩
abbrev main_v234 : Ref sig .tc := ⟨.hbm, 253, rfl⟩
abbrev main_v235 : Ref sig .tc := ⟨.hbm, 254, rfl⟩
abbrev main_cst_3 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_cst_4 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_call0_v0 : Ref sig .tc := ⟨.hbm, 274, rfl⟩
abbrev main_call0_v1 : Ref sig .tc := ⟨.hbm, 275, rfl⟩
abbrev main_call0_cst : Ref sig .tc := ⟨.hbm, 276, rfl⟩
abbrev main_call0_v2 : Ref sig .tc := ⟨.hbm, 277, rfl⟩
abbrev main_call0_v3 : Ref sig .tc := ⟨.hbm, 278, rfl⟩
abbrev main_call0_cst_0 : Ref sig .tc := ⟨.hbm, 279, rfl⟩
abbrev main_call0_v4 : Ref sig .tc := ⟨.hbm, 280, rfl⟩
abbrev main_call0_v5 : Ref sig .tc := ⟨.hbm, 281, rfl⟩
abbrev main_v253 : Ref sig .tc := ⟨.hbm, 282, rfl⟩
abbrev main_v254 : Ref sig .tc := ⟨.hbm, 283, rfl⟩
abbrev main_v255 : Ref sig .tc := ⟨.hbm, 284, rfl⟩
abbrev main_v256 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_v262 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_v266 : Ref sig .tc := ⟨.hbm, 295, rfl⟩
abbrev main_v267 : Ref sig .tc := ⟨.hbm, 296, rfl⟩
abbrev main_v268 : Ref sig .tc := ⟨.hbm, 297, rfl⟩
abbrev main_v269 : Ref sig .tc := ⟨.hbm, 298, rfl⟩
abbrev main_v270 : Ref sig .tc := ⟨.hbm, 299, rfl⟩
abbrev main_v271 : Ref sig .tc := ⟨.hbm, 300, rfl⟩
abbrev main_v272 : Ref sig .tc := ⟨.hbm, 301, rfl⟩
abbrev main_v273 : Ref sig .tc := ⟨.hbm, 302, rfl⟩
abbrev main_v274 : Ref sig .tc := ⟨.hbm, 303, rfl⟩
abbrev main_v275 : Ref sig .tc := ⟨.hbm, 304, rfl⟩
abbrev main_v276 : Ref sig .tc := ⟨.hbm, 305, rfl⟩
abbrev main_v277 : Ref sig .tc := ⟨.hbm, 306, rfl⟩

abbrev nD : Nat := 1
abbrev τ : Topo := Topo.v7x

variable {F : FTy → Type} [FloatOps F]
-- ==== Proof.Kernel.RunB.lean ====
/-
  The body's run at a later query tile, for the frame: it leaves the inputs as they were; nothing is said of what the output's
  staging buffer and the scratch buffers hold.
-/
module

public import proofs.«01_k».proof.Proof.Gen.Kernel.Frame.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- At a later query tile, on whole buffers, the body runs to its end, leaves the inputs' blocks `x0`, `x1`, `x2` as they were, and
    hands back the output's staging buffer and the four scratch buffers at some contents. -/
theorem later_runs (c : Dev nD) (i : grid0.Coords) (arg3 : Memref sig .tc .vmem S1x256x1024 .bf16) (harg3 : arg3.IsWhole) (arg4 : Memref sig .tc .vmem S1x8192x256 .bf16) (harg4 : arg4.IsWhole) (arg5 : Memref sig .tc .vmem S1x128x8192 .bf16) (harg5 : arg5.IsWhole) (arg6 : Memref sig .tc .vmem S1x1024x128 .bf16) (harg6 : arg6.IsWhole) (arg7 : Memref sig .tc .vmem S8x512x256 .f32) (harg7 : arg7.IsWhole) (arg8 : Memref sig .tc .vmem S8x512x256 .f32) (harg8 : arg8.IsWhole) (arg9 : Memref sig .tc .vmem S8x1x256 .f32) (harg9 : arg9.IsWhole) (arg10 : Memref sig .tc .vmem S8x1x256 .f32) (harg10 : arg10.IsWhole) (hc0 : ¬cond0_0 i) (hc1 : cond0_1 i)
    (x0 : Vec F S1x256x1024 .bf16) (x1 : Vec F S1x8192x256 .bf16) (x2 : Vec F S1x128x8192 .bf16)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := F)) Variants.none c none) E (cc0_prompt_attention i arg3 harg3 arg4 harg4 arg5 harg5 arg6 harg6 arg7 harg7 arg8 harg8 arg9 harg9 arg10 harg10) K := by
  simp only [cc0_prompt_attention_eq_skeleton]; unfold cc0_prompt_attention_skel
  simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2
  sl_exec (disch := first | sl_exact hc0 | sl_exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Gen

end
-- ==== Proof.Kernel.Frame.lean ====
/-
  The frame of the program: at every grid point the body leaves its inputs' blocks as they were, whatever it stores in the output's
  staging buffer, so the argument arrays end unchanged and every semaphore counter is zero.
-/
module

public import proofs.«01_k».proof.Proof.Kernel.RunB
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window of which nothing is said: the output's. -/
def unsaid : Fin cfg0.W → Bool
  | ⟨3, _⟩ => true
  | _ => false

/-- The proof data of the pipeline on core `c`: the arrays as the region finds them; each input's buffer at its block; of the output's
    nothing; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Dat.unnamed (cfg := cfg0) 3 t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves of the inputs. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The body's precondition at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X))

/-- The body's postcondition at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ X, owns (c : Thread nD τ) (ms0_3 t) fullShare X))

set_option maxHeartbeats 1600000 in
/-- The body at any point: the tile decides which of the two runs applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  iintro ⟨⟨⟨HS0, HS1, HS2, HS3⟩, Hg⟩, Ho, ⟨%d0, H0⟩, ⟨%d1, H1⟩, ⟨%d2, H2⟩, H3⟩
  by_cases h0 : t.val % 8 = 0
  · have h1 : ¬ 1 ≤ t.val % 8 := by omega
    iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, ⟨%e3, H3⟩, ⟨%fT0, HS0⟩, ⟨%fT1, HS1⟩, ⟨%fT2, HS2⟩, ⟨%fT3, HS3⟩⟩
    isplitl [HS0 HS1 HS2 HS3 Hg]
    · isplitl [HS0 HS1 HS2 HS3]
      · isplitl [HS0]
        · iexists _; unfold owns; iexists _; isplitr
          swap; · iexact HS0
          ipureintro; rfl
        isplitl [HS1]
        · iexists _; unfold owns; iexists _; isplitr
          swap; · iexact HS1
          ipureintro; rfl
        isplitl [HS2]
        · iexists _; unfold owns; iexists _; isplitr
          swap; · iexact HS2
          ipureintro; rfl
        iexists _; unfold owns; iexists _; isplitr
        swap; · iexact HS3
        ipureintro; rfl
      iexact Hg
    isplitl [Ho]; · iexact Ho
    isplitl [H0]; · iexact H0
    isplitl [H1]; · iexact H1
    isplitl [H2]; · iexact H2
    iexists _; unfold owns; iexists _; isplitr
    swap; · iexact H3
    ipureintro; rfl
  · have h1 : 1 ≤ t.val % 8 := by omega
    iapply (later_runs c (grid0.coords t) _ _ _ _ _ _ _ _ _ _ _ _ _ _ _ _ (fun h => h0 ((hcond0_0 t).mp h)) ((hcond0_1 t).mpr h1) (iblk m c 0 t) (iblk m c 1 t) (iblk m c 2 t) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    iintro ⟨H0, H1, H2, H3, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    iexact H3

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation, at every point, with nothing said of the output's window. -/
theorem body_obligation (c : Dev nD) :
    BodyObligation (dats (F := F) m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
/-- The launch: every final state has the inputs' arrays and the buffers outside the pipeline as the region found them, and every
    semaphore counter at zero. -/
theorem run_main : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_forget (Q' := _) cfgs (dats m) (0 : Fin 1) launch0 defs₀ Variants.none unsaid m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1.arr_in c 0 rfl).trans ((A_eq m c 0).trans (V_main_arg0 m c)),
      ((h.1 c).2 main_arg1 (Pipeline.mem_restRefs_of main_arg1 (by decide) (by decide))).trans (V_main_arg1 m c),
      (h.1.arr_in c 2 rfl).trans ((A_eq m c 2).trans (V_main_arg2 m c))⟩, h.2⟩) (run_main m ρ)

end Cert.Kernel.Gen

end
-- ==== Proof.Softmax.lean ====
/- The mathematics of a softmax taken block by block, over the extended reals.

   A row of scores is a function `σ` of the key's number, never `⊤`; a key that the mask hides scores `⊥`. `rowMax σ n` is
   the largest of the first `n` scores, `rowSum σ ν n` the sum of the first `n` values `ν`, each with weight `2 ^ (σ - rowMax)`.
   Taking in a block of keys rescales the sum by `2 ^ (old maximum - new maximum)` (`rowSum_add`); keys that score `⊥`
   change neither (`rowMax_of_hidden`, `rowSum_of_hidden`); and the quotient of two such sums is the sum of the values
   weighted by the softmax of the scores times `log 2`, taken to the base `e` (`softmax_eq`). -/
module

public import Idealize.ShloMosaic.PureOps.Ideal

@[expose] public section

noncomputable section

namespace Cert.Attention

open Idealize.ShloMosaic Finset

/-- The largest of the first `n` scores. -/
def rowMax (σ : ℕ → EReal) (n : ℕ) : EReal := (range n).sup σ

/-- The weight of a score `s` against the maximum `m`. -/
def weight (s m : EReal) : EReal := Ideal.exp2 (s - m)

/-- The first `n` values, weighted and summed. -/
def rowSum (σ ν : ℕ → EReal) (n : ℕ) : EReal := ∑ t ∈ range n, ν t * weight (σ t) (rowMax σ n)

/-- A sum of extended reals times a real that is not negative distributes. -/
theorem sum_mul_of_real {ι : Type} (s : Finset ι) (f : ι → EReal) {a : EReal} (h0 : 0 ≤ a) (h1 : a ≠ ⊤) :
    (∑ i ∈ s, f i) * a = ∑ i ∈ s, f i * a := by
  classical
  induction s using Finset.induction_on with
  | empty => simp
  | insert i s hi ih => rw [sum_insert hi, sum_insert hi, EReal.right_distrib_of_nonneg_of_ne_top h0 h1, ih]

/-- A sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

theorem weight_bot (m : EReal) : weight ⊥ m = 0 := by
  simp [weight]

theorem weight_coe (s m : ℝ) : weight s m = ((Real.rpow 2 (s - m) : ℝ) : EReal) := by
  rw [weight, ← EReal.coe_sub, Ideal.exp2_coe]

/-- A weight against a real maximum is a real that is not negative. -/
theorem weight_nonneg {s m : EReal} (hs : s ≠ ⊤) (hm : m ≠ ⊥) (hm' : m ≠ ⊤) : 0 ≤ weight s m ∧ weight s m ≠ ⊤ := by
  lift m to ℝ using ⟨hm', hm⟩
  induction s with
  | bot => simp [weight_bot]
  | top => exact absurd rfl hs
  | coe s =>
    rw [weight_coe]
    exact ⟨EReal.coe_nonneg.mpr (Real.rpow_nonneg (by norm_num) _), EReal.coe_ne_top _⟩

/-- Changing the maximum rescales the weight. -/
theorem weight_mul {s m m' : EReal} (hs : s ≤ m) (hm : m ≤ m') (hm' : m' ≠ ⊤) (hb : m' ≠ ⊥) :
    weight s m * weight m m' = weight s m' := by
  lift m' to ℝ using ⟨hm', hb⟩
  induction s with
  | bot => simp [weight_bot]
  | top => exact absurd (top_le_iff.mp (hs.trans hm)) (EReal.coe_ne_top _)
  | coe s =>
    induction m with
    | bot => exact absurd (le_bot_iff.mp hs) (EReal.coe_ne_bot _)
    | top => exact absurd (top_le_iff.mp hm) (EReal.coe_ne_top _)
    | coe m =>
      rw [weight_coe, weight_coe, weight_coe, ← EReal.coe_mul]
      congr 1
      show (2 : ℝ) ^ (s - m) * (2 : ℝ) ^ (m - m') = (2 : ℝ) ^ (s - m')
      rw [← Real.rpow_add (by norm_num)]
      congr 1
      ring

section Row

variable {σ : ℕ → EReal}

theorem le_rowMax {n t : ℕ} (h : t < n) : σ t ≤ rowMax σ n := le_sup (f := σ) (mem_range.mpr h)

theorem rowMax_zero : rowMax σ 0 = ⊥ := by simp [rowMax]

theorem rowMax_mono {n n' : ℕ} (h : n ≤ n') : rowMax σ n ≤ rowMax σ n' :=
  sup_mono (range_subset_range.mpr h)

theorem rowMax_ne_top (hσ : ∀ t, σ t ≠ ⊤) (n : ℕ) : rowMax σ n ≠ ⊤ := by
  rw [← lt_top_iff_ne_top, rowMax, Finset.sup_lt_iff bot_lt_top]
  exact fun t _ => lt_top_iff_ne_top.mpr (hσ t)

theorem rowMax_ne_bot {n t : ℕ} (ht : t < n) (h : σ t ≠ ⊥) : rowMax σ n ≠ ⊥ :=
  fun e => h (le_bot_iff.mp (e ▸ le_rowMax ht))

/-- The maximum of `n + b` scores from that of the first `n` and that of the block after them. -/
theorem rowMax_add (n b : ℕ) : rowMax σ (n + b) = max (rowMax σ n) ((univ : Finset (Fin b)).sup fun r => σ (n + r.val)) := by
  apply le_antisymm
  · refine Finset.sup_le fun t ht => ?_
    by_cases h : t < n
    · exact (le_rowMax h).trans (le_max_left _ _)
    · have ht := mem_range.mp ht
      have e : n + (t - n) = t := by omega
      refine le_trans ?_ (le_max_right _ _)
      have := le_sup (f := fun r : Fin b => σ (n + r.val)) (mem_univ (⟨t - n, by omega⟩ : Fin b))
      simpa [e] using this
  · refine max_le (rowMax_mono (Nat.le_add_right _ _)) (Finset.sup_le fun r _ => le_rowMax (by omega))

theorem rowSum_zero (ν : ℕ → EReal) : rowSum σ ν 0 = 0 := by simp [rowSum]

/-- Taking in a block of `b` keys: the old sum is rescaled and the block's weighted values are added. -/
theorem rowSum_add (hσ : ∀ t, σ t ≠ ⊤) (ν : ℕ → EReal) (n b : ℕ) (hb : rowMax σ (n + b) ≠ ⊥) :
    rowSum σ ν n * weight (rowMax σ n) (rowMax σ (n + b))
        + ∑ r : Fin b, ν (n + r.val) * weight (σ (n + r.val)) (rowMax σ (n + b))
      = rowSum σ ν (n + b) := by
  have hM := rowMax_mono (σ := σ) (Nat.le_add_right n b)
  have ht := rowMax_ne_top hσ (n + b)
  obtain ⟨w0, w1⟩ := weight_nonneg (rowMax_ne_top hσ n) hb ht
  rw [rowSum, rowSum, sum_mul_of_real _ _ w0 w1, sum_range_add, ← Fin.sum_univ_eq_sum_range
    (fun r => ν (n + r) * weight (σ (n + r)) (rowMax σ (n + b)))]
  congr 1
  refine sum_congr rfl fun t h => ?_
  rw [mul_assoc, weight_mul (le_rowMax (mem_range.mp h)) hM ht hb]

/-- Keys that score `⊥` leave the maximum as it is. -/
theorem rowMax_of_hidden {n n' : ℕ} (h : n ≤ n') (hid : ∀ t, n ≤ t → σ t = ⊥) : rowMax σ n' = rowMax σ n := by
  apply le_antisymm _ (rowMax_mono h)
  refine Finset.sup_le fun t _ => ?_
  by_cases ht : t < n
  · exact le_rowMax ht
  · rw [hid t (not_lt.mp ht)]; exact bot_le

/-- Keys that score `⊥` leave the sum as it is. -/
theorem rowSum_of_hidden {n n' : ℕ} (ν : ℕ → EReal) (h : n ≤ n') (hid : ∀ t, n ≤ t → σ t = ⊥) :
    rowSum σ ν n' = rowSum σ ν n := by
  rw [rowSum, rowSum, rowMax_of_hidden h hid]
  refine (sum_subset (range_subset_range.mpr h) fun t _ ht => ?_).symm
  rw [hid t (not_lt.mp fun hlt => ht (mem_range.mpr hlt)), weight_bot, mul_zero]

/-- The row's logits to the base `e`: a score times `log 2`, hidden keys at `⊥`. -/
def natLogit (s : EReal) : EReal := if s = ⊥ then ⊥ else s * (Real.log 2 : ℝ)

theorem natLogit_mono {s m : EReal} (h : s ≤ m) (hm : m ≠ ⊤) : natLogit s ≤ natLogit m := by
  induction s with
  | bot => simp [natLogit]
  | top => exact absurd (top_le_iff.mp h) hm
  | coe s =>
    induction m with
    | bot => exact absurd (le_bot_iff.mp h) (EReal.coe_ne_bot _)
    | top => exact absurd rfl hm
    | coe m =>
      simp only [natLogit, EReal.coe_ne_bot, if_false, ← EReal.coe_mul]
      exact EReal.coe_le_coe_iff.mpr (mul_le_mul_of_nonneg_right (EReal.coe_le_coe_iff.mp h) (Real.log_nonneg (by norm_num)))

/-- The maximum of the logits to the base `e` is the logit of the maximum. -/
theorem sup_natLogit (hσ : ∀ t, σ t ≠ ⊤) {n t₀ : ℕ} (h₀ : t₀ < n) :
    (range n).sup (fun t => natLogit (σ t)) = natLogit (rowMax σ n) := by
  apply le_antisymm
  · exact Finset.sup_le fun t ht => natLogit_mono (le_rowMax (mem_range.mp ht)) (rowMax_ne_top hσ n)
  · obtain ⟨t, ht, e⟩ := exists_mem_eq_sup (range n) ⟨t₀, mem_range.mpr h₀⟩ σ
    rw [rowMax, e]
    exact le_sup (f := fun t => natLogit (σ t)) ht

/-- The natural exponential of a difference of logits is the base-2 weight of the scores. -/
theorem exp_natLogit {s m : EReal} (hs : s ≠ ⊤) (hm : m ≠ ⊤) (hb : m ≠ ⊥) :
    Ideal.exp (natLogit s - natLogit m) = weight s m := by
  lift m to ℝ using ⟨hm, hb⟩
  induction s with
  | bot => simp [natLogit, weight_bot]
  | top => exact absurd rfl hs
  | coe s =>
    simp only [natLogit, EReal.coe_ne_bot, if_false, ← EReal.coe_mul, ← EReal.coe_sub, Ideal.exp_coe, weight_coe]
    congr 1
    show Real.exp _ = (2 : ℝ) ^ (s - m)
    rw [Real.rpow_def_of_pos (by norm_num)]
    congr 1
    ring

/-- The sum of the weights alone is a positive real. -/
theorem rowSum_one_pos (hσ : ∀ t, σ t ≠ ⊤) {n t₀ : ℕ} (h₀ : t₀ < n) (hv : σ t₀ ≠ ⊥) :
    ∃ l : ℝ, 0 < l ∧ rowSum σ (fun _ => 1) n = l := by
  have hb := rowMax_ne_bot h₀ hv
  have ht := rowMax_ne_top hσ n
  obtain ⟨t, htm, e⟩ := exists_mem_eq_sup (range n) ⟨t₀, mem_range.mpr h₀⟩ σ
  have hw : ∀ t, ∃ w : ℝ, 0 ≤ w ∧ weight (σ t) (rowMax σ n) = w := fun t => by
    obtain ⟨w0, w1⟩ := weight_nonneg (hσ t) hb ht
    have w2 : weight (σ t) (rowMax σ n) ≠ ⊥ := fun h => by rw [h] at w0; exact absurd w0 (by simp)
    exact ⟨_, EReal.toReal_nonneg w0, (EReal.coe_toReal w1 w2).symm⟩
  choose w w0 hw using hw
  refine ⟨∑ t ∈ range n, w t, sum_pos' (fun t _ => w0 t) ⟨t, htm, ?_⟩, ?_⟩
  · have h1 : weight (σ t) (rowMax σ n) = 1 := by
      have : rowMax σ n = σ t := e
      rw [← this]
      lift rowMax σ n to ℝ using ⟨ht, hb⟩ with M
      rw [weight_coe, sub_self]
      simp
    have : ((w t : ℝ) : EReal) = 1 := (hw t).symm.trans h1
    have : w t = 1 := EReal.coe_eq_one.mp this
    rw [this]; norm_num
  · rw [rowSum, coe_sum]
    exact sum_congr rfl fun t _ => by rw [one_mul, hw t]

theorem div_of_pos (x : EReal) {l : ℝ} (hl : 0 < l) : Ideal.div x l = x * ((l⁻¹ : ℝ) : EReal) := by
  rw [Ideal.div, if_neg (by simpa using hl.ne'), EReal.coe_inv]

/-- The quotient of the two sums is the values weighted by the softmax to the base `e`. -/
theorem softmax_eq (hσ : ∀ t, σ t ≠ ⊤) (ν : ℕ → EReal) {n t₀ : ℕ} (h₀ : t₀ < n) (hv : σ t₀ ≠ ⊥) {x : ℕ → EReal}
    (hx : ∀ t, x t = natLogit (σ t)) :
    Ideal.div (rowSum σ ν n) (rowSum σ (fun _ => 1) n)
      = ∑ t ∈ range n, ν t * Ideal.div (Ideal.exp (x t - (range n).sup x))
          (∑ t' ∈ range n, Ideal.exp (x t' - (range n).sup x)) := by
  obtain rfl : x = fun t => natLogit (σ t) := funext hx
  have hb := rowMax_ne_bot h₀ hv
  have ht := rowMax_ne_top hσ n
  have hE : ∀ t, Ideal.exp (natLogit (σ t) - natLogit (rowMax σ n)) = weight (σ t) (rowMax σ n) :=
    fun t => exp_natLogit (hσ t) ht hb
  obtain ⟨l, hl, e⟩ := rowSum_one_pos hσ h₀ hv
  have e' : ∑ t ∈ range n, weight (σ t) (rowMax σ n) = l := by
    rw [← e, rowSum]; exact sum_congr rfl fun t _ => (one_mul _).symm
  simp only [sup_natLogit hσ h₀, hE, e, e', div_of_pos _ hl]
  rw [rowSum, sum_mul_of_real _ _ (EReal.coe_nonneg.mpr (inv_nonneg.mpr hl.le)) (EReal.coe_ne_top _)]
  exact sum_congr rfl fun t _ => mul_assoc _ _ _

end Row

end Cert.Attention

end
-- ==== Proof.Unit.lean ====
/-
  One unit of the attention kernel: a head and a chunk of 256 queries against a block of 512 keys.

  The kernel keeps, for each of its eight units, a running maximum (one row of 256) and a running weighted sum (80 rows of
  256: 64 value rows and 16 rows of ones, which hold the softmax denominator). This module names what one block does to a
  unit, for any floats, and reads it on the extended reals against `rowMax` and `rowSum`.
-/
module

public import proofs.«01_k».proof.Proof.Gen.KernelIdeal.Skeleton
public import proofs.«01_k».proof.Proof.Softmax
public import Idealize.ShloMosaic.Lib.ValueLayout
public import Idealize.ShloMosaic.Lib.ValueIdx
public import Idealize.ShloMosaic.Lib.MatmulPlain
public import Idealize.ShloMosaic.Lib.IdealHost
public import Idealize.ShloMosaic.Lib.WordCmp

@[expose] public section

noncomputable section

namespace Cert.Attention

open Idealize.ShloMosaic Idealize.ShloMosaic.ValueIdx Cert.KernelIdeal Cert.KernelIdeal.Gen
open scoped BigOperators

/-! ## What a block does to a unit -/

section Ops

variable {F : FTy → Type} [FloatOps F] [Named F]

/-- The scores of a block of 512 keys against 256 queries. -/
def scores (kb : Vec F S1x512x128 .bf16) (qb : FVec F S128x256 .bf16) : FVec F S512x256 .f32 :=
  matmul dot_S512x128_S128x256_S512x256_1_0_0_1_n_n none (shapeCast S512x128 kb shapeCasts_S1x512x128_S512x128) qb
    (constant S512x256 .f32 0x00000000#32)

/-- Scores with the mask in the places where the key (its row moved by `a`) lies after the query (its column moved by `b`). -/
def masked (a b : BitVec 32) (s : FVec F S512x256 .f32) : FVec F S512x256 .f32 :=
  select (cmpi .sle (addi (iota .tc S512x256 32 [0] iota_S512x256_d0_w32) (broadcast S512x256 a))
    (addi (iota .tc S512x256 32 [1] iota_S512x256_d1_w32) (broadcast S512x256 b))) s
    (broadcast S512x256 (Named.named κ "mask" 0xF149F2CA#32))

/-- A block's scores in the form in which they are staged. -/
def staged (s : FVec F S512x256 .f32) : FVec F S1x512x256 .f32 := shapeCast S1x512x256 s shapeCasts_S512x256_S1x512x256

/-- A block's maximum over its keys, for each query, in the form in which it is staged. -/
def stagedMax (s : FVec F S512x256 .f32) : FVec F S1x1x256 .f32 :=
  shapeCast S1x1x256 (shapeCast S1x256 (multiReduction .maximumf [0] S256 s 0xFF800000#32 reduces_S512x256_S256 (.inl rfl) rfl)
    shapeCasts_S256_S1x256) shapeCasts_S1x256_S1x1x256

/-- The running maximum after a block. -/
def newMax (m : FVec F S1x256 .f32) (mx : FVec F S1x1x256 .f32) : FVec F S1x256 .f32 :=
  maximumf m (shapeCast S1x256 mx shapeCasts_S1x1x256_S1x256)

/-- A block's values with the rows of ones beneath them. -/
def valueRows (ones : FVec F S16x512 .bf16) (vb : Vec F S1x64x512 .bf16) : FVec F S80x512 .bf16 :=
  concatenate S80x512 0 [⟨S64x512, shapeCast S64x512 vb shapeCasts_S1x64x512_S64x512⟩, ⟨S16x512, ones⟩]
    concatenates_S64x512_S16x512_S80x512_d0

/-- The running weighted sum after a block. -/
def newAcc (ones : FVec F S16x512 .bf16) (vb : Vec F S1x64x512 .bf16) (m : FVec F S1x256 .f32) (acc : FVec F S80x256 .f32)
    (st : FVec F S1x512x256 .f32) (mx : FVec F S1x1x256 .f32) : FVec F S80x256 .f32 :=
  addf (mulf acc (broadcastTo S80x256 (exp2 (subf m (newMax m mx))) broadcasts_S1x256_S80x256))
    (matmul dot_S80x512_S512x256_S80x256_1_0_0_1_n_n none (valueRows ones vb)
      (truncf .bf16 (exp2 (subf (shapeCast S512x256 st shapeCasts_S1x512x256_S512x256)
        (broadcastTo S512x256 (newMax m mx) broadcasts_S1x256_S512x256))) bitsLt_bf16_f32)
      (constant S80x256 .f32 0x00000000#32))

end Ops

/-! ## The same on the extended reals -/

/-- A unit has seen the keys before `n`: its maximum and its weighted sums are those of the scores `σ` and the values `ν`. -/
def Held (σ : Fin 256 → ℕ → EReal) (ν : Fin 80 → ℕ → EReal) (n : ℕ) (m : FVec Ideal S1x256 .f32) (acc : FVec Ideal S80x256 .f32) : Prop :=
  (∀ j, m (ix2 (0 : Fin 1) j) = rowMax (σ j) n) ∧ ∀ d j, acc (ix2 d j) = rowSum (σ j) (ν d) n

/-- The scores and the maximum of the block of keys from `n` on are staged. -/
def Staged (σ : Fin 256 → ℕ → EReal) (n : ℕ) (st : FVec Ideal S1x512x256 .f32) (mx : FVec Ideal S1x1x256 .f32) : Prop :=
  (∀ r j, st (ix3 (0 : Fin 1) r j) = σ j (n + r.val)) ∧
    ∀ j, mx (ix3 (0 : Fin 1) (0 : Fin 1) j) = Finset.univ.sup fun r : Fin 512 => σ j (n + r.val)

/-- A score is the sum over the features of key times query. -/
theorem scores_apply (kb : Vec Ideal S1x512x128 .bf16) (qb : FVec Ideal S128x256 .bf16) (r : Fin 512) (j : Fin 256) :
    scores kb qb (ix2 r j) = ∑ e : Fin 128, kb (ix3 (0 : Fin 1) r e) * qb (ix2 e j) := by
  have h := Ideal.matmul_plain_apply (M := 512) (K := 128) (N := 256) none
    (shapeCast S512x128 kb shapeCasts_S1x512x128_S512x128 : FVec Ideal S512x128 .bf16) qb (constant S512x256 .f32 0x00000000#32) r j
  refine Eq.trans h ?_
  rw [constant_apply, Ideal.ofBits_zero_f32, zero_add]
  exact Finset.sum_congr rfl fun e _ => by rw [shapeCast_1ab_ab_apply]

/-- A masked score is the score where the key does not lie after the query, and −∞ elsewhere. -/
theorem masked_apply (a b : ℕ) (ha : a < 2 ^ 20) (hb : b < 2 ^ 20) (s : FVec Ideal S512x256 .f32) (r : Fin 512) (j : Fin 256) :
    masked (BitVec.ofNat 32 a) (BitVec.ofNat 32 b) s (ix2 r j) = if r.val + a ≤ j.val + b then s (ix2 r j) else ⊥ := by
  have hc : (cmpi .sle (addi (iota .tc S512x256 32 [0] iota_S512x256_d0_w32) (broadcast S512x256 (BitVec.ofNat 32 a)))
      (addi (iota .tc S512x256 32 [1] iota_S512x256_d1_w32) (broadcast S512x256 (BitVec.ofNat 32 b)))) (ix2 r j)
      = BitVec.ofBool ((BitVec.ofNat 32 r.val + BitVec.ofNat 32 a).sle (BitVec.ofNat 32 j.val + BitVec.ofNat 32 b)) := by
    show BitVec.ofBool (BitVec.sle (iota .tc S512x256 32 [0] iota_S512x256_d0_w32 (ix2 r j) + BitVec.ofNat 32 a)
      (iota .tc S512x256 32 [1] iota_S512x256_d1_w32 (ix2 r j) + BitVec.ofNat 32 b)) = _
    have h0 : iota .tc S512x256 32 [0] iota_S512x256_d0_w32 (ix2 r j) = BitVec.ofNat 32 r.val := by
      rw [WordCmp.iota_at]; simp
    have h1 : iota .tc S512x256 32 [1] iota_S512x256_d1_w32 (ix2 r j) = BitVec.ofNat 32 j.val := by
      rw [WordCmp.iota_at]; simp
    rw [h0, h1]
  have hs : masked (F := Ideal) (BitVec.ofNat 32 a) (BitVec.ofNat 32 b) s (ix2 r j)
      = if (cmpi .sle (addi (iota .tc S512x256 32 [0] iota_S512x256_d0_w32) (broadcast S512x256 (BitVec.ofNat 32 a)))
      (addi (iota .tc S512x256 32 [1] iota_S512x256_d1_w32) (broadcast S512x256 (BitVec.ofNat 32 b)))) (ix2 r j) = 1#1
        then s (ix2 r j) else Named.named κ "mask" 0xF149F2CA#32 := rfl
  have hm : (Named.named κ "mask" 0xF149F2CA#32 : Ideal .f32) = ⊥ := by simp [Named.named, κ]
  have hle : (BitVec.ofNat 32 r.val + BitVec.ofNat 32 a).sle (BitVec.ofNat 32 j.val + BitVec.ofNat 32 b)
      = decide (r.val + a ≤ j.val + b) := by
    have hr := r.isLt; have hj := j.isLt
    rw [← BitVec.ofNat_add, ← BitVec.ofNat_add, BitVec.sle_eq_decide, BitVec.toInt_ofNat', BitVec.toInt_ofNat']
    apply decide_eq_decide.2
    rw [Int.bmod_eq_of_le (by omega) (by omega), Int.bmod_eq_of_le (by omega) (by omega)]
    omega
  rw [hs, hc, hm, hle]
  by_cases h : r.val + a ≤ j.val + b <;> simp [h]

/-- Staging a block's scores and their maximum stages the block. -/
theorem staged_of_scores {σ : Fin 256 → ℕ → EReal} {n : ℕ} {s : FVec Ideal S512x256 .f32} (hs : ∀ r j, s (ix2 r j) = σ j (n + r.val)) :
    Staged σ n (staged s) (stagedMax s) := by
  refine ⟨fun r j => ?_, fun j => ?_⟩
  · unfold staged
    rw [shapeCast_ab_1ab_apply, hs]
  · unfold stagedMax
    rw [shapeCast_ab_1ab_apply, shapeCast_a_1a_apply]
    refine (Ideal.multiReduction_maximumf_single (s := S512x256) (a := 0) s _ _ _ _ (ix1 j)).trans ?_
    have hb : (FloatOps.ofBits .f32 0xFF800000#32 : Ideal .f32) = ⊥ := by simp [Ideal.ofBits, Ideal.ieee]
    rw [hb]
    show Finset.fold max ⊥ _ _ = Finset.fold max ⊥ _ _
    refine Finset.fold_congr fun r _ => ?_
    refine Eq.trans ?_ (hs r j)
    exact congrArg s (funext fun a => match a with | ⟨0, _⟩ => rfl | ⟨1, _⟩ => rfl)

/-- The rows under a block's values: the block's value for the first 64 and one for the rest. -/
theorem valueRows_apply {ones : FVec Ideal S16x512 .bf16} (ho : ∀ i, ones i = 1) (vb : Vec Ideal S1x64x512 .bf16) (d : Fin 80) (r : Fin 512) :
    valueRows ones vb (ix2 d r) = if h : d.val < 64 then vb (ix3 (0 : Fin 1) ⟨d.val, h⟩ r) else 1 := by
  unfold valueRows
  split
  · rename_i h
    refine (concatenate_pair_apply_left (t := S80x512) (s₁ := S64x512) (s₂ := S16x512) 0 _ _ _ (ix2 d r) rfl
      (ix2 (⟨d.val, h⟩ : Fin 64) r) (fun b => match b with | ⟨0, _⟩ => rfl | ⟨1, _⟩ => rfl)).trans ?_
    rw [shapeCast_1ab_ab_apply]
  · rename_i h
    have hd := d.isLt
    refine (concatenate_pair_apply_right (t := S80x512) (s₁ := S64x512) (s₂ := S16x512) 0 _ _ _ (ix2 d r) rfl rfl
      (ix2 (⟨d.val - 64, by omega⟩ : Fin 16) r) ?_ ?_).trans (ho _)
    · exact fun b hb => match b with | ⟨0, _⟩ => absurd rfl hb | ⟨1, _⟩ => rfl
    · show d.val - 64 + 64 = d.val
      omega

/-- **One block's step**: a unit that has seen the keys before `n`, given the block of 512 keys from `n` on and its values, has
    afterwards seen the keys before `n + 512`. -/
theorem Held.step {σ : Fin 256 → ℕ → EReal} {ν : Fin 80 → ℕ → EReal} {n : ℕ} {m : FVec Ideal S1x256 .f32} {acc : FVec Ideal S80x256 .f32}
    {st : FVec Ideal S1x512x256 .f32} {mx : FVec Ideal S1x1x256 .f32} {ones : FVec Ideal S16x512 .bf16} {vb : Vec Ideal S1x64x512 .bf16}
    (hσ : ∀ j t, σ j t ≠ ⊤) (hb : ∀ j, rowMax (σ j) (n + 512) ≠ ⊥)
    (hν : ∀ d r, valueRows ones vb (ix2 d r) = ν d (n + r.val)) (H : Held σ ν n m acc) (S : Staged σ n st mx) :
    Held σ ν (n + 512) (newMax m mx) (newAcc ones vb m acc st mx) := by
  have hm : ∀ j, newMax m mx (ix2 (0 : Fin 1) j) = rowMax (σ j) (n + 512) := fun j => by
    unfold newMax
    rw [maximumf_apply, shapeCast_1ab_ab_apply, H.1, S.2, rowMax_add]
  refine ⟨hm, fun d j => ?_⟩
  unfold newAcc
  rw [addf_apply, mulf_apply, broadcastTo_1b_ab_apply, H.2, ← rowSum_add (hσ j) (ν d) n 512 (hb j)]
  congr 1
  · congr 1
    show Ideal.exp2 (subf m (newMax m mx) (ix2 (0 : Fin 1) j)) = _
    rw [subf_apply, hm, H.1]; rfl
  · refine (Ideal.matmul_plain_apply (M := 80) (K := 512) (N := 256) none _ _ _ d j).trans ?_
    rw [constant_apply, Ideal.ofBits_zero_f32, zero_add]
    refine Finset.sum_congr rfl fun r _ => ?_
    rw [hν, truncf_apply]
    congr 1
    show Ideal.exp2 ((subf (F := Ideal) (φ := .f32) _ _ : FVec Ideal S512x256 .f32) (ix2 r j)) = _
    rw [subf_apply, broadcastTo_1b_ab_apply, hm, shapeCast_1ab_ab_apply, S.1]; rfl

end Cert.Attention
-- ==== Proof.Slots.lean ====
/-
  The kernel's staging buffers have eight slots, one for each unit (a head and a chunk of 256 queries). This module reads a
  slot after stores that each fill one slot.
-/
module

public import Idealize.ShloMosaic.Lib.WritesUnit
public import Idealize.ShloMosaic.Lib.Pipeline.FrameBody

@[expose] public section

namespace Cert.Attention

open Idealize.ShloMosaic

variable {sig : RefSig} {κ : Kind} {sp : Space} {e : EltTy} {Val : EltTy → Type} {a b : ℕ}

/-- Slot `u` of a buffer of eight slots, each an `a` by `b` array. -/
abbrev slot (a b : ℕ) (u : Fin 8) : Rect ⟨3, ![8, a, b]⟩ :=
  Rect.unit ![u.val, 0, 0] ![1, a, b] fun x => match x with
    | ⟨0, _⟩ => show u.val + 1 ≤ 8 by omega
    | ⟨1, _⟩ => show 0 + a ≤ a by omega
    | ⟨2, _⟩ => show 0 + b ≤ b by omega

/-- Stores into all eight slots, the last one first. -/
abbrev fills (w : Fin 8 → (⟨3, ![1, a, b]⟩ : Shape).Idx → Val e) : List (View.Piece Val ⟨3, ![8, a, b]⟩ e) :=
  [⟨slot a b 7, w 7⟩, ⟨slot a b 6, w 6⟩, ⟨slot a b 5, w 5⟩, ⟨slot a b 4, w 4⟩,
    ⟨slot a b 3, w 3⟩, ⟨slot a b 2, w 2⟩, ⟨slot a b 1, w 1⟩, ⟨slot a b 0, w 0⟩]

/-- A slot just filled reads what it was filled with. -/
theorem readAt_fill (v : View sig κ sp ⟨3, ![8, a, b]⟩ e) (f : v.ty.Contents Val) (u : Fin 8)
    (w : (⟨3, ![1, a, b]⟩ : Shape).Idx → Val e) (L : List (View.Piece Val ⟨3, ![8, a, b]⟩ e)) :
    v.readAt Val (slot a b u).toLoadRect (v.writes Val f (⟨slot a b u, w⟩ :: L)) = w := by
  funext j
  rw [View.readAt_apply]
  refine View.read_writes_cons_unit_of_mem v f _ w L _ j rfl fun x => ?_
  show (![u.val, 0, 0] : Fin 3 → ℕ) x + 1 * (j x).val = _
  rw [Nat.one_mul]

/-- Filling one slot leaves the others. -/
theorem readAt_fill_ne (v : View sig κ sp ⟨3, ![8, a, b]⟩ e) (f : v.ty.Contents Val) {u u' : Fin 8} (h : u' ≠ u)
    (w : (⟨3, ![1, a, b]⟩ : Shape).Idx → Val e) (L : List (View.Piece Val ⟨3, ![8, a, b]⟩ e)) :
    v.readAt Val (slot a b u).toLoadRect (v.writes Val f (⟨slot a b u', w⟩ :: L))
      = v.readAt Val (slot a b u).toLoadRect (v.writes Val f L) := by
  funext j
  rw [View.readAt_apply, View.readAt_apply]
  refine View.read_writes_cons_unit_of_not_mem v f _ w L _ rfl (0 : Fin 3) ?_
  have hj : (j (0 : Fin 3)).val < 1 := (j (0 : Fin 3)).isLt
  show u.val + 1 * (j (0 : Fin 3)).val < u'.val ∨ u'.val + 1 ≤ u.val + 1 * (j (0 : Fin 3)).val
  omega

/-- After all eight slots have been filled, each reads what it was filled with, whatever was stored before. -/
theorem readAt_fills (v : View sig κ sp ⟨3, ![8, a, b]⟩ e) (f : v.ty.Contents Val) (w : Fin 8 → (⟨3, ![1, a, b]⟩ : Shape).Idx → Val e)
    (L : List (View.Piece Val ⟨3, ![8, a, b]⟩ e)) (u : Fin 8) :
    v.readAt Val (slot a b u).toLoadRect (v.writes Val f (fills w ++ L)) = w u := by
  unfold fills
  simp only [List.cons_append, List.nil_append]
  fin_cases u
  all_goals
    iterate 7 (try rw [readAt_fill_ne v f (by decide)])
    exact readAt_fill v f _ _ _

variable [∀ e, Nonempty (Val e)]

/-- The same for a load stated over the stores alone. -/
theorem readCov_fills (v : View sig κ sp ⟨3, ![8, a, b]⟩ e) (w : Fin 8 → (⟨3, ![1, a, b]⟩ : Shape).Idx → Val e)
    (L : List (View.Piece Val ⟨3, ![8, a, b]⟩ e)) (u : Fin 8) :
    v.readCov (fills w ++ L) (slot a b u).toLoadRect = w u :=
  readAt_fills v v.junk w L u

/-- Stores into the slots of the third and fourth chunk of each head, the last one first. -/
abbrev halfFills (w : Fin 8 → (⟨3, ![1, a, b]⟩ : Shape).Idx → Val e) : List (View.Piece Val ⟨3, ![8, a, b]⟩ e) :=
  [⟨slot a b 7, w 7⟩, ⟨slot a b 6, w 6⟩, ⟨slot a b 3, w 3⟩, ⟨slot a b 2, w 2⟩]

/-- The slots that these stores fill read what they were filled with. -/
theorem readCov_halfFills (v : View sig κ sp ⟨3, ![8, a, b]⟩ e)
    (w : Fin 8 → (⟨3, ![1, a, b]⟩ : Shape).Idx → Val e) (L : List (View.Piece Val ⟨3, ![8, a, b]⟩ e)) (u : Fin 8)
    (hu : u = 2 ∨ u = 3 ∨ u = 6 ∨ u = 7) : v.readCov (halfFills w ++ L) (slot a b u).toLoadRect = w u := by
  unfold View.readCov halfFills
  simp only [List.cons_append, List.nil_append]
  rcases hu with rfl | rfl | rfl | rfl
  · rw [readAt_fill_ne v _ (by decide), readAt_fill_ne v _ (by decide), readAt_fill_ne v _ (by decide), readAt_fill]
  · rw [readAt_fill_ne v _ (by decide), readAt_fill_ne v _ (by decide), readAt_fill]
  · rw [readAt_fill_ne v _ (by decide), readAt_fill]
  · rw [readAt_fill]

end Cert.Attention
-- ==== Proof.Block.lean ====
/-
  The attention of one grid point as a plain program: eight units (a head of two and a chunk of 256 queries of four), each
  fed the blocks of 512 keys that its queries see, one after the other. Here are the blocks the program loads, and what a
  round over the eight units does.
-/
module

public import proofs.«01_k».proof.Proof.Unit
public import proofs.«01_k».proof.Proof.Slots

@[expose] public section

noncomputable section

namespace Cert.Attention

open Idealize.ShloMosaic Idealize.ShloMosaic.ValueIdx Cert.KernelIdeal Cert.KernelIdeal.Gen

variable {F : FTy → Type} [FloatOps F] [Named F]

/-! ## The blocks -/

/-- Block `n` of 512 keys, of head `hh`. -/
def keyBlock (x : Vec F S1x8192x256 .bf16) (n : ℕ) (hh : Fin 2) : Vec F S1x512x128 .bf16 := fun j =>
  x (ix3 0 ⟨(512 * n + (j (1 : Fin 3)).val) % 8192, Nat.mod_lt _ (by decide)⟩
    ⟨128 * hh.val + (j (2 : Fin 3)).val, by have := (j (2 : Fin 3)).isLt; have h : S1x512x128.size 2 = 128 := rfl; omega⟩)

/-- The values that go with block `n` of keys, of head `hh`, one column per key. -/
def valueBlock (x : Vec F S1x128x8192 .bf16) (n : ℕ) (hh : Fin 2) : Vec F S1x64x512 .bf16 := fun j =>
  x (ix3 0 ⟨64 * hh.val + (j (1 : Fin 3)).val, by have := (j (1 : Fin 3)).isLt; have h : S1x64x512.size 1 = 64 := rfl; omega⟩
    ⟨(512 * n + (j (2 : Fin 3)).val) % 8192, Nat.mod_lt _ (by decide)⟩)

/-- The queries of head `hh`, one column per query. -/
def headQueries (x : Vec F S1x256x1024 .bf16) (hh : Fin 2) : FVec F S128x1024 .bf16 := fun j =>
  x (ix3 0 ⟨128 * hh.val + (j (0 : Fin 2)).val, by have := (j (0 : Fin 2)).isLt; have h : S128x1024.size 0 = 128 := rfl; omega⟩
    (j (1 : Fin 2)))

/-- A load of 512 rows at a block's place is that block of keys. -/
theorem read_keyBlock {v : View sig .tc .vmem S1x8192x256 .bf16} (X : v.ty.Contents (Elt F)) {off : Fin 3 → ℕ}
    (h : ∀ a, off a + S1x512x128.size a ≤ S1x8192x256.size a) (n : ℕ) (hh : Fin 2) (ho : off = ![0, 512 * n, 128 * hh.val]) :
    v.readAt (Elt F) (Rect.unit (s := S1x8192x256) off S1x512x128.size h).toLoadRect X = keyBlock (v.read (Elt F) X) n hh := by
  subst ho
  funext j
  rw [View.readAt_apply]
  refine congrArg (v.read (Elt F) X) (funext fun x => Fin.ext ?_)
  have h1 : 512 * n + 512 ≤ 8192 := h 1
  match x with
  | ⟨0, _⟩ =>
    have hj : (j (0 : Fin 3)).val < 1 := (j (0 : Fin 3)).isLt
    show 0 + 1 * (j (0 : Fin 3)).val = 0
    omega
  | ⟨1, _⟩ =>
    have hj : (j (1 : Fin 3)).val < 512 := (j (1 : Fin 3)).isLt
    show 512 * n + 1 * (j (1 : Fin 3)).val = (512 * n + (j (1 : Fin 3)).val) % 8192
    omega
  | ⟨2, _⟩ => show 128 * hh.val + 1 * (j (2 : Fin 3)).val = 128 * hh.val + (j (2 : Fin 3)).val; omega

/-- A load of 512 columns at a block's place is that block of values. -/
theorem read_valueBlock {v : View sig .tc .vmem S1x128x8192 .bf16} (X : v.ty.Contents (Elt F)) {off : Fin 3 → ℕ}
    (h : ∀ a, off a + S1x64x512.size a ≤ S1x128x8192.size a) (n : ℕ) (hh : Fin 2) (ho : off = ![0, 64 * hh.val, 512 * n]) :
    v.readAt (Elt F) (Rect.unit (s := S1x128x8192) off S1x64x512.size h).toLoadRect X = valueBlock (v.read (Elt F) X) n hh := by
  subst ho
  funext j
  rw [View.readAt_apply]
  refine congrArg (v.read (Elt F) X) (funext fun x => Fin.ext ?_)
  have h1 : 512 * n + 512 ≤ 8192 := h 2
  match x with
  | ⟨0, _⟩ =>
    have hj : (j (0 : Fin 3)).val < 1 := (j (0 : Fin 3)).isLt
    show 0 + 1 * (j (0 : Fin 3)).val = 0
    omega
  | ⟨1, _⟩ => show 64 * hh.val + 1 * (j (1 : Fin 3)).val = 64 * hh.val + (j (1 : Fin 3)).val; omega
  | ⟨2, _⟩ =>
    have hj : (j (2 : Fin 3)).val < 512 := (j (2 : Fin 3)).isLt
    show 512 * n + 1 * (j (2 : Fin 3)).val = (512 * n + (j (2 : Fin 3)).val) % 8192
    omega

/-! ## The units -/

/-- The head of a unit. -/
def headOf : Fin 8 → Fin 2
  | 0 => 0 | 1 => 0 | 2 => 0 | 3 => 0 | 4 => 1 | 5 => 1 | 6 => 1 | 7 => 1

/-- The 256 queries of a unit, cut from its head's queries. -/
def unitQueries (q : Fin 2 → FVec F S128x1024 .bf16) : Fin 8 → FVec F S128x256 .bf16
  | 0 => extractStridedSlice S128x256 ![0, 0] (q 0) slices_S128x1024_o0_0_S128x256
  | 1 => extractStridedSlice S128x256 ![0, 256] (q 0) slices_S128x1024_o0_256_S128x256
  | 2 => extractStridedSlice S128x256 ![0, 512] (q 0) slices_S128x1024_o0_512_S128x256
  | 3 => extractStridedSlice S128x256 ![0, 768] (q 0) slices_S128x1024_o0_768_S128x256
  | 4 => extractStridedSlice S128x256 ![0, 0] (q 1) slices_S128x1024_o0_0_S128x256
  | 5 => extractStridedSlice S128x256 ![0, 256] (q 1) slices_S128x1024_o0_256_S128x256
  | 6 => extractStridedSlice S128x256 ![0, 512] (q 1) slices_S128x1024_o0_512_S128x256
  | 7 => extractStridedSlice S128x256 ![0, 768] (q 1) slices_S128x1024_o0_768_S128x256

/-- What a unit carries: its running maximum and its running weighted sum. -/
abbrev Carried (F : FTy → Type) := FVec F S1x256 .f32 × FVec F S80x256 .f32

/-- The scores of a block of keys, for a unit. -/
def unitScores (q : Fin 2 → FVec F S128x1024 .bf16) (kb : Fin 2 → Vec F S1x512x128 .bf16) (u : Fin 8) : FVec F S512x256 .f32 :=
  scores (kb (headOf u)) (unitQueries q u)

/-- A unit after a block whose scores and maximum have been staged. -/
def feed (ones : FVec F S16x512 .bf16) (vb : Fin 2 → Vec F S1x64x512 .bf16) (st : Fin 8 → FVec F S1x512x256 .f32)
    (mx : Fin 8 → FVec F S1x1x256 .f32) (s : Fin 8 → Carried F) (u : Fin 8) : Carried F :=
  (newMax (s u).1 (mx u), newAcc ones (vb (headOf u)) (s u).1 (s u).2 (st u) (mx u))

/-- A unit after a block of scores. -/
def absorb (ones : FVec F S16x512 .bf16) (vb : Fin 2 → Vec F S1x64x512 .bf16) (σ : Fin 8 → FVec F S512x256 .f32)
    (s : Fin 8 → Carried F) : Fin 8 → Carried F :=
  feed ones vb (fun u => staged (σ u)) (fun u => stagedMax (σ u)) s

/-- What the eight units carry, as the loop holds it. -/
abbrev Tuple (F : FTy → Type) :=
  FVec F S1x256 .f32 × FVec F S80x256 .f32 × FVec F S1x256 .f32 × FVec F S80x256 .f32 × FVec F S1x256 .f32 × FVec F S80x256 .f32 ×
  FVec F S1x256 .f32 × FVec F S80x256 .f32 × FVec F S1x256 .f32 × FVec F S80x256 .f32 × FVec F S1x256 .f32 × FVec F S80x256 .f32 ×
  FVec F S1x256 .f32 × FVec F S80x256 .f32 × FVec F S1x256 .f32 × FVec F S80x256 .f32

/-- The eight units of the loop's tuple. -/
def ofTuple (t : Tuple F) : Fin 8 → Carried F
  | 0 => (t.1, t.2.1)
  | 1 => (t.2.2.1, t.2.2.2.1)
  | 2 => (t.2.2.2.2.1, t.2.2.2.2.2.1)
  | 3 => (t.2.2.2.2.2.2.1, t.2.2.2.2.2.2.2.1)
  | 4 => (t.2.2.2.2.2.2.2.2.1, t.2.2.2.2.2.2.2.2.2.1)
  | 5 => (t.2.2.2.2.2.2.2.2.2.2.1, t.2.2.2.2.2.2.2.2.2.2.2.1)
  | 6 => (t.2.2.2.2.2.2.2.2.2.2.2.2.1, t.2.2.2.2.2.2.2.2.2.2.2.2.2.1)
  | 7 => (t.2.2.2.2.2.2.2.2.2.2.2.2.2.2.1, t.2.2.2.2.2.2.2.2.2.2.2.2.2.2.2)

/-- The loop's tuple of eight units. -/
def toTuple (s : Fin 8 → Carried F) : Tuple F :=
  ((s 0).1, (s 0).2, (s 1).1, (s 1).2, (s 2).1, (s 2).2, (s 3).1, (s 3).2,
    (s 4).1, (s 4).2, (s 5).1, (s 5).2, (s 6).1, (s 6).2, (s 7).1, (s 7).2)

theorem ofTuple_toTuple (s : Fin 8 → Carried F) : ofTuple (toTuple s) = s := by
  funext u
  fin_cases u <;> rfl

end Cert.Attention
-- ==== Proof.Trip.lean ====
/-
  One trip of the kernel's loop over pairs of key blocks, as a round over the eight units.

  Trip `k` finds block `2 k` staged (its scores in one buffer, its maxima in another). It stages block `2 k + 1` and feeds
  block `2 k` to the units, then stages block `2 k + 2` and feeds block `2 k + 1`.
-/
module

public import proofs.«01_k».proof.Proof.Gen.KernelIdeal.Loops
public import proofs.«01_k».proof.Proof.Block

@[expose] public section

set_option maxRecDepth 8192

noncomputable section

namespace Cert.Attention

open Idealize.ShloMosaic Idealize.ShloMosaic.ValueIdx Cert.KernelIdeal Cert.KernelIdeal.Gen

variable {F : FTy → Type} [FloatOps F] [Named F]

/-! ## Where a trip loads -/

theorem off3_eq (i : grid0.Coords) (k : Fin (k0_t1_loop i).trips) (r : Fin 2) :
    k0_off3 i k (BitVec.ofNat 32 (1 + r.val)) = ![0, 512 * (2 * k.val + 1 + r.val), 128 * (0 : Fin 2).val] := by
  revert i k r; decide +kernel

theorem off5_eq (i : grid0.Coords) (k : Fin (k0_t1_loop i).trips) (r : Fin 2) :
    k0_off5 i k (BitVec.ofNat 32 (1 + r.val)) = ![0, 512 * (2 * k.val + 1 + r.val), 128 * (1 : Fin 2).val] := by
  revert i k r; decide +kernel

theorem off4_eq (i : grid0.Coords) (k : Fin (k0_t1_loop i).trips) :
    k0_off4 i k = ![0, 64 * (0 : Fin 2).val, 512 * (2 * k.val)] := by
  revert i k; decide +kernel

theorem off6_eq (i : grid0.Coords) (k : Fin (k0_t1_loop i).trips) :
    k0_off6 i k = ![0, 64 * (1 : Fin 2).val, 512 * (2 * k.val)] := by
  revert i k; decide +kernel

theorem off7_eq (i : grid0.Coords) (k : Fin (k0_t1_loop i).trips) :
    k0_off7 i k = ![0, 64 * (0 : Fin 2).val, 512 * (2 * k.val + 1)] := by
  revert i k; decide +kernel

theorem off8_eq (i : grid0.Coords) (k : Fin (k0_t1_loop i).trips) :
    k0_off8 i k = ![0, 64 * (1 : Fin 2).val, 512 * (2 * k.val + 1)] := by
  revert i k; decide +kernel

/-- Two blocks, one for each head. -/
def pair {α : Type} (a b : α) : Fin 2 → α
  | 0 => a | 1 => b

theorem pair_eq {α : Type} {a b : α} {f : Fin 2 → α} (ha : a = f 0) (hb : b = f 1) : pair a b = f := by
  funext x; fin_cases x
  · exact ha
  · exact hb

/-! ## The trip -/

section

variable (𝒱 : Variants) (c : Dev nD) (bd : Option 𝒱.V) (i : grid0.Coords) (arg3 : Memref sig .tc .vmem S1x256x1024 .bf16) (harg3 : arg3.IsWhole)
  (arg4 : Memref sig .tc .vmem S1x8192x256 .bf16) (harg4 : arg4.IsWhole) (arg5 : Memref sig .tc .vmem S1x128x8192 .bf16) (harg5 : arg5.IsWhole)
  (arg6 : Memref sig .tc .vmem S1x1024x128 .bf16) (harg6 : arg6.IsWhole) (arg7 : Memref sig .tc .vmem S8x512x256 .f32) (harg7 : arg7.IsWhole)
  (arg8 : Memref sig .tc .vmem S8x512x256 .f32) (harg8 : arg8.IsWhole) (arg9 : Memref sig .tc .vmem S8x1x256 .f32) (harg9 : arg9.IsWhole)
  (arg10 : Memref sig .tc .vmem S8x1x256 .f32) (harg10 : arg10.IsWhole) (arg2 : BitVec 32) (v1 v3 : FVec F S128x1024 .bf16)
  (v6 : FVec F S16x512 .bf16) (v7 : FVec F S1x256 .f32) (v8 : FVec F S80x256 .f32) (k0_h2 : k0_cond2 i = 1#1) (v104 : FVec F S512x256 .f32)
  (X4 : BufTy.Contents (Elt F) arg4.view.ty) (X5 : BufTy.Contents (Elt F) arg5.view.ty) (k : Fin (k0_t1_loop i).trips) (acc : Tuple F)
  (f7 : BufTy.Contents (Elt F) arg7.view.ty) (f8 : BufTy.Contents (Elt F) arg8.view.ty) (f9 : BufTy.Contents (Elt F) arg9.view.ty)
  (f10 : BufTy.Contents (Elt F) arg10.view.ty)

/-- The keys of block `2 k + 1 + r`, as a trip loads them. -/
private def tripKeys (r : Fin 2) : Fin 2 → Vec F S1x512x128 .bf16 :=
  pair (arg4.view.readAt (Elt F) (Rect.unit (s := S1x8192x256) (k0_off3 i k (BitVec.ofNat 32 (1 + r.val))) S1x512x128.size
      (k0_off3_inb i k k0_h2 r)).toLoadRect X4)
    (arg4.view.readAt (Elt F) (Rect.unit (s := S1x8192x256) (k0_off5 i k (BitVec.ofNat 32 (1 + r.val))) S1x512x128.size
      (k0_off5_inb i k k0_h2 r)).toLoadRect X4)

private theorem tripKeys_eq (r : Fin 2) :
    tripKeys i arg4 k0_h2 X4 k r = keyBlock (arg4.view.read (Elt F) X4) (2 * k.val + 1 + r.val) :=
  pair_eq (read_keyBlock X4 _ _ 0 (off3_eq i k r)) (read_keyBlock X4 _ _ 1 (off5_eq i k r))

/-- What a trip stages in the first buffer is block `2 k + 2`. -/
theorem trip_scores :
    (tripL_k0_t1 (F := F) 𝒱 c bd i arg3 harg3 arg4 harg4 arg5 harg5 arg6 harg6 arg7 harg7 arg8 harg8 arg9 harg9 arg10 harg10 arg2 v1 v3
        v6 v7 v8 k0_h2 v104 X4 X5 k acc f7 f8 f9 f10).1
      = fills fun u => staged (unitScores (pair v1 v3) (keyBlock (arg4.view.read (Elt F) X4) (2 * k.val + 2)) u) := by
  rw [show keyBlock (arg4.view.read (Elt F) X4) (2 * k.val + 2) = tripKeys i arg4 k0_h2 X4 k 1 from (tripKeys_eq i arg4 k0_h2 X4 k 1).symm]
  unfold tripL_k0_t1 trip_k0_t1
  rfl

/-- Its maxima are those of block `2 k + 2`. -/
theorem trip_max :
    (tripL_k0_t1 (F := F) 𝒱 c bd i arg3 harg3 arg4 harg4 arg5 harg5 arg6 harg6 arg7 harg7 arg8 harg8 arg9 harg9 arg10 harg10 arg2 v1 v3
        v6 v7 v8 k0_h2 v104 X4 X5 k acc f7 f8 f9 f10).2.2.1
      = fills fun u => stagedMax (unitScores (pair v1 v3) (keyBlock (arg4.view.read (Elt F) X4) (2 * k.val + 2)) u) := by
  rw [show keyBlock (arg4.view.read (Elt F) X4) (2 * k.val + 2) = tripKeys i arg4 k0_h2 X4 k 1 from (tripKeys_eq i arg4 k0_h2 X4 k 1).symm]
  unfold tripL_k0_t1 trip_k0_t1
  rfl

/-- A trip feeds the units the block it finds staged, which is block `2 k`, and then block `2 k + 1`. -/
theorem trip_units :
    tripR_k0_t1 (F := F) 𝒱 c bd i arg3 harg3 arg4 harg4 arg5 harg5 arg6 harg6 arg7 harg7 arg8 harg8 arg9 harg9 arg10 harg10 arg2 v1 v3
        v6 v7 v8 k0_h2 v104 X4 X5 k acc f7 f8 f9 f10
      = toTuple (absorb v6 (valueBlock (arg5.view.read (Elt F) X5) (2 * k.val + 1))
          (unitScores (pair v1 v3) (keyBlock (arg4.view.read (Elt F) X4) (2 * k.val + 1)))
          (feed v6 (valueBlock (arg5.view.read (Elt F) X5) (2 * k.val))
            (fun u => arg7.view.readAt (Elt F) (slot 512 256 u).toLoadRect f7)
            (fun u => arg9.view.readAt (Elt F) (slot 1 256 u).toLoadRect f9) (ofTuple acc))) := by
  rw [← pair_eq (read_valueBlock X5 (k0_off4_inb i k k0_h2) _ 0 (off4_eq i k)) (read_valueBlock X5 (k0_off6_inb i k k0_h2) _ 1 (off6_eq i k)),
    ← pair_eq (read_valueBlock X5 (k0_off7_inb i k k0_h2) _ 0 (off7_eq i k)) (read_valueBlock X5 (k0_off8_inb i k k0_h2) _ 1 (off8_eq i k)),
    show keyBlock (arg4.view.read (Elt F) X4) (2 * k.val + 1) = tripKeys i arg4 k0_h2 X4 k 0 from (tripKeys_eq i arg4 k0_h2 X4 k 0).symm]
  have hst : (fun u => staged (unitScores (pair v1 v3) (tripKeys i arg4 k0_h2 X4 k 0) u))
      = fun u => arg8.view.readCov (Val := Elt F) (fills fun u => staged (unitScores (pair v1 v3) (tripKeys i arg4 k0_h2 X4 k 0) u)) (slot 512 256 u).toLoadRect := by
    funext u
    exact (readCov_fills (Val := Elt F) arg8.view (fun u => staged (unitScores (pair v1 v3) (tripKeys i arg4 k0_h2 X4 k 0) u)) [] u).symm
  have hmx : (fun u => stagedMax (unitScores (pair v1 v3) (tripKeys i arg4 k0_h2 X4 k 0) u))
      = fun u => arg10.view.readCov (Val := Elt F) (fills fun u => stagedMax (unitScores (pair v1 v3) (tripKeys i arg4 k0_h2 X4 k 0) u)) (slot 1 256 u).toLoadRect := by
    funext u
    exact (readCov_fills (Val := Elt F) arg10.view (fun u => stagedMax (unitScores (pair v1 v3) (tripKeys i arg4 k0_h2 X4 k 0) u)) [] u).symm
  unfold absorb
  rw [hst, hmx]
  unfold tripR_k0_t1 trip_k0_t1
  rfl

end

end Cert.Attention
-- ==== Proof.Loop.lean ====
/-
  The kernel's loop over pairs of key blocks: after `k` trips the units have seen the blocks before `2 k`, and block `2 k`
  lies staged.
-/
module

public import proofs.«01_k».proof.Proof.Trip

@[expose] public section

set_option maxRecDepth 8192

noncomputable section

namespace Cert.Attention

open Idealize.ShloMosaic Idealize.ShloMosaic.ValueIdx Cert.KernelIdeal Cert.KernelIdeal.Gen

variable {F : FTy → Type} [FloatOps F] [Named F]

/-- The units once each has seen the first `n` blocks of keys. -/
def seen (q : Fin 2 → FVec F S128x1024 .bf16) (x1 : Vec F S1x8192x256 .bf16) (x2 : Vec F S1x128x8192 .bf16) : ℕ → Fin 8 → Carried F
  | 0 => fun _ => (k0_pay4, k0_pay5)
  | n + 1 => absorb k0_pay3 (valueBlock x2 n) (unitScores q (keyBlock x1 n)) (seen q x1 x2 n)

variable (𝒱 : Variants) (c : Dev nD) (bd : Option 𝒱.V) (i : grid0.Coords) (arg3 : Memref sig .tc .vmem S1x256x1024 .bf16) (harg3 : arg3.IsWhole)
  (arg4 : Memref sig .tc .vmem S1x8192x256 .bf16) (harg4 : arg4.IsWhole) (arg5 : Memref sig .tc .vmem S1x128x8192 .bf16) (harg5 : arg5.IsWhole)
  (arg6 : Memref sig .tc .vmem S1x1024x128 .bf16) (harg6 : arg6.IsWhole) (arg7 : Memref sig .tc .vmem S8x512x256 .f32) (harg7 : arg7.IsWhole)
  (arg8 : Memref sig .tc .vmem S8x512x256 .f32) (harg8 : arg8.IsWhole) (arg9 : Memref sig .tc .vmem S8x1x256 .f32) (harg9 : arg9.IsWhole)
  (arg10 : Memref sig .tc .vmem S8x1x256 .f32) (harg10 : arg10.IsWhole) (arg2 : BitVec 32) (v1 v3 : FVec F S128x1024 .bf16)
  (v7 : FVec F S1x256 .f32) (v8 : FVec F S80x256 .f32) (k0_h2 : k0_cond2 i = 1#1) (v104 : FVec F S512x256 .f32)
  (X4 : BufTy.Contents (Elt F) arg4.view.ty) (X5 : BufTy.Contents (Elt F) arg5.view.ty)
  (G7 : BufTy.Contents (Elt F) arg7.view.ty) (G8 : BufTy.Contents (Elt F) arg8.view.ty) (G9 : BufTy.Contents (Elt F) arg9.view.ty)
  (G10 : BufTy.Contents (Elt F) arg10.view.ty)

/-- After `k` trips the units have seen the first `2 k` blocks, and the two staging buffers hold block `2 k`. -/
theorem loop_state
    (h7 : ∀ u, arg7.view.readAt (Elt F) (slot 512 256 u).toLoadRect G7
      = staged (unitScores (pair v1 v3) (keyBlock (arg4.view.read (Elt F) X4) 0) u))
    (h9 : ∀ u, arg9.view.readAt (Elt F) (slot 1 256 u).toLoadRect G9
      = stagedMax (unitScores (pair v1 v3) (keyBlock (arg4.view.read (Elt F) X4) 0) u))
    (k : ℕ) (hk : k ≤ (k0_t1_loop i).trips) :
    (st_k0_t1 (F := F) 𝒱 c bd i arg3 harg3 arg4 harg4 arg5 harg5 arg6 harg6 arg7 harg7 arg8 harg8 arg9 harg9 arg10 harg10 arg2 v1 v3
        k0_pay3 v7 v8 k0_h2 v104 X4 X5 G7 G8 G9 G10 (toTuple fun _ => (k0_pay4, k0_pay5)) k).1
      = toTuple (seen (pair v1 v3) (arg4.view.read (Elt F) X4) (arg5.view.read (Elt F) X5) (2 * k)) ∧
    (∀ u, arg7.view.readAt (Elt F) (slot 512 256 u).toLoadRect (arg7.view.writes (Elt F) G7
        (st_k0_t1 (F := F) 𝒱 c bd i arg3 harg3 arg4 harg4 arg5 harg5 arg6 harg6 arg7 harg7 arg8 harg8 arg9 harg9 arg10 harg10 arg2 v1 v3
          k0_pay3 v7 v8 k0_h2 v104 X4 X5 G7 G8 G9 G10 (toTuple fun _ => (k0_pay4, k0_pay5)) k).2.1)
      = staged (unitScores (pair v1 v3) (keyBlock (arg4.view.read (Elt F) X4) (2 * k)) u)) ∧
    (∀ u, arg9.view.readAt (Elt F) (slot 1 256 u).toLoadRect (arg9.view.writes (Elt F) G9
        (st_k0_t1 (F := F) 𝒱 c bd i arg3 harg3 arg4 harg4 arg5 harg5 arg6 harg6 arg7 harg7 arg8 harg8 arg9 harg9 arg10 harg10 arg2 v1 v3
          k0_pay3 v7 v8 k0_h2 v104 X4 X5 G7 G8 G9 G10 (toTuple fun _ => (k0_pay4, k0_pay5)) k).2.2.2.1)
      = stagedMax (unitScores (pair v1 v3) (keyBlock (arg4.view.read (Elt F) X4) (2 * k)) u)) := by
  induction k with
  | zero => exact ⟨rfl, h7, h9⟩
  | succ k ih =>
    obtain ⟨hs, ih7, ih9⟩ := ih (Nat.le_of_succ_le hk)
    have hst := st_k0_t1_succ (F := F) 𝒱 c bd i arg3 harg3 arg4 harg4 arg5 harg5 arg6 harg6 arg7 harg7 arg8 harg8 arg9 harg9 arg10 harg10
      arg2 v1 v3 k0_pay3 v7 v8 k0_h2 v104 X4 X5 G7 G8 G9 G10 (toTuple fun _ => (k0_pay4, k0_pay5)) ⟨k, hk⟩
    rw [show k + 1 = (⟨k, hk⟩ : Fin (k0_t1_loop i).trips).val + 1 from rfl, hst]
    refine ⟨?_, fun u => ?_, fun u => ?_⟩
    · show tripR_k0_t1 (F := F) 𝒱 c bd i arg3 harg3 arg4 harg4 arg5 harg5 arg6 harg6 arg7 harg7 arg8 harg8 arg9 harg9 arg10 harg10 arg2 v1 v3
        k0_pay3 v7 v8 k0_h2 v104 X4 X5 ⟨k, hk⟩ _ _ _ _ _ = _
      rw [trip_units, funext ih7, funext ih9, hs, ofTuple_toTuple]
      rfl
    · show arg7.view.readAt (Elt F) (slot 512 256 u).toLoadRect (arg7.view.writes (Elt F) G7
        ((tripL_k0_t1 (F := F) 𝒱 c bd i arg3 harg3 arg4 harg4 arg5 harg5 arg6 harg6 arg7 harg7 arg8 harg8 arg9 harg9 arg10 harg10 arg2 v1 v3
        k0_pay3 v7 v8 k0_h2 v104 X4 X5 ⟨k, hk⟩ _ _ _ _ _).1 ++ _)) = _
      rw [trip_scores]
      exact readAt_fills (Val := Elt F) arg7.view G7
        (fun u => staged (unitScores (pair v1 v3) (keyBlock (arg4.view.read (Elt F) X4) (2 * k + 2)) u)) _ u
    · show arg9.view.readAt (Elt F) (slot 1 256 u).toLoadRect (arg9.view.writes (Elt F) G9
        ((tripL_k0_t1 (F := F) 𝒱 c bd i arg3 harg3 arg4 harg4 arg5 harg5 arg6 harg6 arg7 harg7 arg8 harg8 arg9 harg9 arg10 harg10 arg2 v1 v3
        k0_pay3 v7 v8 k0_h2 v104 X4 X5 ⟨k, hk⟩ _ _ _ _ _).2.2.1 ++ _)) = _
      rw [trip_max]
      exact readAt_fills (Val := Elt F) arg9.view G9
        (fun u => stagedMax (unitScores (pair v1 v3) (keyBlock (arg4.view.read (Elt F) X4) (2 * k + 2)) u)) _ u

end Cert.Attention
-- ==== Proof.Program.lean ====
/-
  The block of the result that one grid point computes, as a plain program.

  Query tile `qi` holds 1024 queries, from `1024 qi` on. Its eight units first see the `2 qi` blocks of keys that lie before
  the tile. Block `2 qi` crosses the diagonal of the first two chunks, where it is masked, and lies before the other two.
  Block `2 qi + 1` crosses the diagonal of the last two chunks and is not shown to the first two.
-/
module

public import proofs.«01_k».proof.Proof.Loop

@[expose] public section

noncomputable section

namespace Cert.Attention

open Idealize.ShloMosaic Idealize.ShloMosaic.ValueIdx Cert.KernelIdeal Cert.KernelIdeal.Gen

variable {F : FTy → Type} [FloatOps F] [Named F]

/-- The scores of the first of the two blocks of keys at a tile's own place, masked for the first two chunks of each head. -/
def firstScores (q : Fin 2 → FVec F S128x1024 .bf16) (kb : Fin 2 → Vec F S1x512x128 .bf16) : Fin 8 → FVec F S512x256 .f32
  | 0 => masked 0#32 0#32 (unitScores q kb 0)
  | 1 => masked 0#32 256#32 (unitScores q kb 1)
  | 2 => unitScores q kb 2
  | 3 => unitScores q kb 3
  | 4 => masked 0#32 0#32 (unitScores q kb 4)
  | 5 => masked 0#32 256#32 (unitScores q kb 5)
  | 6 => unitScores q kb 6
  | 7 => unitScores q kb 7

/-- The scores of the second of the two blocks, masked. Only the last two chunks of each head use them. -/
def secondScores (q : Fin 2 → FVec F S128x1024 .bf16) (kb : Fin 2 → Vec F S1x512x128 .bf16) : Fin 8 → FVec F S512x256 .f32
  | 0 => unitScores q kb 0
  | 1 => unitScores q kb 1
  | 2 => masked 512#32 512#32 (unitScores q kb 2)
  | 3 => masked 512#32 768#32 (unitScores q kb 3)
  | 4 => unitScores q kb 4
  | 5 => unitScores q kb 5
  | 6 => masked 512#32 512#32 (unitScores q kb 6)
  | 7 => masked 512#32 768#32 (unitScores q kb 7)

/-- The units after the second block: the first two chunks of each head stay as they are. -/
def finish (ones : FVec F S16x512 .bf16) (vb : Fin 2 → Vec F S1x64x512 .bf16) (st : Fin 8 → FVec F S1x512x256 .f32)
    (mx : Fin 8 → FVec F S1x1x256 .f32) (s : Fin 8 → Carried F) : Fin 8 → Carried F
  | 0 => s 0
  | 1 => s 1
  | 2 => feed ones vb st mx s 2
  | 3 => feed ones vb st mx s 3
  | 4 => s 4
  | 5 => s 5
  | 6 => feed ones vb st mx s 6
  | 7 => feed ones vb st mx s 7

/-- The last step reads the staged block for the last two chunks of each head only. -/
theorem finish_congr (ones : FVec F S16x512 .bf16) (vb : Fin 2 → Vec F S1x64x512 .bf16) {st st' : Fin 8 → FVec F S1x512x256 .f32}
    {mx mx' : Fin 8 → FVec F S1x1x256 .f32} (s : Fin 8 → Carried F)
    (hst : ∀ u, u = 2 ∨ u = 3 ∨ u = 6 ∨ u = 7 → st u = st' u) (hmx : ∀ u, u = 2 ∨ u = 3 ∨ u = 6 ∨ u = 7 → mx u = mx' u) :
    finish ones vb st mx s = finish ones vb st' mx' s := by
  have h : ∀ u, u = 2 ∨ u = 3 ∨ u = 6 ∨ u = 7 → feed ones vb st mx s u = feed ones vb st' mx' s u := fun u hu => by
    unfold feed; rw [hst u hu, hmx u hu]
  funext u
  fin_cases u
  · rfl
  · rfl
  · exact h 2 (by decide)
  · exact h 3 (by decide)
  · rfl
  · rfl
  · exact h 6 (by decide)
  · exact h 7 (by decide)

section

variable {κ₇ κ₈ κ₉ κ₁₀ : Kind} {p₇ p₈ p₉ p₁₀ : Space}

/-- The units after a block, when the block's scores and maxima are read back from the buffers that they were staged in. -/
theorem absorb_staged (v₇ : View sig κ₇ p₇ S8x512x256 .f32) (v₉ : View sig κ₉ p₉ S8x1x256 .f32) (L₇ : List (View.Piece (Elt F) S8x512x256 .f32))
    (L₉ : List (View.Piece (Elt F) S8x1x256 .f32)) (ones : FVec F S16x512 .bf16) (vb : Fin 2 → Vec F S1x64x512 .bf16)
    (σ : Fin 8 → FVec F S512x256 .f32) (s : Fin 8 → Carried F) :
    absorb ones vb σ s = feed ones vb
      (fun u => v₇.readCov (Val := Elt F) (fills (fun u => staged (σ u)) ++ L₇) (slot 512 256 u).toLoadRect)
      (fun u => v₉.readCov (Val := Elt F) (fills (fun u => stagedMax (σ u)) ++ L₉) (slot 1 256 u).toLoadRect) s := by
  have h₇ : (fun u => staged (σ u)) = fun u => v₇.readCov (Val := Elt F) (fills (fun u => staged (σ u)) ++ L₇) (slot 512 256 u).toLoadRect :=
    funext fun u => (readCov_fills (Val := Elt F) v₇ (fun u => staged (σ u)) L₇ u).symm
  have h₉ : (fun u => stagedMax (σ u)) = fun u => v₉.readCov (Val := Elt F) (fills (fun u => stagedMax (σ u)) ++ L₉) (slot 1 256 u).toLoadRect :=
    funext fun u => (readCov_fills (Val := Elt F) v₉ (fun u => stagedMax (σ u)) L₉ u).symm
  unfold absorb
  exact congrArg₂ (fun a b => feed ones vb a b s) h₇ h₉

/-- The same for the last block, of which only four slots are filled. -/
theorem finish_staged (v₈ : View sig κ₈ p₈ S8x512x256 .f32) (v₁₀ : View sig κ₁₀ p₁₀ S8x1x256 .f32) (L₈ : List (View.Piece (Elt F) S8x512x256 .f32))
    (L₁₀ : List (View.Piece (Elt F) S8x1x256 .f32)) (ones : FVec F S16x512 .bf16) (vb : Fin 2 → Vec F S1x64x512 .bf16)
    (σ : Fin 8 → FVec F S512x256 .f32) (s : Fin 8 → Carried F) :
    finish ones vb (fun u => staged (σ u)) (fun u => stagedMax (σ u)) s = finish ones vb
      (fun u => v₈.readCov (Val := Elt F) (halfFills (fun u => staged (σ u)) ++ L₈) (slot 512 256 u).toLoadRect)
      (fun u => v₁₀.readCov (Val := Elt F) (halfFills (fun u => stagedMax (σ u)) ++ L₁₀) (slot 1 256 u).toLoadRect) s :=
  finish_congr ones vb s (fun u hu => (readCov_halfFills (Val := Elt F) v₈ (fun u => staged (σ u)) L₈ u hu).symm)
    (fun u hu => (readCov_halfFills (Val := Elt F) v₁₀ (fun u => stagedMax (σ u)) L₁₀ u hu).symm)

end

/-- A unit's result: its weighted sums of the values over its sum of the weights. -/
def quotient (acc : FVec F S80x256 .f32) : FVec F S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

/-- Eight arrays, one per unit. -/
def octet {α : Type} (a₀ a₁ a₂ a₃ a₄ a₅ a₆ a₇ : α) : Fin 8 → α
  | 0 => a₀ | 1 => a₁ | 2 => a₂ | 3 => a₃ | 4 => a₄ | 5 => a₅ | 6 => a₆ | 7 => a₇

theorem octet_eq {α : Type} {a₀ a₁ a₂ a₃ a₄ a₅ a₆ a₇ : α} {f : Fin 8 → α} (h₀ : a₀ = f 0) (h₁ : a₁ = f 1) (h₂ : a₂ = f 2) (h₃ : a₃ = f 3)
    (h₄ : a₄ = f 4) (h₅ : a₅ = f 5) (h₆ : a₆ = f 6) (h₇ : a₇ = f 7) : octet a₀ a₁ a₂ a₃ a₄ a₅ a₆ a₇ = f := by
  subst h₀ h₁ h₂ h₃ h₄ h₅ h₆ h₇
  funext u
  fin_cases u <;> rfl

/-- The eight results side by side: the chunks of a head along the queries, the two heads along the columns. -/
def joined (o : Fin 8 → FVec F S64x256 .f32) : FVec F S1x1024x128 .bf16 :=
  shapeCast S1x1024x128 (truncf .bf16 (transpose S1024x128 [1, 0] (concatenate S128x1024 0
    [⟨S64x1024, concatenate S64x1024 1 [⟨S64x256, o 0⟩, ⟨S64x256, o 1⟩, ⟨S64x256, o 2⟩, ⟨S64x256, o 3⟩]
      concatenates_S64x256_S64x256_S64x256_S64x256_S64x1024_d1⟩,
     ⟨S64x1024, concatenate S64x1024 1 [⟨S64x256, o 4⟩, ⟨S64x256, o 5⟩, ⟨S64x256, o 6⟩, ⟨S64x256, o 7⟩]
      concatenates_S64x256_S64x256_S64x256_S64x256_S64x1024_d1⟩]
    concatenates_S64x1024_S64x1024_S128x1024_d0) transposes_S128x1024_p1_0_S1024x128) bitsLt_bf16_f32)
    shapeCasts_S1024x128_S1x1024x128

/-- The units at the end, after query tile `qi`'s last block. -/
def ended (qi : ℕ) (q : Fin 2 → FVec F S128x1024 .bf16) (x1 : Vec F S1x8192x256 .bf16) (x2 : Vec F S1x128x8192 .bf16) : Fin 8 → Carried F :=
  finish k0_pay3 (valueBlock x2 (2 * qi + 1)) (fun u => staged (secondScores q (keyBlock x1 (2 * qi + 1)) u))
    (fun u => stagedMax (secondScores q (keyBlock x1 (2 * qi + 1)) u))
    (absorb k0_pay3 (valueBlock x2 (2 * qi)) (firstScores q (keyBlock x1 (2 * qi))) (seen q x1 x2 (2 * qi)))

/-- The block of the result at query tile `qi`. -/
def blockOut (qi : ℕ) (x0 : Vec F S1x256x1024 .bf16) (x1 : Vec F S1x8192x256 .bf16) (x2 : Vec F S1x128x8192 .bf16) : Vec F S1x1024x128 .bf16 :=
  joined fun u => quotient (ended qi (headQueries x0) x1 x2 u).2

/-- Two arrays of rank two are equal when they agree at every row and column. -/
theorem ext2 {α : Type} {a b : ℕ} {f g : (⟨2, ![a, b]⟩ : Shape).Idx → α} (h : ∀ r s, f (ix2 r s) = g (ix2 r s)) : f = g :=
  funext fun j => by rw [eq_ix2 j]; exact h _ _

/-- The two loads of queries are the two heads' queries. -/
theorem read_queries {v : View sig .tc .vmem S1x256x1024 .bf16} (X : v.ty.Contents (Elt F)) :
    pair (k0_pay1 (v.readAt (Elt F) (Rect.unit (s := S1x256x1024) ![0, 0, 0] ![1, 128, 1024] inb_S1x256x1024_S1x128x1024_0_0_0).toLoadRect X))
        (k0_pay2 (v.readAt (Elt F) (Rect.unit (s := S1x256x1024) ![0, 128, 0] ![1, 128, 1024] inb_S1x256x1024_S1x128x1024_0_128_0).toLoadRect X))
      = headQueries (v.read (Elt F) X) := by
  refine pair_eq (ext2 fun r s => ?_) (ext2 fun r s => ?_)
  · unfold k0_pay1
    show shapeCast S128x1024 _ _ (ix2 r s) = _
    rw [shapeCast_1ab_ab_apply, View.readAt_apply]
    refine congrArg (v.read (Elt F) X) (funext fun x => Fin.ext ?_)
    match x with
    | ⟨0, _⟩ => rfl
    | ⟨1, _⟩ => show 0 + 1 * r.val = 128 * 0 + r.val; omega
    | ⟨2, _⟩ => show 0 + 1 * s.val = s.val; omega
  · unfold k0_pay2
    show shapeCast S128x1024 _ _ (ix2 r s) = _
    rw [shapeCast_1ab_ab_apply, View.readAt_apply]
    refine congrArg (v.read (Elt F) X) (funext fun x => Fin.ext ?_)
    match x with
    | ⟨0, _⟩ => rfl
    | ⟨1, _⟩ => show 128 + 1 * r.val = 128 * 1 + r.val; omega
    | ⟨2, _⟩ => show 0 + 1 * s.val = s.val; omega

end Cert.Attention
-- ==== Proof.First.lean ====
/-
  The kernel's run at the first query tile, which has no blocks of keys before it: the block it writes is the plain
  program's.
-/
module

public import proofs.«01_k».proof.Proof.Gen.KernelIdeal.Frame.RunA
public import proofs.«01_k».proof.Proof.Program

@[expose] public section

set_option maxRecDepth 65536

noncomputable section

namespace Cert.Attention

open Idealize.ShloMosaic Idealize.ShloMosaic.ValueIdx Cert.KernelIdeal Cert.KernelIdeal.Gen

variable {F : FTy → Type} [FloatOps F] [Named F]

/-- The first tile's branch is taken at tile 0. -/
theorem tile_zero : ∀ i : grid0.Coords, k0_cond1 i = 1#1 → (i 2).val = 0 := by decide +kernel

/-- At the first tile the run stores the plain program's block. -/
theorem first_run (c : Dev nD) (i : grid0.Coords) (arg3 : Memref sig .tc .vmem S1x256x1024 .bf16) (harg3 : arg3.IsWhole)
    (arg4 : Memref sig .tc .vmem S1x8192x256 .bf16) (harg4 : arg4.IsWhole) (arg5 : Memref sig .tc .vmem S1x128x8192 .bf16) (harg5 : arg5.IsWhole)
    (arg6 : Memref sig .tc .vmem S1x1024x128 .bf16) (harg6 : arg6.IsWhole) (arg7 : Memref sig .tc .vmem S8x512x256 .f32) (harg7 : arg7.IsWhole)
    (arg8 : Memref sig .tc .vmem S8x512x256 .f32) (harg8 : arg8.IsWhole) (arg9 : Memref sig .tc .vmem S8x1x256 .f32) (harg9 : arg9.IsWhole)
    (arg10 : Memref sig .tc .vmem S8x1x256 .f32) (harg10 : arg10.IsWhole) (hc0 : cond0_0 i) (hc1 : ¬cond0_1 i)
    (x0 : Vec F S1x256x1024 .bf16) (x1 : Vec F S1x8192x256 .bf16) (x2 : Vec F S1x128x8192 .bf16) :
    (kernelRun0_A c i arg3 harg3 arg4 harg4 arg5 harg5 arg6 harg6 arg7 harg7 arg8 harg8 arg9 harg9 arg10 harg10 hc0 hc1 x0 x1 x2).1
      = [⟨Rect.unit (s := S1x1024x128) ![0, 0, 0] S1x1024x128.size inb_S1x1024x128_S1x1024x128_0_0_0, blockOut (i 2).val x0 x1 x2⟩] := by
  have hi : (i 2).val = 0 := tile_zero i hc0
  rw [hi]
  unfold blockOut ended
  simp only [Nat.mul_zero, Nat.zero_add]
  -- the loads
  have hq : headQueries x0 = _ := (congrArg headQueries (harg3.read_unread x0)).symm.trans (read_queries (harg3.unread x0)).symm
  have hk (n : ℕ) : keyBlock x1 n = keyBlock (arg4.view.read (Elt F) (harg4.unread x1)) n := by rw [harg4.read_unread]
  have hv (n : ℕ) : valueBlock x2 n = valueBlock (arg5.view.read (Elt F) (harg5.unread x2)) n := by rw [harg5.read_unread]
  rw [hq, (hk 0).trans (pair_eq (read_keyBlock _ inb_S1x8192x256_S1x512x128_0_0_0 0 0 rfl) (read_keyBlock _ inb_S1x8192x256_S1x512x128_0_0_128 0 1 rfl)).symm,
    (hk 1).trans (pair_eq (read_keyBlock _ inb_S1x8192x256_S1x512x128_0_512_0 1 0 rfl) (read_keyBlock _ inb_S1x8192x256_S1x512x128_0_512_128 1 1 rfl)).symm,
    (hv 0).trans (pair_eq (read_valueBlock _ inb_S1x128x8192_S1x64x512_0_0_0 0 0 rfl) (read_valueBlock _ inb_S1x128x8192_S1x64x512_0_64_0 0 1 rfl)).symm,
    (hv 1).trans (pair_eq (read_valueBlock _ (k0_off1_inb i hc0) 1 0 (by rw [k0_off1_eq, hi]; rfl)) (read_valueBlock _ (k0_off2_inb i hc0) 1 1 (by rw [k0_off2_eq, hi]; rfl))).symm]
  -- the staging buffers
  rw [finish_staged arg8.view arg10.view [] [], absorb_staged arg7.view arg9.view [] []]
  unfold kernelRun0_A
  refine congrArg (fun w => [(⟨_, w⟩ : View.Piece (Elt F) S1x1024x128 .bf16)]) ?_
  unfold kernelRun0_A.sl.r_13 k0_pay76
  refine Eq.trans (b := joined (octet _ _ _ _ _ _ _ _)) rfl ?_
  refine congrArg joined (octet_eq ?_ ?_ ?_ ?_ ?_ ?_ ?_ ?_)
  · rfl
  · rfl
  · rfl
  · rfl
  · rfl
  · rfl
  · rfl
  · rfl

end Cert.Attention
-- ==== Proof.KernelIdeal.RunB.lean ====
/-
  The body's run at a later query tile: what the body stores, found by running it, with the scratch buffers' contents at its
  start as parameters.
-/
module

public import proofs.«01_k».proof.Proof.Gen.KernelIdeal.Frame.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body's stores leave in the output's staging buffer at a later query tile, from the inputs' blocks `x0`, `x1`, `x2` and the
    scratch buffers' contents `s0` … `s3`, with the proof that the body runs to its end, leaves the inputs as they were and the
    output with these pieces written. -/
noncomputable def kernelRun0_B (c : Dev nD) (i : grid0.Coords) (arg3 : Memref sig .tc .vmem S1x256x1024 .bf16) (harg3 : arg3.IsWhole) (arg4 : Memref sig .tc .vmem S1x8192x256 .bf16) (harg4 : arg4.IsWhole) (arg5 : Memref sig .tc .vmem S1x128x8192 .bf16) (harg5 : arg5.IsWhole) (arg6 : Memref sig .tc .vmem S1x1024x128 .bf16) (harg6 : arg6.IsWhole) (arg7 : Memref sig .tc .vmem S8x512x256 .f32) (harg7 : arg7.IsWhole) (arg8 : Memref sig .tc .vmem S8x512x256 .f32) (harg8 : arg8.IsWhole) (arg9 : Memref sig .tc .vmem S8x1x256 .f32) (harg9 : arg9.IsWhole) (arg10 : Memref sig .tc .vmem S8x1x256 .f32) (harg10 : arg10.IsWhole) (hc0 : ¬cond0_0 i) (hc1 : cond0_1 i)
    (x0 : Vec F S1x256x1024 .bf16) (x1 : Vec F S1x8192x256 .bf16) (x2 : Vec F S1x128x8192 .bf16)
    (s0 s1 : Vec F S8x512x256 .f32) (s2 s3 : Vec F S8x1x256 .f32) :
    Σ' (L3 : List (View.Piece (Elt F) S1x1024x128 .bf16)), Σ' (LT0 : List (View.Piece (Elt F) S8x512x256 .f32)), Σ' (LT1 : List (View.Piece (Elt F) S8x512x256 .f32)), Σ' (LT2 : List (View.Piece (Elt F) S8x1x256 .f32)), { LT3 : List (View.Piece (Elt F) S8x1x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare s0 ∗ owns (c : Thread nD τ) arg8 fullShare s1 ∗ owns (c : Thread nD τ) arg9 fullShare s2 ∗ owns (c : Thread nD τ) arg10 fullShare s3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_prompt_attention i arg3 harg3 arg4 harg4 arg5 harg5 arg6 harg6 arg7 harg7 arg8 harg8 arg9 harg9 arg10 harg10) K } := by
  refine ⟨?_, [], [], [], [], fun E K => ?run⟩
  case run =>
    simp only [cc0_prompt_attention_eq_skeleton]; unfold cc0_prompt_attention_skel
    simp only [k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton]
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, ⟨%fs3, %hs3, HS3⟩, Hk⟩
    obtain rfl := harg3.eq_unread hf0; obtain rfl := harg4.eq_unread hf1; obtain rfl := harg5.eq_unread hf2
    obtain rfl := harg7.eq_unread hs0; obtain rfl := harg8.eq_unread hs1; obtain rfl := harg9.eq_unread hs2; obtain rfl := harg10.eq_unread hs3
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Later.lean ====
/-
  The kernel's run at a later query tile: the block it writes is the plain program's.

  The run stages block 0, goes through the loop over pairs of blocks (a second loop, for a remainder that never occurs, makes
  no trip), and then feeds the last two blocks before the tile and the two blocks at its own place.
-/
module

public import proofs.«01_k».proof.Proof.KernelIdeal.RunB
public import proofs.«01_k».proof.Proof.Program

@[expose] public section

set_option maxRecDepth 65536

noncomputable section

namespace Cert.Attention

open Idealize.ShloMosaic Idealize.ShloMosaic.ValueIdx Cert.KernelIdeal Cert.KernelIdeal.Gen

variable {F : FTy → Type} [FloatOps F] [Named F]

/-! ## The tile and its places -/

/-- At tile `n + 1` the loop over pairs makes `n` trips. -/
theorem trips_succ : ∀ i : grid0.Coords, k0_cond2 i = 1#1 →
    (i 2).val = Scf.trips (k0_t1_loop i).lb (k0_t1_loop i).ub (k0_t1_loop i).st + 1 := by decide +kernel

/-- The second loop makes no trip. -/
theorem rest_trips (i : grid0.Coords) : Scf.trips (k0_t2_loop i).lb (k0_t2_loop i).ub (k0_t2_loop i).st = 0 :=
  Nat.le_zero.1 (k0_t2_abs i).2.1

theorem off15_eq : ∀ i : grid0.Coords, k0_cond2 i = 1#1 → k0_off15 i = ![0, 512 * (2 * ((i 2).val - 1) + 1), 0] := by decide +kernel
theorem off17_eq : ∀ i : grid0.Coords, k0_cond2 i = 1#1 → k0_off17 i = ![0, 512 * (2 * ((i 2).val - 1) + 1), 128] := by decide +kernel
theorem off16_eq : ∀ i : grid0.Coords, k0_cond2 i = 1#1 → ∀ r : Fin 2,
    k0_off16 i (BitVec.ofNat 32 (1 + r.val)) = ![0, 0, 512 * (2 * ((i 2).val - 1) + 1 - r.val)] := by decide +kernel
theorem off18_eq : ∀ i : grid0.Coords, k0_cond2 i = 1#1 → ∀ r : Fin 2,
    k0_off18 i (BitVec.ofNat 32 (1 + r.val)) = ![0, 64, 512 * (2 * ((i 2).val - 1) + 1 - r.val)] := by decide +kernel

/-! ## The run -/

section

variable (c : Dev nD) (i : grid0.Coords) (arg3 : Memref sig .tc .vmem S1x256x1024 .bf16) (harg3 : arg3.IsWhole)
  (arg4 : Memref sig .tc .vmem S1x8192x256 .bf16) (harg4 : arg4.IsWhole) (arg5 : Memref sig .tc .vmem S1x128x8192 .bf16) (harg5 : arg5.IsWhole)
  (arg6 : Memref sig .tc .vmem S1x1024x128 .bf16) (harg6 : arg6.IsWhole) (arg7 : Memref sig .tc .vmem S8x512x256 .f32) (harg7 : arg7.IsWhole)
  (arg8 : Memref sig .tc .vmem S8x512x256 .f32) (harg8 : arg8.IsWhole) (arg9 : Memref sig .tc .vmem S8x1x256 .f32) (harg9 : arg9.IsWhole)
  (arg10 : Memref sig .tc .vmem S8x1x256 .f32) (harg10 : arg10.IsWhole) (v1 v3 : FVec F S128x1024 .bf16) (h2 : k0_cond2 i = 1#1)
  (v104 : FVec F S512x256 .f32) (v132 : BitVec 32) (X4 : BufTy.Contents (Elt F) arg4.view.ty) (X5 : BufTy.Contents (Elt F) arg5.view.ty)
  (L7 : List (View.Piece (Elt F) S8x512x256 .f32)) (L9 : List (View.Piece (Elt F) S8x1x256 .f32))
  (G8 : BufTy.Contents (Elt F) arg8.view.ty) (G10 : BufTy.Contents (Elt F) arg10.view.ty)

/-- The loop over pairs of blocks, when it has ended. -/
abbrev pairs :=
  st_k0_t1 (F := F) Variants.none c none i arg3 harg3 arg4 harg4 arg5 harg5 arg6 harg6 arg7 harg7 arg8 harg8 arg9 harg9 arg10 harg10 (BitVec.ofNat 32 (i 2).val) v1 v3
    k0_pay3 k0_pay4 k0_pay5 h2 v104 X4 X5 (arg7.view.writes (Elt F) arg7.view.junk L7) G8 (arg9.view.writes (Elt F) arg9.view.junk L9) G10
    (toTuple fun _ => (k0_pay4, k0_pay5)) (Scf.trips (k0_t1_loop i).lb (k0_t1_loop i).ub (k0_t1_loop i).st)

/-- The second loop, when it has ended. -/
abbrev rest :=
  st_k0_t2 (F := F) Variants.none c none i arg3 harg3 arg4 harg4 arg5 harg5 arg6 harg6 arg7 harg7 arg8 harg8 arg9 harg9 arg10 harg10 (BitVec.ofNat 32 (i 2).val) v1 v3
    k0_pay3 k0_pay4 k0_pay5 h2 v104 v132 X4 X5
    (arg7.view.writes (Elt F) arg7.view.junk ((pairs c i arg3 harg3 arg4 harg4 arg5 harg5 arg6 harg6 arg7 harg7 arg8 harg8 arg9 harg9 arg10 harg10 v1 v3 h2 v104 X4 X5 L7 L9 G8 G10).2.1 ++ L7))
    (arg8.view.writes (Elt F) G8 (pairs c i arg3 harg3 arg4 harg4 arg5 harg5 arg6 harg6 arg7 harg7 arg8 harg8 arg9 harg9 arg10 harg10 v1 v3 h2 v104 X4 X5 L7 L9 G8 G10).2.2.1)
    (arg9.view.writes (Elt F) arg9.view.junk ((pairs c i arg3 harg3 arg4 harg4 arg5 harg5 arg6 harg6 arg7 harg7 arg8 harg8 arg9 harg9 arg10 harg10 v1 v3 h2 v104 X4 X5 L7 L9 G8 G10).2.2.2.1 ++ L9))
    (arg10.view.writes (Elt F) G10 (pairs c i arg3 harg3 arg4 harg4 arg5 harg5 arg6 harg6 arg7 harg7 arg8 harg8 arg9 harg9 arg10 harg10 v1 v3 h2 v104 X4 X5 L7 L9 G8 G10).2.2.2.2)
    (toTuple (ofTuple (pairs c i arg3 harg3 arg4 harg4 arg5 harg5 arg6 harg6 arg7 harg7 arg8 harg8 arg9 harg9 arg10 harg10 v1 v3 h2 v104 X4 X5 L7 L9 G8 G10).1)) (Scf.trips (k0_t2_loop i).lb (k0_t2_loop i).ub (k0_t2_loop i).st)

/-- The units after the block that lies staged when the loops have ended, as the run reads it. -/
abbrev afterLoops (vb : Fin 2 → Vec F S1x64x512 .bf16) : Fin 8 → Carried F :=
  feed k0_pay3 vb
    (fun u => arg7.view.readCov (Val := Elt F) ((rest c i arg3 harg3 arg4 harg4 arg5 harg5 arg6 harg6 arg7 harg7 arg8 harg8 arg9 harg9 arg10 harg10 v1 v3 h2 v104 v132 X4 X5 L7 L9 G8 G10).2.1 ++ ((pairs c i arg3 harg3 arg4 harg4 arg5 harg5 arg6 harg6 arg7 harg7 arg8 harg8 arg9 harg9 arg10 harg10 v1 v3 h2 v104 X4 X5 L7 L9 G8 G10).2.1 ++ L7)) (slot 512 256 u).toLoadRect)
    (fun u => arg9.view.readCov (Val := Elt F) ((rest c i arg3 harg3 arg4 harg4 arg5 harg5 arg6 harg6 arg7 harg7 arg8 harg8 arg9 harg9 arg10 harg10 v1 v3 h2 v104 v132 X4 X5 L7 L9 G8 G10).2.2.2.1 ++ ((pairs c i arg3 harg3 arg4 harg4 arg5 harg5 arg6 harg6 arg7 harg7 arg8 harg8 arg9 harg9 arg10 harg10 v1 v3 h2 v104 X4 X5 L7 L9 G8 G10).2.2.2.1 ++ L9)) (slot 1 256 u).toLoadRect)
    (ofTuple (rest c i arg3 harg3 arg4 harg4 arg5 harg5 arg6 harg6 arg7 harg7 arg8 harg8 arg9 harg9 arg10 harg10 v1 v3 h2 v104 v132 X4 X5 L7 L9 G8 G10).1)

/-- They are the units that have seen every block up to that one. -/
theorem afterLoops_eq (h7 : L7 = fills fun u => staged (unitScores (pair v1 v3) (keyBlock (arg4.view.read (Elt F) X4) 0) u))
    (h9 : L9 = fills fun u => stagedMax (unitScores (pair v1 v3) (keyBlock (arg4.view.read (Elt F) X4) 0) u)) :
    absorb k0_pay3 (valueBlock (arg5.view.read (Elt F) X5) (2 * ((i 2).val - 1)))
        (unitScores (pair v1 v3) (keyBlock (arg4.view.read (Elt F) X4) (2 * ((i 2).val - 1))))
        (seen (pair v1 v3) (arg4.view.read (Elt F) X4) (arg5.view.read (Elt F) X5) (2 * ((i 2).val - 1)))
      = afterLoops c i arg3 harg3 arg4 harg4 arg5 harg5 arg6 harg6 arg7 harg7 arg8 harg8 arg9 harg9 arg10 harg10 v1 v3 h2 v104 v132 X4 X5 L7 L9 G8 G10 (valueBlock (arg5.view.read (Elt F) X5) (2 * ((i 2).val - 1))) := by
  have hn : (i 2).val - 1 = Scf.trips (k0_t1_loop i).lb (k0_t1_loop i).ub (k0_t1_loop i).st := by rw [trips_succ i h2]; rfl
  obtain ⟨hs, hst, hmx⟩ := loop_state (F := F) Variants.none c none i arg3 harg3 arg4 harg4 arg5 harg5 arg6 harg6 arg7 harg7 arg8 harg8 arg9 harg9 arg10 harg10 (BitVec.ofNat 32 (i 2).val)
    v1 v3 k0_pay4 k0_pay5 h2 v104 X4 X5 (arg7.view.writes (Elt F) arg7.view.junk L7) G8 (arg9.view.writes (Elt F) arg9.view.junk L9) G10
    (fun u => by rw [h7]; exact readCov_fills (Val := Elt F) arg7.view (fun u => staged (unitScores (pair v1 v3) (keyBlock (arg4.view.read (Elt F) X4) 0) u)) [] u)
    (fun u => by rw [h9]; exact readCov_fills (Val := Elt F) arg9.view (fun u => stagedMax (unitScores (pair v1 v3) (keyBlock (arg4.view.read (Elt F) X4) 0) u)) [] u)
    _ (le_refl (Scf.trips (k0_t1_loop i).lb (k0_t1_loop i).ub (k0_t1_loop i).st))
  rw [← View.writes_append] at hst hmx
  have hr : rest c i arg3 harg3 arg4 harg4 arg5 harg5 arg6 harg6 arg7 harg7 arg8 harg8 arg9 harg9 arg10 harg10 v1 v3 h2 v104 v132 X4 X5 L7 L9 G8 G10 = (toTuple (ofTuple (pairs c i arg3 harg3 arg4 harg4 arg5 harg5 arg6 harg6 arg7 harg7 arg8 harg8 arg9 harg9 arg10 harg10 v1 v3 h2 v104 X4 X5 L7 L9 G8 G10).1), [], [], [], []) := by
    unfold rest
    rw [rest_trips i]
    rfl
  unfold afterLoops
  rw [hr]
  rw [← hn] at hs hst hmx
  unfold absorb
  refine congr (congr (congrArg (feed k0_pay3 _) (funext fun u => ?_)) (funext fun u => ?_)) ?_
  · rw [← hst u, hn]; rfl
  · rw [← hmx u, hn]; rfl
  · rw [ofTuple_toTuple]
    unfold pairs
    rw [← hn, hs, ofTuple_toTuple]

end

section

variable (c : Dev nD) (i : grid0.Coords) (arg3 : Memref sig .tc .vmem S1x256x1024 .bf16) (harg3 : arg3.IsWhole)
  (arg4 : Memref sig .tc .vmem S1x8192x256 .bf16) (harg4 : arg4.IsWhole) (arg5 : Memref sig .tc .vmem S1x128x8192 .bf16) (harg5 : arg5.IsWhole)
  (arg6 : Memref sig .tc .vmem S1x1024x128 .bf16) (harg6 : arg6.IsWhole) (arg7 : Memref sig .tc .vmem S8x512x256 .f32) (harg7 : arg7.IsWhole)
  (arg8 : Memref sig .tc .vmem S8x512x256 .f32) (harg8 : arg8.IsWhole) (arg9 : Memref sig .tc .vmem S8x1x256 .f32) (harg9 : arg9.IsWhole)
  (arg10 : Memref sig .tc .vmem S8x1x256 .f32) (harg10 : arg10.IsWhole) (hc0 : ¬cond0_0 i) (hc1 : cond0_1 i)
  (x0 : Vec F S1x256x1024 .bf16) (x1 : Vec F S1x8192x256 .bf16) (x2 : Vec F S1x128x8192 .bf16)
  (s0 s1 : Vec F S8x512x256 .f32) (s2 s3 : Vec F S8x1x256 .f32)

attribute [local irreducible] st_k0_t1 st_k0_t2

/-- The run's loop over pairs of blocks. -/
abbrev runPairs :=
  pairs c i arg3 harg3 arg4 harg4 arg5 harg5 arg6 harg6 arg7 harg7 arg8 harg8 arg9 harg9 arg10 harg10
    (k0_pay1 (View.readAt (Elt F) arg3.view (Rect.unit (s := S1x256x1024) ![0, 0, 0] ![1, 128, 1024] inb_S1x256x1024_S1x128x1024_0_0_0).toLoadRect (harg3.unread x0)))
    (k0_pay2 (View.readAt (Elt F) arg3.view (Rect.unit (s := S1x256x1024) ![0, 128, 0] ![1, 128, 1024] inb_S1x256x1024_S1x128x1024_0_128_0).toLoadRect (harg3.unread x0)))
    hc1 (kernelRun0_B.sl.r_2 c arg3 harg3 arg4 harg4 x0 x1) (harg4.unread x1) (harg5.unread x2) (kernelRun0_B.sl.HS0_8 c arg3 harg3 arg4 harg4 x0 x1)
    (kernelRun0_B.sl.HS2_8 c arg3 harg3 arg4 harg4 x0 x1) (harg8.unread s1) (harg10.unread s3)

/-- The run's second loop. -/
abbrev runRest :=
  rest c i arg3 harg3 arg4 harg4 arg5 harg5 arg6 harg6 arg7 harg7 arg8 harg8 arg9 harg9 arg10 harg10
    (k0_pay1 (View.readAt (Elt F) arg3.view (Rect.unit (s := S1x256x1024) ![0, 0, 0] ![1, 128, 1024] inb_S1x256x1024_S1x128x1024_0_0_0).toLoadRect (harg3.unread x0)))
    (k0_pay2 (View.readAt (Elt F) arg3.view (Rect.unit (s := S1x256x1024) ![0, 128, 0] ![1, 128, 1024] inb_S1x256x1024_S1x128x1024_0_128_0).toLoadRect (harg3.unread x0)))
    hc1 (kernelRun0_B.sl.r_2 c arg3 harg3 arg4 harg4 x0 x1) (kernelRun0_B.sl.v132 i) (harg4.unread x1) (harg5.unread x2) (kernelRun0_B.sl.HS0_8 c arg3 harg3 arg4 harg4 x0 x1)
    (kernelRun0_B.sl.HS2_8 c arg3 harg3 arg4 harg4 x0 x1) (harg8.unread s1) (harg10.unread s3)

/-- At a later tile the run stores the plain program's block. -/
theorem later_run :
    (kernelRun0_B c i arg3 harg3 arg4 harg4 arg5 harg5 arg6 harg6 arg7 harg7 arg8 harg8 arg9 harg9 arg10 harg10 hc0 hc1 x0 x1 x2 s0 s1 s2 s3).1
      = [⟨Rect.unit (s := S1x1024x128) ![0, 0, 0] S1x1024x128.size inb_S1x1024x128_S1x1024x128_0_0_0, blockOut (i 2).val x0 x1 x2⟩] := by
  have hi : (i 2).val = ((i 2).val - 1) + 1 := by rw [trips_succ i hc1]; rfl
  have h0 : 2 * (i 2).val = 2 * ((i 2).val - 1) + 2 := by omega
  have hm : 1024 * (i 2).val = 512 * (2 * (i 2).val) := by omega
  have hm' : 1024 * (i 2).val + 512 = 512 * (2 * (i 2).val + 1) := by omega
  unfold blockOut ended
  rw [h0]
  have hs (q : Fin 2 → FVec F S128x1024 .bf16) (m : ℕ) : seen q x1 x2 (2 * m + 2)
      = absorb k0_pay3 (valueBlock x2 (2 * m + 1)) (unitScores q (keyBlock x1 (2 * m + 1)))
          (absorb k0_pay3 (valueBlock x2 (2 * m)) (unitScores q (keyBlock x1 (2 * m))) (seen q x1 x2 (2 * m))) := rfl
  rw [hs]
  -- the loads
  have hq : headQueries x0 = _ := (congrArg headQueries (harg3.read_unread x0)).symm.trans (read_queries (harg3.unread x0)).symm
  have hk (n : ℕ) : keyBlock x1 n = keyBlock (arg4.view.read (Elt F) (harg4.unread x1)) n := by rw [harg4.read_unread]
  have hv (n : ℕ) : valueBlock x2 n = valueBlock (arg5.view.read (Elt F) (harg5.unread x2)) n := by rw [harg5.read_unread]
  have hl := afterLoops_eq c i arg3 harg3 arg4 harg4 arg5 harg5 arg6 harg6 arg7 harg7 arg8 harg8 arg9 harg9 arg10 harg10
    (k0_pay1 (View.readAt (Elt F) arg3.view (Rect.unit (s := S1x256x1024) ![0, 0, 0] ![1, 128, 1024] inb_S1x256x1024_S1x128x1024_0_0_0).toLoadRect (harg3.unread x0)))
    (k0_pay2 (View.readAt (Elt F) arg3.view (Rect.unit (s := S1x256x1024) ![0, 128, 0] ![1, 128, 1024] inb_S1x256x1024_S1x128x1024_0_128_0).toLoadRect (harg3.unread x0)))
    hc1 (kernelRun0_B.sl.r_2 c arg3 harg3 arg4 harg4 x0 x1) (kernelRun0_B.sl.v132 i)
    (harg4.unread x1) (harg5.unread x2) (kernelRun0_B.sl.HS0_8 c arg3 harg3 arg4 harg4 x0 x1)
    (kernelRun0_B.sl.HS2_8 c arg3 harg3 arg4 harg4 x0 x1) (harg8.unread s1) (harg10.unread s3)
    (by
      rw [(pair_eq (read_keyBlock _ inb_S1x8192x256_S1x512x128_0_0_0 0 0 rfl) (read_keyBlock _ inb_S1x8192x256_S1x512x128_0_0_128 0 1 rfl)).symm]
      rfl)
    (by
      rw [(pair_eq (read_keyBlock _ inb_S1x8192x256_S1x512x128_0_0_0 0 0 rfl) (read_keyBlock _ inb_S1x8192x256_S1x512x128_0_0_128 0 1 rfl)).symm]
      rfl)
  rw [harg4.read_unread, harg5.read_unread] at hl
  rw [hq, hl]
  rw [(hk (2 * ((i 2).val - 1) + 1)).trans (pair_eq (read_keyBlock _ (k0_off15_inb i hc1) _ 0 (off15_eq i hc1)) (read_keyBlock _ (k0_off17_inb i hc1) _ 1 (off17_eq i hc1))).symm,
    (hk (2 * ((i 2).val - 1) + 2)).trans (pair_eq (read_keyBlock _ (k0_off19_inb i hc1) _ 0 ((k0_off19_eq i).trans (by rw [← h0, hm]; rfl)))
      (read_keyBlock _ (k0_off20_inb i hc1) _ 1 ((k0_off20_eq i).trans (by rw [← h0, hm]; rfl)))).symm,
    (hk (2 * ((i 2).val - 1) + 2 + 1)).trans (pair_eq (read_keyBlock _ (k0_off22_inb i hc1) _ 0 ((k0_off22_eq i).trans (by rw [← h0, hm']; rfl)))
      (read_keyBlock _ (k0_off24_inb i hc1) _ 1 ((k0_off24_eq i).trans (by rw [← h0, hm']; rfl)))).symm,
    (hv (2 * ((i 2).val - 1))).trans (pair_eq (read_valueBlock _ (k0_off16_inb i hc1 1) _ 0 (off16_eq i hc1 1)) (read_valueBlock _ (k0_off18_inb i hc1 1) _ 1 (off18_eq i hc1 1))).symm,
    (hv (2 * ((i 2).val - 1) + 1)).trans (pair_eq (read_valueBlock _ (k0_off16_inb i hc1 0) _ 0 (off16_eq i hc1 0)) (read_valueBlock _ (k0_off18_inb i hc1 0) _ 1 (off18_eq i hc1 0))).symm,
    (hv (2 * ((i 2).val - 1) + 2)).trans (pair_eq (read_valueBlock _ (k0_off21_inb i hc1) _ 0 ((k0_off21_eq i).trans (by rw [← h0, hm]; rfl)))
      (read_valueBlock _ (k0_off23_inb i hc1) _ 1 ((k0_off23_eq i).trans (by rw [← h0, hm]; rfl)))).symm,
    (hv (2 * ((i 2).val - 1) + 2 + 1)).trans (pair_eq (read_valueBlock _ (k0_off25_inb i hc1) _ 0 ((k0_off25_eq i).trans (by rw [← h0, hm']; rfl)))
      (read_valueBlock _ (k0_off26_inb i hc1) _ 1 ((k0_off26_eq i).trans (by rw [← h0, hm']; rfl)))).symm]
  -- the staging buffers
  rw [finish_staged arg8.view arg10.view (kernelRun0_B.sl.HS1_8 c i arg3 harg3 arg4 harg4 arg5 harg5 arg6 harg6 arg7 harg7 arg8 harg8 arg9 harg9 arg10 harg10 hc1 x0 x1 x2 s1 s3) (kernelRun0_B.sl.HS3_8 c i arg3 harg3 arg4 harg4 arg5 harg5 arg6 harg6 arg7 harg7 arg8 harg8 arg9 harg9 arg10 harg10 hc1 x0 x1 x2 s1 s3),
    absorb_staged arg7.view arg9.view ((runRest c i arg3 harg3 arg4 harg4 arg5 harg5 arg6 harg6 arg7 harg7 arg8 harg8 arg9 harg9 arg10 harg10 hc1 x0 x1 x2 s1 s3).2.1 ++ ((runPairs c i arg3 harg3 arg4 harg4 arg5 harg5 arg6 harg6 arg7 harg7 arg8 harg8 arg9 harg9 arg10 harg10 hc1 x0 x1 x2 s1 s3).2.1 ++ kernelRun0_B.sl.HS0_8 c arg3 harg3 arg4 harg4 x0 x1)) ((runRest c i arg3 harg3 arg4 harg4 arg5 harg5 arg6 harg6 arg7 harg7 arg8 harg8 arg9 harg9 arg10 harg10 hc1 x0 x1 x2 s1 s3).2.2.2.1 ++ ((runPairs c i arg3 harg3 arg4 harg4 arg5 harg5 arg6 harg6 arg7 harg7 arg8 harg8 arg9 harg9 arg10 harg10 hc1 x0 x1 x2 s1 s3).2.2.2.1 ++ kernelRun0_B.sl.HS2_8 c arg3 harg3 arg4 harg4 x0 x1)),
    absorb_staged arg8.view arg10.view ((runRest c i arg3 harg3 arg4 harg4 arg5 harg5 arg6 harg6 arg7 harg7 arg8 harg8 arg9 harg9 arg10 harg10 hc1 x0 x1 x2 s1 s3).2.2.1 ++ (runPairs c i arg3 harg3 arg4 harg4 arg5 harg5 arg6 harg6 arg7 harg7 arg8 harg8 arg9 harg9 arg10 harg10 hc1 x0 x1 x2 s1 s3).2.2.1) ((runRest c i arg3 harg3 arg4 harg4 arg5 harg5 arg6 harg6 arg7 harg7 arg8 harg8 arg9 harg9 arg10 harg10 hc1 x0 x1 x2 s1 s3).2.2.2.2 ++ (runPairs c i arg3 harg3 arg4 harg4 arg5 harg5 arg6 harg6 arg7 harg7 arg8 harg8 arg9 harg9 arg10 harg10 hc1 x0 x1 x2 s1 s3).2.2.2.2)]
  unfold kernelRun0_B
  refine congrArg (fun w => [(⟨_, w⟩ : View.Piece (Elt F) S1x1024x128 .bf16)]) ?_
  unfold k0_pay6
  refine Eq.trans (b := joined (octet _ _ _ _ _ _ _ _)) rfl ?_
  refine congrArg joined (octet_eq ?_ ?_ ?_ ?_ ?_ ?_ ?_ ?_)
  · rfl
  · rfl
  · rfl
  · rfl
  · rfl
  · rfl
  · rfl
  · rfl

end

end Cert.Attention
-- ==== Proof.KernelIdeal.Frame.lean ====
/-
  The frame of the idealized program, and what its result holds: the launch's proof data, with each grid point leaving the plain
  program's block of its query tile in the output's staging buffer; the body's obligation from the two runs; the run of the program.
-/
module

public import proofs.«01_k».proof.Proof.First
public import proofs.«01_k».proof.Proof.Later
public import Idealize.ShloMosaic.Lib.VecWindow
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The block grid point `t` leaves: the plain program's, of the point's query tile and its blocks of queries, keys and values. -/
def blockAt (c : Dev nD) (t : Fin cfg0.N) : Vec F S1x1024x128 .bf16 :=
  Cert.Attention.blockOut (grid0.coords t 2).val (iblk m c 0 t) (iblk m c 1 t) (iblk m c 2 t)

/-! ## The pipeline's proof data -/

/-- The proof data of the pipeline on core `c`: the arrays as the region finds them; after the body at point `t` each input's
    buffer at its block and the output's at the plain program's block; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = blockAt m c t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the tile decides which of the two runs applies, and either leaves the plain program's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · by_cases h1 : 1 ≤ t.val % 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h))], after0_3]
      iintro ⟨⟨⟨HS0, HS1, HS2, HS3⟩, Hg⟩, Ho, ⟨%d0, H0⟩, ⟨%d1, H1⟩, ⟨%d2, H2⟩, ⟨%d3, H3⟩⟩
      iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t)).2.2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, ⟨%fT0, HS0⟩, ⟨%fT1, HS1⟩, ⟨%fT2, HS2⟩, ⟨%fT3, HS3⟩⟩
      isplitl [HS0 HS1 HS2 HS3 Hg]
      · isplitl [HS0 HS1 HS2 HS3]
        · isplitl [HS0]
          · iexists _; unfold owns; iexists _; isplitr
            swap; · iexact HS0
            ipureintro; rfl
          isplitl [HS1]
          · iexists _; unfold owns; iexists _; isplitr
            swap; · iexact HS1
            ipureintro; rfl
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      unfold owns; iexists _; isplitr
      swap; · iexact H3
      ipureintro
      rw [Cert.Attention.first_run]
      exact View.read_writes_full _ _ _ _ _
  · by_cases h1 : 1 ≤ t.val % 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1)], after0_3]
      iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩⟩
      iapply ((kernelRun0_B c (grid0.coords t) _ _ _ _ _ _ _ _ _ _ _ _ _ _ _ _ (fun h => h0 ((hcond0_0 t).mp h)) ((hcond0_1 t).mpr h1) (iblk m c 0 t) (iblk m c 1 t) (iblk m c 2 t) s0 s1 s2 s3).2.2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HS3]; · iexact HS3
      iintro ⟨H0, H1, H2, ⟨%e3, H3⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      unfold owns; iexists _; isplitr
      swap; · iexact H3
      ipureintro
      rw [Cert.Attention.later_run]
      exact View.read_writes_full _ _ _ _ _
    · exfalso; omega

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every final state has the pipeline's arrays at what the proof data says, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelIdeal.Value.lean ====
/-
  The idealized program's result, block by block: block `t` of the final array is the plain program's block at grid point `t`.
-/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- What point `t` writes back is the plain program's block. -/
theorem flushed3 (c : Dev nD) (t : Fin cfg0.N) :
    (dats m 0 c).flushed 3 t = (cfg0.win 3).cut (grid0.coords t) (blockAt m c t) := by
  show (cfg0.win 3).cut (grid0.coords t) ((dats m 0 c).after 3 t) = _
  rw [after0_3]

/-- The index map sends distinct grid points to distinct block indices (decided over the 64 points). -/
theorem idx_inj3 : ∀ t t' : Fin cfg0.N, win0_3.index t = win0_3.index t' → t = t' :=
  (by decide +kernel : ∀ t t' : Fin grid0.N, win0_3.index t = win0_3.index t' → t = t')

/-- Two points' blocks share no index of the array. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- Block `t` of the final array is what point `t` wrote back. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v1) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The run of the program: the result is the pipeline's final array and the arguments are unchanged. -/
theorem run_blocks : θ_run defs (onTc (τ := τ) (main (F := F))) ⟨m, fun _ => 0, ρ⟩ fun r => ∀ c : Dev nD,
      r.2.mem ((c : Thread nD τ).loc main_v1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.KernelIdeal.Value

end
-- ==== Proof.Tile.lean ====
/-
  The plain program's block on the extended reals.

  At query `r` of tile `qi` and column `64 h + d` of the pair of heads, it is the quotient of two sums over the keys: the values,
  weighted by 2 to the power of score minus maximum, over the weights alone. The score of a key after the query is −∞.
-/
module

public import proofs.«01_k».proof.Proof.Program

@[expose] public section

noncomputable section

namespace Cert.Attention

open Idealize.ShloMosaic Idealize.ShloMosaic.ValueIdx Cert.KernelIdeal Cert.KernelIdeal.Gen
open scoped BigOperators

/-! ## Scores and values of a tile -/

/-- The chunk of queries of a unit. -/
def chunkOf : Fin 8 → ℕ
  | 0 => 0 | 1 => 1 | 2 => 2 | 3 => 3 | 4 => 0 | 5 => 1 | 6 => 2 | 7 => 3

theorem chunkOf_le (u : Fin 8) : chunkOf u ≤ 3 := by fin_cases u <;> decide

/-- A unit's query, counted in the tile. -/
def place (u : Fin 8) (j : Fin 256) : Fin 1024 := ⟨256 * chunkOf u + j.val, by have := chunkOf_le u; omega⟩

/-- Key `t` of head `hh` times query `r` of the tile. -/
def keyDot (x0 : Vec Ideal S1x256x1024 .bf16) (x1 : Vec Ideal S1x8192x256 .bf16) (hh : Fin 2) (r : Fin 1024) (t : ℕ) : EReal :=
  ∑ e : Fin 128, x1 (ix3 (0 : Fin 1) (⟨t % 8192, Nat.mod_lt _ (by decide)⟩ : Fin 8192) (⟨128 * hh.val + e.val, by omega⟩ : Fin 256))
    * x0 (ix3 (0 : Fin 1) (⟨128 * hh.val + e.val, by omega⟩ : Fin 256) r)

/-- The score of key `t` for query `r` of tile `qi`: −∞ where the key lies after the query. -/
def tileScore (qi : ℕ) (x0 : Vec Ideal S1x256x1024 .bf16) (x1 : Vec Ideal S1x8192x256 .bf16) (hh : Fin 2) (r : Fin 1024) (t : ℕ) : EReal :=
  if t ≤ 1024 * qi + r.val then keyDot x0 x1 hh r t else ⊥

/-- Row `d` under head `hh`'s values at key `t`: the value, or one. -/
def tileValue (x2 : Vec Ideal S1x128x8192 .bf16) (hh : Fin 2) (d : Fin 80) (t : ℕ) : EReal :=
  if h : d.val < 64 then x2 (ix3 (0 : Fin 1) (⟨64 * hh.val + d.val, by omega⟩ : Fin 128) (⟨t % 8192, Nat.mod_lt _ (by decide)⟩ : Fin 8192)) else 1

/-- 256 columns from column `o` on. -/
theorem chunk_apply (x : FVec Ideal S128x1024 .bf16) {o : ℕ} (h : S128x1024.Slices ![0, o] S128x256) (k : Fin 1024) (e : Fin 128) (j : Fin 256)
    (hk : k.val = o + j.val) : extractStridedSlice S128x256 ![0, o] x h (ix2 e j) = x (ix2 e k) :=
  extractStridedSlice_apply (s := S128x1024) (t := S128x256) ![0, o] x h (ix2 e j) (ix2 e k) fun a =>
    match a with
    | ⟨0, _⟩ => (Nat.zero_add _).symm
    | ⟨1, _⟩ => hk

/-- A unit's queries, read in its head's. -/
theorem unitQueries_apply (q : Fin 2 → FVec Ideal S128x1024 .bf16) (u : Fin 8) (e : Fin 128) (j : Fin 256) :
    unitQueries q u (ix2 e j) = q (headOf u) (ix2 e (place u j)) := by
  match u with
  | 0 => exact chunk_apply _ slices_S128x1024_o0_0_S128x256 (place 0 j) e j rfl
  | 1 => exact chunk_apply _ slices_S128x1024_o0_256_S128x256 (place 1 j) e j rfl
  | 2 => exact chunk_apply _ slices_S128x1024_o0_512_S128x256 (place 2 j) e j rfl
  | 3 => exact chunk_apply _ slices_S128x1024_o0_768_S128x256 (place 3 j) e j rfl
  | 4 => exact chunk_apply _ slices_S128x1024_o0_0_S128x256 (place 4 j) e j rfl
  | 5 => exact chunk_apply _ slices_S128x1024_o0_256_S128x256 (place 5 j) e j rfl
  | 6 => exact chunk_apply _ slices_S128x1024_o0_512_S128x256 (place 6 j) e j rfl
  | 7 => exact chunk_apply _ slices_S128x1024_o0_768_S128x256 (place 7 j) e j rfl

theorem unitScores_apply (x0 : Vec Ideal S1x256x1024 .bf16) (x1 : Vec Ideal S1x8192x256 .bf16) (n : ℕ) (u : Fin 8) (r : Fin 512) (j : Fin 256) :
    unitScores (headQueries x0) (keyBlock x1 n) u (ix2 r j) = keyDot x0 x1 (headOf u) (place u j) (512 * n + r.val) := by
  unfold unitScores keyDot
  rw [scores_apply]
  exact Finset.sum_congr rfl fun e _ => by rw [unitQueries_apply]; rfl

theorem valueRows_block (x2 : Vec Ideal S1x128x8192 .bf16) (n : ℕ) (hh : Fin 2) (d : Fin 80) (r : Fin 512) :
    valueRows k0_pay3 (valueBlock x2 n hh) (ix2 d r) = tileValue x2 hh d (512 * n + r.val) := by
  rw [valueRows_apply (ones := k0_pay3) (fun _ => Ideal.ofBits_one_bf16)]
  rfl

/-! ## What the units hold -/

section

variable {qi : ℕ} {x0 : Vec Ideal S1x256x1024 .bf16} {x1 : Vec Ideal S1x8192x256 .bf16} {x2 : Vec Ideal S1x128x8192 .bf16}

/-- A unit's state holds the first `n` keys. -/
abbrev UnitHeld (qi : ℕ) (x0 : Vec Ideal S1x256x1024 .bf16) (x1 : Vec Ideal S1x8192x256 .bf16) (x2 : Vec Ideal S1x128x8192 .bf16) (n : ℕ) (u : Fin 8)
    (s : Carried Ideal) : Prop :=
  Held (fun j => tileScore qi x0 x1 (headOf u) (place u j)) (tileValue x2 (headOf u)) n s.1 s.2

theorem tileScore_ne_top (hx : ∀ hh r t, keyDot x0 x1 hh r t ≠ ⊤ ∧ keyDot x0 x1 hh r t ≠ ⊥) (hh : Fin 2) (r : Fin 1024) (t : ℕ) :
    tileScore qi x0 x1 hh r t ≠ ⊤ := by
  unfold tileScore
  split
  · exact (hx hh r t).1
  · exact bot_ne_top

theorem tileScore_zero (hx : ∀ hh r t, keyDot x0 x1 hh r t ≠ ⊤ ∧ keyDot x0 x1 hh r t ≠ ⊥) (hh : Fin 2) (r : Fin 1024) :
    tileScore qi x0 x1 hh r 0 ≠ ⊥ := by
  unfold tileScore
  rw [if_pos (Nat.zero_le _)]
  exact (hx hh r 0).2

/-- A unit that holds the first `n` blocks holds one more after block `n`. -/
theorem feed_held (hx : ∀ hh r t, keyDot x0 x1 hh r t ≠ ⊤ ∧ keyDot x0 x1 hh r t ≠ ⊥) {n : ℕ} {u : Fin 8} {sc : Fin 8 → FVec Ideal S512x256 .f32}
    {s : Fin 8 → Carried Ideal} (hs : ∀ r j, sc u (ix2 r j) = tileScore qi x0 x1 (headOf u) (place u j) (512 * n + r.val))
    (H : UnitHeld qi x0 x1 x2 (512 * n) u (s u)) :
    UnitHeld qi x0 x1 x2 (512 * (n + 1)) u
      (feed k0_pay3 (valueBlock x2 n) (fun u => staged (sc u)) (fun u => stagedMax (sc u)) s u) := by
  refine Held.step (fun j t => tileScore_ne_top hx _ _ t) (fun j => ?_) (valueRows_block x2 n (headOf u)) H (staged_of_scores hs)
  exact rowMax_ne_bot (t := 0) (by omega) (tileScore_zero hx _ _)

/-- The units hold the blocks that they have seen, as long as these lie before the tile. -/
theorem seen_held (hx : ∀ hh r t, keyDot x0 x1 hh r t ≠ ⊤ ∧ keyDot x0 x1 hh r t ≠ ⊥) (u : Fin 8) :
    ∀ n ≤ 2 * qi, UnitHeld qi x0 x1 x2 (512 * n) u (seen (headQueries x0) x1 x2 n u)
  | 0, _ => by
    refine ⟨fun j => ?_, fun d j => ?_⟩
    · rw [Nat.mul_zero, rowMax_zero]
      show (Named.named κ "mask" 0xF149F2CA#32 : Ideal .f32) = ⊥
      simp [Named.named, κ]
    · rw [Nat.mul_zero, rowSum_zero]
      exact Ideal.ofBits_zero_f32
  | n + 1, hn => by
    refine feed_held (sc := unitScores (headQueries x0) (keyBlock x1 n)) hx (fun r j => ?_) (seen_held hx u n (by omega))
    rw [unitScores_apply, tileScore, if_pos (by have := r.isLt; omega)]

/-- After the first block at the tile's own place, too. -/
theorem first_held (hx : ∀ hh r t, keyDot x0 x1 hh r t ≠ ⊤ ∧ keyDot x0 x1 hh r t ≠ ⊥) (u : Fin 8) :
    UnitHeld qi x0 x1 x2 (512 * (2 * qi + 1)) u
      (absorb k0_pay3 (valueBlock x2 (2 * qi)) (firstScores (headQueries x0) (keyBlock x1 (2 * qi))) (seen (headQueries x0) x1 x2 (2 * qi)) u) := by
  refine feed_held (sc := firstScores (headQueries x0) (keyBlock x1 (2 * qi))) hx (fun r j => ?_) (seen_held hx u _ (le_refl _))
  have hr := r.isLt
  have raw (u : Fin 8) (hu : 512 ≤ 256 * chunkOf u) : unitScores (headQueries x0) (keyBlock x1 (2 * qi)) u (ix2 r j)
      = tileScore qi x0 x1 (headOf u) (place u j) (512 * (2 * qi) + r.val) := by
    rw [unitScores_apply, tileScore, if_pos (by show _ ≤ 1024 * qi + (256 * chunkOf u + j.val); omega)]
  have mask (u : Fin 8) (b : ℕ) (hb : b < 2 ^ 20) (hu : b = 256 * chunkOf u) :
      masked (BitVec.ofNat 32 0) (BitVec.ofNat 32 b) (unitScores (headQueries x0) (keyBlock x1 (2 * qi)) u) (ix2 r j)
      = tileScore qi x0 x1 (headOf u) (place u j) (512 * (2 * qi) + r.val) := by
    rw [masked_apply 0 b (by decide) hb, unitScores_apply, tileScore]
    refine if_congr ?_ rfl rfl
    show _ ↔ _ ≤ 1024 * qi + (256 * chunkOf u + j.val)
    omega
  match u with
  | 0 => exact mask 0 0 (by decide) rfl
  | 1 => exact mask 1 256 (by decide) rfl
  | 2 => exact raw 2 (by decide)
  | 3 => exact raw 3 (by decide)
  | 4 => exact mask 4 0 (by decide) rfl
  | 5 => exact mask 5 256 (by decide) rfl
  | 6 => exact raw 6 (by decide)
  | 7 => exact raw 7 (by decide)

/-- The scores of the keys after the first block are −∞ for the first two chunks, so holding it is holding all. -/
theorem sum_of_first {u : Fin 8} (hu : chunkOf u ≤ 1) (j : Fin 256) (ν : ℕ → EReal) (h : qi < 8) :
    rowSum (tileScore qi x0 x1 (headOf u) (place u j)) ν (512 * (2 * qi + 1)) = rowSum (tileScore qi x0 x1 (headOf u) (place u j)) ν 8192 :=
  (rowSum_of_hidden ν (by omega) fun t ht => if_neg (by show ¬ t ≤ 1024 * qi + (256 * chunkOf u + j.val); omega)).symm

/-- The scores of the keys after the second block are −∞ for all. -/
theorem sum_of_second (u : Fin 8) (j : Fin 256) (ν : ℕ → EReal) (h : qi < 8) :
    rowSum (tileScore qi x0 x1 (headOf u) (place u j)) ν (512 * (2 * qi + 1 + 1)) = rowSum (tileScore qi x0 x1 (headOf u) (place u j)) ν 8192 :=
  (rowSum_of_hidden ν (by omega) fun t ht => if_neg (by
    have := chunkOf_le u
    show ¬ t ≤ 1024 * qi + (256 * chunkOf u + j.val); omega)).symm

/-- At the end a unit's weighted sums are those over all keys. -/
theorem ended_sum (hx : ∀ hh r t, keyDot x0 x1 hh r t ≠ ⊤ ∧ keyDot x0 x1 hh r t ≠ ⊥) (h : qi < 8) (u : Fin 8) (d : Fin 80) (j : Fin 256) :
    (ended qi (headQueries x0) x1 x2 u).2 (ix2 d j) = rowSum (tileScore qi x0 x1 (headOf u) (place u j)) (tileValue x2 (headOf u) d) 8192 := by
  have early (u : Fin 8) (hu : chunkOf u ≤ 1) :
      (absorb k0_pay3 (valueBlock x2 (2 * qi)) (firstScores (headQueries x0) (keyBlock x1 (2 * qi))) (seen (headQueries x0) x1 x2 (2 * qi)) u).2 (ix2 d j)
      = rowSum (tileScore qi x0 x1 (headOf u) (place u j)) (tileValue x2 (headOf u) d) 8192 :=
    ((first_held (x2 := x2) hx u).2 d j).trans (sum_of_first hu j _ h)
  have late (u : Fin 8) (a : ℕ) (ha : a < 2 ^ 20) (hu : a = 256 * chunkOf u)
      (hm : secondScores (headQueries x0) (keyBlock x1 (2 * qi + 1)) u
        = masked (BitVec.ofNat 32 512) (BitVec.ofNat 32 a) (unitScores (headQueries x0) (keyBlock x1 (2 * qi + 1)) u)) :
      (feed k0_pay3 (valueBlock x2 (2 * qi + 1)) (fun u => staged (secondScores (headQueries x0) (keyBlock x1 (2 * qi + 1)) u))
        (fun u => stagedMax (secondScores (headQueries x0) (keyBlock x1 (2 * qi + 1)) u))
        (absorb k0_pay3 (valueBlock x2 (2 * qi)) (firstScores (headQueries x0) (keyBlock x1 (2 * qi))) (seen (headQueries x0) x1 x2 (2 * qi))) u).2 (ix2 d j)
      = rowSum (tileScore qi x0 x1 (headOf u) (place u j)) (tileValue x2 (headOf u) d) 8192 := by
    refine ((feed_held (sc := secondScores (headQueries x0) (keyBlock x1 (2 * qi + 1))) hx (fun r j => ?_) (first_held (x2 := x2) hx u)).2 d j).trans
      (sum_of_second u j _ h)
    rw [hm, masked_apply 512 a (by decide) ha, unitScores_apply, tileScore]
    refine if_congr ?_ rfl rfl
    show _ ↔ _ ≤ 1024 * qi + (256 * chunkOf u + j.val)
    omega
  match u with
  | 0 => exact early 0 (by decide)
  | 1 => exact early 1 (by decide)
  | 2 => exact late 2 512 (by decide) rfl rfl
  | 3 => exact late 3 768 (by decide) rfl rfl
  | 4 => exact early 4 (by decide)
  | 5 => exact early 5 (by decide)
  | 6 => exact late 6 512 (by decide) rfl rfl
  | 7 => exact late 7 768 (by decide) rfl rfl

end

/-! ## The block -/

/-- A unit's result is the quotient of its sums. -/
theorem quotient_apply (acc : FVec Ideal S80x256 .f32) (d : Fin 64) (j : Fin 256) :
    quotient acc (ix2 d j) = Ideal.div (acc (ix2 (⟨d.val, by omega⟩ : Fin 80) j)) (acc (ix2 (64 : Fin 80) j)) := by
  unfold quotient
  rw [divf_apply]
  refine congrArg₂ Ideal.div ?_ ?_
  · refine extractStridedSlice_apply (s := S80x256) (t := S64x256) _ _ _ (ix2 d j) (ix2 (⟨d.val, by omega⟩ : Fin 80) j) fun a => ?_
    match a with
    | ⟨0, _⟩ => exact (Nat.zero_add _).symm
    | ⟨1, _⟩ => exact (Nat.zero_add _).symm
  · rw [broadcastTo_1b_ab_apply]
    refine extractStridedSlice_apply (s := S80x256) (t := S1x256) _ _ _ (ix2 (0 : Fin 1) j) (ix2 (64 : Fin 80) j) fun a => ?_
    match a with
    | ⟨0, _⟩ => rfl
    | ⟨1, _⟩ => exact (Nat.zero_add _).symm

/-- Four arrays of 256 columns side by side. -/
theorem four_apply (p : Fin 4 → FVec Ideal S64x256 .f32) (d : Fin 64) (c : Fin 4) (j : Fin 256) :
    concatenate S64x1024 1 [⟨S64x256, p 0⟩, ⟨S64x256, p 1⟩, ⟨S64x256, p 2⟩, ⟨S64x256, p 3⟩]
      concatenates_S64x256_S64x256_S64x256_S64x256_S64x1024_d1 (ix2 d (⟨256 * c.val + j.val, by omega⟩ : Fin 1024)) = p c (ix2 d j) := by
  have hj := j.isLt
  refine concatenate_ofFn_apply (t := S64x1024) (s₁ := S64x256) 1 p concatenates_S64x256_S64x256_S64x256_S64x256_S64x1024_d1 rfl 256 rfl
    (ix2 d (⟨256 * c.val + j.val, by omega⟩ : Fin 1024)) c ?_ (ix2 d j) ?_ fun b hb => ?_
  · show (256 * c.val + j.val) / 256 = c.val
    omega
  · show j.val = (256 * c.val + j.val) % 256
    omega
  · match b with
    | ⟨0, _⟩ => rfl
    | ⟨1, _⟩ => exact absurd rfl hb

/-- The unit of a head's chunk. -/
def unitOf (hh : Fin 2) (c : Fin 4) : Fin 8 := ⟨4 * hh.val + c.val, by omega⟩

theorem headOf_unitOf : ∀ (hh : Fin 2) (c : Fin 4), headOf (unitOf hh c) = hh := by decide

theorem chunkOf_unitOf : ∀ (hh : Fin 2) (c : Fin 4), chunkOf (unitOf hh c) = c.val := by decide

/-- An entry of the block is an entry of one unit's result. -/
theorem joined_apply (o : Fin 8 → FVec Ideal S64x256 .f32) (hh : Fin 2) (d : Fin 64) (c : Fin 4) (j : Fin 256) :
    joined o (ix3 (0 : Fin 1) (⟨256 * c.val + j.val, by omega⟩ : Fin 1024) (⟨64 * hh.val + d.val, by omega⟩ : Fin 128)) = o (unitOf hh c) (ix2 d j) := by
  unfold joined
  rw [shapeCast_ab_1ab_apply, truncf_apply, transpose_apply (s := S128x1024) (t := S1024x128) _ _ _ _
    (ix2 (⟨64 * hh.val + d.val, by omega⟩ : Fin 128) (⟨256 * c.val + j.val, by omega⟩ : Fin 1024)) fun b =>
      match b with
      | ⟨0, _⟩ => rfl
      | ⟨1, _⟩ => rfl]
  match hh with
  | ⟨0, _⟩ =>
    refine (concatenate_pair_apply_left (t := S128x1024) (s₁ := S64x1024) (s₂ := S64x1024) 0 _ _ _ _ rfl
      (ix2 d (⟨256 * c.val + j.val, by omega⟩ : Fin 1024)) fun b => ?_).trans ?_
    · match b with
      | ⟨0, _⟩ => exact (Nat.zero_add _).symm
      | ⟨1, _⟩ => rfl
    · exact four_apply (fun c => o (unitOf 0 c)) d c j
  | ⟨1, _⟩ =>
    refine (concatenate_pair_apply_right (t := S128x1024) (s₁ := S64x1024) (s₂ := S64x1024) 0 _ _ _ _ rfl rfl
      (ix2 d (⟨256 * c.val + j.val, by omega⟩ : Fin 1024)) (fun b hb => ?_) ?_).trans ?_
    · match b with
      | ⟨0, _⟩ => exact absurd rfl hb
      | ⟨1, _⟩ => rfl
    · exact Nat.add_comm _ _
    · exact four_apply (fun c => o (unitOf 1 c)) d c j

/-- The block at query `r` of tile `qi`, head `hh` of the pair, column `d`: the weighted values over all keys by the weights over all keys. -/
theorem tile_value {qi : ℕ} {x0 : Vec Ideal S1x256x1024 .bf16} {x1 : Vec Ideal S1x8192x256 .bf16} (x2 : Vec Ideal S1x128x8192 .bf16)
    (hx : ∀ hh r t, keyDot x0 x1 hh r t ≠ ⊤ ∧ keyDot x0 x1 hh r t ≠ ⊥) (h : qi < 8) (hh : Fin 2) (d : Fin 64) (r : Fin 1024) :
    blockOut qi x0 x1 x2 (ix3 (0 : Fin 1) r (⟨64 * hh.val + d.val, by omega⟩ : Fin 128))
      = Ideal.div
        (rowSum (tileScore qi x0 x1 hh r)
          (fun t => x2 (ix3 (0 : Fin 1) (⟨64 * hh.val + d.val, by omega⟩ : Fin 128) (⟨t % 8192, Nat.mod_lt _ (by decide)⟩ : Fin 8192))) 8192)
        (rowSum (tileScore qi x0 x1 hh r) (fun _ => 1) 8192) := by
  obtain ⟨c, j, rfl⟩ : ∃ (c : Fin 4) (j : Fin 256), r = ⟨256 * c.val + j.val, by omega⟩ :=
    ⟨⟨r.val / 256, by omega⟩, ⟨r.val % 256, by omega⟩, Fin.ext (Nat.div_add_mod _ _).symm⟩
  have hp : place (unitOf hh c) j = ⟨256 * c.val + j.val, by omega⟩ := Fin.ext (congrArg (256 * · + j.val) (chunkOf_unitOf hh c))
  unfold blockOut
  rw [joined_apply, quotient_apply, ended_sum hx h, ended_sum hx h, headOf_unitOf, hp]
  have hd : tileValue x2 hh (⟨d.val, by omega⟩ : Fin 80)
      = fun t => x2 (ix3 (0 : Fin 1) (⟨64 * hh.val + d.val, by omega⟩ : Fin 128) (⟨t % 8192, Nat.mod_lt _ (by decide)⟩ : Fin 8192)) :=
    funext fun t => dif_pos d.isLt
  have ho : tileValue x2 hh (64 : Fin 80) = fun _ => 1 := funext fun t => dif_neg (by decide)
  rw [hd, ho]

end Cert.Attention
-- ==== Proof.Attention.lean ====
/-
  Causal attention of one layer as a function of its three arrays: the queries `Q` (batch, head × feature, position), the keys `K`
  (batch × position, head × feature) and the values `V` (batch, head × column, position).

  The logits are to base 2. The result at a query is the quotient of two sums over all 8192 keys, where a key after the query has
  score −∞ and so weight zero.
-/
module

public import proofs.«01_k».proof.Proof.Softmax
public import Idealize.ShloMosaic.Lib.ValueIdx

@[expose] public section

noncomputable section

namespace Cert.Attention

open Idealize.ShloMosaic Idealize.ShloMosaic.ValueIdx
open scoped BigOperators

/-- The queries' array. -/
abbrev Queries := (⟨3, ![2, 1024, 8192]⟩ : Shape).Idx → EReal

/-- The keys' array. -/
abbrev Keys := (⟨2, ![16384, 1024]⟩ : Shape).Idx → EReal

/-- The values' array. -/
abbrev Values := (⟨3, ![2, 512, 8192]⟩ : Shape).Idx → EReal

/-- Feature `e` of head `H`, in an array that lays the heads' features out one after another. -/
def feature (H : Fin 8) (e : Fin 128) : Fin 1024 := ⟨128 * H.val + e.val, by omega⟩

/-- Column `d` of head `H`. -/
def column (H : Fin 8) (d : Fin 64) : Fin 512 := ⟨64 * H.val + d.val, by omega⟩

/-- Position `t`, for a number below 8192 (any other number wraps around). -/
def pos (t : ℕ) : Fin 8192 := ⟨t % 8192, Nat.mod_lt _ (by decide)⟩

/-- Position `t` of batch `b`, in an array that lays the batches out one after another. -/
def token (b : Fin 2) (t : Fin 8192) : Fin 16384 := ⟨8192 * b.val + t.val, by omega⟩

/-- Key `t` times query `r`. -/
def product (Q : Queries) (K : Keys) (b : Fin 2) (H : Fin 8) (r : Fin 8192) (t : ℕ) : EReal :=
  ∑ e : Fin 128, K (ix2 (token b (pos t)) (feature H e)) * Q (ix3 b (feature H e) r)

/-- The score: −∞ where the key lies after the query. -/
def score (Q : Queries) (K : Keys) (b : Fin 2) (H : Fin 8) (r : Fin 8192) (t : ℕ) : EReal :=
  if t ≤ r.val then product Q K b H r t else ⊥

/-- The value at key `t`. -/
def valueAt (V : Values) (b : Fin 2) (H : Fin 8) (d : Fin 64) (t : ℕ) : EReal := V (ix3 b (column H d) (pos t))

/-- The attention at query `r`, head `H`, column `d`. -/
def attend (Q : Queries) (K : Keys) (V : Values) (b : Fin 2) (r : Fin 8192) (H : Fin 8) (d : Fin 64) : EReal :=
  Ideal.div (rowSum (score Q K b H r) (valueAt V b H d) 8192) (rowSum (score Q K b H r) (fun _ => 1) 8192)

/-- Every entry is a real number. -/
def Real {s : Shape} (x : s.Idx → EReal) : Prop := ∀ i, x i ≠ ⊤ ∧ x i ≠ ⊥

/-- Real queries and keys have real products. -/
theorem product_real {Q : Queries} {K : Keys} (hQ : Real Q) (hK : Real K) (b : Fin 2) (H : Fin 8) (r : Fin 8192) (t : ℕ) :
    product Q K b H r t ≠ ⊤ ∧ product Q K b H r t ≠ ⊥ := by
  have h : product Q K b H r t = ((∑ e : Fin 128, (K (ix2 (token b (pos t)) (feature H e))).toReal * (Q (ix3 b (feature H e) r)).toReal : ℝ) : EReal) := by
    rw [coe_sum]
    refine Finset.sum_congr rfl fun e _ => ?_
    rw [EReal.coe_mul, EReal.coe_toReal (hK _).1 (hK _).2, EReal.coe_toReal (hQ _).1 (hQ _).2]
  rw [h]
  exact ⟨EReal.coe_ne_top _, EReal.coe_ne_bot _⟩

theorem score_ne_top {Q : Queries} {K : Keys} (hQ : Real Q) (hK : Real K) (b : Fin 2) (H : Fin 8) (r : Fin 8192) (t : ℕ) : score Q K b H r t ≠ ⊤ := by
  unfold score
  split
  · exact (product_real hQ hK b H r t).1
  · exact bot_ne_top

theorem score_zero {Q : Queries} {K : Keys} (hQ : Real Q) (hK : Real K) (b : Fin 2) (H : Fin 8) (r : Fin 8192) : score Q K b H r 0 ≠ ⊥ := by
  unfold score
  rw [if_pos (Nat.zero_le _)]
  exact (product_real hQ hK b H r 0).2

/-- The softmax over the keys of the scores times the logarithm of 2, applied to the values, is that quotient. -/
theorem softmax_attend {Q : Queries} {K : Keys} (hQ : Real Q) (hK : Real K) (V : Values) (b : Fin 2) (r : Fin 8192) (H : Fin 8) (d : Fin 64)
    {x : ℕ → EReal} (hx : ∀ t, x t = natLogit (score Q K b H r t)) :
    attend Q K V b r H d = ∑ t ∈ Finset.range 8192, valueAt V b H d t
      * Ideal.div (Ideal.exp (x t - (Finset.range 8192).sup x)) (∑ t' ∈ Finset.range 8192, Ideal.exp (x t' - (Finset.range 8192).sup x)) :=
  softmax_eq (score_ne_top hQ hK b H r) (valueAt V b H d) (by decide : 0 < 8192) (score_zero hQ hK b H r) hx

end Cert.Attention
-- ==== Proof.KernelIdeal.Array.lean ====
/-
  The idealized program's result, entry by entry: at every batch, query, head and column it is the attention of the three arguments.
-/
module

public import proofs.«01_k».proof.Proof.KernelIdeal.Value
public import proofs.«01_k».proof.Proof.Tile
public import proofs.«01_k».proof.Proof.Attention
public import Idealize.ShloMosaic.Lib.Pipeline.Covers
public import Idealize.ShloMosaic.Lib.StableHlo.Run

@[expose] public section

noncomputable section

namespace Cert.KernelIdeal.Value

open Cert.KernelIdeal Cert.KernelIdeal.Gen Cert.Attention Idealize.ShloMosaic Idealize.ShloMosaic.TcCoe Idealize.SL.Sem
open Idealize.ShloMosaic.ValueIdx
open Idealize.ShloMosaic.Pipeline (Dat Window)

variable (m : (ℓ : Loc nD τ sig) → Buf (Elt Ideal) ℓ)

/-- The arguments' contents at launch. -/
abbrev argQ (c : Dev nD) : Queries := m ((c : Thread nD τ).loc main_arg0)
abbrev argK (c : Dev nD) : Keys := m ((c : Thread nD τ).loc main_arg1)
abbrev argV (c : Dev nD) : Values := m ((c : Thread nD τ).loc main_arg2)

/-! ## A grid point's coordinates -/

/-- The batch of a point. -/
def batch (t : Fin cfg0.N) : Fin 2 := ⟨(grid0.coords t 0).val, (grid0.coords t 0).isLt⟩

/-- The head `hh` of the point's pair. -/
def head (t : Fin cfg0.N) (hh : Fin 2) : Fin 8 := ⟨2 * (grid0.coords t 1).val + hh.val, by
  have : (grid0.coords t 1).val < 4 := (grid0.coords t 1).isLt
  omega⟩

theorem tile_lt (t : Fin cfg0.N) : (grid0.coords t 2).val < 8 := (grid0.coords t 2).isLt

/-- Query `r` of the point's tile. -/
def query (t : Fin cfg0.N) (r : Fin 1024) : Fin 8192 := ⟨1024 * (grid0.coords t 2).val + r.val, by
  have := tile_lt t
  omega⟩

theorem index_word {k n : ℕ} (h : k < n) (hn : n ≤ 8 := by decide) : (BitVec.ofNat 32 k).toNat = k := by
  rw [BitVec.toNat_ofNat]
  exact Nat.mod_eq_of_lt (by omega)

/-! ## The input blocks -/

/-- The keys, reshaped by the host before the region. -/
theorem V_main_v0 (c : Dev nD) : V m c main_v0 = shapeCast S2x8192x1024 (argK m c) shapeCasts_S16384x1024_S2x8192x1024 := by
  show StableHlo.after hostOps0 _ _ = _
  simp only [hostOps0]
  after_results_simp <;> rfl

/-- The block of queries at a point. -/
theorem queries_apply (c : Dev nD) (t : Fin cfg0.N) (hh : Fin 2) (e : Fin 128) (r : Fin 1024) :
    (iblk m c 0 t : Vec Ideal S1x256x1024 .bf16) (ix3 (0 : Fin 1) (⟨128 * hh.val + e.val, by omega⟩ : Fin 256) r)
      = argQ m c (ix3 (batch t) (feature (head t hh) e) (query t r)) := by
  show V m c main_arg0 ((win0_0.rect t).emb (ix3 (0 : Fin 1) (⟨128 * hh.val + e.val, by omega⟩ : Fin 256) r)) = _
  rw [V_main_arg0]
  refine congrArg (argQ m c) (funext fun a => Fin.ext ((Window.rect_emb_val win0_0 t _ a).trans ?_))
  match a with
  | ⟨0, _⟩ =>
    show (BitVec.ofNat 32 (grid0.coords t 0).val).toNat * 1 + 0 = (grid0.coords t 0).val
    rw [index_word (grid0.coords t 0).isLt]; omega
  | ⟨1, _⟩ =>
    show (BitVec.ofNat 32 (grid0.coords t 1).val).toNat * 256 + (128 * hh.val + e.val) = 128 * (2 * (grid0.coords t 1).val + hh.val) + e.val
    rw [index_word (grid0.coords t 1).isLt]; omega
  | ⟨2, _⟩ =>
    show (BitVec.ofNat 32 (grid0.coords t 2).val).toNat * 1024 + r.val = 1024 * (grid0.coords t 2).val + r.val
    rw [index_word (grid0.coords t 2).isLt]; omega

/-- The block of keys at a point. -/
theorem keys_apply (c : Dev nD) (t : Fin cfg0.N) (hh : Fin 2) (e : Fin 128) (p : Fin 8192) :
    (iblk m c 1 t : Vec Ideal S1x8192x256 .bf16) (ix3 (0 : Fin 1) p (⟨128 * hh.val + e.val, by omega⟩ : Fin 256))
      = argK m c (ix2 (token (batch t) p) (feature (head t hh) e)) := by
  show V m c main_v0 ((win0_1.rect t).emb (ix3 (0 : Fin 1) p (⟨128 * hh.val + e.val, by omega⟩ : Fin 256))) = _
  rw [V_main_v0]
  have hi : (win0_1.rect t).emb (ix3 (0 : Fin 1) p (⟨128 * hh.val + e.val, by omega⟩ : Fin 256)) = ix3 (batch t) p (feature (head t hh) e) := by
    refine funext fun a => Fin.ext ((Window.rect_emb_val win0_1 t _ a).trans ?_)
    match a with
    | ⟨0, _⟩ =>
      show (BitVec.ofNat 32 (grid0.coords t 0).val).toNat * 1 + 0 = (grid0.coords t 0).val
      rw [index_word (grid0.coords t 0).isLt]; omega
    | ⟨1, _⟩ =>
      show 0 * 8192 + p.val = p.val
      omega
    | ⟨2, _⟩ =>
      show (BitVec.ofNat 32 (grid0.coords t 1).val).toNat * 256 + (128 * hh.val + e.val) = 128 * (2 * (grid0.coords t 1).val + hh.val) + e.val
      rw [index_word (grid0.coords t 1).isLt]; omega
  rw [hi]
  refine shapeCast_apply _ _ _ (ix2 (token (batch t) p) (feature (head t hh) e)) ?_
  rw [Shape.rowMajor_val_two, Shape.rowMajor_val_three]
  show (8192 * (batch t).val + p.val) * 1024 + (feature (head t hh) e).val = ((batch t).val * 8192 + p.val) * 1024 + (feature (head t hh) e).val
  omega

/-- The block of values at a point. -/
theorem values_apply (c : Dev nD) (t : Fin cfg0.N) (hh : Fin 2) (d : Fin 64) (p : Fin 8192) :
    (iblk m c 2 t : Vec Ideal S1x128x8192 .bf16) (ix3 (0 : Fin 1) (⟨64 * hh.val + d.val, by omega⟩ : Fin 128) p)
      = argV m c (ix3 (batch t) (column (head t hh) d) p) := by
  show V m c main_arg2 ((win0_2.rect t).emb (ix3 (0 : Fin 1) (⟨64 * hh.val + d.val, by omega⟩ : Fin 128) p)) = _
  rw [V_main_arg2]
  refine congrArg (argV m c) (funext fun a => Fin.ext ((Window.rect_emb_val win0_2 t _ a).trans ?_))
  match a with
  | ⟨0, _⟩ =>
    show (BitVec.ofNat 32 (grid0.coords t 0).val).toNat * 1 + 0 = (grid0.coords t 0).val
    rw [index_word (grid0.coords t 0).isLt]; omega
  | ⟨1, _⟩ =>
    show (BitVec.ofNat 32 (grid0.coords t 1).val).toNat * 128 + (64 * hh.val + d.val) = 64 * (2 * (grid0.coords t 1).val + hh.val) + d.val
    rw [index_word (grid0.coords t 1).isLt]; omega
  | ⟨2, _⟩ =>
    show 0 * 8192 + p.val = p.val
    omega

/-! ## The block that a point leaves -/

theorem keyDot_eq (c : Dev nD) (t : Fin cfg0.N) (hh : Fin 2) (r : Fin 1024) (k : ℕ) :
    keyDot (iblk m c 0 t) (iblk m c 1 t) hh r k = product (argQ m c) (argK m c) (batch t) (head t hh) (query t r) k :=
  Finset.sum_congr rfl fun e _ => congrArg₂ (· * ·) (keys_apply m c t hh e (pos k)) (queries_apply m c t hh e r)

theorem tileScore_eq (c : Dev nD) (t : Fin cfg0.N) (hh : Fin 2) (r : Fin 1024) :
    tileScore (grid0.coords t 2).val (iblk m c 0 t) (iblk m c 1 t) hh r = score (argQ m c) (argK m c) (batch t) (head t hh) (query t r) := by
  funext k
  unfold tileScore score
  rw [keyDot_eq]
  rfl

/-- An entry of the block is the attention at its place. -/
theorem blockAt_apply (c : Dev nD) (hQ : Attention.Real (argQ m c)) (hK : Attention.Real (argK m c)) (t : Fin cfg0.N) (hh : Fin 2) (d : Fin 64) (r : Fin 1024) :
    blockAt m c t (ix3 (0 : Fin 1) r (⟨64 * hh.val + d.val, by omega⟩ : Fin 128))
      = attend (argQ m c) (argK m c) (argV m c) (batch t) (query t r) (head t hh) d := by
  unfold blockAt
  rw [tile_value (iblk m c 2 t) (fun hh r k => by rw [keyDot_eq]; exact product_real hQ hK _ _ _ _) (tile_lt t), tileScore_eq]
  refine congrArg₂ Ideal.div (congrArg (rowSum _ · 8192) (funext fun k => ?_)) rfl
  exact values_apply m c t hh d (pos k)

/-! ## The array -/

/-- Every batch, head and query has a grid point, a head of the pair and a query of the tile. -/
theorem point_of (b : Fin 2) (H : Fin 8) (r : Fin 8192) :
    ∃ (t : Fin cfg0.N) (hh : Fin 2) (r' : Fin 1024), b = batch t ∧ H = head t hh ∧ r = query t r' := by
  obtain ⟨t, ht⟩ := Pipeline.Grid.coords_surjective grid0 (fun a => match a with
    | ⟨0, _⟩ => b
    | ⟨1, _⟩ => (⟨H.val / 2, by omega⟩ : Fin 4)
    | ⟨2, _⟩ => (⟨r.val / 1024, by omega⟩ : Fin 8))
  have h0 : (grid0.coords t 0).val = b.val := by rw [ht]
  have h1 : (grid0.coords t 1).val = H.val / 2 := by rw [ht]
  have h2 : (grid0.coords t 2).val = r.val / 1024 := by rw [ht]
  refine ⟨t, ⟨H.val % 2, by omega⟩, ⟨r.val % 1024, by omega⟩, Fin.ext h0.symm, Fin.ext ?_, Fin.ext ?_⟩
  · show H.val = 2 * (grid0.coords t 1).val + H.val % 2
    omega
  · show r.val = 1024 * (grid0.coords t 2).val + r.val % 1024
    omega

/-- The final array at a batch, query, head and column is the attention there. -/
theorem array_apply (c : Dev nD) (hQ : Attention.Real (argQ m c)) (hK : Attention.Real (argK m c)) (b : Fin 2) (r : Fin 8192) (H : Fin 8) (d : Fin 64) :
    ((dats m 0 c).arrAt 3 cfg0.N : S2x8192x512.Idx → EReal) (ix3 b r (column H d)) = attend (argQ m c) (argK m c) (argV m c) b r H d := by
  obtain ⟨t, hh, r', rfl, rfl, rfl⟩ := point_of b H r
  have hb : ((dats m 0 c).arrAt 3 cfg0.N : S2x8192x512.Idx → EReal)
      ((win0_3.rect t).emb (ix3 (0 : Fin 1) r' (⟨64 * hh.val + d.val, by omega⟩ : Fin 128))) = blockAt m c t (ix3 (0 : Fin 1) r' (⟨64 * hh.val + d.val, by omega⟩ : Fin 128)) :=
    congrFun ((blocks3 m c t (flush0_3 t)).trans (flushed3 m c t)) (ix3 (0 : Fin 1) r' (⟨64 * hh.val + d.val, by omega⟩ : Fin 128))
  rw [← blockAt_apply m c hQ hK, ← hb]
  refine congrArg _ (funext fun a => Fin.ext ?_)
  refine Eq.trans ?_ (Window.rect_emb_val win0_3 t _ a).symm
  match a with
  | ⟨0, _⟩ =>
    show (grid0.coords t 0).val = (BitVec.ofNat 32 (grid0.coords t 0).val).toNat * 1 + 0
    rw [index_word (grid0.coords t 0).isLt]; omega
  | ⟨1, _⟩ =>
    show 1024 * (grid0.coords t 2).val + r'.val = (BitVec.ofNat 32 (grid0.coords t 2).val).toNat * 1024 + r'.val
    rw [index_word (grid0.coords t 2).isLt]; omega
  | ⟨2, _⟩ =>
    show 64 * (2 * (grid0.coords t 1).val + hh.val) + d.val = (BitVec.ofNat 32 (grid0.coords t 1).val).toNat * 128 + (64 * hh.val + d.val)
    rw [index_word (grid0.coords t 1).isLt]; omega

end Cert.KernelIdeal.Value
-- ==== Proof.Reference.lean ====
/-
  The reference's result, entry by entry: at every batch, query, head and column it is the attention of the three arguments.
-/
module

public import proofs.«01_k».proof.Proof.Gen.ReferenceIdeal.Run
public import proofs.«01_k».proof.Proof.Attention
public import Idealize.ShloMosaic.Lib.IdealHost
public import Idealize.ShloMosaic.Lib.KernelVsHost
public import Idealize.ShloMosaic.Lib.Pipeline.Value

@[expose] public section

noncomputable section

namespace Cert.ReferenceIdeal.Value

open Cert.ReferenceIdeal Cert.ReferenceIdeal.Gen Cert.Attention Idealize.ShloMosaic Idealize.ShloMosaic.TcCoe Idealize.ShloMosaic.ValueIdx
open scoped BigOperators

variable (m : (ℓ : Loc nD τ sig) → Buf (Elt Ideal) ℓ)

/-- The arguments' contents at launch. -/
abbrev argQ (c : Dev nD) : Queries := m ((c.tc : Thread nD τ).loc main_arg0)
abbrev argK (c : Dev nD) : Keys := m ((c.tc : Thread nD τ).loc main_arg1)
abbrev argV (c : Dev nD) : Values := m ((c.tc : Thread nD τ).loc main_arg2)

/-! ## The reference's stages -/

/-- Where the key does not lie after the query. -/
def visible : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))

/-- The products of all queries and keys. -/
def products (c : Dev nD) : FVec Ideal S2x8x8192x8192 .f32 :=
  Host.dotGeneral (φ₁ := .f32) (φ₂ := .f32) dot_S2x8x128x8192_S2x8192x8x128_S2x8x8192x8192_2_3_3_1_01_02 none
    (shapeCast S2x8x128x8192 (argQ m c) shapeCasts_S2x1024x8192_S2x8x128x8192) (shapeCast S2x8192x8x128 (argK m c) shapeCasts_S16384x1024_S2x8192x8x128)

/-- The masked logits. -/
def logits (c : Dev nD) : FVec Ideal S2x8x8192x8192 .f32 :=
  select (broadcastInDim S2x8x8192x8192 ![2, 3] bcast_S8192x8192_S2x8x8192x8192_2_3 visible)
    (mulf (products m c) (broadcastInDim S2x8x8192x8192 ![] bcast_S_S2x8x8192x8192 (Host.log (constant S_ .f32 0x40000000#32))))
    (broadcastInDim S2x8x8192x8192 ![] bcast_S_S2x8x8192x8192 (id (constant S_ .f32 0xFF800000#32)))

/-- One number for each query, at every key. -/
def spread (x : FVec Ideal S2x8x8192 .f32) : FVec Ideal S2x8x8192x8192 .f32 :=
  broadcastInDim S2x8x8192x8192 ![0, 1, 2, 3] bcast_S2x8x8192x1_S2x8x8192x8192_0_1_2_3
    (broadcastInDim S2x8x8192x1 ![0, 1, 2] bcast_S2x8x8192_S2x8x8192x1_0_1_2 x)

/-- The maximum over the keys. -/
def maxima (s : FVec Ideal S2x8x8192x8192 .f32) : FVec Ideal S2x8x8192 .f32 :=
  maximumf (broadcastInDim S2x8x8192 ![] bcast_S_S2x8x8192 (constant S_ .f32 0xFF800000#32))
    (Host.reduce FloatOps.maximumf s (constant S_ .f32 0xFF800000#32) reducesTo_S2x8x8192x8192_S2x8x8192_d3 h_S_)

/-- The sum over the keys. -/
def totals (s : FVec Ideal S2x8x8192x8192 .f32) : FVec Ideal S2x8x8192 .f32 :=
  Host.reduceAdd s (constant S_ .f32 0x00000000#32) reducesTo_S2x8x8192x8192_S2x8x8192_d3 h_S_

/-- The exponentials of the logits minus their maximum. -/
def exponentials (s : FVec Ideal S2x8x8192x8192 .f32) : FVec Ideal S2x8x8192x8192 .f32 := Host.exp (subf s (spread (maxima s)))

/-- The softmax over the keys. -/
def softmax (s : FVec Ideal S2x8x8192x8192 .f32) : FVec Ideal S2x8x8192x8192 .f32 :=
  Host.divf (exponentials s) (spread (totals (exponentials s)))

/-- The probabilities applied to the values. -/
def applied (c : Dev nD) : FVec Ideal S2x8x64x8192 .f32 :=
  Host.dotGeneral (φ₁ := .f32) (φ₂ := .f32) dot_S2x8x64x8192_S2x8x8192x8192_S2x8x64x8192_3_3_2_2_01_01 none
    (shapeCast S2x8x64x8192 (argV m c) shapeCasts_S2x512x8192_S2x8x64x8192) (softmax (logits m c))

/-- The result's term is these stages. -/
theorem result_eq (c : Dev nD) : (res_main_v31 m c : S2x8192x512.Idx → EReal)
    = shapeCast S2x8192x512 (transpose S2x8192x8x64 [0, 3, 1, 2] (applied m c) transposes_S2x8x64x8192_S2x8192x8x64_0_3_1_2) shapeCasts_S2x8192x8x64_S2x8192x512 := rfl

/-! ## Each at an index -/

theorem spread_apply (x : FVec Ideal S2x8x8192 .f32) (b : Fin 2) (H : Fin 8) (r k : Fin 8192) : spread x (ix4 b H r k) = x (ix3 b H r) := by
  unfold spread
  rw [broadcastInDim_apply (s := S2x8x8192x1) (t := S2x8x8192x8192) _ _ _ (ix4 b H r k) (ix4 b H r (0 : Fin 1)) fun a =>
    match a with
    | ⟨0, _⟩ => rfl
    | ⟨1, _⟩ => rfl
    | ⟨2, _⟩ => rfl
    | ⟨3, _⟩ => rfl]
  exact broadcastInDim_apply (s := S2x8x8192) (t := S2x8x8192x1) _ _ _ _ (ix3 b H r) fun a =>
    match a with
    | ⟨0, _⟩ => rfl
    | ⟨1, _⟩ => rfl
    | ⟨2, _⟩ => rfl

theorem visible_apply (r k : Fin 8192) : visible (ix2 r k) = BitVec.ofBool (decide (k.val ≤ r.val)) := by
  have hk : broadcastInDim S8192x8192 ![0, 1] bcast_S1x8192_S8192x8192_0_1 (broadcastInDim S1x8192 ![1] bcast_S8192_S1x8192_1 (iotaInDim S8192 32 0)) (ix2 r k)
      = BitVec.ofNat 32 k.val := by
    rw [broadcastInDim_apply (s := S1x8192) (t := S8192x8192) _ _ _ (ix2 r k) (ix2 (0 : Fin 1) k) fun a =>
      match a with
      | ⟨0, _⟩ => rfl
      | ⟨1, _⟩ => rfl]
    exact broadcastInDim_apply (s := S8192) (t := S1x8192) _ _ _ _ (ix1 k) fun a => match a with | ⟨0, _⟩ => rfl
  have hr : broadcastInDim S8192x8192 ![0, 1] bcast_S8192x1_S8192x8192_0_1 (broadcastInDim S8192x1 ![0] bcast_S8192_S8192x1_0 (iotaInDim S8192 32 0)) (ix2 r k)
      = BitVec.ofNat 32 r.val := by
    rw [broadcastInDim_apply (s := S8192x1) (t := S8192x8192) _ _ _ (ix2 r k) (ix2 r (0 : Fin 1)) fun a =>
      match a with
      | ⟨0, _⟩ => rfl
      | ⟨1, _⟩ => rfl]
    exact broadcastInDim_apply (s := S8192) (t := S8192x1) _ _ _ _ (ix1 r) fun a => match a with | ⟨0, _⟩ => rfl
  show BitVec.ofBool (BitVec.sle _ _) = _
  rw [hk, hr]
  refine congrArg BitVec.ofBool ?_
  have := r.isLt; have := k.isLt
  rw [BitVec.sle_eq_decide, BitVec.toInt_ofNat', BitVec.toInt_ofNat']
  apply decide_eq_decide.2
  rw [Int.bmod_eq_of_le (by omega) (by omega), Int.bmod_eq_of_le (by omega) (by omega)]
  omega

theorem pos_val (k : Fin 8192) : pos k.val = k := Fin.ext (Nat.mod_eq_of_lt k.isLt)

theorem products_apply (c : Dev nD) (b : Fin 2) (H : Fin 8) (r k : Fin 8192) :
    products m c (ix4 b H r k) = product (argQ m c) (argK m c) b H r k.val := by
  let D := dot_S2x8x128x8192_S2x8192x8x128_S2x8x8192x8192_2_3_3_1_01_02
  have hr : D.contr.rank = 1 := rfl
  have hs : D.contr.size ⟨0, by rw [hr]; omega⟩ = 128 := rfl
  unfold products
  simp only [Host.dotGeneral]
  rw [Ideal.dotGeneral_apply, ← Equiv.sum_comp (contrEquiv1 D 128 hr hs).symm]
  refine Finset.sum_congr rfl fun e _ => ?_
  have he := contrEquiv1_symm_val D 128 hr hs e
  have el : D.lhsIdx (ix4 b H r k) ((contrEquiv1 D 128 hr hs).symm e) = ix4 b H e r := by
    funext a; apply Fin.ext
    match a with
    | ⟨0, _⟩ => rfl
    | ⟨1, _⟩ => rfl
    | ⟨2, _⟩ => exact he
    | ⟨3, _⟩ => rfl
  have er : D.rhsIdx (ix4 b H r k) ((contrEquiv1 D 128 hr hs).symm e) = ix4 b k H e := by
    funext a; apply Fin.ext
    match a with
    | ⟨0, _⟩ => rfl
    | ⟨1, _⟩ => rfl
    | ⟨2, _⟩ => rfl
    | ⟨3, _⟩ => exact he
  rw [el, er, mul_comm, pos_val]
  refine congrArg₂ (· * ·) (shapeCast_apply _ _ _ (ix2 (token b k) (feature H e)) ?_) (shapeCast_apply _ _ _ (ix3 b (feature H e) r) ?_)
  · rw [Shape.rowMajor_val_two, Shape.rowMajor_val_four]
    show (8192 * b.val + k.val) * 1024 + (128 * H.val + e.val) = ((b.val * 8192 + k.val) * 8 + H.val) * 128 + e.val
    omega
  · rw [Shape.rowMajor_val_three, Shape.rowMajor_val_four]
    show (b.val * 1024 + (128 * H.val + e.val)) * 8192 + r.val = ((b.val * 8 + H.val) * 128 + e.val) * 8192 + r.val
    omega

/-- The words of −∞ and of 2. -/
theorem word_bot : Ideal.ofBits .f32 0xFF800000#32 = ⊥ := by simp [Ideal.ofBits, Ideal.ieee]

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee, -EReal.coe_mul]; norm_num
  rw [h]
  show (if (2 : ℝ) ≤ 0 then ⊥ else ((Real.log 2 : ℝ) : EReal)) = _
  rw [if_neg (by norm_num)]

theorem logits_apply (c : Dev nD) (hQ : Attention.Real (argQ m c)) (hK : Attention.Real (argK m c)) (b : Fin 2) (H : Fin 8) (r k : Fin 8192) :
    logits m c (ix4 b H r k) = natLogit (score (argQ m c) (argK m c) b H r k.val) := by
  have hv : broadcastInDim S2x8x8192x8192 ![2, 3] bcast_S8192x8192_S2x8x8192x8192_2_3 visible (ix4 b H r k) = visible (ix2 r k) :=
    broadcastInDim_apply (s := S8192x8192) (t := S2x8x8192x8192) _ _ _ _ (ix2 r k) fun a =>
      match a with
      | ⟨0, _⟩ => rfl
      | ⟨1, _⟩ => rfl
  have hl : logits m c (ix4 b H r k)
      = if broadcastInDim S2x8x8192x8192 ![2, 3] bcast_S8192x8192_S2x8x8192x8192_2_3 visible (ix4 b H r k) = 1#1
        then products m c (ix4 b H r k) * Ideal.log (Ideal.ofBits .f32 0x40000000#32) else Ideal.ofBits .f32 0xFF800000#32 := rfl
  rw [hl, hv, visible_apply, products_apply, word_bot, log_two]
  unfold score
  by_cases h : k.val ≤ r.val
  · rw [if_pos h, natLogit, if_neg (product_real hQ hK b H r k.val).2]
    simp [h]
  · rw [if_neg h, natLogit, if_pos rfl]
    simp [h]

theorem sup_range (n : ℕ) (x : ℕ → EReal) : (Finset.range n).sup x = Finset.univ.sup fun k : Fin n => x k.val :=
  le_antisymm (Finset.sup_le fun t ht => Finset.le_sup (f := fun k : Fin n => x k.val) (Finset.mem_univ (⟨t, Finset.mem_range.1 ht⟩ : Fin n)))
    (Finset.sup_le fun k _ => Finset.le_sup (f := x) (Finset.mem_range.2 k.isLt))

theorem reduces_keys : S2x8x8192x8192.Reduces [3] S2x8x8192 := by decide

theorem lift_keys (b : Fin 2) (H : Fin 8) (r : Fin 8192) (k : Fin 8192) : reduces_keys.lift (ix3 b H r) k = ix4 b H r k := by
  funext a; apply Fin.ext
  match a with
  | ⟨0, _⟩ => rfl
  | ⟨1, _⟩ => rfl
  | ⟨2, _⟩ => rfl
  | ⟨3, _⟩ => rfl

/-- The maximum of one query's logits. -/
theorem maxima_apply (s : FVec Ideal S2x8x8192x8192 .f32) (b : Fin 2) (H : Fin 8) (r : Fin 8192) {x : ℕ → EReal}
    (hx : ∀ k : Fin 8192, s (ix4 b H r k) = x k.val) : maxima s (ix3 b H r) = (Finset.range 8192).sup x := by
  have hm : Host.reduce FloatOps.maximumf s (constant S_ .f32 0xFF800000#32) reducesTo_S2x8x8192x8192_S2x8x8192_d3 h_S_ (ix3 b H r)
      = (Finset.univ : Finset (Fin 8192)).fold max (Ideal.ofBits .f32 0xFF800000#32) (s ∘ reduces_keys.lift (ix3 b H r)) :=
    (congrFun (hostReduce_maximumf_eq_multiReduction (s := S2x8x8192x8192) (t := S2x8x8192) s 0xFF800000#32 _ h_S_ reduces_keys (.inl rfl) rfl) _).trans
      (Ideal.multiReduction_maximumf_single (s := S2x8x8192x8192) (t := S2x8x8192) s _ reduces_keys _ _ (ix3 b H r))
  unfold maxima
  rw [maximumf_apply, hm]
  show max (Ideal.ofBits .f32 0xFF800000#32) _ = _
  rw [word_bot, max_eq_right bot_le, sup_range]
  show Finset.fold max ⊥ _ _ = Finset.fold max ⊥ _ _
  exact Finset.fold_congr fun k _ => (congrArg s (lift_keys b H r k)).trans (hx k)

/-- The sum of one query's entries. -/
theorem totals_apply (s : FVec Ideal S2x8x8192x8192 .f32) (b : Fin 2) (H : Fin 8) (r : Fin 8192) {x : ℕ → EReal}
    (hx : ∀ k : Fin 8192, s (ix4 b H r k) = x k.val) : totals s (ix3 b H r) = ∑ t ∈ Finset.range 8192, x t := by
  unfold totals
  rw [hostReduceAdd_apply, Ideal.hostReduceAdd_single (s := S2x8x8192x8192) (t := S2x8x8192) _ reduces_keys, Finset.sum_range]
  show Ideal.ofBits .f32 0x00000000#32 + _ = _
  rw [Ideal.ofBits_zero_f32, zero_add]
  exact Finset.sum_congr rfl fun k _ => (congrArg s (lift_keys b H r k)).trans (hx k)

/-- One query's probabilities. -/
theorem softmax_apply (s : FVec Ideal S2x8x8192x8192 .f32) (b : Fin 2) (H : Fin 8) (r : Fin 8192) {x : ℕ → EReal}
    (hx : ∀ k : Fin 8192, s (ix4 b H r k) = x k.val) (k : Fin 8192) :
    softmax s (ix4 b H r k) = Ideal.div (Ideal.exp (x k.val - (Finset.range 8192).sup x))
      (∑ t ∈ Finset.range 8192, Ideal.exp (x t - (Finset.range 8192).sup x)) := by
  have he (k : Fin 8192) : exponentials s (ix4 b H r k) = Ideal.exp (x k.val - (Finset.range 8192).sup x) := by
    have h : exponentials s (ix4 b H r k) = Ideal.exp (s (ix4 b H r k) - spread (maxima s) (ix4 b H r k)) := rfl
    rw [h, spread_apply, maxima_apply s b H r hx, hx]
  unfold softmax
  rw [hostDivf_apply, spread_apply, totals_apply (exponentials s) b H r (x := fun t => Ideal.exp (x t - (Finset.range 8192).sup x)) he, he]

/-- The values with the heads apart. -/
theorem values_apply (c : Dev nD) (b : Fin 2) (H : Fin 8) (d : Fin 64) (k : Fin 8192) :
    shapeCast S2x8x64x8192 (argV m c) shapeCasts_S2x512x8192_S2x8x64x8192 (ix4 b H d k) = valueAt (argV m c) b H d k.val := by
  unfold valueAt
  rw [pos_val]
  refine shapeCast_apply _ _ _ (ix3 b (column H d) k) ?_
  rw [Shape.rowMajor_val_three, Shape.rowMajor_val_four]
  show (b.val * 512 + (64 * H.val + d.val)) * 8192 + k.val = ((b.val * 8 + H.val) * 64 + d.val) * 8192 + k.val
  omega

/-- The probabilities applied to the values, at an index, are the attention there. -/
theorem applied_apply (c : Dev nD) (hQ : Attention.Real (argQ m c)) (hK : Attention.Real (argK m c)) (b : Fin 2) (r : Fin 8192) (H : Fin 8) (d : Fin 64) :
    applied m c (ix4 b H d r) = attend (argQ m c) (argK m c) (argV m c) b r H d := by
  let D := dot_S2x8x64x8192_S2x8x8192x8192_S2x8x64x8192_3_3_2_2_01_01
  have hr : D.contr.rank = 1 := rfl
  have hs : D.contr.size ⟨0, by rw [hr]; omega⟩ = 8192 := rfl
  unfold applied
  simp only [Host.dotGeneral]
  rw [Ideal.dotGeneral_apply, ← Equiv.sum_comp (contrEquiv1 D 8192 hr hs).symm,
    softmax_attend hQ hK (argV m c) b r H d (x := fun t => natLogit (score (argQ m c) (argK m c) b H r t)) (fun _ => rfl), Finset.sum_range]
  refine Finset.sum_congr rfl fun k _ => ?_
  have hk := contrEquiv1_symm_val D 8192 hr hs k
  have el : D.lhsIdx (ix4 b H d r) ((contrEquiv1 D 8192 hr hs).symm k) = ix4 b H d k := by
    funext a; apply Fin.ext
    match a with
    | ⟨0, _⟩ => rfl
    | ⟨1, _⟩ => rfl
    | ⟨2, _⟩ => rfl
    | ⟨3, _⟩ => exact hk
  have er : D.rhsIdx (ix4 b H d r) ((contrEquiv1 D 8192 hr hs).symm k) = ix4 b H r k := by
    funext a; apply Fin.ext
    match a with
    | ⟨0, _⟩ => rfl
    | ⟨1, _⟩ => rfl
    | ⟨2, _⟩ => rfl
    | ⟨3, _⟩ => exact hk
  rw [el, er, values_apply, softmax_apply (logits m c) b H r (x := fun t => natLogit (score (argQ m c) (argK m c) b H r t)) (fun k => logits_apply m c hQ hK b H r k)]

/-- The result at a batch, query, head and column is the attention there. -/
theorem result_apply (c : Dev nD) (hQ : Attention.Real (argQ m c)) (hK : Attention.Real (argK m c)) (b : Fin 2) (r : Fin 8192) (H : Fin 8) (d : Fin 64) :
    (res_main_v31 m c : S2x8192x512.Idx → EReal) (ix3 b r (column H d)) = attend (argQ m c) (argK m c) (argV m c) b r H d := by
  refine (congrFun (result_eq m c) _).trans ?_
  refine (shapeCast_apply (s := S2x8192x8x64) (t := S2x8192x512) _ _ _ (ix4 b r H d) ?_).trans ?_
  · rw [Shape.rowMajor_val_three, Shape.rowMajor_val_four]
    show ((b.val * 8192 + r.val) * 8 + H.val) * 64 + d.val = (b.val * 8192 + r.val) * 512 + (64 * H.val + d.val)
    omega
  refine (transpose_apply (s := S2x8x64x8192) (t := S2x8192x8x64) _ _ _ _ (ix4 b H d r) fun a => ?_).trans (applied_apply m c hQ hK b r H d)
  match a with
  | ⟨0, _⟩ => rfl
  | ⟨1, _⟩ => rfl
  | ⟨2, _⟩ => rfl
  | ⟨3, _⟩ => rfl

end Cert.ReferenceIdeal.Value
-- ==== Proof.Projection.lean ====
/-
  The mathematics of the input projection, over the extended reals.

  A row of the input is divided by the root of its mean square, scaled, and modulated by one row of scales and one of shifts
  (`modulated`); a column of the projection is that row against a row of weights, plus a bias (`linear`). Gates are sigmoids (`gate`) and
  forget gates log-sigmoids (`logGate`), which the program and the reference write in two ways (`logGate_eq`).
-/
module

public import Idealize.ShloMosaic.PureOps.Ideal
public import Idealize.ShloMosaic.Lib.ValueIdx

@[expose] public section

noncomputable section

namespace Cert.Projection

open Idealize.ShloMosaic Idealize.ShloMosaic.ValueIdx
open scoped BigOperators

abbrev Inputs := (⟨3, ![2, 8192, 1024]⟩ : Shape).Idx → EReal
abbrev Modulation := (⟨3, ![6, 40, 1024]⟩ : Shape).Idx → EReal
abbrev Scales := (⟨2, ![1, 1024]⟩ : Shape).Idx → EReal
abbrev Weights := (⟨3, ![1, 1024, 4616]⟩ : Shape).Idx → EReal
abbrev Biases := (⟨2, ![1, 4616]⟩ : Shape).Idx → EReal

/-- The number a 32-bit word stands for. -/
abbrev word (w : BitVec 32) : EReal := Ideal.ofBits .f32 w

/-- One entry of a row `x` after the normalization, the scales `g` and the modulation by `sc` and `sh`. -/
def modulated (x g sc sh : Fin 1024 → EReal) (k : Fin 1024) : EReal :=
  x k * Ideal.rsqrt (Ideal.div (∑ j, x j * x j) (word 0x44800000#32) + word 0x358637BD#32) * g k * (word 0x3F800000#32 + sc k) + sh k

/-- A row against a row of weights, plus a bias. -/
def linear (h w : Fin 1024 → EReal) (b : EReal) : EReal := (∑ k, h k * w k) + b

/-- The sigmoid. -/
def gate (z : EReal) : EReal := Ideal.div (word 0x3F800000#32) (word 0x3F800000#32 + Ideal.exp (-z))

/-- The logarithm of the sigmoid. -/
def logGate (z : EReal) : EReal := min z 0 - Ideal.log1p (Ideal.exp (-max z (-z)))

/-- The modulation's row for a prompt sequence. -/
def modRow (b : Fin 2) : Fin 40 := ⟨32 + b.val, by omega⟩

/-- Column `o` of the projection of row `r` of sequence `b`. -/
def projected (x : Inputs) (mo : Modulation) (g : Scales) (w : Weights) (bi : Biases) (b : Fin 2) (r : Fin 8192) (o : Fin 4616) : EReal :=
  linear (modulated (fun j => x (ix3 b r j)) (fun j => g (ix2 (0 : Fin 1) j)) (fun j => mo (ix3 (1 : Fin 6) (modRow b) j))
    (fun j => mo (ix3 (0 : Fin 6) (modRow b) j))) (fun k => w (ix3 (0 : Fin 1) k o)) (bi (ix2 (0 : Fin 1) o))

/-! ## The results, as they are stored -/

/-- The sequence and the position of row `n` of the sequences one after the other. -/
def rowSeq (n : Fin 16384) : Fin 2 := ⟨n.val / 8192, by omega⟩
def rowPos (n : Fin 16384) : Fin 8192 := ⟨n.val % 8192, by omega⟩

/-- Row `l` of page `p`, and position `r` of sequence `b`, among all rows. -/
def pageRow (p l : Fin 128) : Fin 16384 := ⟨128 * p.val + l.val, by omega⟩
def tokenRow (b : Fin 2) (r : Fin 8192) : Fin 16384 := ⟨8192 * b.val + r.val, by omega⟩

/-- Column `j` of the columns from `a` on. -/
def column (a : ℕ) {n : ℕ} (h : a + n ≤ 4616) (j : Fin n) : Fin 4616 := ⟨a + j.val, by omega⟩

section Results

variable (x : Inputs) (mo : Modulation) (g : Scales) (w : Weights) (bi : Biases)

/-- Column `o` of row `n`. -/
def atRow (n : Fin 16384) (o : Fin 4616) : EReal := projected x mo g w bi (rowSeq n) (rowPos n) o

theorem atRow_token (b : Fin 2) (r : Fin 8192) (o : Fin 4616) : atRow x mo g w bi (tokenRow b r) o = projected x mo g w bi b r o := by
  have hb : rowSeq (tokenRow b r) = b := Fin.ext (by
    show (8192 * b.val + r.val) / 8192 = b.val
    omega)
  have hr : rowPos (tokenRow b r) = r := Fin.ext (by
    show (8192 * b.val + r.val) % 8192 = r.val
    omega)
  unfold atRow
  rw [hb, hr]

/-- Pages of 512 columns from `a` on: one row of a page for each column. -/
def pagesFrom (a : ℕ) (h : a + 512 ≤ 4616) : (⟨3, ![128, 512, 128]⟩ : Shape).Idx → EReal :=
  fun i => atRow x mo g w bi (pageRow (i 0) (i 2)) (column a h (i 1))

/-- The values, a row for each column of a sequence. -/
def valueRows : (⟨3, ![2, 512, 8192]⟩ : Shape).Idx → EReal :=
  fun i => atRow x mo g w bi (tokenRow (i 0) (i 2)) (column 1024 (by decide) (i 1))

/-- Pages of the forget gates' logarithms. -/
def forgetPages : (⟨3, ![128, 8, 128]⟩ : Shape).Idx → EReal :=
  fun i => logGate (atRow x mo g w bi (pageRow (i 0) (i 2)) (column 1536 (by decide) (i 1)))

/-- Column `j` of slab `s`. -/
def slabColumn (s : Fin 4) (j : Fin 128) : Fin 512 := ⟨128 * s.val + j.val, by omega⟩

/-- The convolution's input, in slabs of 128 columns. -/
def convSlabs : (⟨3, ![4, 16384, 128]⟩ : Shape).Idx → EReal :=
  fun i => atRow x mo g w bi (i 1) (column 1544 (by decide) (slabColumn (i 0) (i 2)))
    * gate (atRow x mo g w bi (i 1) (column 2056 (by decide) (slabColumn (i 0) (i 2))))

/-- The gates of 1024 columns from `a` on. -/
def gatesFrom (a : ℕ) (h : a + 1024 ≤ 4616) : (⟨2, ![16384, 1024]⟩ : Shape).Idx → EReal :=
  fun i => gate (atRow x mo g w bi (i 0) (column a h (i 1)))

end Results

/-! ## The two ways to write a log-sigmoid -/

/-- The logarithm of one plus an exponential of something not positive is a real. -/
theorem log1p_exp_real {d : EReal} (hd : d ≤ 0) : Ideal.log1p (Ideal.exp d) ≠ ⊥ ∧ Ideal.log1p (Ideal.exp d) ≠ ⊤ := by
  induction d with
  | bot =>
    have h : Ideal.log1p (Ideal.exp ⊥) = ((Real.log 1 : ℝ) : EReal) := by
      show Ideal.log (1 + 0) = _
      rw [add_zero]
      show (if (1 : ℝ) ≤ 0 then ⊥ else ((Real.log 1 : ℝ) : EReal)) = _
      rw [if_neg (by norm_num)]
    rw [h]
    exact ⟨EReal.coe_ne_bot _, EReal.coe_ne_top _⟩
  | top => exact absurd hd (by simp)
  | coe d =>
    have h : Ideal.log1p (Ideal.exp (d : EReal)) = ((Real.log (1 + Real.exp d) : ℝ) : EReal) := by
      show Ideal.log (((1 : ℝ) : EReal) + ((Real.exp d : ℝ) : EReal)) = _
      rw [← EReal.coe_add]
      show (if 1 + Real.exp d ≤ 0 then ⊥ else ((Real.log (1 + Real.exp d) : ℝ) : EReal)) = _
      rw [if_neg (by have := Real.exp_pos d; linarith)]
    rw [h]
    exact ⟨EReal.coe_ne_bot _, EReal.coe_ne_top _⟩

theorem neg_max_neg_le (z : EReal) : -max z (-z) ≤ 0 := by
  rw [EReal.neg_le, neg_zero]
  rcases le_total 0 z with h | h
  · exact h.trans (le_max_left _ _)
  · exact (EReal.neg_nonneg.2 h).trans (le_max_right _ _)

/-- Minus the softplus of `-z` is the log-sigmoid of `z`. -/
theorem logGate_eq (z : EReal) : -(max (-z) 0 + Ideal.log1p (Ideal.exp (-max (-z - 0) (-(-z - 0))))) = logGate z := by
  have hz : -z - 0 = -z := sub_zero _
  rw [hz, neg_neg, max_comm (-z) z]
  obtain ⟨hb, ht⟩ := log1p_exp_real (neg_max_neg_le z)
  rw [EReal.neg_add (Or.inr ht) (Or.inr hb)]
  unfold logGate
  congr 1
  rcases le_total z 0 with h | h
  · rw [max_eq_left (EReal.neg_nonneg.2 h), neg_neg, min_eq_left h]
  · rw [max_eq_right (by rw [EReal.neg_le, neg_zero]; exact h), neg_zero, min_eq_right h]

end Cert.Projection
-- ==== Proof.InprojIdeal.Block.lean ====
/-
  One grid point of the input projection on the extended reals: what it computes from a block of 512 rows, entry by entry.
-/
module

public import proofs.«01_k».proof.Proof.Gen.InprojIdeal.Skeleton
public import proofs.«01_k».proof.Proof.Projection
public import Idealize.ShloMosaic.Lib.ValueLayout
public import Idealize.ShloMosaic.Lib.MatmulPlain
public import Idealize.ShloMosaic.Lib.IdealHost
public import Idealize.ShloMosaic.Lib.WordCmp

@[expose] public section

noncomputable section

namespace Cert.Projection

open Idealize.ShloMosaic Idealize.ShloMosaic.ValueIdx Cert.InprojIdeal Cert.InprojIdeal.Gen
open scoped BigOperators

theorem lift_features (r : Fin 512) (k : Fin 1024) : reduces_S512x1024_S512.lift (ix1 r) k = ix2 r k :=
  funext fun a => match a with
    | ⟨0, _⟩ => rfl
    | ⟨1, _⟩ => rfl

/-- A row's mean square. -/
theorem squares_apply (x : FVec Ideal S512x1024 .f32) (r : Fin 512) :
    shapeCast S512x1 (multiReduction .add [1] S512 (mulf x x) 0x00000000#32 reduces_S512x1024_S512 (.inl rfl) rfl) shapeCasts_S512_S512x1
      (ix2 r (0 : Fin 1)) = ∑ j : Fin 1024, x (ix2 r j) * x (ix2 r j) := by
  rw [shapeCast_apply (s := S512) (t := S512x1) _ _ _ (ix1 r) (by
    rw [Shape.rowMajor_val_one, Shape.rowMajor_val_two]
    show r.val = r.val * 1 + 0
    omega)]
  refine (Ideal.multiReduction_add_single (s := S512x1024) (t := S512) (a := 1) (mulf x x) _ reduces_S512x1024_S512 _ _ (ix1 r)).trans ?_
  exact Finset.sum_congr rfl fun j _ => congrArg (fun i => x i * x i) (lift_features r j)

theorem rows_apply (v : FVec Ideal S512x1 .f32) (r : Fin 512) (k : Fin 1024) :
    broadcastTo S512x1024 v broadcasts_S512x1_S512x1024 (ix2 r k) = v (ix2 r (0 : Fin 1)) :=
  broadcastTo_apply (s := S512x1) (t := S512x1024) _ _ _ (ix2 r (0 : Fin 1)) fun a => match a with
    | ⟨0, _⟩ => rfl
    | ⟨1, _⟩ => rfl

/-- The modulated rows of a block. -/
theorem modulated_block (x : Vec Ideal S512x1024 .f32) (g : Vec Ideal S1x1024 .f32) (sc sh : Vec Ideal S1x1x1024 .f32) (r : Fin 512) (k : Fin 1024) :
    k0_pay2 x g sc sh (ix2 r k) = modulated (fun j => x (ix2 r j)) (fun j => g (ix2 (0 : Fin 1) j))
      (fun j => sc (ix3 (0 : Fin 1) (0 : Fin 1) j)) (fun j => sh (ix3 (0 : Fin 1) (0 : Fin 1) j)) k := by
  have h : k0_pay2 x g sc sh (ix2 r k)
      = shapeCast S512x1024 x shapeCasts_S512x1024_S512x1024 (ix2 r k)
        * broadcastTo S512x1024 (rsqrt (addf (divf (shapeCast S512x1 (multiReduction .add [1] S512
            (mulf (shapeCast S512x1024 x shapeCasts_S512x1024_S512x1024 : FVec Ideal S512x1024 .f32) (shapeCast S512x1024 x shapeCasts_S512x1024_S512x1024))
            0x00000000#32 reduces_S512x1024_S512 (.inl rfl) rfl) shapeCasts_S512_S512x1) (broadcast S512x1 (Scalar.ofBits .f32 0x44800000#32)))
            (broadcast S512x1 (Scalar.ofBits .f32 0x358637BD#32))) : FVec Ideal S512x1 .f32) broadcasts_S512x1_S512x1024 (ix2 r k)
        * broadcastTo S512x1024 (shapeCast S1x1024 g shapeCasts_S1x1024_S1x1024) broadcasts_S1x1024_S512x1024 (ix2 r k)
        * broadcastTo S512x1024 (addf (broadcast S1x1024 (Scalar.ofBits .f32 0x3F800000#32))
            (shapeCast S1x1024 sc shapeCasts_S1x1x1024_S1x1024) : FVec Ideal S1x1024 .f32) broadcasts_S1x1024_S512x1024 (ix2 r k)
        + broadcastTo S512x1024 (shapeCast S1x1024 sh shapeCasts_S1x1x1024_S1x1024) broadcasts_S1x1024_S512x1024 (ix2 r k) := rfl
  rw [h, shapeCast_self, shapeCast_self, rows_apply, broadcastTo_1b_ab_apply, broadcastTo_1b_ab_apply, broadcastTo_1b_ab_apply,
    addf_apply, shapeCast_1ab_ab_apply, shapeCast_1ab_ab_apply]
  unfold modulated
  rw [← squares_apply x r]
  rfl

/-- A block of columns of the projection, before anything is done to them: every row against every row of weights, plus the biases. -/
theorem linear_block {M n : ℕ} (h : FVec Ideal ⟨2, ![M, 1024]⟩ .bf16) (w : FVec Ideal ⟨2, ![n, 1024]⟩ .bf16) (b : FVec Ideal ⟨2, ![1, n]⟩ .f32)
    (hb : (⟨2, ![1, n]⟩ : Shape).Broadcasts ⟨2, ![M, n]⟩) (r : Fin M) (j : Fin n) :
    FloatOps.matmul (DotDims.transposedRhs M 1024 n) none h w (constant ⟨2, ![M, n]⟩ .f32 0x00000000#32) (ix2 r j)
      + broadcastTo ⟨2, ![M, n]⟩ b hb (ix2 r j) = linear (fun k => h (ix2 r k)) (fun k => w (ix2 j k)) (b (ix2 (0 : Fin 1) j)) := by
  rw [Ideal.matmul_transposedRhs_apply, constant_apply, Ideal.ofBits_zero_f32, zero_add, broadcastTo_1b_ab_apply]
  rfl

/-- The sigmoid, and the logarithm of the sigmoid, as the program writes them. -/
theorem gate_word (z : EReal) : Ideal.div (word 0x3F800000#32) (word 0x3F800000#32 + Ideal.exp (word 0x00000000#32 - z)) = gate z := by
  rw [show word 0x00000000#32 = 0 from Ideal.ofBits_zero_f32, zero_sub]
  rfl
theorem logGate_word (z : EReal) : min z (word 0x00000000#32) - Ideal.log1p (Ideal.exp (word 0x00000000#32 - max z (-z))) = logGate z := by
  rw [show word 0x00000000#32 = 0 from Ideal.ofBits_zero_f32, zero_sub]
  rfl

/-- The first eight columns are the ones kept. -/
theorem first_columns {M : ℕ} (hi) (r : Fin M) (j : Fin 128) (hj : j.val < 8) :
    cmpi .slt (iota .tc ⟨2, ![M, 128]⟩ 32 [1] hi) (broadcast ⟨2, ![M, 128]⟩ 8#32) (ix2 r j) = 1#1 := by
  show BitVec.ofBool (BitVec.slt (iota .tc ⟨2, ![M, 128]⟩ 32 [1] hi (ix2 r j)) 8#32) = _
  have h1 : iota .tc ⟨2, ![M, 128]⟩ 32 [1] hi (ix2 r j) = BitVec.ofNat 32 j.val := by
    rw [WordCmp.iota_at]; simp; rfl
  have h2 : BitVec.slt (BitVec.ofNat 32 j.val) 8#32 = true := by
    rw [BitVec.slt_eq_decide, BitVec.toInt_ofNat', decide_eq_true_iff, Int.bmod_eq_of_le (by omega) (by omega)]
    show (j.val : ℤ) < 8
    omega
  rw [h1, h2]
  rfl

variable (h : FVec Ideal S512x1024 .bf16)

theorem keys_block (w : Vec Ideal S512x1024 .bf16) (b : Vec Ideal S1x512 .f32) (r j : Fin 512) :
    k0_pay9 h w b (ix2 r j) = linear (fun k => h (ix2 r k)) (fun k => w (ix2 j k)) (b (ix2 (0 : Fin 1) j)) := by
  have e := linear_block h (shapeCast S512x1024 w shapeCasts_S512x1024_S512x1024 : FVec Ideal S512x1024 .bf16)
    (shapeCast S1x512 b shapeCasts_S1x512_S1x512 : FVec Ideal S1x512 .f32) broadcasts_S1x512_S512x512 r j
  refine Eq.trans e ?_
  rw [shapeCast_self, shapeCast_self]

theorem values_block (w : Vec Ideal S512x1024 .bf16) (b : Vec Ideal S1x512 .f32) (r j : Fin 512) :
    k0_pay10 h w b (ix2 r j) = linear (fun k => h (ix2 r k)) (fun k => w (ix2 j k)) (b (ix2 (0 : Fin 1) j)) :=
  keys_block h w b r j

/-- The forget gates' logarithms: a log-sigmoid in the first eight columns. -/
theorem forget_block (x : Vec Ideal S512x1024 .f32) (g : Vec Ideal S1x1024 .f32) (sc sh : Vec Ideal S1x1x1024 .f32)
    (w : Vec Ideal S128x1024 .bf16) (b : Vec Ideal S1x128 .f32) (r : Fin 512) (j : Fin 128) (hj : j.val < 8) :
    k0_pay4 (iota .tc S512x128 32 [1] iota_S512x128_d1_w32) (k0_pay3 x g sc sh w) b (ix2 r j)
      = logGate (linear (fun k => k0_pay2 x g sc sh (ix2 r k)) (fun k => w (ix2 j k)) (b (ix2 (0 : Fin 1) j))) := by
  have e := linear_block (k0_pay2 x g sc sh) (shapeCast S128x1024 w shapeCasts_S128x1024_S128x1024 : FVec Ideal S128x1024 .bf16)
    (shapeCast S1x128 b shapeCasts_S1x128_S1x128 : FVec Ideal S1x128 .f32) broadcasts_S1x128_S512x128 r j
  rw [shapeCast_self (s := S128x1024), shapeCast_self (s := S1x128)] at e
  have hc : cmpi .slt (iota .tc S512x128 32 [1] iota_S512x128_d1_w32) (broadcast S512x128 8#32) (ix2 r j) = 1#1 := first_columns _ r j hj
  have hz : k0_pay4 (iota .tc S512x128 32 [1] iota_S512x128_d1_w32) (k0_pay3 x g sc sh w) b (ix2 r j)
      = if cmpi .slt (iota .tc S512x128 32 [1] iota_S512x128_d1_w32) (broadcast S512x128 8#32) (ix2 r j) = 1#1 then
          (fun z : EReal => min z (word 0x00000000#32) - Ideal.log1p (Ideal.exp (word 0x00000000#32 - max z (-z))))
            (FloatOps.matmul (DotDims.transposedRhs 512 1024 128) none (k0_pay2 x g sc sh)
              (shapeCast S128x1024 w shapeCasts_S128x1024_S128x1024 : FVec Ideal S128x1024 .bf16) (constant S512x128 .f32 0x00000000#32) (ix2 r j)
              + broadcastTo S512x128 (shapeCast S1x128 b shapeCasts_S1x128_S1x128 : FVec Ideal S1x128 .f32) broadcasts_S1x128_S512x128 (ix2 r j))
        else word 0x00000000#32 := rfl
  rw [hz, if_pos hc, shapeCast_self, shapeCast_self]
  refine (congrArg (fun z : EReal => min z (word 0x00000000#32) - Ideal.log1p (Ideal.exp (word 0x00000000#32 - max z (-z)))) e).trans ?_
  show min _ (word 0x00000000#32) - Ideal.log1p (Ideal.exp (word 0x00000000#32 - max _ (-_))) = _
  rw [show word 0x00000000#32 = 0 from Ideal.ofBits_zero_f32, zero_sub]
  rfl

/-- The two halves of the convolution's input: one column times the sigmoid of another. -/
theorem conv_block (w w' : Vec Ideal S512x1024 .bf16) (b b' : Vec Ideal S1x512 .f32) (r j : Fin 512) :
    k0_pay62 h (k0_pay61 h w) b w' b' (ix2 r j)
      = linear (fun k => h (ix2 r k)) (fun k => w (ix2 j k)) (b (ix2 (0 : Fin 1) j))
        * gate (linear (fun k => h (ix2 r k)) (fun k => w' (ix2 j k)) (b' (ix2 (0 : Fin 1) j))) := by
  rw [← keys_block h w b, ← keys_block h w' b']
  have e : k0_pay62 h (k0_pay61 h w) b w' b' (ix2 r j)
      = k0_pay9 h w b (ix2 r j) * Ideal.div (word 0x3F800000#32) (word 0x3F800000#32 + Ideal.exp (word 0x00000000#32 - k0_pay9 h w' b' (ix2 r j))) := rfl
  rw [e, show word 0x00000000#32 = 0 from Ideal.ofBits_zero_f32, zero_sub]
  rfl

/-- The output gates. -/
theorem gates_block (w : Vec Ideal S1024x1024 .bf16) (b : Vec Ideal S1x1024 .f32) (r : Fin 512) (j : Fin 1024) :
    k0_pay67 h w b (ix2 r j) = gate (linear (fun k => h (ix2 r k)) (fun k => w (ix2 j k)) (b (ix2 (0 : Fin 1) j))) := by
  have e := linear_block h (shapeCast S1024x1024 w shapeCasts_S1024x1024_S1024x1024 : FVec Ideal S1024x1024 .bf16)
    (shapeCast S1x1024 b shapeCasts_S1x1024_S1x1024 : FVec Ideal S1x1024 .f32) broadcasts_S1x1024_S512x1024 r j
  have hz : k0_pay67 h w b (ix2 r j)
      = (fun z : EReal => Ideal.div (word 0x3F800000#32) (word 0x3F800000#32 + Ideal.exp (word 0x00000000#32 - z)))
          (FloatOps.matmul (DotDims.transposedRhs 512 1024 1024) none h
            (shapeCast S1024x1024 w shapeCasts_S1024x1024_S1024x1024 : FVec Ideal S1024x1024 .bf16) (constant S512x1024 .f32 0x00000000#32) (ix2 r j)
            + broadcastTo S512x1024 (shapeCast S1x1024 b shapeCasts_S1x1024_S1x1024 : FVec Ideal S1x1024 .f32) broadcasts_S1x1024_S512x1024 (ix2 r j)) := rfl
  refine hz.trans ((congrArg (fun z : EReal => Ideal.div (word 0x3F800000#32) (word 0x3F800000#32 + Ideal.exp (word 0x00000000#32 - z))) e).trans ?_)
  show Ideal.div (word 0x3F800000#32) (word 0x3F800000#32 + Ideal.exp (word 0x00000000#32 - _)) = _
  rw [show word 0x00000000#32 = 0 from Ideal.ofBits_zero_f32, zero_sub, shapeCast_self, shapeCast_self]
  rfl

theorem branch_block (w : Vec Ideal S1024x1024 .bf16) (b : Vec Ideal S1x1024 .f32) (r : Fin 512) (j : Fin 1024) :
    k0_pay68 h w b (ix2 r j) = gate (linear (fun k => h (ix2 r k)) (fun k => w (ix2 j k)) (b (ix2 (0 : Fin 1) j))) :=
  gates_block h w b r j

end Cert.Projection
-- ==== Proof.InprojIdeal.Inputs.lean ====
/-
  The blocks that a grid point of the input projection reads, entry by entry, from the call's arguments.

  The weights and biases are laid out by the host with 120 rows of zeros after the first 1544 columns: row `p` of the laid-out weights is
  column `p` of the argument before the zeros and column `p - 120` after them (`Source`).
-/
module

public import proofs.«01_k».proof.Proof.Gen.InprojIdeal.Value
public import proofs.«01_k».proof.Proof.InprojIdeal.Block
public import Idealize.ShloMosaic.Lib.Pipeline.Covers
public import Idealize.ShloMosaic.Lib.Pipeline.Value
public import Idealize.ShloMosaic.Lib.Pipeline.ValueKit.Acc
public import Idealize.ShloMosaic.Lib.Pipeline.ValueKit.Tiles
public import Idealize.ShloMosaic.Lib.StableHlo.Run

@[expose] public section

noncomputable section

namespace Cert.InprojIdeal.Value

open Cert.InprojIdeal Cert.InprojIdeal.Gen Cert.Projection Idealize.ShloMosaic Idealize.ShloMosaic.TcCoe Idealize.SL.Sem
open Idealize.ShloMosaic.ValueIdx
open Idealize.ShloMosaic.Pipeline (Dat Window)

variable (m : (ℓ : Loc nD τ sig) → Buf (Elt Ideal) ℓ)

/-- The arguments' contents at launch. -/
abbrev argX (c : Dev nD) : Inputs := m ((c : Thread nD τ).loc main_arg0)
abbrev argM (c : Dev nD) : Modulation := m ((c : Thread nD τ).loc main_arg1)
abbrev argG (c : Dev nD) : Scales := m ((c : Thread nD τ).loc main_arg2)
abbrev argW (c : Dev nD) : Weights := m ((c : Thread nD τ).loc main_arg3)
abbrev argB (c : Dev nD) : Biases := m ((c : Thread nD τ).loc main_arg4)

/-! ## A grid point's coordinates -/

theorem seq_lt (t : Fin cfg0.N) : (grid0.coords t 0).val < 2 := (grid0.coords t 0).isLt
theorem tile_lt (t : Fin cfg0.N) : (grid0.coords t 1).val < 16 := (grid0.coords t 1).isLt

/-- The sequence of a point. -/
def batch (t : Fin cfg0.N) : Fin 2 := ⟨(grid0.coords t 0).val, seq_lt t⟩

/-- The point's number in the order of the rows. -/
def number (t : Fin cfg0.N) : ℕ := 16 * (grid0.coords t 0).val + (grid0.coords t 1).val

theorem number_lt (t : Fin cfg0.N) : number t < 32 := by
  have := seq_lt t; have := tile_lt t
  unfold number
  omega

/-- Row `r` of the point's block, among all rows. -/
def rowOf (t : Fin cfg0.N) (r : Fin 512) : Fin 16384 := ⟨512 * number t + r.val, by have := number_lt t; omega⟩

theorem rowSeq_rowOf (t : Fin cfg0.N) (r : Fin 512) : rowSeq (rowOf t r) = batch t := Fin.ext (by
  have := tile_lt t
  show (512 * (16 * (grid0.coords t 0).val + (grid0.coords t 1).val) + r.val) / 8192 = (grid0.coords t 0).val
  omega)

theorem index_word {k : ℕ} (h : k < 16) : (BitVec.ofNat 32 k).toNat = k := by
  rw [BitVec.toNat_ofNat]
  exact Nat.mod_eq_of_lt (by omega)

/-- The block index that the windows of rows take. -/
theorem number_word (t : Fin cfg0.N) :
    (Scalar.addi (Scalar.muli (BitVec.ofNat 32 (grid0.coords t 0).val) 16#32) (BitVec.ofNat 32 (grid0.coords t 1).val)).toNat = number t := by
  have h0 := seq_lt t; have h1 := tile_lt t
  show (BitVec.ofNat 32 (grid0.coords t 0).val * 16#32 + BitVec.ofNat 32 (grid0.coords t 1).val).toNat = _
  rw [BitVec.toNat_add, BitVec.toNat_mul, index_word (by omega), index_word h1]
  show ((grid0.coords t 0).val * 16 % 2 ^ 32 + (grid0.coords t 1).val) % 2 ^ 32 = 16 * (grid0.coords t 0).val + (grid0.coords t 1).val
  omega

/-! ## What the host prepares -/

theorem V_rows (c : Dev nD) : V m c main_v13 = shapeCast S16384x1024 (argX m c) shapeCasts_S2x8192x1024_S16384x1024 := by
  show StableHlo.after hostOps0 _ _ = _
  simp only [hostOps0]
  after_results_simp <;> rfl

theorem V_scales (c : Dev nD) : V m c main_v15 = broadcastInDim S1x1024 ![1] bcast_S1024_S1x1024_1 (shapeCast S1024 (argG m c) shapeCasts_S1x1024_S1024) := by
  show StableHlo.after hostOps0 _ _ = _
  simp only [hostOps0]
  after_results_simp <;> rfl

/-- The weights, a row for each column. -/
def turned (w : Weights) : FVec Ideal S4616x1024 .f32 :=
  transpose S4616x1024 [1, 0] (shapeCast S1024x4616 w shapeCasts_S1x1024x4616_S1024x4616) transposes_S1024x4616_S4616x1024_1_0

/-- The biases in one row. -/
def biases (bi : Biases) : FVec Ideal S4616 .f32 := shapeCast S4616 bi shapeCasts_S1x4616_S4616

/-- The weights laid out. -/
def laidWeights (w : Weights) : FVec Ideal S4736x1024 .f32 :=
  concatenate S4736x1024 0 [⟨S1544x1024, extractStridedSlice S1544x1024 ![0, 0] (turned w) slices_S4616x1024_S1544x1024_0_0⟩,
    ⟨S120x1024, broadcastInDim S120x1024 ![] bcast_S_S120x1024 (constant S_ .f32 0x00000000#32 : FVec Ideal S_ .f32)⟩,
    ⟨S3072x1024, extractStridedSlice S3072x1024 ![1544, 0] (turned w) slices_S4616x1024_S3072x1024_1544_0⟩]
    concatenates_S1544x1024_S120x1024_S3072x1024_S4736x1024_d0

/-- The biases laid out. -/
def laidBiases (bi : Biases) : FVec Ideal S4736 .f32 :=
  concatenate S4736 0 [⟨S1544, extractStridedSlice S1544 ![0] (biases bi) slices_S4616_S1544_0⟩,
    ⟨S120, broadcastInDim S120 ![] bcast_S_S120 (constant S_ .f32 0x00000000#32 : FVec Ideal S_ .f32)⟩,
    ⟨S3072, extractStridedSlice S3072 ![1544] (biases bi) slices_S4616_S3072_1544⟩]
    concatenates_S1544_S120_S3072_S4736_d0

/-- Row `p` of the laid-out weights is column `o` of the argument. -/
def Source (p : ℕ) (o : Fin 4616) : Prop := p < 1544 ∧ o.val = p ∨ 1664 ≤ p ∧ p = o.val + 120

theorem turned_apply (w : Weights) (o : Fin 4616) (k : Fin 1024) : turned w (ix2 o k) = w (ix3 (0 : Fin 1) k o) := by
  unfold turned
  rw [transpose_ix2_apply]
  exact shapeCast_1ab_ab_apply w _ k o

theorem laidWeights_apply (w : Weights) (p : Fin 4736) (k : Fin 1024) (o : Fin 4616) (h : Source p.val o) :
    laidWeights w (ix2 p k) = w (ix3 (0 : Fin 1) k o) := by
  rw [← turned_apply w o k]
  unfold laidWeights
  rcases h with ⟨hp, ho⟩ | ⟨hp, ho⟩
  · refine (concatenate_apply_piece (t := S4736x1024) 0 _ _ (ix2 p k) 0 (by simp) S1544x1024 _ rfl rfl 0 rfl (ix2 (⟨p.val, hp⟩ : Fin 1544) k)
      (fun b hb => ?_) (Nat.zero_add _)).trans ?_
    · match b with
      | ⟨0, _⟩ => exact absurd rfl hb
      | ⟨1, _⟩ => rfl
    · exact slice2_axis0_apply 0 (turned w) _ _ k o (ho.trans (Nat.zero_add _).symm)
  · have := o.isLt
    refine (concatenate_apply_piece (t := S4736x1024) 0 _ _ (ix2 p k) 2 (by simp) S3072x1024 _ rfl rfl 1664 rfl (ix2 (⟨p.val - 1664, by omega⟩ : Fin 3072) k)
      (fun b hb => ?_) ?_).trans ?_
    · match b with
      | ⟨0, _⟩ => exact absurd rfl hb
      | ⟨1, _⟩ => rfl
    · show 1664 + (p.val - 1664) = p.val
      omega
    · refine slice2_axis0_apply 1544 (turned w) _ _ k o ?_
      show o.val = 1544 + (p.val - 1664)
      omega

theorem biases_apply (bi : Biases) (o : Fin 4616) : biases bi (ix1 o) = bi (ix2 (0 : Fin 1) o) :=
  shapeCast_1a_a_apply (a := 4616) bi _ o

theorem laidBiases_apply (bi : Biases) (p : Fin 4736) (o : Fin 4616) (h : Source p.val o) : laidBiases bi (ix1 p) = bi (ix2 (0 : Fin 1) o) := by
  rw [← biases_apply bi o]
  unfold laidBiases
  rcases h with ⟨hp, ho⟩ | ⟨hp, ho⟩
  · refine (concatenate_apply_piece (t := S4736) 0 _ _ (ix1 p) 0 (by simp) S1544 _ rfl rfl 0 rfl (ix1 (⟨p.val, hp⟩ : Fin 1544))
      (fun b hb => ?_) (Nat.zero_add _)).trans ?_
    · match b with
      | ⟨0, _⟩ => exact absurd rfl hb
    · exact extractStridedSlice_apply (s := S4616) (t := S1544) _ _ _ _ (ix1 o) fun a => match a with
        | ⟨0, _⟩ => ho.trans (Nat.zero_add _).symm
  · have := o.isLt
    refine (concatenate_apply_piece (t := S4736) 0 _ _ (ix1 p) 2 (by simp) S3072 _ rfl rfl 1664 rfl (ix1 (⟨p.val - 1664, by omega⟩ : Fin 3072))
      (fun b hb => ?_) ?_).trans ?_
    · match b with
      | ⟨0, _⟩ => exact absurd rfl hb
    · show 1664 + (p.val - 1664) = p.val
      omega
    · refine extractStridedSlice_apply (s := S4616) (t := S3072) _ _ _ _ (ix1 o) fun a => match a with
        | ⟨0, _⟩ => ?_
      show o.val = 1544 + (p.val - 1664)
      omega

theorem V_weights (c : Dev nD) : V m c main_v7 = (truncf .bf16 (laidWeights (argW m c)) bitsLt_bf16_f32 : FVec Ideal S4736x1024 .bf16) := by
  show StableHlo.after hostOps0 _ _ = _
  simp only [hostOps0]
  after_results_simp <;> rfl

theorem V_biases (c : Dev nD) : V m c main_v12 = broadcastInDim S1x4736 ![1] bcast_S4736_S1x4736_1 (laidBiases (argB m c)) := by
  show StableHlo.after hostOps0 _ _ = _
  simp only [hostOps0]
  after_results_simp <;> rfl

/-! ## The blocks -/

theorem rows_apply (c : Dev nD) (t : Fin cfg0.N) (r : Fin 512) (k : Fin 1024) :
    (iblk m c 0 t : Vec Ideal S512x1024 .f32) (ix2 r k) = argX m c (ix3 (rowSeq (rowOf t r)) (rowPos (rowOf t r)) k) := by
  show V m c main_v13 ((win0_0.rect t).emb (ix2 r k)) = _
  rw [V_rows]
  have hi : (win0_0.rect t).emb (ix2 r k) = ix2 (rowOf t r) k := by
    refine funext fun a => Fin.ext ((Window.rect_emb_val win0_0 t _ a).trans ?_)
    match a with
    | ⟨0, _⟩ =>
      show (Scalar.addi (Scalar.muli (BitVec.ofNat 32 (grid0.coords t 0).val) 16#32) (BitVec.ofNat 32 (grid0.coords t 1).val)).toNat * 512 + r.val
        = 512 * number t + r.val
      rw [number_word]; omega
    | ⟨1, _⟩ =>
      show 0 * 1024 + k.val = k.val
      omega
  rw [hi]
  refine shapeCast_apply _ _ _ _ ?_
  rw [Shape.rowMajor_val_three, Shape.rowMajor_val_two]
  show ((rowOf t r).val / 8192 * 8192 + (rowOf t r).val % 8192) * 1024 + k.val = (rowOf t r).val * 1024 + k.val
  omega

theorem scales_apply (c : Dev nD) (t : Fin cfg0.N) (k : Fin 1024) :
    (iblk m c 3 t : Vec Ideal S1x1024 .f32) (ix2 (0 : Fin 1) k) = argG m c (ix2 (0 : Fin 1) k) := by
  show V m c main_v15 ((win0_3.rect t).emb (ix2 (0 : Fin 1) k)) = _
  rw [V_scales]
  have hi : (win0_3.rect t).emb (ix2 (0 : Fin 1) k) = ix2 (0 : Fin 1) k := by
    refine funext fun a => Fin.ext ((Window.rect_emb_val win0_3 t _ a).trans ?_)
    match a with
    | ⟨0, _⟩ => rfl
    | ⟨1, _⟩ =>
      show 0 * 1024 + k.val = k.val
      omega
  rw [hi, broadcastInDim_apply (s := S1024) (t := S1x1024) _ _ _ _ (ix1 k) fun a => match a with | ⟨0, _⟩ => rfl]
  exact shapeCast_1a_a_apply (a := 1024) (argG m c) _ k

theorem off_word (t : Fin cfg0.N) : (Scalar.indexCast (Scalar.addi 32#32 (BitVec.ofNat 32 (grid0.coords t 0).val)) : Index).toNat = 32 + (batch t).val := by
  have h0 := seq_lt t
  show (32#32 + BitVec.ofNat 32 (grid0.coords t 0).val).toNat = 32 + (grid0.coords t 0).val
  rw [BitVec.toNat_add, index_word (k := (grid0.coords t 0).val) (by omega)]
  show (32 + (grid0.coords t 0).val) % 2 ^ 32 = _
  omega

/-- The point's row of the modulation's scales. -/
theorem modScales_apply (c : Dev nD) (t : Fin cfg0.N) (inb) (j : Fin 1024) :
    (View.ld (iblk m c 2 t) (Rect.unit (k0_off1 (grid0.coords t)) ![1, 1, 1024] inb) : Vec Ideal S1x1x1024 .f32) (ix3 (0 : Fin 1) (0 : Fin 1) j)
      = argM m c (ix3 (1 : Fin 6) (modRow (batch t)) j) := by
  refine (View.ld_unit_apply_of (iblk m c 2 t) _ _ _ _ (ix3 (0 : Fin 1) (modRow (batch t)) j) fun a => ?_).trans ?_
  · match a with
    | ⟨0, _⟩ => rfl
    | ⟨1, _⟩ => exact (off_word t).symm
    | ⟨2, _⟩ => exact (Nat.zero_add _).symm
  · show V m c main_arg1 ((win0_2.rect t).emb (ix3 (0 : Fin 1) (modRow (batch t)) j)) = _
    rw [V_main_arg1]
    refine congrArg (argM m c) (funext fun a => Fin.ext ((Window.rect_emb_val win0_2 t _ a).trans ?_))
    match a with
    | ⟨0, _⟩ => rfl
    | ⟨1, _⟩ =>
      show 0 * 40 + (modRow (batch t)).val = (modRow (batch t)).val
      omega
    | ⟨2, _⟩ =>
      show 0 * 1024 + j.val = j.val
      omega

/-- The point's row of the modulation's shifts. -/
theorem modShifts_apply (c : Dev nD) (t : Fin cfg0.N) (inb) (j : Fin 1024) :
    (View.ld (iblk m c 1 t) (Rect.unit (k0_off1 (grid0.coords t)) ![1, 1, 1024] inb) : Vec Ideal S1x1x1024 .f32) (ix3 (0 : Fin 1) (0 : Fin 1) j)
      = argM m c (ix3 (0 : Fin 6) (modRow (batch t)) j) := by
  refine (View.ld_unit_apply_of (iblk m c 1 t) _ _ _ _ (ix3 (0 : Fin 1) (modRow (batch t)) j) fun a => ?_).trans ?_
  · match a with
    | ⟨0, _⟩ => rfl
    | ⟨1, _⟩ => exact (off_word t).symm
    | ⟨2, _⟩ => exact (Nat.zero_add _).symm
  · show V m c main_arg1 ((win0_1.rect t).emb (ix3 (0 : Fin 1) (modRow (batch t)) j)) = _
    rw [V_main_arg1]
    refine congrArg (argM m c) (funext fun a => Fin.ext ((Window.rect_emb_val win0_1 t _ a).trans ?_))
    match a with
    | ⟨0, _⟩ => rfl
    | ⟨1, _⟩ =>
      show 0 * 40 + (modRow (batch t)).val = (modRow (batch t)).val
      omega
    | ⟨2, _⟩ =>
      show 0 * 1024 + j.val = j.val
      omega

/-- Some rows of the weights. -/
theorem weights_apply {n : ℕ} (a : ℕ) (inb) (c : Dev nD) (t : Fin cfg0.N) (j : Fin n) (k : Fin 1024) (o : Fin 4616) (h : Source (a + j.val) o) :
    (View.ld (iblk m c 4 t) (Rect.unit (s := S4736x1024) ![a, 0] ![n, 1024] inb) : Vec Ideal ⟨2, ![n, 1024]⟩ .bf16) (ix2 j k)
      = argW m c (ix3 (0 : Fin 1) k o) := by
  have hp : a + j.val < 4736 := by
    have := o.isLt
    rcases h with ⟨h1, h2⟩ | ⟨h1, h2⟩ <;> omega
  refine (View.ld_unit_apply_of (iblk m c 4 t) _ _ _ _ (ix2 (⟨a + j.val, hp⟩ : Fin 4736) k) fun b => ?_).trans ?_
  · match b with
    | ⟨0, _⟩ => rfl
    | ⟨1, _⟩ => exact (Nat.zero_add _).symm
  · rw [← laidWeights_apply (argW m c) (⟨a + j.val, hp⟩ : Fin 4736) k o h]
    show V m c main_v7 ((win0_4.rect t).emb (ix2 (⟨a + j.val, hp⟩ : Fin 4736) k)) = _
    rw [V_weights]
    refine congrArg (laidWeights (argW m c)) (funext fun b => Fin.ext ((Window.rect_emb_val win0_4 t _ b).trans ?_))
    match b with
    | ⟨0, _⟩ =>
      show 0 * 4736 + (a + j.val) = a + j.val
      omega
    | ⟨1, _⟩ =>
      show 0 * 1024 + k.val = k.val
      omega

/-- Some of the biases. -/
theorem bias_apply {n : ℕ} (a : ℕ) (inb) (c : Dev nD) (t : Fin cfg0.N) (j : Fin n) (o : Fin 4616) (h : Source (a + j.val) o) :
    (View.ld (iblk m c 5 t) (Rect.unit (s := S1x4736) ![0, a] ![1, n] inb) : Vec Ideal ⟨2, ![1, n]⟩ .f32) (ix2 (0 : Fin 1) j)
      = argB m c (ix2 (0 : Fin 1) o) := by
  have hp : a + j.val < 4736 := by
    have := o.isLt
    rcases h with ⟨h1, h2⟩ | ⟨h1, h2⟩ <;> omega
  refine (View.ld_unit_apply_of (iblk m c 5 t) _ _ _ _ (ix2 (0 : Fin 1) (⟨a + j.val, hp⟩ : Fin 4736)) fun b => ?_).trans ?_
  · match b with
    | ⟨0, _⟩ => rfl
    | ⟨1, _⟩ => rfl
  · rw [← laidBiases_apply (argB m c) (⟨a + j.val, hp⟩ : Fin 4736) o h]
    show V m c main_v12 ((win0_5.rect t).emb (ix2 (0 : Fin 1) (⟨a + j.val, hp⟩ : Fin 4736))) = _
    rw [V_biases]
    refine broadcastInDim_apply (s := S4736) (t := S1x4736) _ _ _ _ (ix1 (⟨a + j.val, hp⟩ : Fin 4736)) fun b => match b with | ⟨0, _⟩ => ?_
    refine Eq.trans ?_ (Window.rect_emb_val win0_5 t _ 1).symm
    show a + j.val = 0 * 4736 + (a + j.val)
    omega

/-! ## A column of a point's rows -/

/-- The modulated rows of a point. -/
def pointRows (c : Dev nD) (t : Fin cfg0.N) : FVec Ideal S512x1024 .bf16 :=
  k0_pay2 (iblk m c 0 t) (iblk m c 3 t) (View.ld (iblk m c 2 t) (Rect.unit (s := S1x40x1024) (k0_off1 (grid0.coords t)) S1x1x1024.size (k0_off1_inb (grid0.coords t))))
    (View.ld (iblk m c 1 t) (Rect.unit (s := S1x40x1024) (k0_off1 (grid0.coords t)) S1x1x1024.size (k0_off1_inb (grid0.coords t))))

/-- A column of the arguments' projection at a row. -/
abbrev at_ (c : Dev nD) (n : Fin 16384) (o : Fin 4616) : EReal := atRow (argX m c) (argM m c) (argG m c) (argW m c) (argB m c) n o

/-- Row `r` of a point against a row of weights is the column of the projection that the weights come from. -/
theorem linear_apply {n : ℕ} (a : ℕ) (inb inb') (c : Dev nD) (t : Fin cfg0.N) (r : Fin 512) (j : Fin n) (o : Fin 4616) (h : Source (a + j.val) o) :
    linear (fun k => pointRows m c t (ix2 r k))
      (fun k => (View.ld (iblk m c 4 t) (Rect.unit (s := S4736x1024) ![a, 0] ![n, 1024] inb) : Vec Ideal ⟨2, ![n, 1024]⟩ .bf16) (ix2 j k))
      ((View.ld (iblk m c 5 t) (Rect.unit (s := S1x4736) ![0, a] ![1, n] inb') : Vec Ideal ⟨2, ![1, n]⟩ .f32) (ix2 (0 : Fin 1) j))
      = at_ m c (rowOf t r) o := by
  unfold at_ atRow projected
  rw [bias_apply m a inb' c t j o h]
  refine congrArg₂ (fun u v => linear u v _) (funext fun k => ?_) (funext fun k => weights_apply m a inb c t j k o h)
  refine (modulated_block _ _ _ _ r k).trans ?_
  rw [rowSeq_rowOf]
  have e0 : (fun j => (iblk m c 0 t : Vec Ideal S512x1024 .f32) (ix2 r j)) = fun j => argX m c (ix3 (batch t) (rowPos (rowOf t r)) j) :=
    funext fun j => (rows_apply m c t r j).trans (by rw [rowSeq_rowOf])
  have e1 := funext fun j => scales_apply m c t j
  have e2 := funext fun j => modScales_apply m c t (k0_off1_inb (grid0.coords t)) j
  have e3 := funext fun j => modShifts_apply m c t (k0_off1_inb (grid0.coords t)) j
  exact congr (congr (congr (congr (congrArg modulated e0) e1) e2) e3) rfl

end Cert.InprojIdeal.Value
-- ==== Proof.InprojIdeal.Left.lean ====
/-
  The blocks that a grid point of the input projection leaves in the windows of the keys, the values, the forget gates, the convolution's
  input and the two gates, entry by entry, as columns of the projection.

  A block of pages, or of slabs, is left by four stores, each of a quarter of the block. The two cases of the run (the first point of a
  sequence, and the others) differ only in what is carried between points, so they leave these blocks by the same stores.
-/
module

public import proofs.«01_k».proof.Proof.InprojIdeal.Inputs
public import Idealize.ShloMosaic.Lib.Pipeline.ReadBack

@[expose] public section

noncomputable section

namespace Cert.InprojIdeal.Value

open Cert.InprojIdeal Cert.InprojIdeal.Gen Cert.Projection Idealize.ShloMosaic Idealize.ShloMosaic.TcCoe Idealize.SL.Sem
open Idealize.ShloMosaic.ValueIdx
open Idealize.ShloMosaic.Pipeline (Dat Window)

variable (m : (ℓ : Loc nD τ sig) → Buf (Elt Ideal) ℓ)

/-! ## Four stores -/

theorem mem_unit_of {s : Shape} {off size : Fin s.rank → ℕ} {inb} (x : (Rect.unit off size inb).shape.Idx) (i : s.Idx)
    (h : ∀ a, off a + (x a).val = (i a).val) : i ∈ (Rect.unit off size inb).set := by
  have e : i = (Rect.unit off size inb).idx x := funext fun a => Fin.ext ((h a).symm.trans (Rect.idx_unit_val off size inb x a).symm)
  rw [e]
  exact LoadRect.idx_mem _ x

section Four

variable {Val : EltTy → Type} [∀ e, Nonempty (Val e)] {e : EltTy} {n q : ℕ}

/-- A store of quarter `k` of a block along its first axis writes the entries of that quarter. -/
theorem piece_first (k : Fin 4) (inb) (G : (⟨3, ![4, n, q]⟩ : Shape).Idx → Val e) (p : (⟨3, ![1, n, q]⟩ : Shape).Idx → Val e)
    (h : ∀ j l, p (ix3 (0 : Fin 1) j l) = G (ix3 k j l)) :
    ∀ x : (Rect.unit (s := ⟨3, ![4, n, q]⟩) ![k.val, 0, 0] ![1, n, q] inb).shape.Idx, p x = G ((Rect.unit ![k.val, 0, 0] ![1, n, q] inb).emb x) := by
  intro x
  obtain ⟨z, j, l, rfl⟩ : ∃ (z : Fin 1) (j : Fin n) (l : Fin q), x = ix3 z j l := ⟨x 0, x 1, x 2, eq_ix3 x⟩
  obtain rfl : z = 0 := Subsingleton.elim _ _
  refine (h j l).trans (congrArg G (funext fun a => Fin.ext ?_))
  refine Eq.trans ?_ (Rect.idx_unit_val _ _ inb (ix3 (0 : Fin 1) j l) a).symm
  match a with
  | ⟨0, _⟩ => rfl
  | ⟨1, _⟩ => exact (Nat.zero_add _).symm
  | ⟨2, _⟩ => exact (Nat.zero_add _).symm

/-- Every entry is in its quarter. -/
theorem mem_first (k : Fin 4) (inb) (j : Fin n) (l : Fin q) :
    ix3 k j l ∈ (Rect.unit (s := ⟨3, ![4, n, q]⟩) ![k.val, 0, 0] ![1, n, q] inb).set := by
  refine mem_unit_of (ix3 (0 : Fin 1) j l) _ fun a => ?_
  match a with
  | ⟨0, _⟩ => rfl
  | ⟨1, _⟩ => exact Nat.zero_add _
  | ⟨2, _⟩ => exact Nat.zero_add _

/-- Four stores along the first axis leave `G` when each writes its quarter of `G`. -/
theorem four_first (G : (⟨3, ![4, n, q]⟩ : Shape).Idx → Val e) (p0 p1 p2 p3 : (⟨3, ![1, n, q]⟩ : Shape).Idx → Val e) (i0 i1 i2 i3)
    (h0 : ∀ j l, p0 (ix3 (0 : Fin 1) j l) = G (ix3 (0 : Fin 4) j l)) (h1 : ∀ j l, p1 (ix3 (0 : Fin 1) j l) = G (ix3 (1 : Fin 4) j l))
    (h2 : ∀ j l, p2 (ix3 (0 : Fin 1) j l) = G (ix3 (2 : Fin 4) j l)) (h3 : ∀ j l, p3 (ix3 (0 : Fin 1) j l) = G (ix3 (3 : Fin 4) j l)) :
    View.canon [⟨Rect.unit (s := ⟨3, ![4, n, q]⟩) ![3, 0, 0] ![1, n, q] i3, p3⟩, ⟨Rect.unit (s := ⟨3, ![4, n, q]⟩) ![2, 0, 0] ![1, n, q] i2, p2⟩,
      ⟨Rect.unit (s := ⟨3, ![4, n, q]⟩) ![1, 0, 0] ![1, n, q] i1, p1⟩, ⟨Rect.unit (s := ⟨3, ![4, n, q]⟩) ![0, 0, 0] ![1, n, q] i0, p0⟩] = G := by
  funext y
  refine (congrArg (fun L => View.canon L y) (List.append_nil _).symm).trans (View.canon_append_of_piecesOf G [] _ ?_ y ?_)
  · exact ⟨piece_first 3 i3 G p3 h3, piece_first 2 i2 G p2 h2, piece_first 1 i1 G p1 h1, piece_first 0 i0 G p0 h0, trivial⟩
  obtain ⟨k, j, l, rfl⟩ : ∃ (k : Fin 4) (j : Fin n) (l : Fin q), y = ix3 k j l := ⟨y 0, y 1, y 2, eq_ix3 y⟩
  match k with
  | ⟨0, _⟩ => exact ⟨_, .tail _ (.tail _ (.tail _ (.head _))), mem_first 0 i0 j l⟩
  | ⟨1, _⟩ => exact ⟨_, .tail _ (.tail _ (.head _)), mem_first 1 i1 j l⟩
  | ⟨2, _⟩ => exact ⟨_, .tail _ (.head _), mem_first 2 i2 j l⟩
  | ⟨3, _⟩ => exact ⟨_, .head _, mem_first 3 i3 j l⟩

/-- Entry `l` of quarter `k` of an axis of 512. -/
def quarter (k : Fin 4) (l : Fin 128) : Fin 512 := ⟨128 * k.val + l.val, by omega⟩

/-- A store of quarter `k` of a block along its last axis writes the entries of that quarter. -/
theorem piece_last (k : Fin 4) (o : ℕ) (ho : o = 128 * k.val) (inb) (G : (⟨3, ![1, n, 512]⟩ : Shape).Idx → Val e) (p : (⟨3, ![1, n, 128]⟩ : Shape).Idx → Val e)
    (h : ∀ j l, p (ix3 (0 : Fin 1) j l) = G (ix3 (0 : Fin 1) j (quarter k l))) :
    ∀ x : (Rect.unit (s := ⟨3, ![1, n, 512]⟩) ![0, 0, o] ![1, n, 128] inb).shape.Idx, p x = G ((Rect.unit ![0, 0, o] ![1, n, 128] inb).emb x) := by
  subst ho
  intro x
  obtain ⟨z, j, l, rfl⟩ : ∃ (z : Fin 1) (j : Fin n) (l : Fin 128), x = ix3 z j l := ⟨x 0, x 1, x 2, eq_ix3 x⟩
  obtain rfl : z = 0 := Subsingleton.elim _ _
  refine (h j l).trans (congrArg G (funext fun a => Fin.ext ?_))
  refine Eq.trans ?_ (Rect.idx_unit_val _ _ inb (ix3 (0 : Fin 1) j l) a).symm
  match a with
  | ⟨0, _⟩ => rfl
  | ⟨1, _⟩ => exact (Nat.zero_add _).symm
  | ⟨2, _⟩ => rfl

theorem mem_last (k : Fin 4) (o : ℕ) (ho : o = 128 * k.val) (inb) (j : Fin n) (y : Fin 512) (l : Fin 128) (hy : y = quarter k l) :
    ix3 (0 : Fin 1) j y ∈ (Rect.unit (s := ⟨3, ![1, n, 512]⟩) ![0, 0, o] ![1, n, 128] inb).set := by
  subst ho hy
  refine mem_unit_of (ix3 (0 : Fin 1) j l) _ fun a => ?_
  match a with
  | ⟨0, _⟩ => rfl
  | ⟨1, _⟩ => exact Nat.zero_add _
  | ⟨2, _⟩ => rfl

theorem exists_quarter (y : Fin 512) : ∃ k l, y = quarter k l :=
  ⟨⟨y.val / 128, by omega⟩, ⟨y.val % 128, by omega⟩, Fin.ext (by
    show y.val = 128 * (y.val / 128) + y.val % 128
    omega)⟩

/-- Four stores along the last axis leave `G` when each writes its quarter of `G`. -/
theorem four_last (G : (⟨3, ![1, n, 512]⟩ : Shape).Idx → Val e) (p0 p1 p2 p3 : (⟨3, ![1, n, 128]⟩ : Shape).Idx → Val e) (i0 i1 i2 i3)
    (h0 : ∀ j l, p0 (ix3 (0 : Fin 1) j l) = G (ix3 (0 : Fin 1) j (quarter 0 l))) (h1 : ∀ j l, p1 (ix3 (0 : Fin 1) j l) = G (ix3 (0 : Fin 1) j (quarter 1 l)))
    (h2 : ∀ j l, p2 (ix3 (0 : Fin 1) j l) = G (ix3 (0 : Fin 1) j (quarter 2 l))) (h3 : ∀ j l, p3 (ix3 (0 : Fin 1) j l) = G (ix3 (0 : Fin 1) j (quarter 3 l))) :
    View.canon [⟨Rect.unit (s := ⟨3, ![1, n, 512]⟩) ![0, 0, 384] ![1, n, 128] i3, p3⟩, ⟨Rect.unit (s := ⟨3, ![1, n, 512]⟩) ![0, 0, 256] ![1, n, 128] i2, p2⟩,
      ⟨Rect.unit (s := ⟨3, ![1, n, 512]⟩) ![0, 0, 128] ![1, n, 128] i1, p1⟩, ⟨Rect.unit (s := ⟨3, ![1, n, 512]⟩) ![0, 0, 0] ![1, n, 128] i0, p0⟩] = G := by
  funext y
  refine (congrArg (fun L => View.canon L y) (List.append_nil _).symm).trans (View.canon_append_of_piecesOf G [] _ ?_ y ?_)
  · exact ⟨piece_last 3 384 rfl i3 G p3 h3, piece_last 2 256 rfl i2 G p2 h2, piece_last 1 128 rfl i1 G p1 h1, piece_last 0 0 rfl i0 G p0 h0, trivial⟩
  obtain ⟨z, j, y, rfl⟩ : ∃ (z : Fin 1) (j : Fin n) (l : Fin 512), y = ix3 z j l := ⟨y 0, y 1, y 2, eq_ix3 y⟩
  obtain rfl : z = 0 := Subsingleton.elim _ _
  obtain ⟨k, l, hy⟩ := exists_quarter y
  match k with
  | ⟨0, _⟩ => exact ⟨_, .tail _ (.tail _ (.tail _ (.head _))), mem_last 0 0 rfl i0 j y l hy⟩
  | ⟨1, _⟩ => exact ⟨_, .tail _ (.tail _ (.head _)), mem_last 1 128 rfl i1 j y l hy⟩
  | ⟨2, _⟩ => exact ⟨_, .tail _ (.head _), mem_last 2 256 rfl i2 j y l hy⟩
  | ⟨3, _⟩ => exact ⟨_, .head _, mem_last 3 384 rfl i3 j y l hy⟩

end Four

/-! ## Quarters of a block of rows -/

/-- Quarter `k` of the rows, turned: entry `(j, l)` is row `128 k + l`, column `j`. -/
theorem turned_rows {n : ℕ} {φ : FTy} (k : Fin 4) (o : ℕ) (ho : o = 128 * k.val) (X : FVec Ideal ⟨2, ![512, n]⟩ φ) (hs ht hc) (j : Fin n) (l : Fin 128) :
    shapeCast (⟨3, ![1, n, 128]⟩ : Shape) (transpose (⟨2, ![n, 128]⟩ : Shape) [1, 0] (extractStridedSlice (⟨2, ![128, n]⟩ : Shape) ![o, 0] X hs) ht) hc
      (ix3 (0 : Fin 1) j l) = X (ix2 (quarter k l) j) := by
  subst ho
  rw [shapeCast_ab_1ab_apply, transpose_ix2_apply]
  exact slice2_axis0_apply _ X _ l j (quarter k l) rfl

/-- The same where only the first eight columns are kept. -/
theorem turned_first (k : Fin 4) (o : ℕ) (ho : o = 128 * k.val) (X : FVec Ideal ⟨2, ![512, 128]⟩ .f32) (hs ht hf hc) (j : Fin 8) (l : Fin 128) :
    shapeCast (⟨3, ![1, 8, 128]⟩ : Shape) (extractStridedSlice (⟨2, ![8, 128]⟩ : Shape) ![0, 0]
      (transpose (⟨2, ![128, 128]⟩ : Shape) [1, 0] (extractStridedSlice (⟨2, ![128, 128]⟩ : Shape) ![o, 0] X hs) ht) hf) hc
      (ix3 (0 : Fin 1) j l) = X (ix2 (quarter k l) (⟨j.val, by omega⟩ : Fin 128)) := by
  subst ho
  rw [shapeCast_ab_1ab_apply, slice2_axis0_apply 0 _ _ j l (⟨j.val, by omega⟩ : Fin 128) (Nat.zero_add _).symm, transpose_ix2_apply]
  exact slice2_axis0_apply _ X _ l _ (quarter k l) rfl

/-- Quarter `k` of the columns. -/
theorem slab_columns {M : ℕ} (k : Fin 4) (o : ℕ) (ho : o = 128 * k.val) (X : FVec Ideal ⟨2, ![M, 512]⟩ .f32) (hs hc) (r : Fin M) (l : Fin 128) :
    shapeCast (⟨3, ![1, M, 128]⟩ : Shape) (extractStridedSlice (⟨2, ![M, 128]⟩ : Shape) ![0, o] X hs) hc
      (ix3 (0 : Fin 1) r l) = X (ix2 r (quarter k l)) := by
  subst ho
  rw [shapeCast_ab_1ab_apply]
  exact slice2_axis1_apply _ X _ r l (quarter k l) rfl

/-! ## The blocks -/

/-- Pages of the keys: rows of pages, a row of a page for each column. -/
theorem left_keys (c : Dev nD) (t : Fin cfg0.N) : ((dats m 0 c).after 11 t : Vec Ideal S4x512x128 .f32)
    = fun i => at_ m c (rowOf t (quarter (i 0) (i 2))) (column 512 (by decide) (i 1)) := by
  have hX (r j : Fin 512) : k0_pay9 (pointRows m c t) (View.ld (iblk m c 4 t) (Rect.unit (s := S4736x1024) ![512, 0] ![512, 1024] inb_S4736x1024_S512x1024_512_0))
      (View.ld (iblk m c 5 t) (Rect.unit (s := S1x4736) ![0, 512] ![1, 512] inb_S1x4736_S1x512_0_512)) (ix2 r j)
      = at_ m c (rowOf t r) (column 512 (by decide) j) :=
    (keys_block _ _ _ r j).trans (linear_apply m 512 _ _ c t r j _ (.inl ⟨by omega, rfl⟩))
  rw [after0_11]
  by_cases h : t.val % 16 = 0
  on_goal 1 => rw [outsAt0_A m c t h]
  on_goal 2 => rw [outsAt0_B m c t h]
  all_goals
    dsimp only
    frame_out
    exact four_first _ _ _ _ _ _ _ _ _ (fun j l => (turned_rows 0 0 rfl _ slices_S512x512_o0_0_S128x512 _ _ j l).trans (hX _ _)) (fun j l => (turned_rows 1 128 rfl _ slices_S512x512_o128_0_S128x512 _ _ j l).trans (hX _ _))
      (fun j l => (turned_rows 2 256 rfl _ slices_S512x512_o256_0_S128x512 _ _ j l).trans (hX _ _)) (fun j l => (turned_rows 3 384 rfl _ slices_S512x512_o384_0_S128x512 _ _ j l).trans (hX _ _))

/-- A column of the values in a point's rows. -/
theorem values_apply (c : Dev nD) (t : Fin cfg0.N) (r j : Fin 512) :
    k0_pay10 (pointRows m c t) (View.ld (iblk m c 4 t) (Rect.unit (s := S4736x1024) ![1024, 0] ![512, 1024] inb_S4736x1024_S512x1024_1024_0))
      (View.ld (iblk m c 5 t) (Rect.unit (s := S1x4736) ![0, 1024] ![1, 512] inb_S1x4736_S1x512_0_1024)) (ix2 r j)
      = at_ m c (rowOf t r) (column 1024 (by decide) j) :=
  (values_block _ _ _ r j).trans (linear_apply m 1024 _ _ c t r j _ (.inl ⟨by omega, rfl⟩))

/-- Pages of the values. -/
theorem left_values (c : Dev nD) (t : Fin cfg0.N) : ((dats m 0 c).after 12 t : Vec Ideal S4x512x128 .f32)
    = fun i => at_ m c (rowOf t (quarter (i 0) (i 2))) (column 1024 (by decide) (i 1)) := by
  have hX := values_apply m c t
  rw [after0_12]
  by_cases h : t.val % 16 = 0
  on_goal 1 => rw [outsAt0_A m c t h]
  on_goal 2 => rw [outsAt0_B m c t h]
  all_goals
    dsimp only
    frame_out
    exact four_first _ _ _ _ _ _ _ _ _ (fun j l => (turned_rows 0 0 rfl _ slices_S512x512_o0_0_S128x512 _ _ j l).trans (hX _ _)) (fun j l => (turned_rows 1 128 rfl _ slices_S512x512_o128_0_S128x512 _ _ j l).trans (hX _ _))
      (fun j l => (turned_rows 2 256 rfl _ slices_S512x512_o256_0_S128x512 _ _ j l).trans (hX _ _)) (fun j l => (turned_rows 3 384 rfl _ slices_S512x512_o384_0_S128x512 _ _ j l).trans (hX _ _))

/-- The values, a row for each column. -/
theorem left_rows (c : Dev nD) (t : Fin cfg0.N) : ((dats m 0 c).after 13 t : Vec Ideal S1x512x512 .bf16)
    = fun i => at_ m c (rowOf t (i 2)) (column 1024 (by decide) (i 1)) := by
  have hX := values_apply m c t
  rw [after0_13]
  by_cases h : t.val % 16 = 0
  on_goal 1 => rw [outsAt0_A m c t h]
  on_goal 2 => rw [outsAt0_B m c t h]
  all_goals
    dsimp only
    frame_out
    exact four_last _ _ _ _ _ _ _ _ _ (fun j l => (turned_rows 0 0 rfl _ slices_S512x512_o0_0_S128x512 _ _ j l).trans (hX _ _)) (fun j l => (turned_rows 1 128 rfl _ slices_S512x512_o128_0_S128x512 _ _ j l).trans (hX _ _))
      (fun j l => (turned_rows 2 256 rfl _ slices_S512x512_o256_0_S128x512 _ _ j l).trans (hX _ _)) (fun j l => (turned_rows 3 384 rfl _ slices_S512x512_o384_0_S128x512 _ _ j l).trans (hX _ _))

/-- Pages of the forget gates' logarithms. -/
theorem left_forget (c : Dev nD) (t : Fin cfg0.N) : ((dats m 0 c).after 14 t : Vec Ideal S4x8x128 .f32)
    = fun i => logGate (at_ m c (rowOf t (quarter (i 0) (i 2))) (column 1536 (by decide) (i 1))) := by
  have hX (r : Fin 512) (j : Fin 8) : k0_pay4 (iota .tc S512x128 32 [1] iota_S512x128_d1_w32)
      (k0_pay3 (iblk m c 0 t) (iblk m c 3 t) (View.ld (iblk m c 2 t) (Rect.unit (s := S1x40x1024) (k0_off1 (grid0.coords t)) S1x1x1024.size (k0_off1_inb (grid0.coords t))))
        (View.ld (iblk m c 1 t) (Rect.unit (s := S1x40x1024) (k0_off1 (grid0.coords t)) S1x1x1024.size (k0_off1_inb (grid0.coords t))))
        (View.ld (iblk m c 4 t) (Rect.unit (s := S4736x1024) ![1536, 0] ![128, 1024] inb_S4736x1024_S128x1024_1536_0)))
      (View.ld (iblk m c 5 t) (Rect.unit (s := S1x4736) ![0, 1536] ![1, 128] inb_S1x4736_S1x128_0_1536)) (ix2 r (⟨j.val, by omega⟩ : Fin 128))
      = logGate (at_ m c (rowOf t r) (column 1536 (by decide) j)) :=
    (forget_block _ _ _ _ _ _ r _ j.isLt).trans
      (congrArg logGate (linear_apply m 1536 _ _ c t r (⟨j.val, by omega⟩ : Fin 128) _ (.inl ⟨by show 1536 + j.val < 1544; omega, rfl⟩)))
  rw [after0_14]
  by_cases h : t.val % 16 = 0
  on_goal 1 => rw [outsAt0_A m c t h]
  on_goal 2 => rw [outsAt0_B m c t h]
  all_goals
    dsimp only
    frame_out
    exact four_first _ _ _ _ _ _ _ _ _ (fun j l => (turned_first 0 0 rfl _ slices_S512x128_o0_0_S128x128 transposes_S128x128_p1_0_S128x128 slices_S128x128_o0_0_S8x128 _ j l).trans (hX _ _)) (fun j l => (turned_first 1 128 rfl _ slices_S512x128_o128_0_S128x128 transposes_S128x128_p1_0_S128x128 slices_S128x128_o0_0_S8x128 _ j l).trans (hX _ _))
      (fun j l => (turned_first 2 256 rfl _ slices_S512x128_o256_0_S128x128 transposes_S128x128_p1_0_S128x128 slices_S128x128_o0_0_S8x128 _ j l).trans (hX _ _)) (fun j l => (turned_first 3 384 rfl _ slices_S512x128_o384_0_S128x128 transposes_S128x128_p1_0_S128x128 slices_S128x128_o0_0_S8x128 _ j l).trans (hX _ _))

/-- Slabs of the convolution's input. -/
theorem left_conv (c : Dev nD) (t : Fin cfg0.N) : ((dats m 0 c).after 15 t : Vec Ideal S4x512x128 .f32)
    = fun i => at_ m c (rowOf t (i 1)) (column 1544 (by decide) (quarter (i 0) (i 2)))
      * gate (at_ m c (rowOf t (i 1)) (column 2056 (by decide) (quarter (i 0) (i 2)))) := by
  have hX (r j : Fin 512) : k0_pay62 (pointRows m c t)
      (k0_pay61 (pointRows m c t) (View.ld (iblk m c 4 t) (Rect.unit (s := S4736x1024) ![1664, 0] ![512, 1024] inb_S4736x1024_S512x1024_1664_0)))
      (View.ld (iblk m c 5 t) (Rect.unit (s := S1x4736) ![0, 1664] ![1, 512] inb_S1x4736_S1x512_0_1664))
      (View.ld (iblk m c 4 t) (Rect.unit (s := S4736x1024) ![2176, 0] ![512, 1024] inb_S4736x1024_S512x1024_2176_0))
      (View.ld (iblk m c 5 t) (Rect.unit (s := S1x4736) ![0, 2176] ![1, 512] inb_S1x4736_S1x512_0_2176)) (ix2 r j)
      = at_ m c (rowOf t r) (column 1544 (by decide) j) * gate (at_ m c (rowOf t r) (column 2056 (by decide) j)) :=
    (conv_block _ _ _ _ _ r j).trans (congrArg₂ (fun u v => u * gate v)
      (linear_apply m 1664 _ _ c t r j _ (.inr ⟨by omega, by show 1664 + j.val = 1544 + j.val + 120; omega⟩))
      (linear_apply m 2176 _ _ c t r j _ (.inr ⟨by omega, by show 2176 + j.val = 2056 + j.val + 120; omega⟩)))
  rw [after0_15]
  by_cases h : t.val % 16 = 0
  on_goal 1 => rw [outsAt0_A m c t h]
  on_goal 2 => rw [outsAt0_B m c t h]
  all_goals
    dsimp only
    frame_out
    exact four_first _ _ _ _ _ _ _ _ _ (fun j l => (slab_columns 0 0 rfl _ slices_S512x512_o0_0_S512x128 _ j l).trans (hX _ _)) (fun j l => (slab_columns 1 128 rfl _ slices_S512x512_o0_128_S512x128 _ j l).trans (hX _ _))
      (fun j l => (slab_columns 2 256 rfl _ slices_S512x512_o0_256_S512x128 _ j l).trans (hX _ _)) (fun j l => (slab_columns 3 384 rfl _ slices_S512x512_o0_384_S512x128 _ j l).trans (hX _ _))

/-- The attention's gates. -/
theorem left_gates (c : Dev nD) (t : Fin cfg0.N) : ((dats m 0 c).after 16 t : Vec Ideal S512x1024 .bf16)
    = fun i => gate (at_ m c (rowOf t (i 0)) (column 2568 (by decide) (i 1))) := by
  have hX (r : Fin 512) (j : Fin 1024) : k0_pay67 (pointRows m c t)
      (View.ld (iblk m c 4 t) (Rect.unit (s := S4736x1024) ![2688, 0] ![1024, 1024] inb_S4736x1024_S1024x1024_2688_0))
      (View.ld (iblk m c 5 t) (Rect.unit (s := S1x4736) ![0, 2688] ![1, 1024] inb_S1x4736_S1x1024_0_2688)) (ix2 r j)
      = gate (at_ m c (rowOf t r) (column 2568 (by decide) j)) :=
    (gates_block _ _ _ r j).trans (congrArg gate (linear_apply m 2688 _ _ c t r j _ (.inr ⟨by omega, by show 2688 + j.val = 2568 + j.val + 120; omega⟩)))
  rw [after0_16]
  by_cases h : t.val % 16 = 0
  on_goal 1 => rw [outsAt0_A m c t h]
  on_goal 2 => rw [outsAt0_B m c t h]
  all_goals
    dsimp only
    frame_out
    funext i
    rw [eq_ix2 i]
    exact hX _ _

/-- The convolution's gates. -/
theorem left_branch (c : Dev nD) (t : Fin cfg0.N) : ((dats m 0 c).after 17 t : Vec Ideal S512x1024 .bf16)
    = fun i => gate (at_ m c (rowOf t (i 0)) (column 3592 (by decide) (i 1))) := by
  have hX (r : Fin 512) (j : Fin 1024) : k0_pay68 (pointRows m c t)
      (View.ld (iblk m c 4 t) (Rect.unit (s := S4736x1024) ![3712, 0] ![1024, 1024] inb_S4736x1024_S1024x1024_3712_0))
      (View.ld (iblk m c 5 t) (Rect.unit (s := S1x4736) ![0, 3712] ![1, 1024] inb_S1x4736_S1x1024_0_3712)) (ix2 r j)
      = gate (at_ m c (rowOf t r) (column 3592 (by decide) j)) :=
    (branch_block _ _ _ r j).trans (congrArg gate (linear_apply m 3712 _ _ c t r j _ (.inr ⟨by omega, by show 3712 + j.val = 3592 + j.val + 120; omega⟩)))
  rw [after0_17]
  by_cases h : t.val % 16 = 0
  on_goal 1 => rw [outsAt0_A m c t h]
  on_goal 2 => rw [outsAt0_B m c t h]
  all_goals
    dsimp only
    frame_out
    funext i
    rw [eq_ix2 i]
    exact hX _ _

end Cert.InprojIdeal.Value
-- ==== Proof.InprojIdeal.Result.lean ====
/-
  The input projection's program: the arrays that the last seven windows end with, as columns of the projection, and the program's run.
-/
module

public import proofs.«01_k».proof.Proof.InprojIdeal.Left

@[expose] public section

noncomputable section

namespace Cert.InprojIdeal.Value

open Cert.InprojIdeal Cert.InprojIdeal.Gen Cert.Projection Idealize.ShloMosaic Idealize.ShloMosaic.TcCoe Idealize.SL.Sem
open Idealize.ShloMosaic.ValueIdx
open Idealize.ShloMosaic.Pipeline (Dat Window)

variable (m : (ℓ : Loc nD τ sig) → Buf (Elt Ideal) ℓ)

/-! ## The point of a row -/

/-- Every block number is a point's. -/
theorem point_of (n : ℕ) (hn : n < 32) : ∃ t : Fin cfg0.N, number t = n := by
  obtain ⟨t, ht⟩ := Pipeline.Grid.coords_surjective grid0 (fun a => match a with
    | ⟨0, _⟩ => (⟨n / 16, by omega⟩ : Fin 2)
    | ⟨1, _⟩ => (⟨n % 16, by omega⟩ : Fin 16))
  have h0 : (grid0.coords t 0).val = n / 16 := by rw [ht]
  have h1 : (grid0.coords t 1).val = n % 16 := by rw [ht]
  refine ⟨t, ?_⟩
  unfold number
  omega

/-- Every page is a quarter of a point's block. -/
theorem page_of (p : Fin 128) : ∃ (t : Fin cfg0.N) (k : Fin 4), p.val = 4 * number t + k.val := by
  obtain ⟨t, ht⟩ := point_of (p.val / 4) (by omega)
  exact ⟨t, ⟨p.val % 4, by omega⟩, by show p.val = 4 * number t + p.val % 4; omega⟩

/-- Every row is a row of a point's block. -/
theorem row_of (n : Fin 16384) : ∃ (t : Fin cfg0.N) (r : Fin 512), n = rowOf t r := by
  obtain ⟨t, ht⟩ := point_of (n.val / 512) (by omega)
  exact ⟨t, ⟨n.val % 512, by omega⟩, Fin.ext (by show n.val = 512 * number t + n.val % 512; omega)⟩

theorem pageRow_eq (t : Fin cfg0.N) (k : Fin 4) (p l : Fin 128) (hp : p.val = 4 * number t + k.val) : pageRow p l = rowOf t (quarter k l) :=
  Fin.ext (by show 128 * p.val + l.val = 512 * number t + (128 * k.val + l.val); omega)

/-! ## The arrays -/

variable (c : Dev nD)

/-- The array of the keys' pages. -/
theorem keys_array : ((dats m 0 c).arrAt 11 cfg0.N : S128x512x128.Idx → EReal)
    = pagesFrom (argX m c) (argM m c) (argG m c) (argW m c) (argB m c) 512 (by decide) := by
  funext i
  obtain ⟨p, j, l, rfl⟩ : ∃ (p : Fin 128) (j : Fin 512) (l : Fin 128), i = ix3 p j l := ⟨i 0, i 1, i 2, eq_ix3 i⟩
  obtain ⟨t, k, hp⟩ := page_of p
  have hb : ((dats m 0 c).arrAt 11 cfg0.N : S128x512x128.Idx → EReal) ((win0_11.rect t).emb (ix3 k j l))
      = ((dats m 0 c).after 11 t : Vec Ideal S4x512x128 .f32) (ix3 k j l) := congrFun (blocks11 m c t (flush0_11 t)) (ix3 k j l)
  rw [left_keys] at hb
  have hi : ix3 p j l = (win0_11.rect t).emb (ix3 k j l) := by
    refine funext fun a => Fin.ext (Eq.trans ?_ (Window.rect_emb_val win0_11 t _ a).symm)
    match a with
    | ⟨0, _⟩ =>
      show p.val = (Scalar.addi (Scalar.muli (BitVec.ofNat 32 (grid0.coords t 0).val) 16#32) (BitVec.ofNat 32 (grid0.coords t 1).val)).toNat * 4 + k.val
      rw [number_word]; omega
    | ⟨1, _⟩ =>
      show j.val = 0 * 512 + j.val
      omega
    | ⟨2, _⟩ =>
      show l.val = 0 * 128 + l.val
      omega
  refine (congrArg _ hi).trans (hb.trans ?_)
  show at_ m c (rowOf t (quarter k l)) _ = at_ m c (pageRow p l) _
  rw [pageRow_eq t k p l hp]
  rfl

/-- The array of the values' pages. -/
theorem values_array : ((dats m 0 c).arrAt 12 cfg0.N : S128x512x128.Idx → EReal)
    = pagesFrom (argX m c) (argM m c) (argG m c) (argW m c) (argB m c) 1024 (by decide) := by
  funext i
  obtain ⟨p, j, l, rfl⟩ : ∃ (p : Fin 128) (j : Fin 512) (l : Fin 128), i = ix3 p j l := ⟨i 0, i 1, i 2, eq_ix3 i⟩
  obtain ⟨t, k, hp⟩ := page_of p
  have hb : ((dats m 0 c).arrAt 12 cfg0.N : S128x512x128.Idx → EReal) ((win0_12.rect t).emb (ix3 k j l))
      = ((dats m 0 c).after 12 t : Vec Ideal S4x512x128 .f32) (ix3 k j l) := congrFun (blocks12 m c t (flush0_12 t)) (ix3 k j l)
  rw [left_values] at hb
  have hi : ix3 p j l = (win0_12.rect t).emb (ix3 k j l) := by
    refine funext fun a => Fin.ext (Eq.trans ?_ (Window.rect_emb_val win0_12 t _ a).symm)
    match a with
    | ⟨0, _⟩ =>
      show p.val = (Scalar.addi (Scalar.muli (BitVec.ofNat 32 (grid0.coords t 0).val) 16#32) (BitVec.ofNat 32 (grid0.coords t 1).val)).toNat * 4 + k.val
      rw [number_word]; omega
    | ⟨1, _⟩ =>
      show j.val = 0 * 512 + j.val
      omega
    | ⟨2, _⟩ =>
      show l.val = 0 * 128 + l.val
      omega
  refine (congrArg _ hi).trans (hb.trans ?_)
  show at_ m c (rowOf t (quarter k l)) _ = at_ m c (pageRow p l) _
  rw [pageRow_eq t k p l hp]
  rfl

/-- The array of the values' rows. -/
theorem rows_array : ((dats m 0 c).arrAt 13 cfg0.N : S2x512x8192.Idx → EReal) = valueRows (argX m c) (argM m c) (argG m c) (argW m c) (argB m c) := by
  funext i
  obtain ⟨b, j, r, rfl⟩ : ∃ (b : Fin 2) (j : Fin 512) (r : Fin 8192), i = ix3 b j r := ⟨i 0, i 1, i 2, eq_ix3 i⟩
  obtain ⟨t, l, hr⟩ := row_of (tokenRow b r)
  have hv : 8192 * b.val + r.val = 512 * (16 * (grid0.coords t 0).val + (grid0.coords t 1).val) + l.val := congrArg Fin.val hr
  have h1 := tile_lt t
  have hb : ((dats m 0 c).arrAt 13 cfg0.N : S2x512x8192.Idx → EReal) ((win0_13.rect t).emb (ix3 (0 : Fin 1) j l))
      = ((dats m 0 c).after 13 t : Vec Ideal S1x512x512 .bf16) (ix3 (0 : Fin 1) j l) := congrFun (blocks13 m c t (flush0_13 t)) (ix3 (0 : Fin 1) j l)
  rw [left_rows] at hb
  have hi : ix3 b j r = (win0_13.rect t).emb (ix3 (0 : Fin 1) j l) := by
    refine funext fun a => Fin.ext (Eq.trans ?_ (Window.rect_emb_val win0_13 t _ a).symm)
    match a with
    | ⟨0, _⟩ =>
      show b.val = (BitVec.ofNat 32 (grid0.coords t 0).val).toNat * 1 + 0
      rw [index_word (by have := seq_lt t; omega)]; omega
    | ⟨1, _⟩ =>
      show j.val = 0 * 512 + j.val
      omega
    | ⟨2, _⟩ =>
      show r.val = (BitVec.ofNat 32 (grid0.coords t 1).val).toNat * 512 + l.val
      rw [index_word h1]; omega
  refine (congrArg _ hi).trans (hb.trans ?_)
  show at_ m c (rowOf t l) _ = at_ m c (tokenRow b r) _
  rw [hr]
  rfl

/-- The array of the forget gates' logarithms. -/
theorem forget_array : ((dats m 0 c).arrAt 14 cfg0.N : S128x8x128.Idx → EReal) = forgetPages (argX m c) (argM m c) (argG m c) (argW m c) (argB m c) := by
  funext i
  obtain ⟨p, j, l, rfl⟩ : ∃ (p : Fin 128) (j : Fin 8) (l : Fin 128), i = ix3 p j l := ⟨i 0, i 1, i 2, eq_ix3 i⟩
  obtain ⟨t, k, hp⟩ := page_of p
  have hb : ((dats m 0 c).arrAt 14 cfg0.N : S128x8x128.Idx → EReal) ((win0_14.rect t).emb (ix3 k j l))
      = ((dats m 0 c).after 14 t : Vec Ideal S4x8x128 .f32) (ix3 k j l) := congrFun (blocks14 m c t (flush0_14 t)) (ix3 k j l)
  rw [left_forget] at hb
  have hi : ix3 p j l = (win0_14.rect t).emb (ix3 k j l) := by
    refine funext fun a => Fin.ext (Eq.trans ?_ (Window.rect_emb_val win0_14 t _ a).symm)
    match a with
    | ⟨0, _⟩ =>
      show p.val = (Scalar.addi (Scalar.muli (BitVec.ofNat 32 (grid0.coords t 0).val) 16#32) (BitVec.ofNat 32 (grid0.coords t 1).val)).toNat * 4 + k.val
      rw [number_word]; omega
    | ⟨1, _⟩ =>
      show j.val = 0 * 8 + j.val
      omega
    | ⟨2, _⟩ =>
      show l.val = 0 * 128 + l.val
      omega
  refine (congrArg _ hi).trans (hb.trans ?_)
  show logGate (at_ m c (rowOf t (quarter k l)) _) = logGate (at_ m c (pageRow p l) _)
  rw [pageRow_eq t k p l hp]
  rfl

/-- The array of the convolution's input. -/
theorem conv_array : ((dats m 0 c).arrAt 15 cfg0.N : S4x16384x128.Idx → EReal) = convSlabs (argX m c) (argM m c) (argG m c) (argW m c) (argB m c) := by
  funext i
  obtain ⟨k, n, l, rfl⟩ : ∃ (k : Fin 4) (n : Fin 16384) (l : Fin 128), i = ix3 k n l := ⟨i 0, i 1, i 2, eq_ix3 i⟩
  obtain ⟨t, r, rfl⟩ := row_of n
  have hb : ((dats m 0 c).arrAt 15 cfg0.N : S4x16384x128.Idx → EReal) ((win0_15.rect t).emb (ix3 k r l))
      = ((dats m 0 c).after 15 t : Vec Ideal S4x512x128 .f32) (ix3 k r l) := congrFun (blocks15 m c t (flush0_15 t)) (ix3 k r l)
  rw [left_conv] at hb
  have hi : ix3 k (rowOf t r) l = (win0_15.rect t).emb (ix3 k r l) := by
    refine funext fun a => Fin.ext (Eq.trans ?_ (Window.rect_emb_val win0_15 t _ a).symm)
    match a with
    | ⟨0, _⟩ =>
      show k.val = 0 * 4 + k.val
      omega
    | ⟨1, _⟩ =>
      show 512 * number t + r.val
        = (Scalar.addi (Scalar.muli (BitVec.ofNat 32 (grid0.coords t 0).val) 16#32) (BitVec.ofNat 32 (grid0.coords t 1).val)).toNat * 512 + r.val
      rw [number_word]; omega
    | ⟨2, _⟩ =>
      show l.val = 0 * 128 + l.val
      omega
  exact (congrArg _ hi).trans hb

/-- The arrays of the gates. -/
theorem gates_array : ((dats m 0 c).arrAt 16 cfg0.N : S16384x1024.Idx → EReal)
    = gatesFrom (argX m c) (argM m c) (argG m c) (argW m c) (argB m c) 2568 (by decide) := by
  funext i
  obtain ⟨n, j, rfl⟩ : ∃ (n : Fin 16384) (j : Fin 1024), i = ix2 n j := ⟨i 0, i 1, eq_ix2 i⟩
  obtain ⟨t, r, rfl⟩ := row_of n
  have hb : ((dats m 0 c).arrAt 16 cfg0.N : S16384x1024.Idx → EReal) ((win0_16.rect t).emb (ix2 r j))
      = ((dats m 0 c).after 16 t : Vec Ideal S512x1024 .bf16) (ix2 r j) := congrFun (blocks16 m c t (flush0_16 t)) (ix2 r j)
  rw [left_gates] at hb
  have hi : ix2 (rowOf t r) j = (win0_16.rect t).emb (ix2 r j) := by
    refine funext fun a => Fin.ext (Eq.trans ?_ (Window.rect_emb_val win0_16 t _ a).symm)
    match a with
    | ⟨0, _⟩ =>
      show 512 * number t + r.val
        = (Scalar.addi (Scalar.muli (BitVec.ofNat 32 (grid0.coords t 0).val) 16#32) (BitVec.ofNat 32 (grid0.coords t 1).val)).toNat * 512 + r.val
      rw [number_word]; omega
    | ⟨1, _⟩ =>
      show j.val = 0 * 1024 + j.val
      omega
  exact (congrArg _ hi).trans hb

theorem branch_array : ((dats m 0 c).arrAt 17 cfg0.N : S16384x1024.Idx → EReal)
    = gatesFrom (argX m c) (argM m c) (argG m c) (argW m c) (argB m c) 3592 (by decide) := by
  funext i
  obtain ⟨n, j, rfl⟩ : ∃ (n : Fin 16384) (j : Fin 1024), i = ix2 n j := ⟨i 0, i 1, eq_ix2 i⟩
  obtain ⟨t, r, rfl⟩ := row_of n
  have hb : ((dats m 0 c).arrAt 17 cfg0.N : S16384x1024.Idx → EReal) ((win0_17.rect t).emb (ix2 r j))
      = ((dats m 0 c).after 17 t : Vec Ideal S512x1024 .bf16) (ix2 r j) := congrFun (blocks17 m c t (flush0_17 t)) (ix2 r j)
  rw [left_branch] at hb
  have hi : ix2 (rowOf t r) j = (win0_17.rect t).emb (ix2 r j) := by
    refine funext fun a => Fin.ext (Eq.trans ?_ (Window.rect_emb_val win0_17 t _ a).symm)
    match a with
    | ⟨0, _⟩ =>
      show 512 * number t + r.val
        = (Scalar.addi (Scalar.muli (BitVec.ofNat 32 (grid0.coords t 0).val) 16#32) (BitVec.ofNat 32 (grid0.coords t 1).val)).toNat * 512 + r.val
      rw [number_word]; omega
    | ⟨1, _⟩ =>
      show j.val = 0 * 1024 + j.val
      omega
  exact (congrArg _ hi).trans hb

/-! ## The run -/

/-- The program runs: its results are the projection's columns, and its arguments are left as they were. -/
theorem run_results (g : Dev nD → PrngReg) :
    θ_run defs (onTc (τ := τ) (main (F := Ideal))) ⟨m, fun _ => 0, g⟩ fun r => ∀ c : Dev nD,
      r.2.mem ((c.tc : Thread nD τ).loc main_v16_2) = pagesFrom (argX m c) (argM m c) (argG m c) (argW m c) (argB m c) 512 (by decide)
      ∧ r.2.mem ((c.tc : Thread nD τ).loc main_v16_3) = pagesFrom (argX m c) (argM m c) (argG m c) (argW m c) (argB m c) 1024 (by decide)
      ∧ r.2.mem ((c.tc : Thread nD τ).loc main_v16_4) = valueRows (argX m c) (argM m c) (argG m c) (argW m c) (argB m c)
      ∧ r.2.mem ((c.tc : Thread nD τ).loc main_v16_5) = forgetPages (argX m c) (argM m c) (argG m c) (argW m c) (argB m c)
      ∧ r.2.mem ((c.tc : Thread nD τ).loc main_v16_6) = convSlabs (argX m c) (argM m c) (argG m c) (argW m c) (argB m c)
      ∧ r.2.mem ((c.tc : Thread nD τ).loc main_v16_7) = gatesFrom (argX m c) (argM m c) (argG m c) (argW m c) (argB m c) 2568 (by decide)
      ∧ r.2.mem ((c.tc : Thread nD τ).loc main_v16_8) = gatesFrom (argX m c) (argM m c) (argG m c) (argW m c) (argB m c) 3592 (by decide)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨_, _, h0, h1, h2, h3, h4, h5, h6, hargs⟩ := h c
    exact ⟨h0.trans (keys_array m c), h1.trans (values_array m c), h2.trans (rows_array m c), h3.trans (forget_array m c), h4.trans (conv_array m c),
      h5.trans (gates_array m c), h6.trans (branch_array m c), hargs⟩)
    (run_blocks m g)

end Cert.InprojIdeal.Value
-- ==== Proof.ProjectionIdeal.Result.lean ====
/-
  The projection's reference, entry by entry: every result is a column of the projection, or a gate of one, at its place.
-/
module

public import proofs.«01_k».proof.Proof.Gen.ProjectionIdeal.Run
public import proofs.«01_k».proof.Proof.Projection
public import Idealize.ShloMosaic.Lib.IdealHost
public import Idealize.ShloMosaic.Lib.ValueLayout
public import Idealize.ShloMosaic.Lib.Pipeline.Value

@[expose] public section

noncomputable section

namespace Cert.ProjectionIdeal.Value

open Cert.ProjectionIdeal Cert.ProjectionIdeal.Gen Cert.Projection Idealize.ShloMosaic Idealize.ShloMosaic.TcCoe Idealize.ShloMosaic.ValueIdx
open scoped BigOperators

/-! ## The stages -/

section Stages

variable (x : FVec Ideal S2x8192x1024 .f32) (mo : FVec Ideal S6x40x1024 .f32) (g : FVec Ideal S1x1024 .f32) (w : FVec Ideal S1x1024x4616 .f32)
  (bi : FVec Ideal S1x4616 .f32)

/-- One number for each row, at every feature. -/
def spread (v : FVec Ideal S2x8192x1 .f32) : FVec Ideal S2x8192x1024 .f32 :=
  broadcastInDim S2x8192x1024 ![0, 1, 2] bcast_S2x8192x1_S2x8192x1024_0_1_2 v

/-- The reciprocal root of each row's mean square. -/
def roots : FVec Ideal S2x8192x1 .f32 :=
  Host.rsqrt (addf (Host.divf (broadcastInDim S2x8192x1 ![0, 1] bcast_S2x8192_S2x8192x1_0_1
    (Host.reduceAdd (mulf x x) (constant S_ .f32 0x00000000#32) reducesTo_S2x8192x1024_S2x8192_d2 h_S_))
    (broadcastInDim S2x8192x1 ![] bcast_S_S2x8192x1 (constant S_ .f32 0x44800000#32)))
    (broadcastInDim S2x8192x1 ![] bcast_S_S2x8192x1 (constant S_ .f32 0x358637BD#32)))

/-- The scales at every row. -/
def scales : FVec Ideal S2x8192x1024 .f32 :=
  broadcastInDim S2x8192x1024 ![0, 1, 2] bcast_S1x1x1024_S2x8192x1024_0_1_2
    (broadcastInDim S1x1x1024 ![2] bcast_S1024_S1x1x1024_2 (shapeCast _ g shapeCasts_S1x1024_S1024))

/-- Two rows of the modulation, one for each sequence. -/
def perSequence (v : FVec Ideal S1x2x1024 .f32) : FVec Ideal S2x1x1024 .f32 :=
  broadcastInDim S2x1x1024 ![0, 2] bcast_S2x1024_S2x1x1024_0_2 (shapeCast _ v shapeCasts_S1x2x1024_S2x1024)

/-- A row for each sequence, at every position. -/
def everywhere (v : FVec Ideal S2x1x1024 .f32) : FVec Ideal S2x8192x1024 .f32 :=
  broadcastInDim S2x8192x1024 ![0, 1, 2] bcast_S2x1x1024_S2x8192x1024_0_1_2 v

/-- The modulated rows. -/
def rows : FVec Ideal S2x8192x1024 .f32 :=
  addf (mulf (mulf (mulf x (spread (roots x))) (scales g))
    (everywhere (addf (broadcastInDim S2x1x1024 ![] bcast_S_S2x1x1024 (constant S_ .f32 0x3F800000#32))
      (perSequence (extractStridedSlice S1x2x1024 ![1, 32, 0] mo slices_S6x40x1024_S1x2x1024_1_32_0)))))
    (everywhere (perSequence (extractStridedSlice S1x2x1024 ![0, 32, 0] mo slices_S6x40x1024_S1x2x1024_0_32_0)))

/-- All columns of the projection. -/
def columns : FVec Ideal S2x8192x4616 .f32 :=
  addf (Host.dotGeneral (φ₁ := .f32) (φ₂ := .f32) dot_S2x8192x1024_S1024x4616_S2x8192x4616_2_0_01_1_n_n none (rows x mo g)
    (shapeCast _ w shapeCasts_S1x1024x4616_S1024x4616))
    (broadcastInDim S2x8192x4616 ![0, 1, 2] bcast_S1x1x4616_S2x8192x4616_0_1_2
      (broadcastInDim S1x1x4616 ![2] bcast_S4616_S1x1x4616_2 (shapeCast _ bi shapeCasts_S1x4616_S4616)))

/-! ## Each at an index -/

theorem spread_apply (v : FVec Ideal S2x8192x1 .f32) (b : Fin 2) (r : Fin 8192) (k : Fin 1024) : spread v (ix3 b r k) = v (ix3 b r (0 : Fin 1)) :=
  broadcastInDim_apply (s := S2x8192x1) (t := S2x8192x1024) _ _ _ _ (ix3 b r (0 : Fin 1)) fun a => match a with
    | ⟨0, _⟩ => rfl
    | ⟨1, _⟩ => rfl
    | ⟨2, _⟩ => rfl

theorem reduces_features : S2x8192x1024.Reduces [2] S2x8192 := by decide

theorem lift_features (b : Fin 2) (r : Fin 8192) (k : Fin 1024) : reduces_features.lift (ix2 b r) k = ix3 b r k :=
  funext fun a => match a with
    | ⟨0, _⟩ => rfl
    | ⟨1, _⟩ => rfl
    | ⟨2, _⟩ => rfl

theorem roots_apply (b : Fin 2) (r : Fin 8192) :
    roots x (ix3 b r (0 : Fin 1)) = Ideal.rsqrt (Ideal.div (∑ j, x (ix3 b r j) * x (ix3 b r j)) (word 0x44800000#32) + word 0x358637BD#32) := by
  have e : broadcastInDim S2x8192x1 ![0, 1] bcast_S2x8192_S2x8192x1_0_1
      (Host.reduceAdd (mulf x x) (constant S_ .f32 0x00000000#32) reducesTo_S2x8192x1024_S2x8192_d2 h_S_) (ix3 b r (0 : Fin 1))
      = ∑ j, x (ix3 b r j) * x (ix3 b r j) := by
    rw [broadcastInDim_apply (s := S2x8192) (t := S2x8192x1) _ _ _ _ (ix2 b r) fun a => match a with
      | ⟨0, _⟩ => rfl
      | ⟨1, _⟩ => rfl]
    rw [hostReduceAdd_apply, Ideal.hostReduceAdd_single (s := S2x8192x1024) (t := S2x8192) _ reduces_features]
    show Ideal.ofBits .f32 0x00000000#32 + _ = _
    rw [Ideal.ofBits_zero_f32, zero_add]
    exact Finset.sum_congr rfl fun j _ => congrArg (fun i => x i * x i) (lift_features b r j)
  rw [← e]
  rfl

theorem scales_apply (b : Fin 2) (r : Fin 8192) (k : Fin 1024) : scales g (ix3 b r k) = g (ix2 (0 : Fin 1) k) := by
  unfold scales
  rw [broadcastInDim_apply (s := S1x1x1024) (t := S2x8192x1024) _ _ _ _ (ix3 (0 : Fin 1) (0 : Fin 1) k) fun a => match a with
    | ⟨0, _⟩ => rfl
    | ⟨1, _⟩ => rfl
    | ⟨2, _⟩ => rfl]
  rw [broadcastInDim_apply (s := S1024) (t := S1x1x1024) _ _ _ _ (ix1 k) fun a => match a with | ⟨0, _⟩ => rfl]
  exact shapeCast_1a_a_apply (a := 1024) g _ k

theorem everywhere_apply (v : FVec Ideal S2x1x1024 .f32) (b : Fin 2) (r : Fin 8192) (k : Fin 1024) :
    everywhere v (ix3 b r k) = v (ix3 b (0 : Fin 1) k) :=
  broadcastInDim_apply (s := S2x1x1024) (t := S2x8192x1024) _ _ _ _ (ix3 b (0 : Fin 1) k) fun a => match a with
    | ⟨0, _⟩ => rfl
    | ⟨1, _⟩ => rfl
    | ⟨2, _⟩ => rfl

theorem perSequence_apply (v : FVec Ideal S1x2x1024 .f32) (b : Fin 2) (k : Fin 1024) :
    perSequence v (ix3 b (0 : Fin 1) k) = v (ix3 (0 : Fin 1) b k) := by
  unfold perSequence
  rw [broadcastInDim_apply (s := S2x1024) (t := S2x1x1024) _ _ _ _ (ix2 b k) fun a => match a with
    | ⟨0, _⟩ => rfl
    | ⟨1, _⟩ => rfl]
  exact shapeCast_1ab_ab_apply v _ b k

/-- The modulated rows, entry by entry. -/
theorem rows_apply (b : Fin 2) (r : Fin 8192) (k : Fin 1024) :
    rows x mo g (ix3 b r k) = modulated (fun j => x (ix3 b r j)) (fun j => g (ix2 (0 : Fin 1) j)) (fun j => mo (ix3 (1 : Fin 6) (modRow b) j))
      (fun j => mo (ix3 (0 : Fin 6) (modRow b) j)) k := by
  have hs (o : Fin 6) (h : S6x40x1024.Slices ![o.val, 32, 0] S1x2x1024) :
      extractStridedSlice S1x2x1024 ![o.val, 32, 0] mo h (ix3 (0 : Fin 1) b k) = mo (ix3 o (modRow b) k) :=
    extractStridedSlice_apply (s := S6x40x1024) (t := S1x2x1024) _ _ _ _ _ fun a => match a with
      | ⟨0, _⟩ => rfl
      | ⟨1, _⟩ => rfl
      | ⟨2, _⟩ => (Nat.zero_add _).symm
  unfold rows modulated
  rw [addf_apply, mulf_apply, mulf_apply, mulf_apply, spread_apply, roots_apply, scales_apply, everywhere_apply, everywhere_apply, addf_apply,
    perSequence_apply, perSequence_apply]
  exact congrArg₂ (· + ·) (congrArg (_ * ·) (congrArg (_ + ·) (hs 1 slices_S6x40x1024_S1x2x1024_1_32_0))) (hs 0 slices_S6x40x1024_S1x2x1024_0_32_0)

/-- The projection's columns, entry by entry. -/
theorem columns_apply (b : Fin 2) (r : Fin 8192) (o : Fin 4616) : columns x mo g w bi (ix3 b r o) = projected x mo g w bi b r o := by
  let D := dot_S2x8192x1024_S1024x4616_S2x8192x4616_2_0_01_1_n_n
  have hr : D.contr.rank = 1 := rfl
  have hs : D.contr.size ⟨0, by rw [hr]; omega⟩ = 1024 := rfl
  unfold columns projected linear
  rw [addf_apply]
  refine congrArg₂ (· + ·) ?_ ?_
  · simp only [Host.dotGeneral]
    rw [Ideal.dotGeneral_apply, ← Equiv.sum_comp (contrEquiv1 D 1024 hr hs).symm]
    refine Finset.sum_congr rfl fun k _ => ?_
    have hk := contrEquiv1_symm_val D 1024 hr hs k
    have el : D.lhsIdx (ix3 b r o) ((contrEquiv1 D 1024 hr hs).symm k) = ix3 b r k := by
      funext a; apply Fin.ext
      match a with
      | ⟨0, _⟩ => rfl
      | ⟨1, _⟩ => rfl
      | ⟨2, _⟩ => exact hk
    have er : D.rhsIdx (ix3 b r o) ((contrEquiv1 D 1024 hr hs).symm k) = ix2 k o := by
      funext a; apply Fin.ext
      match a with
      | ⟨0, _⟩ => exact hk
      | ⟨1, _⟩ => rfl
    rw [el, er, rows_apply]
    exact congrArg (_ * ·) (shapeCast_1ab_ab_apply w _ k o)
  · rw [broadcastInDim_apply (s := S1x1x4616) (t := S2x8192x4616) _ _ _ _ (ix3 (0 : Fin 1) (0 : Fin 1) o) fun a => match a with
      | ⟨0, _⟩ => rfl
      | ⟨1, _⟩ => rfl
      | ⟨2, _⟩ => rfl]
    rw [broadcastInDim_apply (s := S4616) (t := S1x1x4616) _ _ _ _ (ix1 o) fun a => match a with | ⟨0, _⟩ => rfl]
    exact shapeCast_1a_a_apply (a := 4616) bi _ o

/-! ## The results -/

variable {x mo g w bi}

/-- Some of the columns. -/
theorem slice_apply {n : ℕ} (a : ℕ) (hn : a + n ≤ 4616) (h : S2x8192x4616.Slices ![0, 0, a] ⟨3, ![2, 8192, n]⟩) (b : Fin 2) (r : Fin 8192) (j : Fin n) :
    extractStridedSlice ⟨3, ![2, 8192, n]⟩ ![0, 0, a] (columns x mo g w bi) h (ix3 b r j) = projected x mo g w bi b r (column a hn j) := by
  rw [← columns_apply]
  exact extractStridedSlice_apply (s := S2x8192x4616) (t := ⟨3, ![2, 8192, n]⟩) _ _ _ _ _ fun c => match c with
    | ⟨0, _⟩ => (Nat.zero_add _).symm
    | ⟨1, _⟩ => (Nat.zero_add _).symm
    | ⟨2, _⟩ => rfl

/-- Columns in pages of 128 rows, each page transposed. -/
theorem pages_apply {n : ℕ} (v : FVec Ideal ⟨3, ![2, 8192, n]⟩ .f32) (h : (⟨3, ![2, 8192, n]⟩ : Shape).ShapeCasts ⟨3, ![128, 128, n]⟩)
    (ht : (⟨3, ![128, 128, n]⟩ : Shape).Transposes [0, 2, 1] ⟨3, ![128, n, 128]⟩) (p l : Fin 128) (j : Fin n) :
    transpose ⟨3, ![128, n, 128]⟩ [0, 2, 1] (shapeCast ⟨3, ![128, 128, n]⟩ v h) ht (ix3 p j l)
      = v (ix3 (rowSeq (pageRow p l)) (rowPos (pageRow p l)) j) := by
  rw [transpose_ix3_021_apply]
  refine shapeCast_apply _ _ _ _ ?_
  rw [Shape.rowMajor_val_three, Shape.rowMajor_val_three]
  show ((128 * p.val + l.val) / 8192 * 8192 + (128 * p.val + l.val) % 8192) * n + j.val = (p.val * 128 + l.val) * n + j.val
  rw [Nat.div_add_mod', Nat.mul_comm 128 p.val]

/-- Columns with the sequences one after the other. -/
theorem flat_apply {n : ℕ} (v : FVec Ideal ⟨3, ![2, 8192, n]⟩ .f32) (h : (⟨3, ![2, 8192, n]⟩ : Shape).ShapeCasts ⟨2, ![16384, n]⟩)
    (k : Fin 16384) (j : Fin n) : shapeCast ⟨2, ![16384, n]⟩ v h (ix2 k j) = v (ix3 (rowSeq k) (rowPos k) j) := by
  refine shapeCast_apply _ _ _ _ ?_
  rw [Shape.rowMajor_val_three, Shape.rowMajor_val_two]
  show (k.val / 8192 * 8192 + k.val % 8192) * n + j.val = k.val * n + j.val
  rw [Nat.div_add_mod']

theorem pages_eq (a : ℕ) (ha : a + 512 ≤ 4616) (h : S2x8192x4616.Slices ![0, 0, a] S2x8192x512) :
    transpose S128x512x128 [0, 2, 1] (shapeCast S128x128x512 (extractStridedSlice S2x8192x512 ![0, 0, a] (columns x mo g w bi) h)
      shapeCasts_S2x8192x512_S128x128x512) transposes_S128x128x512_S128x512x128_0_2_1 = pagesFrom x mo g w bi a ha := by
  funext i
  obtain ⟨p, j, l, rfl⟩ : ∃ (p : Fin 128) (j : Fin 512) (l : Fin 128), i = ix3 p j l := ⟨i 0, i 1, i 2, eq_ix3 i⟩
  exact (pages_apply _ _ _ p l j).trans (slice_apply a ha h _ _ j)

theorem values_eq :
    transpose S2x512x8192 [0, 2, 1] (extractStridedSlice S2x8192x512 ![0, 0, 1024] (columns x mo g w bi) slices_S2x8192x4616_S2x8192x512_0_0_1024)
      transposes_S2x8192x512_S2x512x8192_0_2_1 = valueRows x mo g w bi := by
  funext i
  obtain ⟨b, j, r, rfl⟩ : ∃ (b : Fin 2) (j : Fin 512) (r : Fin 8192), i = ix3 b j r := ⟨i 0, i 1, i 2, eq_ix3 i⟩
  refine (transpose_ix3_021_apply _ _ b j r).trans ?_
  refine (slice_apply 1024 (by decide) slices_S2x8192x4616_S2x8192x512_0_0_1024 b r j).trans (atRow_token ..).symm

/-- The reference's log-sigmoid. -/
def logGates (v : FVec Ideal S2x8192x8 .f32) : FVec Ideal S2x8192x8 .f32 :=
  Host.negf (select (cmpf .une (subf (Host.negf v) (broadcastInDim S2x8192x8 ![] bcast_S_S2x8192x8 (constant S_ .f32 0x00000000#32)))
      (subf (Host.negf v) (broadcastInDim S2x8192x8 ![] bcast_S_S2x8192x8 (constant S_ .f32 0x00000000#32))))
    (addf (Host.negf v) (broadcastInDim S2x8192x8 ![] bcast_S_S2x8192x8 (constant S_ .f32 0x00000000#32)))
    (addf (maximumf (Host.negf v) (broadcastInDim S2x8192x8 ![] bcast_S_S2x8192x8 (constant S_ .f32 0x00000000#32)))
      (Host.log1p (Host.exp (Host.negf (Host.absf (subf (Host.negf v)
        (broadcastInDim S2x8192x8 ![] bcast_S_S2x8192x8 (constant S_ .f32 0x00000000#32)))))))))

theorem logGates_apply (v : FVec Ideal S2x8192x8 .f32) (i : S2x8192x8.Idx) : logGates v i = logGate (v i) := by
  have h : logGates v i = -(if FloatOps.cmpf (F := Ideal) (φ := .f32) .une (-v i - word 0x00000000#32) (-v i - word 0x00000000#32) = 1#1 then -v i + word 0x00000000#32
      else max (-v i) (word 0x00000000#32)
        + Ideal.log1p (Ideal.exp (-max (-v i - word 0x00000000#32) (-(-v i - word 0x00000000#32))))) := rfl
  rw [h, if_neg (by simp [FloatOps.cmpf, Ideal.cmp]), show word 0x00000000#32 = 0 from Ideal.ofBits_zero_f32]
  exact logGate_eq (v i)

theorem forget_eq :
    transpose S128x8x128 [0, 2, 1] (shapeCast S128x128x8 (logGates (extractStridedSlice S2x8192x8 ![0, 0, 1536] (columns x mo g w bi)
      slices_S2x8192x4616_S2x8192x8_0_0_1536)) shapeCasts_S2x8192x8_S128x128x8) transposes_S128x128x8_S128x8x128_0_2_1 = forgetPages x mo g w bi := by
  funext i
  obtain ⟨p, j, l, rfl⟩ : ∃ (p : Fin 128) (j : Fin 8) (l : Fin 128), i = ix3 p j l := ⟨i 0, i 1, i 2, eq_ix3 i⟩
  refine (pages_apply _ _ _ p l j).trans ((logGates_apply _ _).trans ?_)
  exact congrArg logGate (slice_apply 1536 (by decide) slices_S2x8192x4616_S2x8192x8_0_0_1536 _ _ j)

/-- The reference's sigmoid of 512 columns, and of 1024. -/
def gates512 (v : FVec Ideal S2x8192x512 .f32) : FVec Ideal S2x8192x512 .f32 :=
  Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf v)))
def gates1024 (v : FVec Ideal S2x8192x1024 .f32) : FVec Ideal S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32)) (Host.exp (Host.negf v)))

theorem conv_eq :
    transpose S4x16384x128 [1, 0, 2] (shapeCast S16384x4x128
      (mulf (extractStridedSlice S2x8192x512 ![0, 0, 1544] (columns x mo g w bi) slices_S2x8192x4616_S2x8192x512_0_0_1544)
        (gates512 (extractStridedSlice S2x8192x512 ![0, 0, 2056] (columns x mo g w bi) slices_S2x8192x4616_S2x8192x512_0_0_2056)))
      shapeCasts_S2x8192x512_S16384x4x128) transposes_S16384x4x128_S4x16384x128_1_0_2 = convSlabs x mo g w bi := by
  funext i
  obtain ⟨s, k, l, rfl⟩ : ∃ (s : Fin 4) (k : Fin 16384) (l : Fin 128), i = ix3 s k l := ⟨i 0, i 1, i 2, eq_ix3 i⟩
  rw [transpose_apply (s := S16384x4x128) (t := S4x16384x128) _ _ _ _ (ix3 k s l) fun a => match a with
    | ⟨0, _⟩ => rfl
    | ⟨1, _⟩ => rfl
    | ⟨2, _⟩ => rfl]
  rw [shapeCast_apply (s := S2x8192x512) (t := S16384x4x128) _ _ _ (ix3 (rowSeq k) (rowPos k) (slabColumn s l)) (by
    rw [Shape.rowMajor_val_three, Shape.rowMajor_val_three]
    show (k.val / 8192 * 8192 + k.val % 8192) * 512 + (128 * s.val + l.val) = (k.val * 4 + s.val) * 128 + l.val
    omega)]
  exact congrArg₂ (fun y z => y * gate z) (slice_apply 1544 (by decide) slices_S2x8192x4616_S2x8192x512_0_0_1544 _ _ (slabColumn s l))
    (slice_apply 2056 (by decide) slices_S2x8192x4616_S2x8192x512_0_0_2056 _ _ (slabColumn s l))

theorem gates_eq (a : ℕ) (ha : a + 1024 ≤ 4616) (h : S2x8192x4616.Slices ![0, 0, a] S2x8192x1024) :
    shapeCast S16384x1024 (gates1024 (extractStridedSlice S2x8192x1024 ![0, 0, a] (columns x mo g w bi) h)) shapeCasts_S2x8192x1024_S16384x1024
      = gatesFrom x mo g w bi a ha := by
  funext i
  obtain ⟨k, j, rfl⟩ : ∃ (k : Fin 16384) (j : Fin 1024), i = ix2 k j := ⟨i 0, i 1, eq_ix2 i⟩
  exact (flat_apply _ _ k j).trans (congrArg gate (slice_apply a ha h _ _ j))

end Stages

/-! ## The run -/

variable (m : (ℓ : Loc nD τ sig) → Buf (Elt Ideal) ℓ)

/-- The arguments' contents at launch. -/
abbrev argX (c : Dev nD) : Inputs := m ((c.tc : Thread nD τ).loc main_arg0)
abbrev argM (c : Dev nD) : Modulation := m ((c.tc : Thread nD τ).loc main_arg1)
abbrev argG (c : Dev nD) : Scales := m ((c.tc : Thread nD τ).loc main_arg2)
abbrev argW (c : Dev nD) : Weights := m ((c.tc : Thread nD τ).loc main_arg3)
abbrev argB (c : Dev nD) : Biases := m ((c.tc : Thread nD τ).loc main_arg4)

theorem forget_result (c : Dev nD) : (res_main_v68 m c : S128x8x128.Idx → EReal) = forgetPages (argX m c) (argM m c) (argG m c) (argW m c) (argB m c) :=
  forget_eq

theorem conv_result (c : Dev nD) : (res_main_v60 m c : S4x16384x128.Idx → EReal) = convSlabs (argX m c) (argM m c) (argG m c) (argW m c) (argB m c) :=
  conv_eq

/-- Every execution ends with the results at their values and the arguments unchanged. -/
theorem run_results (g : Dev nD → PrngReg) :
    θ_run defs (onTc (τ := τ) (main (F := Ideal))) ⟨m, fun _ => 0, g⟩ fun r => ∀ c : Dev nD,
      (r.2.mem ((c.tc : Thread nD τ).loc main_v62) = pagesFrom (argX m c) (argM m c) (argG m c) (argW m c) (argB m c) 512 (by decide)
      ∧ r.2.mem ((c.tc : Thread nD τ).loc main_v64) = pagesFrom (argX m c) (argM m c) (argG m c) (argW m c) (argB m c) 1024 (by decide)
      ∧ r.2.mem ((c.tc : Thread nD τ).loc main_v66) = valueRows (argX m c) (argM m c) (argG m c) (argW m c) (argB m c)
      ∧ r.2.mem ((c.tc : Thread nD τ).loc main_v68) = forgetPages (argX m c) (argM m c) (argG m c) (argW m c) (argB m c)
      ∧ r.2.mem ((c.tc : Thread nD τ).loc main_v60) = convSlabs (argX m c) (argM m c) (argG m c) (argW m c) (argB m c)
      ∧ r.2.mem ((c.tc : Thread nD τ).loc main_v70) = gatesFrom (argX m c) (argM m c) (argG m c) (argW m c) (argB m c) 2568 (by decide)
      ∧ r.2.mem ((c.tc : Thread nD τ).loc main_v72) = gatesFrom (argX m c) (argM m c) (argG m c) (argW m c) (argB m c) 3592 (by decide))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, h6, hargs⟩ := h c
    exact ⟨⟨h0.trans (pages_eq 512 _ slices_S2x8192x4616_S2x8192x512_0_0_512), h1.trans (pages_eq 1024 _ slices_S2x8192x4616_S2x8192x512_0_0_1024),
      h2.trans values_eq, h3.trans (forget_result m c), h4.trans (conv_result m c),
      h5.trans (gates_eq 2568 _ slices_S2x8192x4616_S2x8192x1024_0_0_2568), h6.trans (gates_eq 3592 _ slices_S2x8192x4616_S2x8192x1024_0_0_3592)⟩, hargs⟩)
    (run m g)

end Cert.ProjectionIdeal.Value
-- ==== Proof.FeedForward.Formula.lean ====
/-
  The mathematics of the feed-forward part, over the extended reals.

  A row is normalized and modulated as in the input projection (`modulated`); each hidden unit is a gated product of two columns
  (`hidden`); the row plus the gated sum of the hidden units (`updated`) is normalized once more (`normed`).
-/
module

public import proofs.«01_k».proof.Proof.Projection

@[expose] public section

noncomputable section

namespace Cert.FeedForward

open Idealize.ShloMosaic Idealize.ShloMosaic.ValueIdx Cert.Projection
open scoped BigOperators

abbrev States := (⟨2, ![256, 1024]⟩ : Shape).Idx → EReal
abbrev FinalScales := (⟨1, ![1024]⟩ : Shape).Idx → EReal
abbrev WeightsIn := (⟨3, ![1, 1024, 5632]⟩ : Shape).Idx → EReal
abbrev WeightsOut := (⟨3, ![1, 2816, 1024]⟩ : Shape).Idx → EReal

/-- A row divided by the root of its mean square, with scales `g`. -/
def normed (x g : Fin 1024 → EReal) (k : Fin 1024) : EReal :=
  x k * Ideal.rsqrt (Ideal.div (∑ j, x j * x j) (word 0x44800000#32) + word 0x358637BD#32) * g k

theorem modulated_eq (x g sc sh : Fin 1024 → EReal) (k : Fin 1024) :
    modulated x g sc sh k = normed x g k * (word 0x3F800000#32 + sc k) + sh k := rfl

/-- A hidden unit of a row `h`: the first column through `z · sigmoid z`, times the second. -/
def unit (h w w' : Fin 1024 → EReal) : EReal := (∑ k, h k * w k) * gate (∑ k, h k * w k) * ∑ k, h k * w' k

/-- The two columns of hidden unit `j`. -/
def gateColumn (j : Fin 2816) : Fin 5632 := ⟨j.val, by omega⟩
def upColumn (j : Fin 2816) : Fin 5632 := ⟨2816 + j.val, by omega⟩

def hidden (h : Fin 1024 → EReal) (w : WeightsIn) (j : Fin 2816) : EReal :=
  unit h (fun k => w (ix3 (0 : Fin 1) k (gateColumn j))) (fun k => w (ix3 (0 : Fin 1) k (upColumn j)))

/-- The row `x` plus `g` times the hidden units of `h` against a column of `v`. -/
def updated (x g h : Fin 1024 → EReal) (w : WeightsIn) (v : WeightsOut) (d : Fin 1024) : EReal :=
  x d + g d * ∑ j, hidden h w j * v (ix3 (0 : Fin 1) j d)

/-- The sequence of a row: eight rows each. -/
def sequence (n : Fin 256) : Fin 32 := ⟨n.val / 8, by omega⟩

/-- The modulation's row for a sequence. -/
def sampleRow (s : Fin 32) : Fin 40 := ⟨s.val, by omega⟩

section Results

variable (x : States) (mo : Modulation) (g : Scales) (fg : FinalScales) (w : WeightsIn) (v : WeightsOut)

/-- Row `n` modulated. -/
def rowOf (n : Fin 256) : Fin 1024 → EReal :=
  modulated (fun j => x (ix2 n j)) (fun j => g (ix2 (0 : Fin 1) j)) (fun j => mo (ix3 (4 : Fin 6) (sampleRow (sequence n)) j))
    (fun j => mo (ix3 (3 : Fin 6) (sampleRow (sequence n)) j))

/-- Entry `k` of row `n` of the result. -/
def result (n : Fin 256) (k : Fin 1024) : EReal :=
  normed (updated (fun j => x (ix2 n j)) (fun j => mo (ix3 (5 : Fin 6) (sampleRow (sequence n)) j)) (rowOf x mo g n) w v) (fun j => fg (ix1 j)) k

/-- All rows. -/
def results : States := fun i => result x mo g fg w v (i 0) (i 1)

end Results

/-- The sum over the hidden units in two parts. -/
theorem sum_units (f : Fin 2816 → EReal) :
    (∑ j : Fin 1280, f ⟨j.val, by omega⟩) + (∑ j : Fin 1536, f ⟨1280 + j.val, by omega⟩) = ∑ j, f j :=
  (Fin.sum_univ_add (a := 1280) (b := 1536) f).symm

end Cert.FeedForward
-- ==== Proof.FeedForward.Rows.lean ====
/-
  The operations of the sample group's blocks on the extended reals, entry by entry: 256 rows, eight for each of 32 sequences.
-/
module

public import proofs.«01_k».proof.Proof.FeedForward.Formula
public import Idealize.ShloMosaic.Lib.ValueLayout
public import Idealize.ShloMosaic.Lib.MatmulPlain
public import Idealize.ShloMosaic.Lib.IdealHost

@[expose] public section

noncomputable section

namespace Cert.FeedForward

open Idealize.ShloMosaic Idealize.ShloMosaic.ValueIdx Cert.Projection
open scoped BigOperators

/-- A row's sum of squares. -/
theorem squares_apply (x : FVec Ideal ⟨2, ![256, 1024]⟩ .f32) (hr : (⟨2, ![256, 1024]⟩ : Shape).Reduces [1] ⟨1, ![256]⟩)
    (hs : (⟨1, ![256]⟩ : Shape).ShapeCasts ⟨2, ![256, 1]⟩) (r : Fin 256) :
    shapeCast ⟨2, ![256, 1]⟩ (multiReduction .add [1] ⟨1, ![256]⟩ (mulf x x) 0x00000000#32 hr (.inl rfl) rfl) hs (ix2 r (0 : Fin 1))
      = ∑ j : Fin 1024, x (ix2 r j) * x (ix2 r j) := by
  rw [shapeCast_apply (s := ⟨1, ![256]⟩) (t := ⟨2, ![256, 1]⟩) _ _ _ (ix1 r) (by
    rw [Shape.rowMajor_val_one, Shape.rowMajor_val_two]
    show r.val = r.val * 1 + 0
    omega)]
  refine (Ideal.multiReduction_add_single (s := ⟨2, ![256, 1024]⟩) (t := ⟨1, ![256]⟩) (a := 1) (mulf x x) _ hr _ _ (ix1 r)).trans ?_
  exact Finset.sum_congr rfl fun j _ => congrArg (fun i => x i * x i) (funext fun a => match a with
    | ⟨0, _⟩ => rfl
    | ⟨1, _⟩ => rfl)

theorem column_apply (v : FVec Ideal ⟨2, ![256, 1]⟩ .f32) (h : (⟨2, ![256, 1]⟩ : Shape).Broadcasts ⟨2, ![256, 1024]⟩) (r : Fin 256) (k : Fin 1024) :
    broadcastTo ⟨2, ![256, 1024]⟩ v h (ix2 r k) = v (ix2 r (0 : Fin 1)) :=
  broadcastTo_apply (s := ⟨2, ![256, 1]⟩) (t := ⟨2, ![256, 1024]⟩) _ _ _ (ix2 r (0 : Fin 1)) fun a => match a with
    | ⟨0, _⟩ => rfl
    | ⟨1, _⟩ => rfl

/-- Rows divided by the roots of their mean squares, with scales. -/
theorem normed_block (x : FVec Ideal ⟨2, ![256, 1024]⟩ .f32) (g : FVec Ideal ⟨2, ![1, 1024]⟩ .f32) (hr : (⟨2, ![256, 1024]⟩ : Shape).Reduces [1] ⟨1, ![256]⟩)
    (hs : (⟨1, ![256]⟩ : Shape).ShapeCasts ⟨2, ![256, 1]⟩) (hb : (⟨2, ![256, 1]⟩ : Shape).Broadcasts ⟨2, ![256, 1024]⟩)
    (hg : (⟨2, ![1, 1024]⟩ : Shape).ShapeCasts ⟨2, ![1, 1024]⟩) (hgb : (⟨2, ![1, 1024]⟩ : Shape).Broadcasts ⟨2, ![256, 1024]⟩) (r : Fin 256) (k : Fin 1024) :
    x (ix2 r k) * broadcastTo ⟨2, ![256, 1024]⟩ (rsqrt (addf (divf (shapeCast ⟨2, ![256, 1]⟩ (multiReduction .add [1] ⟨1, ![256]⟩ (mulf x x) 0x00000000#32 hr
        (.inl rfl) rfl) hs) (broadcast ⟨2, ![256, 1]⟩ (Scalar.ofBits .f32 0x44800000#32))) (broadcast ⟨2, ![256, 1]⟩ (Scalar.ofBits .f32 0x358637BD#32)))
        : FVec Ideal ⟨2, ![256, 1]⟩ .f32) hb (ix2 r k)
      * broadcastTo ⟨2, ![256, 1024]⟩ (shapeCast ⟨2, ![1, 1024]⟩ g hg) hgb (ix2 r k)
      = normed (fun j => x (ix2 r j)) (fun j => g (ix2 (0 : Fin 1) j)) k := by
  rw [shapeCast_self, column_apply, broadcastTo_1b_ab_apply]
  unfold normed
  rw [← squares_apply x hr hs r]
  rfl

/-- A row for each sequence, at the sequence's eight rows. -/
theorem spread_apply (v : FVec Ideal ⟨3, ![32, 1, 1024]⟩ .f32) (h1 : (⟨3, ![32, 1, 1024]⟩ : Shape).ShapeCasts ⟨3, ![32, 1, 1024]⟩)
    (h2 : (⟨3, ![32, 1, 1024]⟩ : Shape).Broadcasts ⟨3, ![32, 8, 1024]⟩) (h3 : (⟨3, ![32, 8, 1024]⟩ : Shape).ShapeCasts ⟨2, ![256, 1024]⟩)
    (r : Fin 256) (k : Fin 1024) :
    shapeCast ⟨2, ![256, 1024]⟩ (broadcastTo ⟨3, ![32, 8, 1024]⟩ (shapeCast ⟨3, ![32, 1, 1024]⟩ v h1) h2) h3 (ix2 r k)
      = v (ix3 (sequence r) (0 : Fin 1) k) := by
  rw [shapeCast_self, shapeCast_apply (s := ⟨3, ![32, 8, 1024]⟩) (t := ⟨2, ![256, 1024]⟩) _ _ _ (ix3 (sequence r) (⟨r.val % 8, by omega⟩ : Fin 8) k) (by
    rw [Shape.rowMajor_val_three, Shape.rowMajor_val_two]
    show (r.val / 8 * 8 + r.val % 8) * 1024 + k.val = r.val * 1024 + k.val
    omega)]
  exact broadcastTo_apply (s := ⟨3, ![32, 1, 1024]⟩) (t := ⟨3, ![32, 8, 1024]⟩) _ _ _ (ix3 (sequence r) (0 : Fin 1) k) fun a => match a with
    | ⟨0, _⟩ => rfl
    | ⟨1, _⟩ => rfl
    | ⟨2, _⟩ => rfl

/-- Rows of the modulation with an axis put in. -/
theorem opened_apply (v : FVec Ideal ⟨3, ![1, 32, 1024]⟩ .f32) (h1 : (⟨3, ![1, 32, 1024]⟩ : Shape).ShapeCasts ⟨2, ![32, 1024]⟩)
    (h2 : (⟨2, ![32, 1024]⟩ : Shape).ShapeCasts ⟨3, ![32, 1, 1024]⟩) (s : Fin 32) (k : Fin 1024) :
    shapeCast ⟨3, ![32, 1, 1024]⟩ (shapeCast ⟨2, ![32, 1024]⟩ v h1) h2 (ix3 s (0 : Fin 1) k) = v (ix3 (0 : Fin 1) s k) := by
  rw [shapeCast_apply (s := ⟨2, ![32, 1024]⟩) (t := ⟨3, ![32, 1, 1024]⟩) _ _ _ (ix2 s k) (by
    rw [Shape.rowMajor_val_three, Shape.rowMajor_val_two]
    show s.val * 1024 + k.val = (s.val * 1 + 0) * 1024 + k.val
    omega)]
  exact shapeCast_1ab_ab_apply v _ s k

/-- Rows of the modulation, each at its sequence's eight rows. -/
theorem modRows_apply (v : FVec Ideal ⟨3, ![1, 32, 1024]⟩ .f32) (h : (⟨3, ![1, 32, 1024]⟩ : Shape).ShapeCasts ⟨2, ![32, 1024]⟩)
    (h' : (⟨2, ![32, 1024]⟩ : Shape).ShapeCasts ⟨3, ![32, 1, 1024]⟩) (h1 : (⟨3, ![32, 1, 1024]⟩ : Shape).ShapeCasts ⟨3, ![32, 1, 1024]⟩)
    (h2 : (⟨3, ![32, 1, 1024]⟩ : Shape).Broadcasts ⟨3, ![32, 8, 1024]⟩) (h3 : (⟨3, ![32, 8, 1024]⟩ : Shape).ShapeCasts ⟨2, ![256, 1024]⟩)
    (r : Fin 256) (k : Fin 1024) :
    shapeCast ⟨2, ![256, 1024]⟩ (broadcastTo ⟨3, ![32, 8, 1024]⟩ (shapeCast ⟨3, ![32, 1, 1024]⟩ (shapeCast ⟨3, ![32, 1, 1024]⟩
      (shapeCast ⟨2, ![32, 1024]⟩ v h) h') h1) h2) h3 (ix2 r k) = v (ix3 (0 : Fin 1) (sequence r) k) :=
  (spread_apply _ h1 h2 h3 r k).trans (opened_apply v h h' (sequence r) k)

/-- A plain product, with nothing added. -/
theorem product_block {M K N : ℕ} {φ₁ φ₂ : FTy} (l : FVec Ideal ⟨2, ![M, K]⟩ φ₁) (w : FVec Ideal ⟨2, ![K, N]⟩ φ₂) (r : Fin M) (c : Fin N) :
    FloatOps.matmul (DotDims.plain M K N) none l w (constant ⟨2, ![M, N]⟩ .f32 0x00000000#32) (ix2 r c) = ∑ k : Fin K, l (ix2 r k) * w (ix2 k c) := by
  rw [Ideal.matmul_plain_apply, constant_apply, Ideal.ofBits_zero_f32, zero_add]

/-- The hidden units of some columns, as the program writes them. -/
theorem units_block {N : ℕ} (p q : FVec Ideal ⟨2, ![256, N]⟩ .f32) (r : Fin 256) (j : Fin N) :
    mulf (mulf p (divf (broadcast ⟨2, ![256, N]⟩ (Scalar.ofBits .f32 0x3F800000#32)) (addf (broadcast ⟨2, ![256, N]⟩ (Scalar.ofBits .f32 0x3F800000#32))
      (exp (subf (broadcast ⟨2, ![256, N]⟩ (Scalar.ofBits .f32 0x00000000#32)) p))))) q (ix2 r j) = p (ix2 r j) * gate (p (ix2 r j)) * q (ix2 r j) := by
  have e : mulf (mulf p (divf (broadcast ⟨2, ![256, N]⟩ (Scalar.ofBits .f32 0x3F800000#32)) (addf (broadcast ⟨2, ![256, N]⟩ (Scalar.ofBits .f32 0x3F800000#32))
      (exp (subf (broadcast ⟨2, ![256, N]⟩ (Scalar.ofBits .f32 0x00000000#32)) p))))) q (ix2 r j)
      = p (ix2 r j) * Ideal.div (word 0x3F800000#32) (word 0x3F800000#32 + Ideal.exp (word 0x00000000#32 - p (ix2 r j))) * q (ix2 r j) := rfl
  rw [e, show word 0x00000000#32 = 0 from Ideal.ofBits_zero_f32, zero_sub]
  rfl

end Cert.FeedForward
-- ==== Proof.FfnIdeal.Result.lean ====
/-
  The feed-forward program of the sample group: its only grid point's block, and its result, entry by entry.
-/
module

public import proofs.«01_k».proof.Proof.Gen.FfnIdeal.Value
public import proofs.«01_k».proof.Proof.FeedForward.Rows
public import Idealize.ShloMosaic.Lib.Pipeline.Covers
public import Idealize.ShloMosaic.Lib.Pipeline.Value
public import Idealize.ShloMosaic.Lib.Pipeline.ValueKit.Acc
public import Idealize.ShloMosaic.Lib.Pipeline.ValueKit.Tiles
public import Idealize.ShloMosaic.Lib.Pipeline.ReadBack
public import Idealize.ShloMosaic.Lib.StableHlo.Run

@[expose] public section

noncomputable section

namespace Cert.FfnIdeal.Value

open Cert.FfnIdeal Cert.FfnIdeal.Gen Cert.Projection Cert.FeedForward Idealize.ShloMosaic Idealize.ShloMosaic.TcCoe Idealize.SL.Sem
open Idealize.ShloMosaic.ValueIdx
open Idealize.ShloMosaic.Pipeline (Dat Window)
open scoped BigOperators

/-! ## The body -/

/-- The modulated rows. -/
theorem modulated_block (x : Vec Ideal S256x1024 .f32) (g : Vec Ideal S1x1024 .f32) (sc sh : Vec Ideal S1x32x1024 .f32) (r : Fin 256) (k : Fin 1024) :
    k0_pay2 x g sc sh (ix2 r k) = modulated (fun j => x (ix2 r j)) (fun j => g (ix2 (0 : Fin 1) j))
      (fun j => sc (ix3 (0 : Fin 1) (sequence r) j)) (fun j => sh (ix3 (0 : Fin 1) (sequence r) j)) k := by
  rw [modulated_eq, ← normed_block x g reduces_S256x1024_S256 shapeCasts_S256_S256x1 broadcasts_S256x1_S256x1024 shapeCasts_S1x1024_S1x1024 broadcasts_S1x1024_S256x1024 r k,
    ← modRows_apply sc shapeCasts_S1x32x1024_S32x1024 shapeCasts_S32x1024_S32x1x1024 shapeCasts_S32x1x1024_S32x1x1024
      broadcasts_S32x1x1024_S32x8x1024 shapeCasts_S32x8x1024_S256x1024 r k,
    ← modRows_apply sh shapeCasts_S1x32x1024_S32x1024 shapeCasts_S32x1024_S32x1x1024 shapeCasts_S32x1x1024_S32x1x1024
      broadcasts_S32x1x1024_S32x8x1024 shapeCasts_S32x8x1024_S256x1024 r k]
  rfl

/-- Some hidden units of all rows, as the program computes them. -/
def units {N : ℕ} (h : FVec Ideal S256x1024 .bf16) (w w' : FVec Ideal ⟨2, ![1024, N]⟩ .bf16) : FVec Ideal ⟨2, ![256, N]⟩ .bf16 :=
  truncf .bf16 (mulf (mulf (FloatOps.matmul (DotDims.plain 256 1024 N) none h w (constant ⟨2, ![256, N]⟩ .f32 0x00000000#32))
    (divf (broadcast ⟨2, ![256, N]⟩ (Scalar.ofBits .f32 0x3F800000#32)) (addf (broadcast ⟨2, ![256, N]⟩ (Scalar.ofBits .f32 0x3F800000#32))
      (exp (subf (broadcast ⟨2, ![256, N]⟩ (Scalar.ofBits .f32 0x00000000#32))
        (FloatOps.matmul (DotDims.plain 256 1024 N) none h w (constant ⟨2, ![256, N]⟩ .f32 0x00000000#32)))))))
    (FloatOps.matmul (DotDims.plain 256 1024 N) none h w' (constant ⟨2, ![256, N]⟩ .f32 0x00000000#32))) bitsLt_bf16_f32

theorem units_apply {N : ℕ} (h : FVec Ideal S256x1024 .bf16) (w w' : FVec Ideal ⟨2, ![1024, N]⟩ .bf16) (r : Fin 256) (j : Fin N) :
    units h w w' (ix2 r j) = unit (fun k => h (ix2 r k)) (fun k => w (ix2 k j)) (fun k => w' (ix2 k j)) := by
  refine (units_block _ _ r j).trans ?_
  rw [product_block, product_block]
  rfl

/-- The hidden units against a column of the second weights, in the two parts that the program takes. -/
theorem hidden_block (x : Vec Ideal S256x1024 .f32) (g : Vec Ideal S1x1024 .f32) (sc sh : Vec Ideal S1x32x1024 .f32)
    (w1 w2 : Vec Ideal S1024x1280 .bf16) (v1 : Vec Ideal S1280x1024 .bf16)
    (w3 w4 : Vec Ideal S1024x1536 .bf16) (v2 : Vec Ideal S1536x1024 .bf16) (r : Fin 256) (d : Fin 1024) :
    k0_pay6 (k0_pay2 x g sc sh) (k0_pay3 (F := Ideal)) (k0_pay4 x g sc sh w1) (k0_pay5 w2) v1 w3 w4 v2 (ix2 r d)
      = (∑ j : Fin 1280, unit (fun k => k0_pay2 x g sc sh (ix2 r k)) (fun k => w1 (ix2 k j)) (fun k => w2 (ix2 k j)) * v1 (ix2 j d))
        + ∑ j : Fin 1536, unit (fun k => k0_pay2 x g sc sh (ix2 r k)) (fun k => w3 (ix2 k j)) (fun k => w4 (ix2 k j)) * v2 (ix2 j d) := by
  have e : k0_pay6 (k0_pay2 x g sc sh) (k0_pay3 (F := Ideal)) (k0_pay4 x g sc sh w1) (k0_pay5 w2) v1 w3 w4 v2 (ix2 r d)
      = word 0x00000000#32
        + FloatOps.matmul (DotDims.plain 256 1280 1024) none (units (k0_pay2 x g sc sh)
            (shapeCast S1024x1280 w1 shapeCasts_S1024x1280_S1024x1280 : FVec Ideal S1024x1280 .bf16)
            (shapeCast S1024x1280 w2 shapeCasts_S1024x1280_S1024x1280 : FVec Ideal S1024x1280 .bf16))
          (shapeCast S1280x1024 v1 shapeCasts_S1280x1024_S1280x1024 : FVec Ideal S1280x1024 .bf16) (constant S256x1024 .f32 0x00000000#32) (ix2 r d)
        + FloatOps.matmul (DotDims.plain 256 1536 1024) none (units (k0_pay2 x g sc sh)
            (shapeCast S1024x1536 w3 shapeCasts_S1024x1536_S1024x1536 : FVec Ideal S1024x1536 .bf16)
            (shapeCast S1024x1536 w4 shapeCasts_S1024x1536_S1024x1536 : FVec Ideal S1024x1536 .bf16))
          (shapeCast S1536x1024 v2 shapeCasts_S1536x1024_S1536x1024 : FVec Ideal S1536x1024 .bf16) (constant S256x1024 .f32 0x00000000#32) (ix2 r d) := rfl
  rw [e, shapeCast_self, shapeCast_self, shapeCast_self, shapeCast_self, shapeCast_self, shapeCast_self, product_block, product_block,
    show word 0x00000000#32 = 0 from Ideal.ofBits_zero_f32, zero_add]
  simp only [units_apply]

/-- What is stored, from the rows and the hidden units' product. -/
theorem stored_block (x y : Vec Ideal S256x1024 .f32) (g2 : Vec Ideal S1x32x1024 .f32) (fg : Vec Ideal S1x1024 .f32) (r : Fin 256) (k : Fin 1024) :
    k0_pay1 x y (k0_pay7 g2) fg (ix2 r k)
      = normed (fun d => x (ix2 r d) + g2 (ix3 (0 : Fin 1) (sequence r) d) * y (ix2 r d)) (fun j => fg (ix2 (0 : Fin 1) j)) k := by
  have e (d : Fin 1024) : x (ix2 r d) + g2 (ix3 (0 : Fin 1) (sequence r) d) * y (ix2 r d)
      = addf x (mulf (shapeCast S256x1024 (broadcastTo S32x8x1024 (shapeCast S32x1x1024 (k0_pay7 g2) shapeCasts_S32x1x1024_S32x1x1024)
        broadcasts_S32x1x1024_S32x8x1024) shapeCasts_S32x8x1024_S256x1024) y : FVec Ideal S256x1024 .f32) (ix2 r d) := by
    rw [← modRows_apply g2 shapeCasts_S1x32x1024_S32x1024 shapeCasts_S32x1024_S32x1x1024 shapeCasts_S32x1x1024_S32x1x1024
      broadcasts_S32x1x1024_S32x8x1024 shapeCasts_S32x8x1024_S256x1024 r d]
    rfl
  simp only [e]
  rw [← normed_block _ fg reduces_S256x1024_S256 shapeCasts_S256_S256x1 broadcasts_S256x1_S256x1024 shapeCasts_S1x1024_S1x1024 broadcasts_S1x1024_S256x1024 r k]
  rfl

/-! ## What the host prepares -/

variable (m : (ℓ : Loc nD τ sig) → Buf (Elt Ideal) ℓ)

/-- The arguments' contents at launch. -/
abbrev argX (c : Dev nD) : States := m ((c : Thread nD τ).loc main_arg0)
abbrev argM (c : Dev nD) : Modulation := m ((c : Thread nD τ).loc main_arg1)
abbrev argG (c : Dev nD) : Scales := m ((c : Thread nD τ).loc main_arg2)
abbrev argF (c : Dev nD) : FinalScales := m ((c : Thread nD τ).loc main_arg3)
abbrev argW (c : Dev nD) : WeightsIn := m ((c : Thread nD τ).loc main_arg4)
abbrev argV (c : Dev nD) : WeightsOut := m ((c : Thread nD τ).loc main_arg5)

theorem V_scales (c : Dev nD) : V m c main_v5 = broadcastInDim S1x1024 ![1] bcast_S1024_S1x1024_1 (shapeCast S1024 (argG m c) shapeCasts_S1x1024_S1024) := by
  show StableHlo.after hostOps0 _ _ = _
  simp only [hostOps0]
  after_results_simp <;> rfl

theorem V_final (c : Dev nD) : V m c main_v6 = broadcastInDim S1x1024 ![1] bcast_S1024_S1x1024_1 (argF m c) := by
  show StableHlo.after hostOps0 _ _ = _
  simp only [hostOps0]
  after_results_simp <;> rfl

theorem V_in (c : Dev nD) : V m c main_v1 = (shapeCast S1024x5632 (argW m c) shapeCasts_S1x1024x5632_S1024x5632 : FVec Ideal S1024x5632 .f32) := by
  show StableHlo.after hostOps0 _ _ = _
  simp only [hostOps0]
  after_results_simp <;> rfl

theorem V_out (c : Dev nD) : V m c main_v3 = (shapeCast S2816x1024 (argV m c) shapeCasts_S1x2816x1024_S2816x1024 : FVec Ideal S2816x1024 .f32) := by
  show StableHlo.after hostOps0 _ _ = _
  simp only [hostOps0]
  after_results_simp <;> rfl

/-! ## The blocks: every window is a whole array, or a part of the modulation -/

/-- An index map that is constant sends the only point's block onto the array. -/
theorem point_zero (t : Fin cfg0.N) : (grid0.coords t 0).val = 0 ∧ (grid0.coords t 1).val = 0 :=
  ⟨Nat.lt_one_iff.1 (grid0.coords t 0).isLt, Nat.lt_one_iff.1 (grid0.coords t 1).isLt⟩

theorem row_word (t : Fin cfg0.N) :
    (Scalar.addi (Scalar.muli (BitVec.ofNat 32 (grid0.coords t 0).val) 1#32) (BitVec.ofNat 32 (grid0.coords t 1).val)).toNat = 0 := by
  rw [(point_zero t).1, (point_zero t).2]
  rfl

theorem x_apply (c : Dev nD) (t : Fin cfg0.N) (r : Fin 256) (k : Fin 1024) :
    (iblk m c 0 t : Vec Ideal S256x1024 .f32) (ix2 r k) = argX m c (ix2 r k) := by
  show V m c main_arg0 ((win0_0.rect t).emb (ix2 r k)) = _
  rw [V_main_arg0]
  refine congrArg (argX m c) (funext fun a => Fin.ext ((Window.rect_emb_val win0_0 t _ a).trans ?_))
  match a with
  | ⟨0, _⟩ =>
    show (Scalar.addi (Scalar.muli (BitVec.ofNat 32 (grid0.coords t 0).val) 1#32) (BitVec.ofNat 32 (grid0.coords t 1).val)).toNat * 256 + r.val = r.val
    rw [row_word]
    omega
  | ⟨1, _⟩ =>
    show 0 * 1024 + k.val = k.val
    omega

theorem scales_apply (c : Dev nD) (t : Fin cfg0.N) (k : Fin 1024) :
    (iblk m c 4 t : Vec Ideal S1x1024 .f32) (ix2 (0 : Fin 1) k) = argG m c (ix2 (0 : Fin 1) k) := by
  show V m c main_v5 ((win0_4.rect t).emb (ix2 (0 : Fin 1) k)) = _
  rw [V_scales]
  rw [broadcastInDim_apply (s := S1024) (t := S1x1024) _ _ _ _ (ix1 k) fun a => match a with
    | ⟨0, _⟩ => by
      refine Eq.trans ?_ (Window.rect_emb_val win0_4 t _ 1).symm
      show k.val = 0 * 1024 + k.val
      omega]
  exact shapeCast_1a_a_apply (a := 1024) (argG m c) _ k

theorem final_apply (c : Dev nD) (t : Fin cfg0.N) (k : Fin 1024) :
    (iblk m c 5 t : Vec Ideal S1x1024 .f32) (ix2 (0 : Fin 1) k) = argF m c (ix1 k) := by
  show V m c main_v6 ((win0_5.rect t).emb (ix2 (0 : Fin 1) k)) = _
  rw [V_final]
  exact broadcastInDim_apply (s := S1024) (t := S1x1024) _ _ _ _ (ix1 k) fun a => match a with
    | ⟨0, _⟩ => by
      refine Eq.trans ?_ (Window.rect_emb_val win0_5 t _ 1).symm
      show k.val = 0 * 1024 + k.val
      omega

/-- The sample group's rows of a part of the modulation. -/
theorem mod_apply (c : Dev nD) (t : Fin cfg0.N) (inb) (s : Fin 32) (j : Fin 1024) :
    (View.ld (iblk m c 2 t) (Rect.unit (s := S1x40x1024) ![0, 0, 0] ![1, 32, 1024] inb) : Vec Ideal S1x32x1024 .f32) (ix3 (0 : Fin 1) s j)
        = argM m c (ix3 (4 : Fin 6) (sampleRow s) j)
      ∧ (View.ld (iblk m c 1 t) (Rect.unit (s := S1x40x1024) ![0, 0, 0] ![1, 32, 1024] inb) : Vec Ideal S1x32x1024 .f32) (ix3 (0 : Fin 1) s j)
        = argM m c (ix3 (3 : Fin 6) (sampleRow s) j)
      ∧ (View.ld (iblk m c 3 t) (Rect.unit (s := S1x40x1024) ![0, 0, 0] ![1, 32, 1024] inb) : Vec Ideal S1x32x1024 .f32) (ix3 (0 : Fin 1) s j)
        = argM m c (ix3 (5 : Fin 6) (sampleRow s) j) := by
  have hl (X : Vec Ideal S1x40x1024 .f32) : (View.ld X (Rect.unit (s := S1x40x1024) ![0, 0, 0] ![1, 32, 1024] inb) : Vec Ideal S1x32x1024 .f32) (ix3 (0 : Fin 1) s j)
      = X (ix3 (0 : Fin 1) (sampleRow s) j) :=
    View.ld_unit_apply_of X _ _ _ _ (ix3 (0 : Fin 1) (sampleRow s) j) fun a => match a with
      | ⟨0, _⟩ => rfl
      | ⟨1, _⟩ => (Nat.zero_add _).symm
      | ⟨2, _⟩ => (Nat.zero_add _).symm
  have h1 : 0 * 40 + (sampleRow s).val = (sampleRow s).val := by omega
  have h2 : 0 * 1024 + j.val = j.val := by omega
  refine ⟨(hl _).trans ?_, (hl _).trans ?_, (hl _).trans ?_⟩
  · show V m c main_arg1 ((win0_2.rect t).emb (ix3 (0 : Fin 1) (sampleRow s) j)) = _
    rw [V_main_arg1]
    refine congrArg (argM m c) (funext fun a => Fin.ext ((Window.rect_emb_val win0_2 t _ a).trans ?_))
    match a with
    | ⟨0, _⟩ => rfl
    | ⟨1, _⟩ => exact h1
    | ⟨2, _⟩ => exact h2
  · show V m c main_arg1 ((win0_1.rect t).emb (ix3 (0 : Fin 1) (sampleRow s) j)) = _
    rw [V_main_arg1]
    refine congrArg (argM m c) (funext fun a => Fin.ext ((Window.rect_emb_val win0_1 t _ a).trans ?_))
    match a with
    | ⟨0, _⟩ => rfl
    | ⟨1, _⟩ => exact h1
    | ⟨2, _⟩ => exact h2
  · show V m c main_arg1 ((win0_3.rect t).emb (ix3 (0 : Fin 1) (sampleRow s) j)) = _
    rw [V_main_arg1]
    refine congrArg (argM m c) (funext fun a => Fin.ext ((Window.rect_emb_val win0_3 t _ a).trans ?_))
    match a with
    | ⟨0, _⟩ => rfl
    | ⟨1, _⟩ => exact h1
    | ⟨2, _⟩ => exact h2

/-- Some columns of the first weights. -/
theorem in_apply {n : ℕ} (a : ℕ) (inb) (c : Dev nD) (t : Fin cfg0.N) (k : Fin 1024) (j : Fin n) (o : Fin 5632) (ho : o.val = a + j.val) :
    (View.ld (iblk m c 6 t) (Rect.unit (s := S1024x5632) ![0, a] ![1024, n] inb) : Vec Ideal ⟨2, ![1024, n]⟩ .bf16) (ix2 k j)
      = argW m c (ix3 (0 : Fin 1) k o) := by
  refine (View.ld_unit_apply_of (iblk m c 6 t) _ _ _ _ (ix2 k o) fun b => ?_).trans ?_
  · match b with
    | ⟨0, _⟩ => exact (Nat.zero_add _).symm
    | ⟨1, _⟩ => exact ho
  · show V m c main_v1 ((win0_6.rect t).emb (ix2 k o)) = _
    rw [V_in]
    have hi : (win0_6.rect t).emb (ix2 k o) = ix2 k o := by
      refine funext fun b => Fin.ext ((Window.rect_emb_val win0_6 t _ b).trans ?_)
      match b with
      | ⟨0, _⟩ =>
        show 0 * 1024 + k.val = k.val
        omega
      | ⟨1, _⟩ =>
        show 0 * 5632 + o.val = o.val
        omega
    rw [hi]
    exact shapeCast_1ab_ab_apply (argW m c) _ k o

/-- Some rows of the second weights. -/
theorem out_apply {n : ℕ} (a : ℕ) (inb) (c : Dev nD) (t : Fin cfg0.N) (j : Fin n) (d : Fin 1024) (o : Fin 2816) (ho : o.val = a + j.val) :
    (View.ld (iblk m c 7 t) (Rect.unit (s := S2816x1024) ![a, 0] ![n, 1024] inb) : Vec Ideal ⟨2, ![n, 1024]⟩ .bf16) (ix2 j d)
      = argV m c (ix3 (0 : Fin 1) o d) := by
  refine (View.ld_unit_apply_of (iblk m c 7 t) _ _ _ _ (ix2 o d) fun b => ?_).trans ?_
  · match b with
    | ⟨0, _⟩ => exact ho
    | ⟨1, _⟩ => exact (Nat.zero_add _).symm
  · show V m c main_v3 ((win0_7.rect t).emb (ix2 o d)) = _
    rw [V_out]
    have hi : (win0_7.rect t).emb (ix2 o d) = ix2 o d := by
      refine funext fun b => Fin.ext ((Window.rect_emb_val win0_7 t _ b).trans ?_)
      match b with
      | ⟨0, _⟩ =>
        show 0 * 2816 + o.val = o.val
        omega
      | ⟨1, _⟩ =>
        show 0 * 1024 + d.val = d.val
        omega
    rw [hi]
    exact shapeCast_1ab_ab_apply (argV m c) _ o d

/-! ## The result -/

/-- The modulated rows of the only point. -/
theorem row_apply (c : Dev nD) (t : Fin cfg0.N) (r : Fin 256) :
    (fun k => k0_pay2 (iblk m c 0 t) (iblk m c 4 t) (View.ld (iblk m c 2 t) r0_2) (View.ld (iblk m c 1 t) r0_2) (ix2 r k))
      = rowOf (argX m c) (argM m c) (argG m c) r := by
  funext k
  refine (modulated_block _ _ _ _ r k).trans ?_
  unfold rowOf
  have hx : (fun j => (iblk m c 0 t : Vec Ideal S256x1024 .f32) (ix2 r j)) = fun j => argX m c (ix2 r j) := funext fun j => x_apply m c t r j
  have hg : (fun j => (iblk m c 4 t : Vec Ideal S1x1024 .f32) (ix2 (0 : Fin 1) j)) = fun j => argG m c (ix2 (0 : Fin 1) j) :=
    funext fun j => scales_apply m c t j
  have hsc : (fun j => View.ld (iblk m c 2 t) r0_2 (ix3 (0 : Fin 1) (sequence r) j)) = fun j => argM m c (ix3 (4 : Fin 6) (sampleRow (sequence r)) j) :=
    funext fun j => (mod_apply m c t _ (sequence r) j).1
  have hsh : (fun j => View.ld (iblk m c 1 t) r0_2 (ix3 (0 : Fin 1) (sequence r) j)) = fun j => argM m c (ix3 (3 : Fin 6) (sampleRow (sequence r)) j) :=
    funext fun j => (mod_apply m c t _ (sequence r) j).2.1
  exact congrFun (congr (congr (congr (congrArg modulated hx) hg) hsc) hsh) k

/-- The block that the only point leaves. -/
theorem left_block (c : Dev nD) (t : Fin cfg0.N) (r : Fin 256) (k : Fin 1024) : ((dats m 0 c).after 8 t : Vec Ideal S256x1024 .f32) (ix2 r k)
    = result (argX m c) (argM m c) (argG m c) (argF m c) (argW m c) (argV m c) r k := by
  rw [after0_8]
  unfold out0_8
  frame_out
  refine (stored_block _ _ _ _ r k).trans ?_
  unfold result
  refine congrFun (congrArg₂ normed (funext fun d => ?_) (funext fun j => final_apply m c t j)) k
  unfold updated
  refine congrArg₂ (· + ·) (x_apply m c t r d) (congrArg₂ (· * ·) (mod_apply m c t _ (sequence r) d).2.2 ?_)
  refine (hidden_block _ _ _ _ _ _ _ _ _ _ r d).trans ?_
  rw [← sum_units]
  refine congrArg₂ (· + ·) (Finset.sum_congr rfl fun j _ => ?_) (Finset.sum_congr rfl fun j _ => ?_)
  · refine congrArg₂ (· * ·) (congr (congr (congrArg unit (row_apply m c t r)) (funext fun i => ?_)) (funext fun i => ?_)) ?_
    · exact in_apply m 0 _ c t i j _ (Nat.zero_add _).symm
    · exact in_apply m 2816 _ c t i j _ rfl
    · exact out_apply m 0 _ c t j d _ (Nat.zero_add _).symm
  · refine congrArg₂ (· * ·) (congr (congr (congrArg unit (row_apply m c t r)) (funext fun i => ?_)) (funext fun i => ?_)) ?_
    · exact in_apply m 1280 _ c t i j _ rfl
    · exact in_apply m 4096 _ c t i j _ (by show 2816 + (1280 + j.val) = 4096 + j.val; omega)
    · exact out_apply m 1280 _ c t j d _ rfl

/-- The array that the output window ends with. -/
theorem array (c : Dev nD) : ((dats m 0 c).arrAt 8 cfg0.N : S256x1024.Idx → EReal)
    = results (argX m c) (argM m c) (argG m c) (argF m c) (argW m c) (argV m c) := by
  funext i
  obtain ⟨r, k, rfl⟩ : ∃ (r : Fin 256) (k : Fin 1024), i = ix2 r k := ⟨i 0, i 1, eq_ix2 i⟩
  let t : Fin cfg0.N := ⟨0, by decide⟩
  have hb : ((dats m 0 c).arrAt 8 cfg0.N : S256x1024.Idx → EReal) ((win0_8.rect t).emb (ix2 r k))
      = ((dats m 0 c).after 8 t : Vec Ideal S256x1024 .f32) (ix2 r k) := congrFun (blocks8 m c t (flush0_8 t)) (ix2 r k)
  rw [left_block] at hb
  have hi : ix2 r k = (win0_8.rect t).emb (ix2 r k) := by
    refine funext fun a => Fin.ext (Eq.trans ?_ (Window.rect_emb_val win0_8 t _ a).symm)
    match a with
    | ⟨0, _⟩ =>
      show r.val = (Scalar.addi (Scalar.muli (BitVec.ofNat 32 (grid0.coords t 0).val) 1#32) (BitVec.ofNat 32 (grid0.coords t 1).val)).toNat * 256 + r.val
      rw [row_word]
      omega
    | ⟨1, _⟩ =>
      show k.val = 0 * 1024 + k.val
      omega
  exact (congrArg _ hi).trans hb

/-- Every execution ends with the result at its value and the arguments unchanged. -/
theorem run_results (g : Dev nD → PrngReg) :
    θ_run defs (onTc (τ := τ) (main (F := Ideal))) ⟨m, fun _ => 0, g⟩ fun r => ∀ c : Dev nD,
      r.2.mem ((c.tc : Thread nD τ).loc main_v7) = results (argX m c) (argM m c) (argG m c) (argF m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (array m c), (h c).2⟩) (run_blocks m g)

end Cert.FfnIdeal.Value
-- ==== Proof.FeedForwardIdeal.Result.lean ====
/-
  The feed-forward reference, entry by entry.
-/
module

public import proofs.«01_k».proof.Proof.Gen.FeedForwardIdeal.Run
public import proofs.«01_k».proof.Proof.FeedForward.Formula
public import Idealize.ShloMosaic.Lib.IdealHost
public import Idealize.ShloMosaic.Lib.ValueLayout
public import Idealize.ShloMosaic.Lib.Pipeline.Value

@[expose] public section

noncomputable section

namespace Cert.FeedForwardIdeal.Value

open Cert.FeedForwardIdeal Cert.FeedForwardIdeal.Gen Cert.Projection Cert.FeedForward Idealize.ShloMosaic Idealize.ShloMosaic.TcCoe Idealize.ShloMosaic.ValueIdx
open scoped BigOperators

/-! ## The stages -/

/-- The reciprocal root of each row's mean square. -/
def roots (x : FVec Ideal S32x8x1024 .f32) : FVec Ideal S32x8x1 .f32 :=
  Host.rsqrt (addf (Host.divf (broadcastInDim S32x8x1 ![0, 1] bcast_S32x8_S32x8x1_0_1
    (Host.reduceAdd (mulf x x) (constant S_ .f32 0x00000000#32) reducesTo_S32x8x1024_S32x8_d2 h_S_))
    (broadcastInDim S32x8x1 ![] bcast_S_S32x8x1 (constant S_ .f32 0x44800000#32)))
    (broadcastInDim S32x8x1 ![] bcast_S_S32x8x1 (constant S_ .f32 0x358637BD#32)))

/-- The rows divided by the roots of their mean squares, with scales. -/
def normal (x : FVec Ideal S32x8x1024 .f32) (g : FVec Ideal S1024 .f32) : FVec Ideal S32x8x1024 .f32 :=
  mulf (mulf x (broadcastInDim S32x8x1024 ![0, 1, 2] bcast_S32x8x1_S32x8x1024_0_1_2 (roots x)))
    (broadcastInDim S32x8x1024 ![0, 1, 2] bcast_S1x1x1024_S32x8x1024_0_1_2 (broadcastInDim S1x1x1024 ![2] bcast_S1024_S1x1x1024_2 g))

/-- A row of the modulation for each sequence. -/
def perSequence (v : FVec Ideal S1x32x1024 .f32) : FVec Ideal S32x1x1024 .f32 :=
  broadcastInDim S32x1x1024 ![0, 2] bcast_S32x1024_S32x1x1024_0_2 (shapeCast _ v shapeCasts_S1x32x1024_S32x1024)

/-- A row for each sequence, at every position. -/
def everywhere (v : FVec Ideal S32x1x1024 .f32) : FVec Ideal S32x8x1024 .f32 :=
  broadcastInDim S32x8x1024 ![0, 1, 2] bcast_S32x1x1024_S32x8x1024_0_1_2 v

section Stages

variable (x : FVec Ideal S32x8x1024 .f32) (mo : FVec Ideal S6x40x1024 .f32) (g : FVec Ideal S1x1024 .f32) (fg : FVec Ideal S1024 .f32)
  (w : FVec Ideal S1x1024x5632 .f32) (v : FVec Ideal S1x2816x1024 .f32)

/-- The modulated rows. -/
def rows : FVec Ideal S32x8x1024 .f32 :=
  addf (mulf (normal x (shapeCast _ g shapeCasts_S1x1024_S1024))
    (everywhere (addf (broadcastInDim S32x1x1024 ![] bcast_S_S32x1x1024 (constant S_ .f32 0x3F800000#32))
      (perSequence (extractStridedSlice S1x32x1024 ![4, 0, 0] mo slices_S6x40x1024_S1x32x1024_4_0_0)))))
    (everywhere (perSequence (extractStridedSlice S1x32x1024 ![3, 0, 0] mo slices_S6x40x1024_S1x32x1024_3_0_0)))

/-- Both columns of every hidden unit. -/
def columns : FVec Ideal S32x8x5632 .f32 :=
  Host.dotGeneral (φ₁ := .f32) (φ₂ := .f32) dot_S32x8x1024_S1024x5632_S32x8x5632_2_0_01_1_n_n none (rows x mo g)
    (shapeCast _ w shapeCasts_S1x1024x5632_S1024x5632)

/-- `z · sigmoid z`. -/
def silu (z : FVec Ideal S32x8x2816 .f32) : FVec Ideal S32x8x2816 .f32 :=
  mulf z (Host.divf (broadcastInDim S32x8x2816 ![] bcast_S_S32x8x2816 (constant S_ .f32 0x3F800000#32))
    (addf (broadcastInDim S32x8x2816 ![] bcast_S_S32x8x2816 (constant S_ .f32 0x3F800000#32)) (Host.exp (Host.negf z))))

/-- The hidden units. -/
def inner : FVec Ideal S32x8x2816 .f32 :=
  mulf (silu (extractStridedSlice S32x8x2816 ![0, 0, 0] (columns x mo g w) slices_S32x8x5632_S32x8x2816_0_0_0))
    (extractStridedSlice S32x8x2816 ![0, 0, 2816] (columns x mo g w) slices_S32x8x5632_S32x8x2816_0_0_2816)

/-- The rows plus the gated sums of the hidden units. -/
def sums : FVec Ideal S32x8x1024 .f32 :=
  addf x (mulf (everywhere (perSequence (extractStridedSlice S1x32x1024 ![5, 0, 0] mo slices_S6x40x1024_S1x32x1024_5_0_0)))
    (Host.dotGeneral (φ₁ := .f32) (φ₂ := .f32) dot_S32x8x2816_S2816x1024_S32x8x1024_2_0_01_1_n_n none (inner x mo g w)
      (shapeCast _ v shapeCasts_S1x2816x1024_S2816x1024)))

end Stages

/-! ## Each at an index -/

theorem reduces_features : S32x8x1024.Reduces [2] S32x8 := by decide

theorem lift_features (s : Fin 32) (p : Fin 8) (k : Fin 1024) : reduces_features.lift (ix2 s p) k = ix3 s p k :=
  funext fun a => match a with
    | ⟨0, _⟩ => rfl
    | ⟨1, _⟩ => rfl
    | ⟨2, _⟩ => rfl

theorem roots_apply (x : FVec Ideal S32x8x1024 .f32) (s : Fin 32) (p : Fin 8) :
    roots x (ix3 s p (0 : Fin 1)) = Ideal.rsqrt (Ideal.div (∑ j, x (ix3 s p j) * x (ix3 s p j)) (word 0x44800000#32) + word 0x358637BD#32) := by
  have e : broadcastInDim S32x8x1 ![0, 1] bcast_S32x8_S32x8x1_0_1
      (Host.reduceAdd (mulf x x) (constant S_ .f32 0x00000000#32) reducesTo_S32x8x1024_S32x8_d2 h_S_) (ix3 s p (0 : Fin 1))
      = ∑ j, x (ix3 s p j) * x (ix3 s p j) := by
    rw [broadcastInDim_apply (s := S32x8) (t := S32x8x1) _ _ _ _ (ix2 s p) fun a => match a with
      | ⟨0, _⟩ => rfl
      | ⟨1, _⟩ => rfl]
    rw [hostReduceAdd_apply, Ideal.hostReduceAdd_single (s := S32x8x1024) (t := S32x8) _ reduces_features]
    show Ideal.ofBits .f32 0x00000000#32 + _ = _
    rw [Ideal.ofBits_zero_f32, zero_add]
    exact Finset.sum_congr rfl fun j _ => congrArg (fun i => x i * x i) (lift_features s p j)
  rw [← e]
  rfl

theorem normal_apply (x : FVec Ideal S32x8x1024 .f32) (g : FVec Ideal S1024 .f32) (s : Fin 32) (p : Fin 8) (k : Fin 1024) :
    normal x g (ix3 s p k) = normed (fun j => x (ix3 s p j)) (fun j => g (ix1 j)) k := by
  unfold normal normed
  rw [mulf_apply, mulf_apply]
  rw [broadcastInDim_apply (s := S32x8x1) (t := S32x8x1024) _ _ _ _ (ix3 s p (0 : Fin 1)) fun a => match a with
    | ⟨0, _⟩ => rfl
    | ⟨1, _⟩ => rfl
    | ⟨2, _⟩ => rfl]
  rw [broadcastInDim_apply (s := S1x1x1024) (t := S32x8x1024) _ _ _ _ (ix3 (0 : Fin 1) (0 : Fin 1) k) fun a => match a with
    | ⟨0, _⟩ => rfl
    | ⟨1, _⟩ => rfl
    | ⟨2, _⟩ => rfl]
  rw [broadcastInDim_apply (s := S1024) (t := S1x1x1024) _ _ _ _ (ix1 k) fun a => match a with | ⟨0, _⟩ => rfl]
  rw [roots_apply]

theorem everywhere_apply (v : FVec Ideal S32x1x1024 .f32) (s : Fin 32) (p : Fin 8) (k : Fin 1024) :
    everywhere v (ix3 s p k) = v (ix3 s (0 : Fin 1) k) :=
  broadcastInDim_apply (s := S32x1x1024) (t := S32x8x1024) _ _ _ _ (ix3 s (0 : Fin 1) k) fun a => match a with
    | ⟨0, _⟩ => rfl
    | ⟨1, _⟩ => rfl
    | ⟨2, _⟩ => rfl

/-- A part of the modulation, a row for each sequence. -/
theorem part_apply (mo : FVec Ideal S6x40x1024 .f32) (o : Fin 6) (h : S6x40x1024.Slices ![o.val, 0, 0] S1x32x1024) (s : Fin 32) (k : Fin 1024) :
    perSequence (extractStridedSlice S1x32x1024 ![o.val, 0, 0] mo h) (ix3 s (0 : Fin 1) k) = mo (ix3 o (sampleRow s) k) := by
  unfold perSequence
  rw [broadcastInDim_apply (s := S32x1024) (t := S32x1x1024) _ _ _ _ (ix2 s k) fun a => match a with
    | ⟨0, _⟩ => rfl
    | ⟨1, _⟩ => rfl]
  refine (shapeCast_1ab_ab_apply _ _ s k).trans ?_
  exact extractStridedSlice_apply (s := S6x40x1024) (t := S1x32x1024) _ _ _ _ _ fun a => match a with
    | ⟨0, _⟩ => rfl
    | ⟨1, _⟩ => (Nat.zero_add _).symm
    | ⟨2, _⟩ => (Nat.zero_add _).symm

section Entries

variable (x : FVec Ideal S32x8x1024 .f32) (mo : FVec Ideal S6x40x1024 .f32) (g : FVec Ideal S1x1024 .f32) (fg : FVec Ideal S1024 .f32)
  (w : FVec Ideal S1x1024x5632 .f32) (v : FVec Ideal S1x2816x1024 .f32)

/-- The modulated row at a place, as the formula writes it. -/
def rowAt (s : Fin 32) (p : Fin 8) : Fin 1024 → EReal :=
  modulated (fun j => x (ix3 s p j)) (fun j => g (ix2 (0 : Fin 1) j)) (fun j => mo (ix3 (4 : Fin 6) (sampleRow s) j))
    (fun j => mo (ix3 (3 : Fin 6) (sampleRow s) j))

theorem rows_apply (s : Fin 32) (p : Fin 8) (k : Fin 1024) : rows x mo g (ix3 s p k) = rowAt x mo g s p k := by
  unfold rows rowAt
  rw [modulated_eq, addf_apply, mulf_apply, normal_apply, everywhere_apply, everywhere_apply, addf_apply]
  refine congrArg₂ (· + ·) (congrArg₂ (· * ·) ?_ (congrArg (_ + ·) (part_apply mo 4 slices_S6x40x1024_S1x32x1024_4_0_0 s k)))
    (part_apply mo 3 slices_S6x40x1024_S1x32x1024_3_0_0 s k)
  exact congrFun (congrArg (normed _) (funext fun j => shapeCast_1a_a_apply (a := 1024) g _ j)) k

/-- A column of the first product. -/
theorem columns_apply (s : Fin 32) (p : Fin 8) (o : Fin 5632) :
    columns x mo g w (ix3 s p o) = ∑ k, rowAt x mo g s p k * w (ix3 (0 : Fin 1) k o) := by
  let D := dot_S32x8x1024_S1024x5632_S32x8x5632_2_0_01_1_n_n
  have hr : D.contr.rank = 1 := rfl
  have hs : D.contr.size ⟨0, by rw [hr]; omega⟩ = 1024 := rfl
  unfold columns
  simp only [Host.dotGeneral]
  rw [Ideal.dotGeneral_apply, ← Equiv.sum_comp (contrEquiv1 D 1024 hr hs).symm]
  refine Finset.sum_congr rfl fun k _ => ?_
  have hk := contrEquiv1_symm_val D 1024 hr hs k
  have el : D.lhsIdx (ix3 s p o) ((contrEquiv1 D 1024 hr hs).symm k) = ix3 s p k := by
    funext a; apply Fin.ext
    match a with
    | ⟨0, _⟩ => rfl
    | ⟨1, _⟩ => rfl
    | ⟨2, _⟩ => exact hk
  have er : D.rhsIdx (ix3 s p o) ((contrEquiv1 D 1024 hr hs).symm k) = ix2 k o := by
    funext a; apply Fin.ext
    match a with
    | ⟨0, _⟩ => exact hk
    | ⟨1, _⟩ => rfl
  rw [el, er, rows_apply]
  exact congrArg (_ * ·) (shapeCast_1ab_ab_apply w _ k o)

/-- A hidden unit. -/
theorem inner_apply (s : Fin 32) (p : Fin 8) (j : Fin 2816) : inner x mo g w (ix3 s p j) = FeedForward.hidden (rowAt x mo g s p) w j := by
  have h0 : extractStridedSlice S32x8x2816 ![0, 0, 0] (columns x mo g w) slices_S32x8x5632_S32x8x2816_0_0_0 (ix3 s p j)
      = columns x mo g w (ix3 s p (gateColumn j)) :=
    extractStridedSlice_apply (s := S32x8x5632) (t := S32x8x2816) _ _ _ _ _ fun c => match c with
      | ⟨0, _⟩ => (Nat.zero_add _).symm
      | ⟨1, _⟩ => (Nat.zero_add _).symm
      | ⟨2, _⟩ => (Nat.zero_add _).symm
  have h1 : extractStridedSlice S32x8x2816 ![0, 0, 2816] (columns x mo g w) slices_S32x8x5632_S32x8x2816_0_0_2816 (ix3 s p j)
      = columns x mo g w (ix3 s p (upColumn j)) :=
    extractStridedSlice_apply (s := S32x8x5632) (t := S32x8x2816) _ _ _ _ _ fun c => match c with
      | ⟨0, _⟩ => (Nat.zero_add _).symm
      | ⟨1, _⟩ => (Nat.zero_add _).symm
      | ⟨2, _⟩ => rfl
  rw [columns_apply] at h0 h1
  unfold FeedForward.hidden unit
  rw [← h0, ← h1]
  rfl

/-- The sums, entry by entry. -/
theorem sums_apply (s : Fin 32) (p : Fin 8) (d : Fin 1024) :
    sums x mo g w v (ix3 s p d) = updated (fun j => x (ix3 s p j)) (fun j => mo (ix3 (5 : Fin 6) (sampleRow s) j)) (rowAt x mo g s p) w v d := by
  let D := dot_S32x8x2816_S2816x1024_S32x8x1024_2_0_01_1_n_n
  have hr : D.contr.rank = 1 := rfl
  have hs : D.contr.size ⟨0, by rw [hr]; omega⟩ = 2816 := rfl
  unfold sums updated
  rw [addf_apply, mulf_apply, everywhere_apply]
  refine congrArg (_ + ·) (congrArg₂ (· * ·) (part_apply mo 5 slices_S6x40x1024_S1x32x1024_5_0_0 s d) ?_)
  simp only [Host.dotGeneral]
  rw [Ideal.dotGeneral_apply, ← Equiv.sum_comp (contrEquiv1 D 2816 hr hs).symm]
  refine Finset.sum_congr rfl fun k _ => ?_
  have hk := contrEquiv1_symm_val D 2816 hr hs k
  have el : D.lhsIdx (ix3 s p d) ((contrEquiv1 D 2816 hr hs).symm k) = ix3 s p k := by
    funext a; apply Fin.ext
    match a with
    | ⟨0, _⟩ => rfl
    | ⟨1, _⟩ => rfl
    | ⟨2, _⟩ => exact hk
  have er : D.rhsIdx (ix3 s p d) ((contrEquiv1 D 2816 hr hs).symm k) = ix2 k d := by
    funext a; apply Fin.ext
    match a with
    | ⟨0, _⟩ => exact hk
    | ⟨1, _⟩ => rfl
  rw [el, er, inner_apply]
  exact congrArg (_ * ·) (shapeCast_1ab_ab_apply v _ k d)

/-- The result from the rows with eight to a sequence. -/
theorem final_apply (s : Fin 32) (p : Fin 8) (k : Fin 1024) : normal (sums x mo g w v) fg (ix3 s p k)
    = normed (updated (fun j => x (ix3 s p j)) (fun j => mo (ix3 (5 : Fin 6) (sampleRow s) j)) (rowAt x mo g s p) w v) (fun j => fg (ix1 j)) k := by
  rw [normal_apply]
  exact congrFun (congrArg (normed · _) (funext fun d => sums_apply x mo g w v s p d)) k

end Entries

/-- Row `n` is row `n % 8` of its sequence. -/
def place (n : Fin 256) : Fin 8 := ⟨n.val % 8, by omega⟩

theorem states_apply (x : FVec Ideal S256x1024 .f32) (n : Fin 256) (k : Fin 1024) :
    shapeCast S32x8x1024 x shapeCasts_S256x1024_S32x8x1024 (ix3 (sequence n) (place n) k) = x (ix2 n k) := by
  refine shapeCast_apply (s := S256x1024) (t := S32x8x1024) _ _ _ (ix2 n k) ?_
  rw [Shape.rowMajor_val_two, Shape.rowMajor_val_three]
  show n.val * 1024 + k.val = (n.val / 8 * 8 + n.val % 8) * 1024 + k.val
  rw [Nat.div_add_mod']

/-- The result. -/
theorem result_eq (x : FVec Ideal S256x1024 .f32) (mo : FVec Ideal S6x40x1024 .f32) (g : FVec Ideal S1x1024 .f32) (fg : FVec Ideal S1024 .f32)
    (w : FVec Ideal S1x1024x5632 .f32) (v : FVec Ideal S1x2816x1024 .f32) :
    shapeCast S256x1024 (normal (sums (shapeCast S32x8x1024 x shapeCasts_S256x1024_S32x8x1024) mo g w v) fg) shapeCasts_S32x8x1024_S256x1024
      = results x mo g fg w v := by
  funext i
  obtain ⟨n, k, rfl⟩ : ∃ (n : Fin 256) (k : Fin 1024), i = ix2 n k := ⟨i 0, i 1, eq_ix2 i⟩
  rw [shapeCast_apply (s := S32x8x1024) (t := S256x1024) _ _ _ (ix3 (sequence n) (place n) k) (by
    rw [Shape.rowMajor_val_two, Shape.rowMajor_val_three]
    show (n.val / 8 * 8 + n.val % 8) * 1024 + k.val = n.val * 1024 + k.val
    rw [Nat.div_add_mod'])]
  rw [final_apply]
  unfold rowAt
  simp only [states_apply]
  rfl

/-! ## The run -/

variable (m : (ℓ : Loc nD τ sig) → Buf (Elt Ideal) ℓ)

/-- The arguments' contents at launch. -/
abbrev argX (c : Dev nD) : States := m ((c.tc : Thread nD τ).loc main_arg0)
abbrev argM (c : Dev nD) : Modulation := m ((c.tc : Thread nD τ).loc main_arg1)
abbrev argG (c : Dev nD) : Scales := m ((c.tc : Thread nD τ).loc main_arg2)
abbrev argF (c : Dev nD) : FinalScales := m ((c.tc : Thread nD τ).loc main_arg3)
abbrev argW (c : Dev nD) : WeightsIn := m ((c.tc : Thread nD τ).loc main_arg4)
abbrev argV (c : Dev nD) : WeightsOut := m ((c.tc : Thread nD τ).loc main_arg5)

theorem value (c : Dev nD) : (res_main_v54 m c : S256x1024.Idx → EReal) = results (argX m c) (argM m c) (argG m c) (argF m c) (argW m c) (argV m c) :=
  result_eq _ _ _ _ _ _

/-- Every execution ends with the result at its value and the arguments unchanged. -/
theorem run_results (g : Dev nD → PrngReg) :
    θ_run defs (onTc (τ := τ) (main (F := Ideal))) ⟨m, fun _ => 0, g⟩ fun r => ∀ c : Dev nD,
      r.2.mem ((c.tc : Thread nD τ).loc main_v54) = results (argX m c) (argM m c) (argG m c) (argF m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (value m c), (h c).2⟩) (run m g)

end Cert.FeedForwardIdeal.Value
-- ==== Proof.InprojSampleIdeal.Block.lean ====
/-
  The only grid point of the sample group's input projection on the extended reals: what it computes from its 256 rows, entry by entry.
-/
module

public import proofs.«01_k».proof.Proof.Gen.InprojSampleIdeal.Skeleton
public import proofs.«01_k».proof.Proof.InprojIdeal.Block
public import proofs.«01_k».proof.Proof.FeedForward.Rows

@[expose] public section

noncomputable section

namespace Cert.InprojSampleIdeal.Value

open Idealize.ShloMosaic Idealize.ShloMosaic.ValueIdx Cert.InprojSampleIdeal Cert.InprojSampleIdeal.Gen
open Cert.Projection (word modulated linear gate logGate linear_block first_columns gate_word logGate_word)
open Cert.FeedForward (sequence modulated_eq normed_block modRows_apply)

/-- The modulated rows. -/
theorem modulated_block (x : Vec Ideal S256x1024 .f32) (g : Vec Ideal S1x1024 .f32) (sc sh : Vec Ideal S1x32x1024 .f32) (r : Fin 256) (k : Fin 1024) :
    k0_pay3 x g sc sh (ix2 r k) = modulated (fun j => x (ix2 r j)) (fun j => g (ix2 (0 : Fin 1) j))
      (fun j => sc (ix3 (0 : Fin 1) (sequence r) j)) (fun j => sh (ix3 (0 : Fin 1) (sequence r) j)) k := by
  rw [modulated_eq, ← normed_block x g reduces_S256x1024_S256 shapeCasts_S256_S256x1 broadcasts_S256x1_S256x1024 shapeCasts_S1x1024_S1x1024 broadcasts_S1x1024_S256x1024 r k,
    ← modRows_apply sc shapeCasts_S1x32x1024_S32x1024 shapeCasts_S32x1024_S32x1x1024 shapeCasts_S32x1x1024_S32x1x1024
      broadcasts_S32x1x1024_S32x8x1024 shapeCasts_S32x8x1024_S256x1024 r k,
    ← modRows_apply sh shapeCasts_S1x32x1024_S32x1024 shapeCasts_S32x1024_S32x1x1024 shapeCasts_S32x1x1024_S32x1x1024
      broadcasts_S32x1x1024_S32x8x1024 shapeCasts_S32x8x1024_S256x1024 r k]
  have hx : (shapeCast S256x1024 x shapeCasts_S256x1024_S256x1024 : FVec Ideal S256x1024 .f32) = x := shapeCast_self _ _
  unfold k0_pay3
  dsimp only
  rw [hx]
  rfl

variable (h : FVec Ideal S256x1024 .bf16)

theorem keys_block (w : Vec Ideal S512x1024 .bf16) (b : Vec Ideal S1x512 .f32) (r : Fin 256) (j : Fin 512) :
    k0_pay10 h w b (ix2 r j) = linear (fun k => h (ix2 r k)) (fun k => w (ix2 j k)) (b (ix2 (0 : Fin 1) j)) := by
  have e := linear_block h (shapeCast S512x1024 w shapeCasts_S512x1024_S512x1024 : FVec Ideal S512x1024 .bf16)
    (shapeCast S1x512 b shapeCasts_S1x512_S1x512 : FVec Ideal S1x512 .f32) broadcasts_S1x512_S256x512 r j
  refine Eq.trans e ?_
  rw [shapeCast_self, shapeCast_self]

theorem values_block (w : Vec Ideal S512x1024 .bf16) (b : Vec Ideal S1x512 .f32) (r : Fin 256) (j : Fin 512) :
    k0_pay11 h w b (ix2 r j) = linear (fun k => h (ix2 r k)) (fun k => w (ix2 j k)) (b (ix2 (0 : Fin 1) j)) :=
  keys_block h w b r j

/-- The forget gates' logarithms: a log-sigmoid in the first eight columns. -/
theorem forget_block (w : Vec Ideal S128x1024 .bf16) (b : Vec Ideal S1x128 .f32) (r : Fin 256) (j : Fin 128) (hj : j.val < 8) :
    k0_pay5 h (iota .tc S256x128 32 [1] iota_S256x128_d1_w32) (k0_pay4 w) b (ix2 r j)
      = logGate (linear (fun k => h (ix2 r k)) (fun k => w (ix2 j k)) (b (ix2 (0 : Fin 1) j))) := by
  have e := linear_block h (shapeCast S128x1024 w shapeCasts_S128x1024_S128x1024 : FVec Ideal S128x1024 .bf16)
    (shapeCast S1x128 b shapeCasts_S1x128_S1x128 : FVec Ideal S1x128 .f32) broadcasts_S1x128_S256x128 r j
  rw [shapeCast_self (s := S128x1024), shapeCast_self (s := S1x128)] at e
  have hc : cmpi .slt (iota .tc S256x128 32 [1] iota_S256x128_d1_w32) (broadcast S256x128 8#32) (ix2 r j) = 1#1 := first_columns _ r j hj
  have hz : k0_pay5 h (iota .tc S256x128 32 [1] iota_S256x128_d1_w32) (k0_pay4 w) b (ix2 r j)
      = if cmpi .slt (iota .tc S256x128 32 [1] iota_S256x128_d1_w32) (broadcast S256x128 8#32) (ix2 r j) = 1#1 then
          (fun z : EReal => min z (word 0x00000000#32) - Ideal.log1p (Ideal.exp (word 0x00000000#32 - max z (-z))))
            (FloatOps.matmul (DotDims.transposedRhs 256 1024 128) none h
              (shapeCast S128x1024 w shapeCasts_S128x1024_S128x1024 : FVec Ideal S128x1024 .bf16) (constant S256x128 .f32 0x00000000#32) (ix2 r j)
              + broadcastTo S256x128 (shapeCast S1x128 b shapeCasts_S1x128_S1x128 : FVec Ideal S1x128 .f32) broadcasts_S1x128_S256x128 (ix2 r j))
        else word 0x00000000#32 := rfl
  rw [hz, if_pos hc, shapeCast_self, shapeCast_self]
  exact (congrArg (fun z : EReal => min z (word 0x00000000#32) - Ideal.log1p (Ideal.exp (word 0x00000000#32 - max z (-z)))) e).trans (logGate_word _)

/-- The two halves of the convolution's input: one column times the sigmoid of another. -/
theorem conv_block (w w' : Vec Ideal S512x1024 .bf16) (b b' : Vec Ideal S1x512 .f32) (r : Fin 256) (j : Fin 512) :
    k0_pay14 h w b w' b' (ix2 r j)
      = linear (fun k => h (ix2 r k)) (fun k => w (ix2 j k)) (b (ix2 (0 : Fin 1) j))
        * gate (linear (fun k => h (ix2 r k)) (fun k => w' (ix2 j k)) (b' (ix2 (0 : Fin 1) j))) := by
  rw [← keys_block h w b, ← keys_block h w' b', ← gate_word]
  rfl

/-- The output gates. -/
theorem gates_block (w : Vec Ideal S1024x1024 .bf16) (b : Vec Ideal S1x1024 .f32) (r : Fin 256) (j : Fin 1024) :
    k0_pay20 h w b (ix2 r j) = gate (linear (fun k => h (ix2 r k)) (fun k => w (ix2 j k)) (b (ix2 (0 : Fin 1) j))) := by
  have e := linear_block h (shapeCast S1024x1024 w shapeCasts_S1024x1024_S1024x1024 : FVec Ideal S1024x1024 .bf16)
    (shapeCast S1x1024 b shapeCasts_S1x1024_S1x1024 : FVec Ideal S1x1024 .f32) broadcasts_S1x1024_S256x1024 r j
  rw [shapeCast_self (s := S1024x1024), shapeCast_self (s := S1x1024)] at e
  have hz : k0_pay20 h w b (ix2 r j)
      = (fun z : EReal => Ideal.div (word 0x3F800000#32) (word 0x3F800000#32 + Ideal.exp (word 0x00000000#32 - z)))
          (FloatOps.matmul (DotDims.transposedRhs 256 1024 1024) none h
            (shapeCast S1024x1024 w shapeCasts_S1024x1024_S1024x1024 : FVec Ideal S1024x1024 .bf16) (constant S256x1024 .f32 0x00000000#32) (ix2 r j)
            + broadcastTo S256x1024 (shapeCast S1x1024 b shapeCasts_S1x1024_S1x1024 : FVec Ideal S1x1024 .f32) broadcasts_S1x1024_S256x1024 (ix2 r j)) := rfl
  rw [hz, shapeCast_self, shapeCast_self]
  exact (congrArg (fun z : EReal => Ideal.div (word 0x3F800000#32) (word 0x3F800000#32 + Ideal.exp (word 0x00000000#32 - z))) e).trans (gate_word _)

theorem branch_block (w : Vec Ideal S1024x1024 .bf16) (b : Vec Ideal S1x1024 .f32) (r : Fin 256) (j : Fin 1024) :
    k0_pay1 (k0_pay21 h w) (k0_pay22 b) (ix2 r j) = gate (linear (fun k => h (ix2 r k)) (fun k => w (ix2 j k)) (b (ix2 (0 : Fin 1) j))) :=
  gates_block h w b r j

end Cert.InprojSampleIdeal.Value
-- ==== Proof.ProjectionSample.Formula.lean ====
/-
  The results of the sample group's input projection, over the extended reals: 256 rows, eight for each of 32 sequences, each row's columns
  as the prompt's, with the sample's rows of the modulation.
-/
module

public import proofs.«01_k».proof.Proof.FeedForward.Formula

@[expose] public section

noncomputable section

namespace Cert.ProjectionSample

open Idealize.ShloMosaic Idealize.ShloMosaic.ValueIdx Cert.Projection
open Cert.FeedForward (sequence sampleRow)

abbrev SampleInputs := (⟨3, ![32, 8, 1024]⟩ : Shape).Idx → EReal

/-- The position of row `n` in its sequence. -/
def place (n : Fin 256) : Fin 8 := ⟨n.val % 8, by omega⟩

section Results

variable (x : SampleInputs) (mo : Modulation) (g : Scales) (w : Weights) (bi : Biases)

/-- Row `p` of sequence `s`, modulated. -/
def rowAt (s : Fin 32) (p : Fin 8) : Fin 1024 → EReal :=
  modulated (fun j => x (ix3 s p j)) (fun j => g (ix2 (0 : Fin 1) j)) (fun j => mo (ix3 (1 : Fin 6) (sampleRow s) j))
    (fun j => mo (ix3 (0 : Fin 6) (sampleRow s) j))

/-- Column `o` of the projection of row `p` of sequence `s`. -/
def sampleAt (s : Fin 32) (p : Fin 8) (o : Fin 4616) : EReal :=
  linear (rowAt x mo g s p) (fun k => w (ix3 (0 : Fin 1) k o)) (bi (ix2 (0 : Fin 1) o))

/-- Column `o` of row `n` of the sequences one after the other. -/
def sampleRowAt (n : Fin 256) (o : Fin 4616) : EReal := sampleAt x mo g w bi (sequence n) (place n) o

/-- The 512 columns from `a` on. -/
def columnsFrom (a : ℕ) (h : a + 512 ≤ 4616) : (⟨2, ![256, 512]⟩ : Shape).Idx → EReal :=
  fun i => sampleRowAt x mo g w bi (i 0) (column a h (i 1))

/-- The forget gates' logarithms. -/
def forgetRows : (⟨2, ![256, 8]⟩ : Shape).Idx → EReal :=
  fun i => logGate (sampleRowAt x mo g w bi (i 0) (column 1536 (by decide) (i 1)))

/-- The convolution's input, in slabs of 128 columns. -/
def sampleSlabs : (⟨3, ![4, 256, 128]⟩ : Shape).Idx → EReal :=
  fun i => sampleRowAt x mo g w bi (i 1) (column 1544 (by decide) (slabColumn (i 0) (i 2)))
    * gate (sampleRowAt x mo g w bi (i 1) (column 2056 (by decide) (slabColumn (i 0) (i 2))))

/-- The gates of 1024 columns from `a` on. -/
def sampleGates (a : ℕ) (h : a + 1024 ≤ 4616) : (⟨2, ![256, 1024]⟩ : Shape).Idx → EReal :=
  fun i => gate (sampleRowAt x mo g w bi (i 0) (column a h (i 1)))

end Results

end Cert.ProjectionSample
-- ==== Proof.InprojSampleIdeal.Inputs.lean ====
/-
  What the host prepares for the sample group's input projection, and the columns of the projection that the grid point's loads give.

  The weights and the biases are laid out as in the prompt's call, so that call's lemmas on the layout serve here.
-/
module

public import proofs.«01_k».proof.Proof.Gen.InprojSampleIdeal.Value
public import proofs.«01_k».proof.Proof.InprojSampleIdeal.Block
public import proofs.«01_k».proof.Proof.InprojIdeal.Inputs
public import proofs.«01_k».proof.Proof.ProjectionSample.Formula

@[expose] public section

noncomputable section

namespace Cert.InprojSampleIdeal.Value

open Cert.InprojSampleIdeal Cert.InprojSampleIdeal.Gen Idealize.ShloMosaic Idealize.ShloMosaic.TcCoe Idealize.SL.Sem
open Cert.Projection (Modulation Scales Weights Biases word modulated linear)
open Cert.FeedForward (sequence sampleRow)
open Cert.InprojIdeal.Value (laidWeights laidBiases laidWeights_apply laidBiases_apply Source)
open Cert.ProjectionSample
open Idealize.ShloMosaic.ValueIdx
open Idealize.ShloMosaic.Pipeline (Dat Window)

variable (m : (ℓ : Loc nD τ sig) → Buf (Elt Ideal) ℓ)

/-- The arguments' contents at launch. -/
abbrev argX (c : Dev nD) : SampleInputs := m ((c : Thread nD τ).loc main_arg0)
abbrev argM (c : Dev nD) : Modulation := m ((c : Thread nD τ).loc main_arg1)
abbrev argG (c : Dev nD) : Scales := m ((c : Thread nD τ).loc main_arg2)
abbrev argW (c : Dev nD) : Weights := m ((c : Thread nD τ).loc main_arg3)
abbrev argB (c : Dev nD) : Biases := m ((c : Thread nD τ).loc main_arg4)

theorem V_rows (c : Dev nD) : V m c main_v13 = shapeCast S256x1024 (argX m c) shapeCasts_S32x8x1024_S256x1024 := by
  show StableHlo.after hostOps0 _ _ = _
  simp only [hostOps0]
  after_results_simp <;> rfl

theorem V_scales (c : Dev nD) : V m c main_v15 = broadcastInDim S1x1024 ![1] bcast_S1024_S1x1024_1 (shapeCast S1024 (argG m c) shapeCasts_S1x1024_S1024) := by
  show StableHlo.after hostOps0 _ _ = _
  simp only [hostOps0]
  after_results_simp <;> rfl

theorem V_weights (c : Dev nD) : V m c main_v7 = (truncf .bf16 (laidWeights (argW m c)) bitsLt_bf16_f32 : FVec Ideal S4736x1024 .bf16) := by
  show StableHlo.after hostOps0 _ _ = _
  simp only [hostOps0]
  after_results_simp <;> rfl

theorem V_biases (c : Dev nD) : V m c main_v12 = broadcastInDim S1x4736 ![1] bcast_S4736_S1x4736_1 (laidBiases (argB m c)) := by
  show StableHlo.after hostOps0 _ _ = _
  simp only [hostOps0]
  after_results_simp <;> rfl

/-! ## The blocks -/

/-- The only point's block of rows is the first. -/
theorem row_word (t : Fin cfg0.N) :
    (Scalar.addi (Scalar.muli (BitVec.ofNat 32 (grid0.coords t 0).val) 1#32) (BitVec.ofNat 32 (grid0.coords t 1).val)).toNat = 0 := by
  rw [Nat.lt_one_iff.1 (grid0.coords t 0).isLt, Nat.lt_one_iff.1 (grid0.coords t 1).isLt]
  rfl

theorem rows_apply (c : Dev nD) (t : Fin cfg0.N) (r : Fin 256) (k : Fin 1024) :
    (iblk m c 0 t : Vec Ideal S256x1024 .f32) (ix2 r k) = argX m c (ix3 (sequence r) (place r) k) := by
  show V m c main_v13 ((win0_0.rect t).emb (ix2 r k)) = _
  rw [V_rows]
  have hi : (win0_0.rect t).emb (ix2 r k) = ix2 r k := by
    refine funext fun a => Fin.ext ((Window.rect_emb_val win0_0 t _ a).trans ?_)
    match a with
    | ⟨0, _⟩ =>
      show (Scalar.addi (Scalar.muli (BitVec.ofNat 32 (grid0.coords t 0).val) 1#32) (BitVec.ofNat 32 (grid0.coords t 1).val)).toNat * 256 + r.val = r.val
      rw [row_word]
      omega
    | ⟨1, _⟩ =>
      show 0 * 1024 + k.val = k.val
      omega
  rw [hi]
  refine shapeCast_apply _ _ _ _ ?_
  rw [Shape.rowMajor_val_three, Shape.rowMajor_val_two]
  show (r.val / 8 * 8 + r.val % 8) * 1024 + k.val = r.val * 1024 + k.val
  omega

theorem scales_apply (c : Dev nD) (t : Fin cfg0.N) (k : Fin 1024) :
    (iblk m c 3 t : Vec Ideal S1x1024 .f32) (ix2 (0 : Fin 1) k) = argG m c (ix2 (0 : Fin 1) k) := by
  show V m c main_v15 ((win0_3.rect t).emb (ix2 (0 : Fin 1) k)) = _
  rw [V_scales]
  rw [broadcastInDim_apply (s := S1024) (t := S1x1024) _ _ _ _ (ix1 k) fun a => match a with
    | ⟨0, _⟩ => by
      refine Eq.trans ?_ (Window.rect_emb_val win0_3 t _ 1).symm
      show k.val = 0 * 1024 + k.val
      omega]
  exact shapeCast_1a_a_apply (a := 1024) (argG m c) _ k

/-- The sample group's rows of a part of the modulation. -/
theorem mod_apply (c : Dev nD) (t : Fin cfg0.N) (inb) (s : Fin 32) (j : Fin 1024) :
    (View.ld (iblk m c 2 t) (Rect.unit (s := S1x40x1024) ![0, 0, 0] ![1, 32, 1024] inb) : Vec Ideal S1x32x1024 .f32) (ix3 (0 : Fin 1) s j)
        = argM m c (ix3 (1 : Fin 6) (sampleRow s) j)
      ∧ (View.ld (iblk m c 1 t) (Rect.unit (s := S1x40x1024) ![0, 0, 0] ![1, 32, 1024] inb) : Vec Ideal S1x32x1024 .f32) (ix3 (0 : Fin 1) s j)
        = argM m c (ix3 (0 : Fin 6) (sampleRow s) j) := by
  have hl (X : Vec Ideal S1x40x1024 .f32) : (View.ld X (Rect.unit (s := S1x40x1024) ![0, 0, 0] ![1, 32, 1024] inb) : Vec Ideal S1x32x1024 .f32) (ix3 (0 : Fin 1) s j)
      = X (ix3 (0 : Fin 1) (sampleRow s) j) :=
    View.ld_unit_apply_of X _ _ _ _ (ix3 (0 : Fin 1) (sampleRow s) j) fun a => match a with
      | ⟨0, _⟩ => rfl
      | ⟨1, _⟩ => (Nat.zero_add _).symm
      | ⟨2, _⟩ => (Nat.zero_add _).symm
  have h1 : 0 * 40 + (sampleRow s).val = (sampleRow s).val := by omega
  have h2 : 0 * 1024 + j.val = j.val := by omega
  refine ⟨(hl _).trans ?_, (hl _).trans ?_⟩
  · show V m c main_arg1 ((win0_2.rect t).emb (ix3 (0 : Fin 1) (sampleRow s) j)) = _
    rw [V_main_arg1]
    refine congrArg (argM m c) (funext fun a => Fin.ext ((Window.rect_emb_val win0_2 t _ a).trans ?_))
    match a with
    | ⟨0, _⟩ => rfl
    | ⟨1, _⟩ => exact h1
    | ⟨2, _⟩ => exact h2
  · show V m c main_arg1 ((win0_1.rect t).emb (ix3 (0 : Fin 1) (sampleRow s) j)) = _
    rw [V_main_arg1]
    refine congrArg (argM m c) (funext fun a => Fin.ext ((Window.rect_emb_val win0_1 t _ a).trans ?_))
    match a with
    | ⟨0, _⟩ => rfl
    | ⟨1, _⟩ => exact h1
    | ⟨2, _⟩ => exact h2

/-- Some rows of the weights. -/
theorem weights_apply {n : ℕ} (a : ℕ) (inb) (c : Dev nD) (t : Fin cfg0.N) (j : Fin n) (k : Fin 1024) (o : Fin 4616) (h : Source (a + j.val) o) :
    (View.ld (iblk m c 4 t) (Rect.unit (s := S4736x1024) ![a, 0] ![n, 1024] inb) : Vec Ideal ⟨2, ![n, 1024]⟩ .bf16) (ix2 j k)
      = argW m c (ix3 (0 : Fin 1) k o) := by
  have hp : a + j.val < 4736 := by
    have := o.isLt
    rcases h with ⟨h1, h2⟩ | ⟨h1, h2⟩ <;> omega
  refine (View.ld_unit_apply_of (iblk m c 4 t) _ _ _ _ (ix2 (⟨a + j.val, hp⟩ : Fin 4736) k) fun b => ?_).trans ?_
  · match b with
    | ⟨0, _⟩ => rfl
    | ⟨1, _⟩ => exact (Nat.zero_add _).symm
  · rw [← laidWeights_apply (argW m c) (⟨a + j.val, hp⟩ : Fin 4736) k o h]
    show V m c main_v7 ((win0_4.rect t).emb (ix2 (⟨a + j.val, hp⟩ : Fin 4736) k)) = _
    rw [V_weights]
    refine congrArg (laidWeights (argW m c)) (funext fun b => Fin.ext ((Window.rect_emb_val win0_4 t _ b).trans ?_))
    match b with
    | ⟨0, _⟩ =>
      show 0 * 4736 + (a + j.val) = a + j.val
      omega
    | ⟨1, _⟩ =>
      show 0 * 1024 + k.val = k.val
      omega

/-- Some of the biases. -/
theorem bias_apply {n : ℕ} (a : ℕ) (inb) (c : Dev nD) (t : Fin cfg0.N) (j : Fin n) (o : Fin 4616) (h : Source (a + j.val) o) :
    (View.ld (iblk m c 5 t) (Rect.unit (s := S1x4736) ![0, a] ![1, n] inb) : Vec Ideal ⟨2, ![1, n]⟩ .f32) (ix2 (0 : Fin 1) j)
      = argB m c (ix2 (0 : Fin 1) o) := by
  have hp : a + j.val < 4736 := by
    have := o.isLt
    rcases h with ⟨h1, h2⟩ | ⟨h1, h2⟩ <;> omega
  refine (View.ld_unit_apply_of (iblk m c 5 t) _ _ _ _ (ix2 (0 : Fin 1) (⟨a + j.val, hp⟩ : Fin 4736)) fun b => ?_).trans ?_
  · match b with
    | ⟨0, _⟩ => rfl
    | ⟨1, _⟩ => rfl
  · rw [← laidBiases_apply (argB m c) (⟨a + j.val, hp⟩ : Fin 4736) o h]
    show V m c main_v12 ((win0_5.rect t).emb (ix2 (0 : Fin 1) (⟨a + j.val, hp⟩ : Fin 4736))) = _
    rw [V_biases]
    refine broadcastInDim_apply (s := S4736) (t := S1x4736) _ _ _ _ (ix1 (⟨a + j.val, hp⟩ : Fin 4736)) fun b => match b with | ⟨0, _⟩ => ?_
    refine Eq.trans ?_ (Window.rect_emb_val win0_5 t _ 1).symm
    show a + j.val = 0 * 4736 + (a + j.val)
    omega

/-! ## A column of the point's rows -/

/-- The modulated rows. -/
def pointRows (c : Dev nD) (t : Fin cfg0.N) : FVec Ideal S256x1024 .bf16 :=
  k0_pay3 (iblk m c 0 t) (iblk m c 3 t) (View.ld (iblk m c 2 t) (Rect.unit (s := S1x40x1024) ![0, 0, 0] ![1, 32, 1024] inb_S1x40x1024_S1x32x1024_0_0_0))
    (View.ld (iblk m c 1 t) (Rect.unit (s := S1x40x1024) ![0, 0, 0] ![1, 32, 1024] inb_S1x40x1024_S1x32x1024_0_0_0))

/-- A column of the arguments' projection at a row. -/
abbrev at_ (c : Dev nD) (n : Fin 256) (o : Fin 4616) : EReal := sampleRowAt (argX m c) (argM m c) (argG m c) (argW m c) (argB m c) n o

/-- A row against a row of weights is the column of the projection that the weights come from. -/
theorem linear_apply {n : ℕ} (a : ℕ) (inb inb') (c : Dev nD) (t : Fin cfg0.N) (r : Fin 256) (j : Fin n) (o : Fin 4616) (h : Source (a + j.val) o) :
    linear (fun k => pointRows m c t (ix2 r k))
      (fun k => (View.ld (iblk m c 4 t) (Rect.unit (s := S4736x1024) ![a, 0] ![n, 1024] inb) : Vec Ideal ⟨2, ![n, 1024]⟩ .bf16) (ix2 j k))
      ((View.ld (iblk m c 5 t) (Rect.unit (s := S1x4736) ![0, a] ![1, n] inb') : Vec Ideal ⟨2, ![1, n]⟩ .f32) (ix2 (0 : Fin 1) j))
      = at_ m c r o := by
  unfold at_ sampleRowAt sampleAt rowAt
  rw [bias_apply m a inb' c t j o h]
  refine congrArg₂ (fun u v => linear u v _) (funext fun k => ?_) (funext fun k => weights_apply m a inb c t j k o h)
  refine (modulated_block _ _ _ _ r k).trans ?_
  have e0 := funext fun j => rows_apply m c t r j
  have e1 := funext fun j => scales_apply m c t j
  have e2 := funext fun j => (mod_apply m c t inb_S1x40x1024_S1x32x1024_0_0_0 (sequence r) j).1
  have e3 := funext fun j => (mod_apply m c t inb_S1x40x1024_S1x32x1024_0_0_0 (sequence r) j).2
  exact congr (congr (congr (congr (congrArg modulated e0) e1) e2) e3) rfl

end Cert.InprojSampleIdeal.Value
-- ==== Proof.InprojSampleIdeal.Result.lean ====
/-
  The sample group's input projection: the blocks that its only grid point leaves in six of its windows, the arrays these windows end
  with, as columns of the projection, and the program's run.
-/
module

public import proofs.«01_k».proof.Proof.InprojSampleIdeal.Inputs
public import proofs.«01_k».proof.Proof.InprojIdeal.Left
public import Idealize.ShloMosaic.Lib.Pipeline.ReadBack

@[expose] public section

noncomputable section

namespace Cert.InprojSampleIdeal.Value

open Cert.InprojSampleIdeal Cert.InprojSampleIdeal.Gen Idealize.ShloMosaic Idealize.ShloMosaic.TcCoe Idealize.SL.Sem
open Cert.Projection (Modulation Scales Weights Biases word modulated linear gate logGate column)
open Cert.InprojIdeal.Value (four_first slab_columns quarter)
open Cert.ProjectionSample
open Idealize.ShloMosaic.ValueIdx
open Idealize.ShloMosaic.Pipeline (Dat Window)

variable (m : (ℓ : Loc nD τ sig) → Buf (Elt Ideal) ℓ)

/-! ## The blocks -/

/-- The keys. -/
theorem left_keys (c : Dev nD) (t : Fin cfg0.N) : ((dats m 0 c).after 10 t : Vec Ideal S256x512 .f32)
    = columnsFrom (argX m c) (argM m c) (argG m c) (argW m c) (argB m c) 512 (by decide) := by
  have hX (r : Fin 256) (j : Fin 512) : k0_pay10 (pointRows m c t)
      (View.ld (iblk m c 4 t) (Rect.unit (s := S4736x1024) ![512, 0] ![512, 1024] inb_S4736x1024_S512x1024_512_0))
      (View.ld (iblk m c 5 t) (Rect.unit (s := S1x4736) ![0, 512] ![1, 512] inb_S1x4736_S1x512_0_512)) (ix2 r j)
      = at_ m c r (column 512 (by decide) j) :=
    (keys_block _ _ _ r j).trans (linear_apply m 512 _ _ c t r j _ (.inl ⟨by omega, rfl⟩))
  rw [after0_10]
  unfold outsAt0
  dsimp only
  unfold out0_A_10
  frame_out
  funext i
  rw [eq_ix2 i]
  exact hX _ _

/-- The values. -/
theorem left_values (c : Dev nD) (t : Fin cfg0.N) : ((dats m 0 c).after 11 t : Vec Ideal S256x512 .f32)
    = columnsFrom (argX m c) (argM m c) (argG m c) (argW m c) (argB m c) 1024 (by decide) := by
  have hX (r : Fin 256) (j : Fin 512) : k0_pay11 (pointRows m c t)
      (View.ld (iblk m c 4 t) (Rect.unit (s := S4736x1024) ![1024, 0] ![512, 1024] inb_S4736x1024_S512x1024_1024_0))
      (View.ld (iblk m c 5 t) (Rect.unit (s := S1x4736) ![0, 1024] ![1, 512] inb_S1x4736_S1x512_0_1024)) (ix2 r j)
      = at_ m c r (column 1024 (by decide) j) :=
    (values_block _ _ _ r j).trans (linear_apply m 1024 _ _ c t r j _ (.inl ⟨by omega, rfl⟩))
  rw [after0_11]
  unfold outsAt0
  dsimp only
  unfold out0_A_11
  frame_out
  funext i
  rw [eq_ix2 i]
  exact hX _ _

/-- The forget gates' logarithms. -/
theorem left_forget (c : Dev nD) (t : Fin cfg0.N) : ((dats m 0 c).after 12 t : Vec Ideal S256x8 .f32)
    = forgetRows (argX m c) (argM m c) (argG m c) (argW m c) (argB m c) := by
  have hX (r : Fin 256) (j : Fin 8) : k0_pay13 (k0_pay5 (pointRows m c t) (iota .tc S256x128 32 [1] iota_S256x128_d1_w32)
      (k0_pay4 (View.ld (iblk m c 4 t) (Rect.unit (s := S4736x1024) ![1536, 0] ![128, 1024] inb_S4736x1024_S128x1024_1536_0)))
      (View.ld (iblk m c 5 t) (Rect.unit (s := S1x4736) ![0, 1536] ![1, 128] inb_S1x4736_S1x128_0_1536))) (ix2 r j)
      = logGate (at_ m c r (column 1536 (by decide) j)) := by
    unfold k0_pay13
    refine (slice2_axis1_apply 0 _ slices_S256x128_o0_0_S256x8 r j (⟨j.val, by omega⟩ : Fin 128) (Nat.zero_add _).symm).trans ?_
    exact (forget_block _ _ _ r _ j.isLt).trans
      (congrArg logGate (linear_apply m 1536 _ _ c t r (⟨j.val, by omega⟩ : Fin 128) _ (.inl ⟨by show 1536 + j.val < 1544; omega, rfl⟩)))
  rw [after0_12]
  unfold outsAt0
  dsimp only
  unfold out0_A_12
  frame_out
  funext i
  rw [eq_ix2 i]
  exact hX _ _

/-- Slabs of the convolution's input. -/
theorem left_conv (c : Dev nD) (t : Fin cfg0.N) : ((dats m 0 c).after 14 t : Vec Ideal S4x256x128 .f32)
    = sampleSlabs (argX m c) (argM m c) (argG m c) (argW m c) (argB m c) := by
  have hX (r : Fin 256) (j : Fin 512) : k0_pay14 (pointRows m c t)
      (View.ld (iblk m c 4 t) (Rect.unit (s := S4736x1024) ![1664, 0] ![512, 1024] inb_S4736x1024_S512x1024_1664_0))
      (View.ld (iblk m c 5 t) (Rect.unit (s := S1x4736) ![0, 1664] ![1, 512] inb_S1x4736_S1x512_0_1664))
      (View.ld (iblk m c 4 t) (Rect.unit (s := S4736x1024) ![2176, 0] ![512, 1024] inb_S4736x1024_S512x1024_2176_0))
      (View.ld (iblk m c 5 t) (Rect.unit (s := S1x4736) ![0, 2176] ![1, 512] inb_S1x4736_S1x512_0_2176)) (ix2 r j)
      = at_ m c r (column 1544 (by decide) j) * gate (at_ m c r (column 2056 (by decide) j)) :=
    (conv_block _ _ _ _ _ r j).trans (congrArg₂ (fun u v => u * gate v)
      (linear_apply m 1664 _ _ c t r j _ (.inr ⟨by omega, by show 1664 + j.val = 1544 + j.val + 120; omega⟩))
      (linear_apply m 2176 _ _ c t r j _ (.inr ⟨by omega, by show 2176 + j.val = 2056 + j.val + 120; omega⟩)))
  rw [after0_14]
  unfold outsAt0
  dsimp only
  unfold out0_A_14
  frame_out
  exact four_first _ _ _ _ _ _ _ _ _ (fun j l => (slab_columns 0 0 rfl _ slices_S256x512_o0_0_S256x128 _ j l).trans (hX _ _))
    (fun j l => (slab_columns 1 128 rfl _ slices_S256x512_o0_128_S256x128 _ j l).trans (hX _ _))
    (fun j l => (slab_columns 2 256 rfl _ slices_S256x512_o0_256_S256x128 _ j l).trans (hX _ _))
    (fun j l => (slab_columns 3 384 rfl _ slices_S256x512_o0_384_S256x128 _ j l).trans (hX _ _))

/-- The attention's gates. -/
theorem left_gates (c : Dev nD) (t : Fin cfg0.N) : ((dats m 0 c).after 15 t : Vec Ideal S256x1024 .bf16)
    = sampleGates (argX m c) (argM m c) (argG m c) (argW m c) (argB m c) 2568 (by decide) := by
  have hX (r : Fin 256) (j : Fin 1024) : k0_pay20 (pointRows m c t)
      (View.ld (iblk m c 4 t) (Rect.unit (s := S4736x1024) ![2688, 0] ![1024, 1024] inb_S4736x1024_S1024x1024_2688_0))
      (View.ld (iblk m c 5 t) (Rect.unit (s := S1x4736) ![0, 2688] ![1, 1024] inb_S1x4736_S1x1024_0_2688)) (ix2 r j)
      = gate (at_ m c r (column 2568 (by decide) j)) :=
    (gates_block _ _ _ r j).trans (congrArg gate (linear_apply m 2688 _ _ c t r j _ (.inr ⟨by omega, by show 2688 + j.val = 2568 + j.val + 120; omega⟩)))
  rw [after0_15]
  unfold outsAt0
  dsimp only
  unfold out0_A_15
  frame_out
  funext i
  rw [eq_ix2 i]
  exact hX _ _

/-- The convolution's gates. -/
theorem left_branch (c : Dev nD) (t : Fin cfg0.N) : ((dats m 0 c).after 16 t : Vec Ideal S256x1024 .bf16)
    = sampleGates (argX m c) (argM m c) (argG m c) (argW m c) (argB m c) 3592 (by decide) := by
  have hX (r : Fin 256) (j : Fin 1024) : k0_pay1 (k0_pay21 (pointRows m c t)
      (View.ld (iblk m c 4 t) (Rect.unit (s := S4736x1024) ![3712, 0] ![1024, 1024] inb_S4736x1024_S1024x1024_3712_0)))
      (k0_pay22 (View.ld (iblk m c 5 t) (Rect.unit (s := S1x4736) ![0, 3712] ![1, 1024] inb_S1x4736_S1x1024_0_3712))) (ix2 r j)
      = gate (at_ m c r (column 3592 (by decide) j)) :=
    (branch_block _ _ _ r j).trans (congrArg gate (linear_apply m 3712 _ _ c t r j _ (.inr ⟨by omega, by show 3712 + j.val = 3592 + j.val + 120; omega⟩)))
  rw [after0_16]
  unfold outsAt0
  dsimp only
  unfold out0_A_16
  frame_out
  funext i
  rw [eq_ix2 i]
  exact hX _ _

/-! ## The arrays: every window's block is its whole array -/

/-- A row of the only point's block is the same row of the array. -/
theorem first_row (t : Fin cfg0.N) (r : ℕ) :
    r = (Scalar.addi (Scalar.muli (BitVec.ofNat 32 (grid0.coords t 0).val) 1#32) (BitVec.ofNat 32 (grid0.coords t 1).val)).toNat * 256 + r := by
  rw [row_word]
  omega

theorem first_column (n k : ℕ) : k = 0 * n + k := by omega

/-- The only point. -/
abbrev point : Fin cfg0.N := ⟨0, by decide⟩

theorem keys_array (c : Dev nD) : ((dats m 0 c).arrAt 10 cfg0.N : S256x512.Idx → EReal)
    = columnsFrom (argX m c) (argM m c) (argG m c) (argW m c) (argB m c) 512 (by decide) := by
  funext i
  have hi : i = (win0_10.rect point).emb i := by
    refine funext fun a => Fin.ext (Eq.trans ?_ (Window.rect_emb_val win0_10 point _ a).symm)
    match a with
    | ⟨0, _⟩ => exact first_row point (i 0).val
    | ⟨1, _⟩ => exact first_column 512 (i 1).val
  exact (congrArg _ hi).trans ((congrFun (blocks10 m c point (flush0_10 point)) i).trans (congrFun (left_keys m c point) i))

theorem values_array (c : Dev nD) : ((dats m 0 c).arrAt 11 cfg0.N : S256x512.Idx → EReal)
    = columnsFrom (argX m c) (argM m c) (argG m c) (argW m c) (argB m c) 1024 (by decide) := by
  funext i
  have hi : i = (win0_11.rect point).emb i := by
    refine funext fun a => Fin.ext (Eq.trans ?_ (Window.rect_emb_val win0_11 point _ a).symm)
    match a with
    | ⟨0, _⟩ => exact first_row point (i 0).val
    | ⟨1, _⟩ => exact first_column 512 (i 1).val
  exact (congrArg _ hi).trans ((congrFun (blocks11 m c point (flush0_11 point)) i).trans (congrFun (left_values m c point) i))

theorem forget_array (c : Dev nD) : ((dats m 0 c).arrAt 12 cfg0.N : S256x8.Idx → EReal)
    = forgetRows (argX m c) (argM m c) (argG m c) (argW m c) (argB m c) := by
  funext i
  have hi : i = (win0_12.rect point).emb i := by
    refine funext fun a => Fin.ext (Eq.trans ?_ (Window.rect_emb_val win0_12 point _ a).symm)
    match a with
    | ⟨0, _⟩ => exact first_row point (i 0).val
    | ⟨1, _⟩ => exact first_column 8 (i 1).val
  exact (congrArg _ hi).trans ((congrFun (blocks12 m c point (flush0_12 point)) i).trans (congrFun (left_forget m c point) i))

theorem conv_array (c : Dev nD) : ((dats m 0 c).arrAt 14 cfg0.N : S4x256x128.Idx → EReal)
    = sampleSlabs (argX m c) (argM m c) (argG m c) (argW m c) (argB m c) := by
  funext i
  have hi : i = (win0_14.rect point).emb i := by
    refine funext fun a => Fin.ext (Eq.trans ?_ (Window.rect_emb_val win0_14 point _ a).symm)
    match a with
    | ⟨0, _⟩ => exact first_column 4 (i 0).val
    | ⟨1, _⟩ => exact first_row point (i 1).val
    | ⟨2, _⟩ => exact first_column 128 (i 2).val
  exact (congrArg _ hi).trans ((congrFun (blocks14 m c point (flush0_14 point)) i).trans (congrFun (left_conv m c point) i))

theorem gates_array (c : Dev nD) : ((dats m 0 c).arrAt 15 cfg0.N : S256x1024.Idx → EReal)
    = sampleGates (argX m c) (argM m c) (argG m c) (argW m c) (argB m c) 2568 (by decide) := by
  funext i
  have hi : i = (win0_15.rect point).emb i := by
    refine funext fun a => Fin.ext (Eq.trans ?_ (Window.rect_emb_val win0_15 point _ a).symm)
    match a with
    | ⟨0, _⟩ => exact first_row point (i 0).val
    | ⟨1, _⟩ => exact first_column 1024 (i 1).val
  exact (congrArg _ hi).trans ((congrFun (blocks15 m c point (flush0_15 point)) i).trans (congrFun (left_gates m c point) i))

theorem branch_array (c : Dev nD) : ((dats m 0 c).arrAt 16 cfg0.N : S256x1024.Idx → EReal)
    = sampleGates (argX m c) (argM m c) (argG m c) (argW m c) (argB m c) 3592 (by decide) := by
  funext i
  have hi : i = (win0_16.rect point).emb i := by
    refine funext fun a => Fin.ext (Eq.trans ?_ (Window.rect_emb_val win0_16 point _ a).symm)
    match a with
    | ⟨0, _⟩ => exact first_row point (i 0).val
    | ⟨1, _⟩ => exact first_column 1024 (i 1).val
  exact (congrArg _ hi).trans ((congrFun (blocks16 m c point (flush0_16 point)) i).trans (congrFun (left_branch m c point) i))

/-- Every execution ends with the results at their values and the arguments unchanged. -/
theorem run_results (g : Dev nD → PrngReg) :
    θ_run defs (onTc (τ := τ) (main (F := Ideal))) ⟨m, fun _ => 0, g⟩ fun r => ∀ c : Dev nD,
      (r.2.mem ((c.tc : Thread nD τ).loc main_v16_1) = columnsFrom (argX m c) (argM m c) (argG m c) (argW m c) (argB m c) 512 (by decide)
      ∧ r.2.mem ((c.tc : Thread nD τ).loc main_v16_2) = columnsFrom (argX m c) (argM m c) (argG m c) (argW m c) (argB m c) 1024 (by decide)
      ∧ r.2.mem ((c.tc : Thread nD τ).loc main_v16_3) = forgetRows (argX m c) (argM m c) (argG m c) (argW m c) (argB m c)
      ∧ r.2.mem ((c.tc : Thread nD τ).loc main_v16_5) = sampleSlabs (argX m c) (argM m c) (argG m c) (argW m c) (argB m c)
      ∧ r.2.mem ((c.tc : Thread nD τ).loc main_v16_6) = sampleGates (argX m c) (argM m c) (argG m c) (argW m c) (argB m c) 2568 (by decide)
      ∧ r.2.mem ((c.tc : Thread nD τ).loc main_v16_7) = sampleGates (argX m c) (argM m c) (argG m c) (argW m c) (argB m c) 3592 (by decide))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨-, h1, h2, h3, -, h5, h6, h7, hargs⟩ := h c
    exact ⟨⟨h1.trans (keys_array m c), h2.trans (values_array m c), h3.trans (forget_array m c), h5.trans (conv_array m c),
      h6.trans (gates_array m c), h7.trans (branch_array m c)⟩, hargs⟩) (run_blocks m g)

end Cert.InprojSampleIdeal.Value
-- ==== Proof.ProjectionSampleIdeal.Result.lean ====
/-
  The reference of the sample group's projection, entry by entry: every result is a column of the projection, or a gate of one, at its place.

  The stages before the product with the weights are those of the feed-forward reference, with other parts of the modulation.
-/
module

public import proofs.«01_k».proof.Proof.Gen.ProjectionSampleIdeal.Run
public import proofs.«01_k».proof.Proof.ProjectionSample.Formula
public import proofs.«01_k».proof.Proof.FeedForwardIdeal.Result

@[expose] public section

noncomputable section

namespace Cert.ProjectionSampleIdeal.Value

open Cert.ProjectionSampleIdeal Cert.ProjectionSampleIdeal.Gen Idealize.ShloMosaic Idealize.ShloMosaic.TcCoe Idealize.ShloMosaic.ValueIdx
open Cert.Projection (Modulation Scales Weights Biases word modulated linear gate logGate logGate_eq column slabColumn)
open Cert.FeedForward (sequence sampleRow normed modulated_eq)
open Cert.FeedForwardIdeal.Value (normal perSequence everywhere normal_apply everywhere_apply part_apply)
open Cert.ProjectionSample
open scoped BigOperators

/-! ## The stages -/

section Stages

variable (x : FVec Ideal S32x8x1024 .f32) (mo : FVec Ideal S6x40x1024 .f32) (g : FVec Ideal S1x1024 .f32) (w : FVec Ideal S1x1024x4616 .f32)
  (bi : FVec Ideal S1x4616 .f32)

/-- The modulated rows. -/
def rows : FVec Ideal S32x8x1024 .f32 :=
  addf (mulf (normal x (shapeCast _ g shapeCasts_S1x1024_S1024))
    (everywhere (addf (broadcastInDim S32x1x1024 ![] bcast_S_S32x1x1024 (constant S_ .f32 0x3F800000#32))
      (perSequence (extractStridedSlice S1x32x1024 ![1, 0, 0] mo slices_S6x40x1024_S1x32x1024_1_0_0)))))
    (everywhere (perSequence (extractStridedSlice S1x32x1024 ![0, 0, 0] mo slices_S6x40x1024_S1x32x1024_0_0_0)))

/-- All columns of the projection. -/
def columns : FVec Ideal S32x8x4616 .f32 :=
  addf (Host.dotGeneral (φ₁ := .f32) (φ₂ := .f32) dot_S32x8x1024_S1024x4616_S32x8x4616_2_0_01_1_n_n none (rows x mo g)
    (shapeCast _ w shapeCasts_S1x1024x4616_S1024x4616))
    (broadcastInDim S32x8x4616 ![0, 1, 2] bcast_S1x1x4616_S32x8x4616_0_1_2
      (broadcastInDim S1x1x4616 ![2] bcast_S4616_S1x1x4616_2 (shapeCast _ bi shapeCasts_S1x4616_S4616)))

/-! ## Each at an index -/

theorem rows_apply (s : Fin 32) (p : Fin 8) (k : Fin 1024) : rows x mo g (ix3 s p k) = rowAt x mo g s p k := by
  unfold rows rowAt
  rw [modulated_eq, addf_apply, mulf_apply, normal_apply, everywhere_apply, everywhere_apply, addf_apply]
  have hg : (fun j => (shapeCast _ g shapeCasts_S1x1024_S1024 : FVec Ideal S1024 .f32) (ix1 j)) = fun j => g (ix2 (0 : Fin 1) j) :=
    funext fun j => shapeCast_1a_a_apply (a := 1024) g _ j
  rw [hg]
  exact congrArg₂ (· + ·) (congrArg (_ * ·) (congrArg (_ + ·) (part_apply mo 1 slices_S6x40x1024_S1x32x1024_1_0_0 s k)))
    (part_apply mo 0 slices_S6x40x1024_S1x32x1024_0_0_0 s k)

/-- The projection's columns, entry by entry. -/
theorem columns_apply (s : Fin 32) (p : Fin 8) (o : Fin 4616) : columns x mo g w bi (ix3 s p o) = sampleAt x mo g w bi s p o := by
  let D := dot_S32x8x1024_S1024x4616_S32x8x4616_2_0_01_1_n_n
  have hr : D.contr.rank = 1 := rfl
  have hs : D.contr.size ⟨0, by rw [hr]; omega⟩ = 1024 := rfl
  unfold columns sampleAt linear
  rw [addf_apply]
  refine congrArg₂ (· + ·) ?_ ?_
  · simp only [Host.dotGeneral]
    rw [Ideal.dotGeneral_apply, ← Equiv.sum_comp (contrEquiv1 D 1024 hr hs).symm]
    refine Finset.sum_congr rfl fun k _ => ?_
    have hk := contrEquiv1_symm_val D 1024 hr hs k
    have el : D.lhsIdx (ix3 s p o) ((contrEquiv1 D 1024 hr hs).symm k) = ix3 s p k := by
      funext a; apply Fin.ext
      match a with
      | ⟨0, _⟩ => rfl
      | ⟨1, _⟩ => rfl
      | ⟨2, _⟩ => exact hk
    have er : D.rhsIdx (ix3 s p o) ((contrEquiv1 D 1024 hr hs).symm k) = ix2 k o := by
      funext a; apply Fin.ext
      match a with
      | ⟨0, _⟩ => exact hk
      | ⟨1, _⟩ => rfl
    rw [el, er, rows_apply]
    exact congrArg (_ * ·) (shapeCast_1ab_ab_apply w _ k o)
  · rw [broadcastInDim_apply (s := S1x1x4616) (t := S32x8x4616) _ _ _ _ (ix3 (0 : Fin 1) (0 : Fin 1) o) fun a => match a with
      | ⟨0, _⟩ => rfl
      | ⟨1, _⟩ => rfl
      | ⟨2, _⟩ => rfl]
    rw [broadcastInDim_apply (s := S4616) (t := S1x1x4616) _ _ _ _ (ix1 o) fun a => match a with | ⟨0, _⟩ => rfl]
    exact shapeCast_1a_a_apply (a := 4616) bi _ o

/-! ## The results -/

variable {x mo g w bi}

/-- Some of the columns. -/
theorem slice_apply {n : ℕ} (a : ℕ) (hn : a + n ≤ 4616) (h : S32x8x4616.Slices ![0, 0, a] ⟨3, ![32, 8, n]⟩) (s : Fin 32) (p : Fin 8) (j : Fin n) :
    extractStridedSlice ⟨3, ![32, 8, n]⟩ ![0, 0, a] (columns x mo g w bi) h (ix3 s p j) = sampleAt x mo g w bi s p (column a hn j) := by
  rw [← columns_apply]
  exact extractStridedSlice_apply (s := S32x8x4616) (t := ⟨3, ![32, 8, n]⟩) _ _ _ _ _ fun c => match c with
    | ⟨0, _⟩ => (Nat.zero_add _).symm
    | ⟨1, _⟩ => (Nat.zero_add _).symm
    | ⟨2, _⟩ => rfl

/-- Columns with the sequences one after the other. -/
theorem flat_apply {n : ℕ} (v : FVec Ideal ⟨3, ![32, 8, n]⟩ .f32) (h : (⟨3, ![32, 8, n]⟩ : Shape).ShapeCasts ⟨2, ![256, n]⟩)
    (k : Fin 256) (j : Fin n) : shapeCast ⟨2, ![256, n]⟩ v h (ix2 k j) = v (ix3 (sequence k) (place k) j) := by
  refine shapeCast_apply _ _ _ _ ?_
  rw [Shape.rowMajor_val_three, Shape.rowMajor_val_two]
  show (k.val / 8 * 8 + k.val % 8) * n + j.val = k.val * n + j.val
  rw [Nat.div_add_mod']

theorem columns_eq (a : ℕ) (ha : a + 512 ≤ 4616) (h : S32x8x4616.Slices ![0, 0, a] S32x8x512) :
    shapeCast S256x512 (extractStridedSlice S32x8x512 ![0, 0, a] (columns x mo g w bi) h) shapeCasts_S32x8x512_S256x512
      = columnsFrom x mo g w bi a ha := by
  funext i
  obtain ⟨k, j, rfl⟩ : ∃ (k : Fin 256) (j : Fin 512), i = ix2 k j := ⟨i 0, i 1, eq_ix2 i⟩
  exact (flat_apply _ _ k j).trans (slice_apply a ha h _ _ j)

/-- The reference's log-sigmoid. -/
def logGates (v : FVec Ideal S32x8x8 .f32) : FVec Ideal S32x8x8 .f32 :=
  Host.negf (select (cmpf .une (subf (Host.negf v) (broadcastInDim S32x8x8 ![] bcast_S_S32x8x8 (constant S_ .f32 0x00000000#32)))
      (subf (Host.negf v) (broadcastInDim S32x8x8 ![] bcast_S_S32x8x8 (constant S_ .f32 0x00000000#32))))
    (addf (Host.negf v) (broadcastInDim S32x8x8 ![] bcast_S_S32x8x8 (constant S_ .f32 0x00000000#32)))
    (addf (maximumf (Host.negf v) (broadcastInDim S32x8x8 ![] bcast_S_S32x8x8 (constant S_ .f32 0x00000000#32)))
      (Host.log1p (Host.exp (Host.negf (Host.absf (subf (Host.negf v)
        (broadcastInDim S32x8x8 ![] bcast_S_S32x8x8 (constant S_ .f32 0x00000000#32)))))))))

theorem logGates_apply (v : FVec Ideal S32x8x8 .f32) (i : S32x8x8.Idx) : logGates v i = logGate (v i) := by
  have h : logGates v i = -(if FloatOps.cmpf (F := Ideal) (φ := .f32) .une (-v i - word 0x00000000#32) (-v i - word 0x00000000#32) = 1#1 then -v i + word 0x00000000#32
      else max (-v i) (word 0x00000000#32)
        + Ideal.log1p (Ideal.exp (-max (-v i - word 0x00000000#32) (-(-v i - word 0x00000000#32))))) := rfl
  rw [h, if_neg (by simp [FloatOps.cmpf, Ideal.cmp]), show word 0x00000000#32 = 0 from Ideal.ofBits_zero_f32]
  exact logGate_eq (v i)

theorem forget_eq :
    shapeCast S256x8 (logGates (extractStridedSlice S32x8x8 ![0, 0, 1536] (columns x mo g w bi) slices_S32x8x4616_S32x8x8_0_0_1536))
      shapeCasts_S32x8x8_S256x8 = forgetRows x mo g w bi := by
  funext i
  obtain ⟨k, j, rfl⟩ : ∃ (k : Fin 256) (j : Fin 8), i = ix2 k j := ⟨i 0, i 1, eq_ix2 i⟩
  refine (flat_apply _ _ k j).trans ((logGates_apply _ _).trans ?_)
  exact congrArg logGate (slice_apply 1536 (by decide) slices_S32x8x4616_S32x8x8_0_0_1536 _ _ j)

/-- The reference's sigmoid of 512 columns, and of 1024. -/
def gates512 (v : FVec Ideal S32x8x512 .f32) : FVec Ideal S32x8x512 .f32 :=
  Host.divf (broadcastInDim S32x8x512 ![] bcast_S_S32x8x512 (constant S_ .f32 0x3F800000#32))
    (addf (broadcastInDim S32x8x512 ![] bcast_S_S32x8x512 (constant S_ .f32 0x3F800000#32)) (Host.exp (Host.negf v)))
def gates1024 (v : FVec Ideal S32x8x1024 .f32) : FVec Ideal S32x8x1024 .f32 :=
  Host.divf (broadcastInDim S32x8x1024 ![] bcast_S_S32x8x1024 (constant S_ .f32 0x3F800000#32))
    (addf (broadcastInDim S32x8x1024 ![] bcast_S_S32x8x1024 (constant S_ .f32 0x3F800000#32)) (Host.exp (Host.negf v)))

theorem conv_eq :
    transpose S4x256x128 [1, 0, 2] (shapeCast S256x4x128
      (mulf (extractStridedSlice S32x8x512 ![0, 0, 1544] (columns x mo g w bi) slices_S32x8x4616_S32x8x512_0_0_1544)
        (gates512 (extractStridedSlice S32x8x512 ![0, 0, 2056] (columns x mo g w bi) slices_S32x8x4616_S32x8x512_0_0_2056)))
      shapeCasts_S32x8x512_S256x4x128) transposes_S256x4x128_S4x256x128_1_0_2 = sampleSlabs x mo g w bi := by
  funext i
  obtain ⟨s, k, l, rfl⟩ : ∃ (s : Fin 4) (k : Fin 256) (l : Fin 128), i = ix3 s k l := ⟨i 0, i 1, i 2, eq_ix3 i⟩
  rw [transpose_apply (s := S256x4x128) (t := S4x256x128) _ _ _ _ (ix3 k s l) fun a => match a with
    | ⟨0, _⟩ => rfl
    | ⟨1, _⟩ => rfl
    | ⟨2, _⟩ => rfl]
  rw [shapeCast_apply (s := S32x8x512) (t := S256x4x128) _ _ _ (ix3 (sequence k) (place k) (slabColumn s l)) (by
    rw [Shape.rowMajor_val_three, Shape.rowMajor_val_three]
    show (k.val / 8 * 8 + k.val % 8) * 512 + (128 * s.val + l.val) = (k.val * 4 + s.val) * 128 + l.val
    omega)]
  exact congrArg₂ (fun y z => y * gate z) (slice_apply 1544 (by decide) slices_S32x8x4616_S32x8x512_0_0_1544 _ _ (slabColumn s l))
    (slice_apply 2056 (by decide) slices_S32x8x4616_S32x8x512_0_0_2056 _ _ (slabColumn s l))

theorem gates_flat (a : ℕ) (ha : a + 1024 ≤ 4616) (h : S32x8x4616.Slices ![0, 0, a] S32x8x1024) :
    shapeCast S256x1024 (gates1024 (extractStridedSlice S32x8x1024 ![0, 0, a] (columns x mo g w bi) h)) shapeCasts_S32x8x1024_S256x1024
      = sampleGates x mo g w bi a ha := by
  funext i
  obtain ⟨k, j, rfl⟩ : ∃ (k : Fin 256) (j : Fin 1024), i = ix2 k j := ⟨i 0, i 1, eq_ix2 i⟩
  exact (flat_apply _ _ k j).trans (congrArg gate (slice_apply a ha h _ _ j))

/-- The change of format is the identity. -/
theorem narrowed (v : FVec Ideal S256x1024 .f32) : (truncf .bf16 v bitsLt_bf16_f32 : S256x1024.Idx → EReal) = v := rfl

theorem gates_eq (a : ℕ) (ha : a + 1024 ≤ 4616) (h : S32x8x4616.Slices ![0, 0, a] S32x8x1024) :
    (truncf .bf16 (shapeCast S256x1024 (gates1024 (extractStridedSlice S32x8x1024 ![0, 0, a] (columns x mo g w bi) h)) shapeCasts_S32x8x1024_S256x1024
      : FVec Ideal S256x1024 .f32) bitsLt_bf16_f32 : S256x1024.Idx → EReal) = sampleGates x mo g w bi a ha :=
  (narrowed _).trans (gates_flat a ha h)

end Stages

/-! ## The run -/

variable (m : (ℓ : Loc nD τ sig) → Buf (Elt Ideal) ℓ)

/-- The arguments' contents at launch. -/
abbrev argX (c : Dev nD) : SampleInputs := m ((c.tc : Thread nD τ).loc main_arg0)
abbrev argM (c : Dev nD) : Modulation := m ((c.tc : Thread nD τ).loc main_arg1)
abbrev argG (c : Dev nD) : Scales := m ((c.tc : Thread nD τ).loc main_arg2)
abbrev argW (c : Dev nD) : Weights := m ((c.tc : Thread nD τ).loc main_arg3)
abbrev argB (c : Dev nD) : Biases := m ((c.tc : Thread nD τ).loc main_arg4)

theorem forget_result (c : Dev nD) : (res_out2 m c : S256x8.Idx → EReal) = forgetRows (argX m c) (argM m c) (argG m c) (argW m c) (argB m c) :=
  forget_eq

theorem conv_result (c : Dev nD) : (res_out3 m c : S4x256x128.Idx → EReal) = sampleSlabs (argX m c) (argM m c) (argG m c) (argW m c) (argB m c) :=
  conv_eq

/-- Every execution ends with the results at their values and the arguments unchanged. -/
theorem run_results (g : Dev nD → PrngReg) :
    θ_run defs (onTc (τ := τ) (main (F := Ideal))) ⟨m, fun _ => 0, g⟩ fun r => ∀ c : Dev nD,
      (r.2.mem ((c.tc : Thread nD τ).loc main_v61) = columnsFrom (argX m c) (argM m c) (argG m c) (argW m c) (argB m c) 512 (by decide)
      ∧ r.2.mem ((c.tc : Thread nD τ).loc main_v62) = columnsFrom (argX m c) (argM m c) (argG m c) (argW m c) (argB m c) 1024 (by decide)
      ∧ r.2.mem ((c.tc : Thread nD τ).loc main_v63) = forgetRows (argX m c) (argM m c) (argG m c) (argW m c) (argB m c)
      ∧ r.2.mem ((c.tc : Thread nD τ).loc main_v60) = sampleSlabs (argX m c) (argM m c) (argG m c) (argW m c) (argB m c)
      ∧ r.2.mem ((c.tc : Thread nD τ).loc main_v65) = sampleGates (argX m c) (argM m c) (argG m c) (argW m c) (argB m c) 2568 (by decide)
      ∧ r.2.mem ((c.tc : Thread nD τ).loc main_v67) = sampleGates (argX m c) (argM m c) (argG m c) (argW m c) (argB m c) 3592 (by decide))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => by
    obtain ⟨h0, h1, h2, h3, h4, h5, hargs⟩ := h c
    exact ⟨⟨h0.trans (columns_eq 512 _ slices_S32x8x4616_S32x8x512_0_0_512), h1.trans (columns_eq 1024 _ slices_S32x8x4616_S32x8x512_0_0_1024),
      h2.trans (forget_result m c), h3.trans (conv_result m c),
      h4.trans (gates_eq 2568 _ slices_S32x8x4616_S32x8x1024_0_0_2568), h5.trans (gates_eq 3592 _ slices_S32x8x4616_S32x8x1024_0_0_3592)⟩, hargs⟩)
    (run m g)

end Cert.ProjectionSampleIdeal.Value
-- ==== Proof.Merge.Formula.lean ====
/-
  The mathematics of the gated merge of the sample group, over the extended reals.

  Each channel of a sequence is a line of 38 values: the 30 that the state keeps and the eight new ones (`timeline`). The convolution takes 31
  of them for each position (`convolved`); the channels of a position are centred and divided by their spread (`layered`) and go through
  `z · sigmoid z`. That and the attention's output, each against its weights, are added with their gates (`mixed`), and the sum against
  the last weights updates the row.
-/
module

public import proofs.«01_k».proof.Proof.ProjectionSample.Formula

@[expose] public section

noncomputable section

namespace Cert.Merge

open Idealize.ShloMosaic Idealize.ShloMosaic.ValueIdx Cert.Projection
open Cert.FeedForward (States sequence sampleRow)
open Cert.ProjectionSample (place)
open scoped BigOperators

abbrev Wide := (⟨2, ![256, 512]⟩ : Shape).Idx → EReal
abbrev History := (⟨4, ![1, 32, 30, 512]⟩ : Shape).Idx → EReal
abbrev Slabs := (⟨3, ![4, 256, 128]⟩ : Shape).Idx → EReal
abbrev Taps := (⟨3, ![1, 31, 512]⟩ : Shape).Idx → EReal
abbrev Channels := (⟨2, ![1, 512]⟩ : Shape).Idx → EReal
abbrev WeightsIn := (⟨3, ![1, 512, 1024]⟩ : Shape).Idx → EReal
abbrev WeightsOut := (⟨3, ![1, 1024, 1024]⟩ : Shape).Idx → EReal

/-- The slab of a channel, and its place there. -/
def slabOf (ch : Fin 512) : Fin 4 := ⟨ch.val / 128, by omega⟩
def laneOf (ch : Fin 512) : Fin 128 := ⟨ch.val % 128, by omega⟩

/-- A channel of a sequence: what the state keeps, then the new values. -/
def timeline (st : History) (u : Slabs) (s : Fin 32) (ch : Fin 512) (q : Fin 38) : EReal :=
  if h : q.val < 30 then st (ix4 (0 : Fin 1) s (⟨q.val, h⟩ : Fin 30) ch)
  else u (ix3 (slabOf ch) (⟨s.val * 8 + (q.val - 30), by omega⟩ : Fin 256) (laneOf ch))

/-- The line's value that tap `j` takes for position `p`. -/
def tapAt (j : Fin 31) (p : Fin 8) : Fin 38 := ⟨j.val + p.val, by omega⟩

/-- The convolution of a channel at position `p`. -/
def convolved (st : History) (u : Slabs) (w : Taps) (b : Channels) (s : Fin 32) (p : Fin 8) (ch : Fin 512) : EReal :=
  (∑ j : Fin 31, w (ix3 (0 : Fin 1) j ch) * timeline st u s ch (tapAt j p)) + b (ix2 (0 : Fin 1) ch)

/-- Channels less their mean. -/
def centred (y : Fin 512 → EReal) (ch : Fin 512) : EReal := y ch - Ideal.div (∑ j, y j) (word 0x44000000#32)

/-- Centred channels divided by their spread, with scales `g` and shifts `b`. -/
def layered (y g b : Fin 512 → EReal) (ch : Fin 512) : EReal :=
  centred y ch * Ideal.rsqrt (Ideal.div (∑ j, centred y j * centred y j) (word 0x44000000#32) + word 0x358637BD#32) * g ch + b ch

/-- `z · sigmoid z`. -/
def silu (z : EReal) : EReal := z * gate z

/-- The two branches against a column of their weights, with their gates. -/
def mixed (o h wa wb : Fin 512 → EReal) (b ga gb : EReal) : EReal := ga * (∑ j, o j * wa j) + gb * ((∑ j, h j * wb j) + b)

section Results

variable (x : States) (o : Wide) (st : History) (u : Slabs) (ga gb : States) (mo : Modulation) (dw : Taps) (db lg lb : Channels)
  (wa wb : WeightsIn) (bp : Scales) (wo : WeightsOut)

/-- The channels of row `n` after the convolution's branch. -/
def active (n : Fin 256) (ch : Fin 512) : EReal :=
  silu (layered (convolved st u dw db (sequence n) (place n)) (fun j => lg (ix2 (0 : Fin 1) j)) (fun j => lb (ix2 (0 : Fin 1) j)) ch)

/-- Entry `k` of row `n` of the merge. -/
def mixedAt (n : Fin 256) (k : Fin 1024) : EReal :=
  mixed (fun j => o (ix2 n j)) (active st u dw db lg lb n) (fun j => wa (ix3 (0 : Fin 1) j k)) (fun j => wb (ix3 (0 : Fin 1) j k))
    (bp (ix2 (0 : Fin 1) k)) (ga (ix2 n k)) (gb (ix2 n k))

/-- All rows. -/
def results : States := fun i =>
  x i + mo (ix3 (2 : Fin 6) (sampleRow (sequence (i 0))) (i 1))
    * ∑ k, mixedAt o st u ga gb dw db lg lb wa wb bp (i 0) k * wo (ix3 (0 : Fin 1) k (i 1))

end Results

end Cert.Merge
-- ==== Proof.MergeSampleIdeal.Block.lean ====
/-
  The body of the sample group's gated merge, entry by entry.
-/
module

public import proofs.«01_k».proof.Proof.Gen.MergeSampleIdeal.Value
public import proofs.«01_k».proof.Proof.Merge.Formula
public import proofs.«01_k».proof.Proof.FeedForward.Rows
public import Idealize.ShloMosaic.Lib.Pipeline.Value
public import Idealize.ShloMosaic.Lib.Pipeline.ValueKit.Acc
public import Idealize.ShloMosaic.Lib.Pipeline.ValueKit.Tiles

@[expose] public section

noncomputable section

namespace Cert.MergeSampleIdeal.Value

open Cert.MergeSampleIdeal Cert.MergeSampleIdeal.Gen Cert.Projection Cert.Merge Idealize.ShloMosaic
open Cert.FeedForward (sequence sampleRow modRows_apply product_block)
open Cert.ProjectionSample (place)
open Idealize.ShloMosaic.ValueIdx
open scoped BigOperators

/-! ## The convolution -/

/-- One tap's weights times its window. -/
def tap (w : Vec Ideal S1x1x128 .f32) (u : Vec Ideal S1x32x8x128 .f32) : FVec Ideal S32x8x128 .f32 :=
  mulf (broadcastTo S32x8x128 (shapeCast S1x1x128 (shapeCast S1x128 w shapeCasts_S1x1x128_S1x128) shapeCasts_S1x128_S1x1x128)
    broadcasts_S1x1x128_S32x8x128) (shapeCast S32x8x128 u shapeCasts_S1x32x8x128_S32x8x128)

theorem tap_apply (w : Vec Ideal S1x1x128 .f32) (u : Vec Ideal S1x32x8x128 .f32) (s : Fin 32) (p : Fin 8) (l : Fin 128) :
    tap w u (ix3 s p l) = w (ix3 (0 : Fin 1) (0 : Fin 1) l) * u (ix4 (0 : Fin 1) s p l) := by
  unfold tap
  rw [mulf_apply, shapeCast_1abc_abc_apply, broadcastTo_apply (s := S1x1x128) (t := S32x8x128) _ _ _ (ix3 (0 : Fin 1) (0 : Fin 1) l) fun a => match a with
    | ⟨0, _⟩ => rfl
    | ⟨1, _⟩ => rfl
    | ⟨2, _⟩ => rfl]
  refine congrArg (· * _) ?_
  exact (shapeCast_ab_1ab_apply (a := 1) (b := 128) _ _ (0 : Fin 1) (0 : Fin 1) l).trans (shapeCast_1ab_ab_apply (a := 1) (b := 128) w _ (0 : Fin 1) l)

/-- Arrays added one after the other to zero. -/
def added : (n : ℕ) → (Fin n → FVec Ideal S32x8x128 .f32) → FVec Ideal S32x8x128 .f32
  | 0, _ => broadcast S32x8x128 (Scalar.ofBits .f32 0x00000000#32)
  | n + 1, f => addf (added n fun j => f j.castSucc) (f (Fin.last n))

theorem added_apply : ∀ (n : ℕ) (f : Fin n → FVec Ideal S32x8x128 .f32) (i : S32x8x128.Idx), added n f i = ∑ j, f j i
  | 0, _, i => Ideal.ofBits_zero_f32
  | n + 1, f, i => by
    rw [Fin.sum_univ_castSucc, ← added_apply n]
    rfl

theorem weights_inb (c : Fin 4) (j : Fin 31) : ∀ a, (![c.val, j.val, 0] : Fin 3 → ℕ) a + S1x1x128.size a ≤ S4x32x128.size a := by
  intro a
  match a with
  | ⟨0, _⟩ => exact c.isLt
  | ⟨1, _⟩ => exact Nat.le_succ_of_le j.isLt
  | ⟨2, _⟩ => exact le_refl 128

theorem window_inb (c : Fin 4) (j : Fin 31) : ∀ a, (![c.val, 0, j.val, 0] : Fin 4 → ℕ) a + S1x32x8x128.size a ≤ S4x32x40x128.size a := by
  intro a
  match a with
  | ⟨0, _⟩ => exact c.isLt
  | ⟨1, _⟩ => exact le_refl 32
  | ⟨2, _⟩ =>
    show j.val + 8 ≤ 40
    omega
  | ⟨3, _⟩ => exact le_refl 128

section Slabs

variable (U : Vec Ideal S4x32x40x128 .f32) (W : Vec Ideal S4x32x128 .f32)

/-- Tap `j` of slab `c`. -/
def tapOf (c : Fin 4) (j : Fin 31) : FVec Ideal S32x8x128 .f32 :=
  tap (View.ld W (Rect.unit (s := S4x32x128) ![c.val, j.val, 0] S1x1x128.size (weights_inb c j)))
    (View.ld U (Rect.unit (s := S4x32x40x128) ![c.val, 0, j.val, 0] S1x32x8x128.size (window_inb c j)))

/-- Slab `c` of the convolution. -/
def slab (c : Fin 4) : FVec Ideal S256x128 .f32 := shapeCast S256x128 (added 31 (tapOf U W c)) shapeCasts_S32x8x128_S256x128

/-- The convolution with its biases. -/
def conv (B : Vec Ideal S1x512 .f32) : FVec Ideal S256x512 .f32 :=
  addf (concatenate S256x512 1 [⟨S256x128, slab U W 0⟩, ⟨S256x128, slab U W 1⟩, ⟨S256x128, slab U W 2⟩, ⟨S256x128, slab U W 3⟩]
    concatenates_S256x128_S256x128_S256x128_S256x128_S256x512_d1)
    (broadcastTo S256x512 (shapeCast S1x512 B shapeCasts_S1x512_S1x512) broadcasts_S1x512_S256x512)

theorem tapOf_apply (c : Fin 4) (j : Fin 31) (s : Fin 32) (p : Fin 8) (l : Fin 128) :
    tapOf U W c j (ix3 s p l) = W (ix3 c (⟨j.val, by omega⟩ : Fin 32) l) * U (ix4 c s (⟨j.val + p.val, by omega⟩ : Fin 40) l) := by
  unfold tapOf
  rw [tap_apply]
  refine congrArg₂ (· * ·) ?_ ?_
  · exact View.ld_unit_apply_of W _ _ _ _ (ix3 c (⟨j.val, by omega⟩ : Fin 32) l) fun a => match a with
      | ⟨0, _⟩ => rfl
      | ⟨1, _⟩ => rfl
      | ⟨2, _⟩ => (Nat.zero_add _).symm
  · exact View.ld_unit_apply_of U _ _ _ _ (ix4 c s (⟨j.val + p.val, by omega⟩ : Fin 40) l) fun a => match a with
      | ⟨0, _⟩ => rfl
      | ⟨1, _⟩ => (Nat.zero_add _).symm
      | ⟨2, _⟩ => rfl
      | ⟨3, _⟩ => (Nat.zero_add _).symm

theorem slab_apply (c : Fin 4) (r : Fin 256) (l : Fin 128) :
    slab U W c (ix2 r l) = ∑ j : Fin 31, W (ix3 c (⟨j.val, by omega⟩ : Fin 32) l)
      * U (ix4 c (sequence r) (⟨j.val + (place r).val, by omega⟩ : Fin 40) l) := by
  unfold slab
  rw [shapeCast_apply (s := S32x8x128) (t := S256x128) _ _ _ (ix3 (sequence r) (place r) l) (by
    rw [Shape.rowMajor_val_three, Shape.rowMajor_val_two]
    show (r.val / 8 * 8 + r.val % 8) * 128 + l.val = r.val * 128 + l.val
    omega), added_apply]
  exact Finset.sum_congr rfl fun j _ => tapOf_apply U W c j (sequence r) (place r) l

theorem conv_apply (B : Vec Ideal S1x512 .f32) (r : Fin 256) (ch : Fin 512) :
    conv U W B (ix2 r ch) = (∑ j : Fin 31, W (ix3 (slabOf ch) (⟨j.val, by omega⟩ : Fin 32) (laneOf ch))
      * U (ix4 (slabOf ch) (sequence r) (⟨j.val + (place r).val, by omega⟩ : Fin 40) (laneOf ch))) + B (ix2 (0 : Fin 1) ch) := by
  unfold conv
  rw [addf_apply, shapeCast_self, broadcastTo_1b_ab_apply, ← slab_apply]
  refine congrArg (· + _) ?_
  refine concatenate_ofFn_apply (t := S256x512) (s₁ := S256x128) 1 (slab U W) concatenates_S256x128_S256x128_S256x128_S256x128_S256x512_d1 rfl 128 rfl
    (ix2 r ch) (slabOf ch) rfl (ix2 r (laneOf ch)) rfl fun b hb => ?_
  match b with
  | ⟨0, _⟩ => rfl
  | ⟨1, _⟩ => exact absurd rfl hb

end Slabs

/-! ## The normalization -/

/-- A row's sum. -/
theorem sum_apply (x : FVec Ideal S256x512 .f32) (r : Fin 256) :
    shapeCast S256x1 (multiReduction .add [1] S256 x 0x00000000#32 reduces_S256x512_S256 (.inl rfl) rfl) shapeCasts_S256_S256x1 (ix2 r (0 : Fin 1))
      = ∑ j : Fin 512, x (ix2 r j) := by
  rw [shapeCast_apply (s := S256) (t := S256x1) _ _ _ (ix1 r) (by
    rw [Shape.rowMajor_val_one, Shape.rowMajor_val_two]
    show r.val = r.val * 1 + 0
    omega)]
  refine (Ideal.multiReduction_add_single (s := S256x512) (t := S256) (a := 1) x _ reduces_S256x512_S256 _ _ (ix1 r)).trans ?_
  exact Finset.sum_congr rfl fun j _ => congrArg x (funext fun a => match a with
    | ⟨0, _⟩ => rfl
    | ⟨1, _⟩ => rfl)

theorem column_apply (v : FVec Ideal S256x1 .f32) (r : Fin 256) (k : Fin 512) :
    broadcastTo S256x512 v broadcasts_S256x1_S256x512 (ix2 r k) = v (ix2 r (0 : Fin 1)) :=
  broadcastTo_apply (s := S256x1) (t := S256x512) _ _ _ (ix2 r (0 : Fin 1)) fun a => match a with
    | ⟨0, _⟩ => rfl
    | ⟨1, _⟩ => rfl

/-- Rows less their means. -/
def centre (y : FVec Ideal S256x512 .f32) : FVec Ideal S256x512 .f32 :=
  subf y (broadcastTo S256x512 (divf (shapeCast S256x1 (multiReduction .add [1] S256 y 0x00000000#32 reduces_S256x512_S256 (.inl rfl) rfl)
    shapeCasts_S256_S256x1) (broadcast S256x1 (Scalar.ofBits .f32 0x44000000#32))) broadcasts_S256x1_S256x512)

theorem centre_apply (y : FVec Ideal S256x512 .f32) (r : Fin 256) (k : Fin 512) : centre y (ix2 r k) = centred (fun j => y (ix2 r j)) k := by
  unfold centre centred
  rw [subf_apply, column_apply, ← sum_apply y r]
  rfl

/-- Centred rows divided by their spread, with scales. -/
def scaled (y : FVec Ideal S256x512 .f32) (g : Vec Ideal S1x512 .f32) : FVec Ideal S256x512 .f32 :=
  mulf (mulf (centre y) (broadcastTo S256x512 (rsqrt (addf (divf (shapeCast S256x1 (multiReduction .add [1] S256 (mulf (centre y) (centre y)) 0x00000000#32
    reduces_S256x512_S256 (.inl rfl) rfl) shapeCasts_S256_S256x1) (broadcast S256x1 (Scalar.ofBits .f32 0x44000000#32)))
    (broadcast S256x1 (Scalar.ofBits .f32 0x358637BD#32))) : FVec Ideal S256x1 .f32) broadcasts_S256x1_S256x512))
    (broadcastTo S256x512 (shapeCast S1x512 g shapeCasts_S1x512_S1x512) broadcasts_S1x512_S256x512)

theorem scaled_apply (y : FVec Ideal S256x512 .f32) (g : Vec Ideal S1x512 .f32) (b : Fin 512 → EReal) (r : Fin 256) (k : Fin 512) :
    scaled y g (ix2 r k) + b k = layered (fun j => y (ix2 r j)) (fun j => g (ix2 (0 : Fin 1) j)) b k := by
  unfold scaled layered
  rw [mulf_apply, mulf_apply, shapeCast_self, column_apply, broadcastTo_1b_ab_apply, centre_apply]
  have e : (∑ j, centred (fun j => y (ix2 r j)) j * centred (fun j => y (ix2 r j)) j)
      = shapeCast S256x1 (multiReduction .add [1] S256 (mulf (centre y) (centre y)) 0x00000000#32 reduces_S256x512_S256 (.inl rfl) rfl)
        shapeCasts_S256_S256x1 (ix2 r (0 : Fin 1)) := by
    rw [sum_apply]
    refine Finset.sum_congr rfl fun j _ => ?_
    rw [mulf_apply, centre_apply]
  rw [e]
  rfl

/-- The normalized convolution through `z · sigmoid z`, from its scaled rows. -/
theorem silu_apply (z : FVec Ideal S256x512 .f32) (i : S256x512.Idx) :
    mulf z (divf (broadcast S256x512 (Scalar.ofBits .f32 0x3F800000#32)) (addf (broadcast S256x512 (Scalar.ofBits .f32 0x3F800000#32))
      (exp (subf (broadcast S256x512 (Scalar.ofBits .f32 0x00000000#32)) z)))) i = silu (z i) := by
  have e : mulf z (divf (broadcast S256x512 (Scalar.ofBits .f32 0x3F800000#32)) (addf (broadcast S256x512 (Scalar.ofBits .f32 0x3F800000#32))
      (exp (subf (broadcast S256x512 (Scalar.ofBits .f32 0x00000000#32)) z)))) i
      = z i * Ideal.div (word 0x3F800000#32) (word 0x3F800000#32 + Ideal.exp (word 0x00000000#32 - z i)) := rfl
  rw [e, show word 0x00000000#32 = 0 from Ideal.ofBits_zero_f32, zero_sub]
  rfl

/-! ## The whole block -/

/-- The convolution's branch before its weights. -/
def branch (y : FVec Ideal S256x512 .f32) (b : Vec Ideal S1x512 .f32) : FVec Ideal S256x512 .f32 :=
  mulf (addf y (broadcastTo S256x512 (shapeCast S1x512 b shapeCasts_S1x512_S1x512) broadcasts_S1x512_S256x512))
    (divf (broadcast S256x512 (Scalar.ofBits .f32 0x3F800000#32)) (addf (broadcast S256x512 (Scalar.ofBits .f32 0x3F800000#32))
      (exp (subf (broadcast S256x512 (Scalar.ofBits .f32 0x00000000#32))
        (addf y (broadcastTo S256x512 (shapeCast S1x512 b shapeCasts_S1x512_S1x512) broadcasts_S1x512_S256x512))))))

theorem branch_apply (y : FVec Ideal S256x512 .f32) (g b : Vec Ideal S1x512 .f32) (r : Fin 256) (k : Fin 512) :
    branch (scaled y g) b (ix2 r k)
      = silu (layered (fun j => y (ix2 r j)) (fun j => g (ix2 (0 : Fin 1) j)) (fun j => b (ix2 (0 : Fin 1) j)) k) := by
  unfold branch
  rw [silu_apply, addf_apply, shapeCast_self, broadcastTo_1b_ab_apply]
  exact congrArg silu (scaled_apply y g (fun j => b (ix2 (0 : Fin 1) j)) r k)

/-- The two branches with their gates. -/
def gated (h : FVec Ideal S256x512 .f32) (wb : Vec Ideal S512x1024 .bf16) (bp : Vec Ideal S1x1024 .f32) (o : Vec Ideal S256x512 .bf16)
    (wa : Vec Ideal S512x1024 .bf16) (ga gb : Vec Ideal S256x1024 .bf16) : FVec Ideal S256x1024 .f32 :=
  addf (mulf (extf .f32 ga bitsLt_bf16_f32)
      (FloatOps.matmul (φ₁ := .bf16) (φ₂ := .bf16) (DotDims.plain 256 512 1024) none o (shapeCast S512x1024 wa shapeCasts_S512x1024_S512x1024 : FVec Ideal S512x1024 .bf16)
        (constant S256x1024 .f32 0x00000000#32)))
    (mulf (extf .f32 gb bitsLt_bf16_f32)
      (addf (FloatOps.matmul (φ₁ := .bf16) (φ₂ := .bf16) (DotDims.plain 256 512 1024) none (truncf .bf16 h bitsLt_bf16_f32 : FVec Ideal S256x512 .bf16)
          (shapeCast S512x1024 wb shapeCasts_S512x1024_S512x1024 : FVec Ideal S512x1024 .bf16) (constant S256x1024 .f32 0x00000000#32))
        (broadcastTo S256x1024 (shapeCast S1x1024 bp shapeCasts_S1x1024_S1x1024) broadcasts_S1x1024_S256x1024)))

theorem gated_apply (h : FVec Ideal S256x512 .f32) (wb : Vec Ideal S512x1024 .bf16) (bp : Vec Ideal S1x1024 .f32) (o : Vec Ideal S256x512 .bf16)
    (wa : Vec Ideal S512x1024 .bf16) (ga gb : Vec Ideal S256x1024 .bf16) (r : Fin 256) (k : Fin 1024) :
    gated h wb bp o wa ga gb (ix2 r k) = mixed (fun j => o (ix2 r j)) (fun j => h (ix2 r j)) (fun j => wa (ix2 j k)) (fun j => wb (ix2 j k))
      (bp (ix2 (0 : Fin 1) k)) (ga (ix2 r k)) (gb (ix2 r k)) := by
  unfold gated mixed
  rw [addf_apply, mulf_apply, mulf_apply, addf_apply, shapeCast_self, shapeCast_self, shapeCast_self, product_block, product_block, broadcastTo_1b_ab_apply]
  rfl

/-- The block in its stages. -/
theorem staged (x0 : Vec Ideal S256x1024 .f32) (x1 : Vec Ideal S256x512 .bf16) (x2 : Vec Ideal S4x32x40x128 .f32) (x3 x4 : Vec Ideal S256x1024 .bf16)
    (x5 : Vec Ideal S1x40x1024 .f32) (x6 : Vec Ideal S4x32x128 .f32) (x7 x8 x9 : Vec Ideal S1x512 .f32) (x10 x11 : Vec Ideal S512x1024 .bf16)
    (x12 : Vec Ideal S1x1024 .f32) (x13 : Vec Ideal S1024x1024 .bf16) :
    out0_14 x0 x1 x2 x3 x4 x5 x6 x7 x8 x9 x10 x11 x12 x13
      = k0_pay1 x0 (k0_pay68 (k0_pay66 (View.ld x5 r0_248)) (scaled (conv x2 x6 x7) x8) x9 x11 x12 x1 x10 x3 x4 x13) := by
  unfold out0_14
  frame_out
  rfl

/-- The block, entry by entry. -/
theorem block_apply (x0 : Vec Ideal S256x1024 .f32) (x1 : Vec Ideal S256x512 .bf16) (x2 : Vec Ideal S4x32x40x128 .f32) (x3 x4 : Vec Ideal S256x1024 .bf16)
    (x5 : Vec Ideal S1x40x1024 .f32) (x6 : Vec Ideal S4x32x128 .f32) (x7 x8 x9 : Vec Ideal S1x512 .f32) (x10 x11 : Vec Ideal S512x1024 .bf16)
    (x12 : Vec Ideal S1x1024 .f32) (x13 : Vec Ideal S1024x1024 .bf16) (r : Fin 256) (d : Fin 1024) :
    out0_14 x0 x1 x2 x3 x4 x5 x6 x7 x8 x9 x10 x11 x12 x13 (ix2 r d)
      = x0 (ix2 r d) + x5 (ix3 (0 : Fin 1) (sampleRow (sequence r)) d)
        * ∑ k, mixed (fun j => x1 (ix2 r j))
          (fun ch => silu (layered (fun j => conv x2 x6 x7 (ix2 r j)) (fun j => x8 (ix2 (0 : Fin 1) j)) (fun j => x9 (ix2 (0 : Fin 1) j)) ch))
          (fun j => x10 (ix2 j k)) (fun j => x11 (ix2 j k)) (x12 (ix2 (0 : Fin 1) k)) (x3 (ix2 r k)) (x4 (ix2 r k)) * x13 (ix2 k d) := by
  rw [staged]
  have e : k0_pay1 x0 (k0_pay68 (k0_pay66 (View.ld x5 r0_248)) (scaled (conv x2 x6 x7) x8) x9 x11 x12 x1 x10 x3 x4 x13) (ix2 r d)
      = x0 (ix2 r d) + k0_pay66 (View.ld x5 r0_248) (ix2 r d)
        * FloatOps.matmul (DotDims.plain 256 1024 1024) none
          (truncf .bf16 (gated (branch (scaled (conv x2 x6 x7) x8) x9) x11 x12 x1 x10 x3 x4) bitsLt_bf16_f32 : FVec Ideal S256x1024 .bf16)
          (shapeCast S1024x1024 x13 shapeCasts_S1024x1024_S1024x1024 : FVec Ideal S1024x1024 .bf16) (constant S256x1024 .f32 0x00000000#32) (ix2 r d) := rfl
  rw [e, shapeCast_self, product_block]
  refine congrArg (_ + ·) (congrArg₂ (· * ·) ?_ (Finset.sum_congr rfl fun k _ => congrArg (· * _) ?_))
  · refine (modRows_apply (View.ld x5 r0_248) shapeCasts_S1x32x1024_S32x1024 shapeCasts_S32x1024_S32x1x1024 shapeCasts_S32x1x1024_S32x1x1024
      broadcasts_S32x1x1024_S32x8x1024 shapeCasts_S32x8x1024_S256x1024 r d).trans ?_
    exact View.ld_unit_apply_of x5 _ _ _ _ (ix3 (0 : Fin 1) (sampleRow (sequence r)) d) fun a => match a with
      | ⟨0, _⟩ => rfl
      | ⟨1, _⟩ => (Nat.zero_add _).symm
      | ⟨2, _⟩ => (Nat.zero_add _).symm
  · refine (gated_apply _ x11 x12 x1 x10 x3 x4 r k).trans ?_
    exact congrArg (fun f => mixed _ f _ _ _ _ _) (funext fun ch => branch_apply (conv x2 x6 x7) x8 x9 r ch)

end Cert.MergeSampleIdeal.Value
-- ==== Proof.MergeSampleIdeal.Result.lean ====
/-
  What the host prepares for the sample group's gated merge, and the program's result, entry by entry.
-/
module

public import proofs.«01_k».proof.Proof.MergeSampleIdeal.Block
public import Idealize.ShloMosaic.Lib.KernelVsHost
public import Idealize.ShloMosaic.Lib.Pipeline.Covers
public import Idealize.ShloMosaic.Lib.Pipeline.ReadBack
public import Idealize.ShloMosaic.Lib.StableHlo.Run

@[expose] public section

noncomputable section

namespace Cert.MergeSampleIdeal.Value

open Cert.MergeSampleIdeal Cert.MergeSampleIdeal.Gen Cert.Projection Cert.Merge Idealize.ShloMosaic Idealize.ShloMosaic.TcCoe Idealize.SL.Sem
open Cert.FeedForward (States sequence sampleRow)
open Cert.ProjectionSample (place)
open Idealize.ShloMosaic.ValueIdx
open Idealize.ShloMosaic.Pipeline (Dat Window)
open scoped BigOperators

variable (m : (ℓ : Loc nD τ sig) → Buf (Elt Ideal) ℓ)

/-- The arguments' contents at launch. -/
abbrev argX (c : Dev nD) : States := m ((c : Thread nD τ).loc main_arg0)
abbrev argO (c : Dev nD) : Wide := m ((c : Thread nD τ).loc main_arg1)
abbrev argS (c : Dev nD) : History := m ((c : Thread nD τ).loc main_arg2)
abbrev argU (c : Dev nD) : Slabs := m ((c : Thread nD τ).loc main_arg3)
abbrev argGA (c : Dev nD) : States := m ((c : Thread nD τ).loc main_arg4)
abbrev argGB (c : Dev nD) : States := m ((c : Thread nD τ).loc main_arg5)
abbrev argM (c : Dev nD) : Modulation := m ((c : Thread nD τ).loc main_arg6)
abbrev argDW (c : Dev nD) : Taps := m ((c : Thread nD τ).loc main_arg7)
abbrev argDB (c : Dev nD) : Channels := m ((c : Thread nD τ).loc main_arg8)
abbrev argLG (c : Dev nD) : Channels := m ((c : Thread nD τ).loc main_arg9)
abbrev argLB (c : Dev nD) : Channels := m ((c : Thread nD τ).loc main_arg10)
abbrev argWA (c : Dev nD) : WeightsIn := m ((c : Thread nD τ).loc main_arg11)
abbrev argWB (c : Dev nD) : WeightsIn := m ((c : Thread nD τ).loc main_arg12)
abbrev argBP (c : Dev nD) : Scales := m ((c : Thread nD τ).loc main_arg13)
abbrev argWO (c : Dev nD) : WeightsOut := m ((c : Thread nD τ).loc main_arg14)

/-! ## What the host prepares -/

/-- The taps in slabs of 128 channels, with one more that is zero. -/
def laidTaps (w : Taps) : S4x32x128.Idx → EReal :=
  transpose S4x32x128 [1, 0, 2] (shapeCast S32x4x128 (pad S32x512 ![0, 0] ![1, 0] ![0, 0] (shapeCast S31x512 w shapeCasts_S1x31x512_S31x512)
    (sitofp .f32 (constantI S_ 32 0#32) : FVec Ideal S_ .f32) pads_S31x512_S32x512_010_000 h_S_) shapeCasts_S32x512_S32x4x128)
    transposes_S32x4x128_S4x32x128_1_0_2

/-- The channels' lines in slabs, each followed by two zeros. -/
def laidLines (st : History) (u : Slabs) : S4x32x40x128.Idx → EReal :=
  concatenate S4x32x40x128 2 [⟨S4x32x30x128, transpose S4x32x30x128 [2, 0, 1, 3] (shapeCast S32x30x4x128 (shapeCast S32x30x512 st
      shapeCasts_S1x32x30x512_S32x30x512) shapeCasts_S32x30x512_S32x30x4x128) transposes_S32x30x4x128_S4x32x30x128_2_0_1_3⟩,
    ⟨S4x32x8x128, shapeCast S4x32x8x128 u shapeCasts_S4x256x128_S4x32x8x128⟩,
    ⟨S4x32x2x128, broadcastInDim S4x32x2x128 ![] bcast_S_S4x32x2x128 (constant S_ .f32 0x00000000#32 : FVec Ideal S_ .f32)⟩]
    concatenates_S4x32x30x128_S4x32x8x128_S4x32x2x128_S4x32x40x128_d2

theorem laidTaps_apply (w : Taps) (j : Fin 31) (ch : Fin 512) :
    laidTaps w (ix3 (slabOf ch) (⟨j.val, by omega⟩ : Fin 32) (laneOf ch)) = w (ix3 (0 : Fin 1) j ch) := by
  unfold laidTaps
  rw [transpose_apply (s := S32x4x128) (t := S4x32x128) _ _ _ _ (ix3 (⟨j.val, by omega⟩ : Fin 32) (slabOf ch) (laneOf ch)) fun b => match b with
    | ⟨0, _⟩ => rfl
    | ⟨1, _⟩ => rfl
    | ⟨2, _⟩ => rfl]
  rw [shapeCast_apply (s := S32x512) (t := S32x4x128) _ _ _ (ix2 (⟨j.val, by omega⟩ : Fin 32) ch) (by
    rw [Shape.rowMajor_val_three, Shape.rowMajor_val_two]
    show j.val * 512 + ch.val = (j.val * 4 + ch.val / 128) * 128 + ch.val % 128
    omega)]
  rw [pad_apply_of_inside (s := S31x512) (t := S32x512) _ _ _ _ _ _ _ _ (ix2 j ch) fun a => match a with
    | ⟨0, _⟩ => (by show j.val = 0 + j.val * 1; omega)
    | ⟨1, _⟩ => (by show ch.val = 0 + ch.val * 1; omega)]
  exact shapeCast_1ab_ab_apply w _ j ch

theorem laidLines_apply (st : History) (u : Slabs) (s : Fin 32) (ch : Fin 512) (q : Fin 38) :
    laidLines st u (ix4 (slabOf ch) s (⟨q.val, by omega⟩ : Fin 40) (laneOf ch)) = timeline st u s ch q := by
  have hq := q.isLt
  unfold laidLines timeline
  by_cases h : q.val < 30
  · rw [dif_pos h]
    refine (concatenate_apply_piece (t := S4x32x40x128) 2 _ _ _ 0 (by simp) S4x32x30x128 _ rfl rfl 0 rfl
      (ix4 (slabOf ch) s (⟨q.val, h⟩ : Fin 30) (laneOf ch)) (fun b hb => ?_) (Nat.zero_add _)).trans ?_
    · match b with
      | ⟨0, _⟩ => rfl
      | ⟨1, _⟩ => rfl
      | ⟨2, _⟩ => exact absurd rfl hb
      | ⟨3, _⟩ => rfl
    · rw [transpose_apply (s := S32x30x4x128) (t := S4x32x30x128) _ _ _ _ (ix4 s (⟨q.val, h⟩ : Fin 30) (slabOf ch) (laneOf ch)) fun b => match b with
        | ⟨0, _⟩ => rfl
        | ⟨1, _⟩ => rfl
        | ⟨2, _⟩ => rfl
        | ⟨3, _⟩ => rfl]
      rw [shapeCast_apply (s := S32x30x512) (t := S32x30x4x128) _ _ _ (ix3 s (⟨q.val, h⟩ : Fin 30) ch) (by
        rw [Shape.rowMajor_val_three, Shape.rowMajor_val_four]
        show (s.val * 30 + q.val) * 512 + ch.val = ((s.val * 30 + q.val) * 4 + ch.val / 128) * 128 + ch.val % 128
        omega)]
      exact shapeCast_1abc_abc_apply st _ s (⟨q.val, h⟩ : Fin 30) ch
  · rw [dif_neg h]
    refine (concatenate_apply_piece (t := S4x32x40x128) 2 _ _ _ 1 (by simp) S4x32x8x128 _ rfl rfl 30 rfl
      (ix4 (slabOf ch) s (⟨q.val - 30, by omega⟩ : Fin 8) (laneOf ch)) (fun b hb => ?_) ?_).trans ?_
    · match b with
      | ⟨0, _⟩ => rfl
      | ⟨1, _⟩ => rfl
      | ⟨2, _⟩ => exact absurd rfl hb
      | ⟨3, _⟩ => rfl
    · show 30 + (q.val - 30) = q.val
      omega
    · refine shapeCast_apply (s := S4x256x128) (t := S4x32x8x128) _ _ _ (ix3 (slabOf ch) (⟨s.val * 8 + (q.val - 30), by omega⟩ : Fin 256) (laneOf ch)) ?_
      rw [Shape.rowMajor_val_three, Shape.rowMajor_val_four]
      show (ch.val / 128 * 256 + (s.val * 8 + (q.val - 30))) * 128 + ch.val % 128
        = ((ch.val / 128 * 32 + s.val) * 8 + (q.val - 30)) * 128 + ch.val % 128
      omega

/-- A row of channels as the host hands it on. -/
def laidRow (v : Channels) : S1x512.Idx → EReal :=
  broadcastInDim S1x512 ![1] bcast_S512_S1x512_1 (shapeCast S512 v shapeCasts_S1x512_S512)

theorem laidRow_apply (v : Channels) (k : Fin 512) : laidRow v (ix2 (0 : Fin 1) k) = v (ix2 (0 : Fin 1) k) := by
  unfold laidRow
  rw [broadcastInDim_apply (s := S512) (t := S1x512) _ _ _ _ (ix1 k) fun a => match a with | ⟨0, _⟩ => rfl]
  exact shapeCast_1a_a_apply (a := 512) v _ k

theorem V_taps (c : Dev nD) : V m c main_v3 = laidTaps (argDW m c) := by
  show StableHlo.after (List.flatten [hostOps0, hostOps0_1, hostOps0_2]) _ _ = _
  simp only [hostOps0, hostOps0_1, hostOps0_2, List.flatten_cons, List.flatten_nil, List.append_nil, List.cons_append, List.nil_append]
  after_results_simp <;> rfl

theorem V_lines (c : Dev nD) : V m c main_v23 = laidLines (argS m c) (argU m c) := by
  show StableHlo.after (List.flatten [hostOps0, hostOps0_1, hostOps0_2]) _ _ = _
  simp only [hostOps0, hostOps0_1, hostOps0_2, List.flatten_cons, List.flatten_nil, List.append_nil, List.cons_append, List.nil_append]
  after_results_simp <;> rfl

theorem V_rows (c : Dev nD) : V m c main_v5 = laidRow (argDB m c) ∧ V m c main_v7 = laidRow (argLG m c) ∧ V m c main_v9 = laidRow (argLB m c) := by
  refine ⟨?_, ?_, ?_⟩
  all_goals
    show StableHlo.after (List.flatten [hostOps0, hostOps0_1, hostOps0_2]) _ _ = _
    simp only [hostOps0, hostOps0_1, hostOps0_2, List.flatten_cons, List.flatten_nil, List.append_nil, List.cons_append, List.nil_append]
    after_results_simp <;> rfl

theorem V_weights (c : Dev nD) : V m c main_v11 = (shapeCast S512x1024 (argWA m c) shapeCasts_S1x512x1024_S512x1024 : FVec Ideal S512x1024 .f32)
    ∧ V m c main_v13 = (shapeCast S512x1024 (argWB m c) shapeCasts_S1x512x1024_S512x1024 : FVec Ideal S512x1024 .f32)
    ∧ V m c main_v17 = (shapeCast S1024x1024 (argWO m c) shapeCasts_S1x1024x1024_S1024x1024 : FVec Ideal S1024x1024 .f32) := by
  refine ⟨?_, ?_, ?_⟩
  all_goals
    show StableHlo.after (List.flatten [hostOps0, hostOps0_1, hostOps0_2]) _ _ = _
    simp only [hostOps0, hostOps0_1, hostOps0_2, List.flatten_cons, List.flatten_nil, List.append_nil, List.cons_append, List.nil_append]
    after_results_simp <;> rfl

theorem V_bias (c : Dev nD) : V m c main_v15 = broadcastInDim S1x1024 ![1] bcast_S1024_S1x1024_1 (shapeCast S1024 (argBP m c) shapeCasts_S1x1024_S1024) := by
  show StableHlo.after (List.flatten [hostOps0, hostOps0_1, hostOps0_2]) _ _ = _
  simp only [hostOps0, hostOps0_1, hostOps0_2, List.flatten_cons, List.flatten_nil, List.append_nil, List.cons_append, List.nil_append]
  after_results_simp <;> rfl

/-! ## The blocks: every window is a whole array, or a part of the modulation -/

theorem row_word (t : Fin cfg0.N) :
    (Scalar.addi (Scalar.muli (BitVec.ofNat 32 (grid0.coords t 0).val) 1#32) (BitVec.ofNat 32 (grid0.coords t 1).val)).toNat = 0 := by
  rw [Nat.lt_one_iff.1 (grid0.coords t 0).isLt, Nat.lt_one_iff.1 (grid0.coords t 1).isLt]
  rfl

/-- An index map of zeros leaves an index where it is. -/
theorem stays {i n k : ℕ} (h : i = 0) : i * n + k = k := by
  rw [h, Nat.zero_mul, Nat.zero_add]

theorem x_apply (c : Dev nD) (t : Fin cfg0.N) (r : Fin 256) (k : Fin 1024) :
    (iblk m c 0 t : Vec Ideal S256x1024 .f32) (ix2 r k) = argX m c (ix2 r k) := by
  show V m c main_arg0 ((win0_0.rect t).emb (ix2 r k)) = _
  rw [V_main_arg0]
  exact congrArg (argX m c) (funext fun a => Fin.ext ((Window.rect_emb_val win0_0 t _ a).trans (match a with
    | ⟨0, _⟩ => stays (row_word t)
    | ⟨1, _⟩ => stays rfl)))

theorem o_apply (c : Dev nD) (t : Fin cfg0.N) (r : Fin 256) (k : Fin 512) :
    (iblk m c 1 t : Vec Ideal S256x512 .bf16) (ix2 r k) = argO m c (ix2 r k) := by
  show V m c main_arg1 ((win0_1.rect t).emb (ix2 r k)) = _
  rw [V_main_arg1]
  exact congrArg (argO m c) (funext fun a => Fin.ext ((Window.rect_emb_val win0_1 t _ a).trans (match a with
    | ⟨0, _⟩ => stays (row_word t)
    | ⟨1, _⟩ => stays rfl)))

theorem lines_apply (c : Dev nD) (t : Fin cfg0.N) (i : S4x32x40x128.Idx) :
    (iblk m c 2 t : Vec Ideal S4x32x40x128 .f32) i = laidLines (argS m c) (argU m c) i := by
  show V m c main_v23 ((win0_2.rect t).emb i) = _
  rw [V_lines]
  exact congrArg (laidLines (argS m c) (argU m c)) (funext fun a => Fin.ext ((Window.rect_emb_val win0_2 t _ a).trans (match a with
    | ⟨0, _⟩ => stays rfl
    | ⟨1, _⟩ => stays rfl
    | ⟨2, _⟩ => stays rfl
    | ⟨3, _⟩ => stays rfl)))

theorem gates_apply (c : Dev nD) (t : Fin cfg0.N) (r : Fin 256) (k : Fin 1024) :
    (iblk m c 3 t : Vec Ideal S256x1024 .bf16) (ix2 r k) = argGA m c (ix2 r k)
      ∧ (iblk m c 4 t : Vec Ideal S256x1024 .bf16) (ix2 r k) = argGB m c (ix2 r k) := by
  constructor
  · show V m c main_arg4 ((win0_3.rect t).emb (ix2 r k)) = _
    rw [V_main_arg4]
    exact congrArg (argGA m c) (funext fun a => Fin.ext ((Window.rect_emb_val win0_3 t _ a).trans (match a with
      | ⟨0, _⟩ => stays (row_word t)
      | ⟨1, _⟩ => stays rfl)))
  · show V m c main_arg5 ((win0_4.rect t).emb (ix2 r k)) = _
    rw [V_main_arg5]
    exact congrArg (argGB m c) (funext fun a => Fin.ext ((Window.rect_emb_val win0_4 t _ a).trans (match a with
      | ⟨0, _⟩ => stays (row_word t)
      | ⟨1, _⟩ => stays rfl)))

/-- The sample group's rows of the third part of the modulation. -/
theorem mod_apply (c : Dev nD) (t : Fin cfg0.N) (s : Fin 40) (j : Fin 1024) :
    (iblk m c 5 t : Vec Ideal S1x40x1024 .f32) (ix3 (0 : Fin 1) s j) = argM m c (ix3 (2 : Fin 6) s j) := by
  show V m c main_arg6 ((win0_5.rect t).emb (ix3 (0 : Fin 1) s j)) = _
  rw [V_main_arg6]
  exact congrArg (argM m c) (funext fun a => Fin.ext ((Window.rect_emb_val win0_5 t _ a).trans (match a with
    | ⟨0, _⟩ => rfl
    | ⟨1, _⟩ => stays rfl
    | ⟨2, _⟩ => stays rfl)))

theorem taps_apply (c : Dev nD) (t : Fin cfg0.N) (i : S4x32x128.Idx) :
    (iblk m c 6 t : Vec Ideal S4x32x128 .f32) i = laidTaps (argDW m c) i := by
  show V m c main_v3 ((win0_6.rect t).emb i) = _
  rw [V_taps]
  exact congrArg (laidTaps (argDW m c)) (funext fun a => Fin.ext ((Window.rect_emb_val win0_6 t _ a).trans (match a with
    | ⟨0, _⟩ => stays rfl
    | ⟨1, _⟩ => stays rfl
    | ⟨2, _⟩ => stays rfl)))

/-- The three rows of channels. -/
theorem rows_apply (c : Dev nD) (t : Fin cfg0.N) (k : Fin 512) :
    (iblk m c 7 t : Vec Ideal S1x512 .f32) (ix2 (0 : Fin 1) k) = argDB m c (ix2 (0 : Fin 1) k)
      ∧ (iblk m c 8 t : Vec Ideal S1x512 .f32) (ix2 (0 : Fin 1) k) = argLG m c (ix2 (0 : Fin 1) k)
      ∧ (iblk m c 9 t : Vec Ideal S1x512 .f32) (ix2 (0 : Fin 1) k) = argLB m c (ix2 (0 : Fin 1) k) := by
  refine ⟨?_, ?_, ?_⟩
  · show V m c main_v5 ((win0_7.rect t).emb (ix2 (0 : Fin 1) k)) = _
    rw [(V_rows m c).1]
    exact (congrArg (laidRow (argDB m c)) (funext fun a => Fin.ext ((Window.rect_emb_val win0_7 t _ a).trans (match a with
      | ⟨0, _⟩ => stays rfl
      | ⟨1, _⟩ => stays rfl)))).trans (laidRow_apply (argDB m c) k)
  · show V m c main_v7 ((win0_8.rect t).emb (ix2 (0 : Fin 1) k)) = _
    rw [(V_rows m c).2.1]
    exact (congrArg (laidRow (argLG m c)) (funext fun a => Fin.ext ((Window.rect_emb_val win0_8 t _ a).trans (match a with
      | ⟨0, _⟩ => stays rfl
      | ⟨1, _⟩ => stays rfl)))).trans (laidRow_apply (argLG m c) k)
  · show V m c main_v9 ((win0_9.rect t).emb (ix2 (0 : Fin 1) k)) = _
    rw [(V_rows m c).2.2]
    exact (congrArg (laidRow (argLB m c)) (funext fun a => Fin.ext ((Window.rect_emb_val win0_9 t _ a).trans (match a with
      | ⟨0, _⟩ => stays rfl
      | ⟨1, _⟩ => stays rfl)))).trans (laidRow_apply (argLB m c) k)

/-- The weights of the two branches. -/
theorem weights_apply (c : Dev nD) (t : Fin cfg0.N) (j : Fin 512) (k : Fin 1024) :
    (iblk m c 10 t : Vec Ideal S512x1024 .bf16) (ix2 j k) = argWA m c (ix3 (0 : Fin 1) j k)
      ∧ (iblk m c 11 t : Vec Ideal S512x1024 .bf16) (ix2 j k) = argWB m c (ix3 (0 : Fin 1) j k) := by
  constructor
  · show V m c main_v11 ((win0_10.rect t).emb (ix2 j k)) = _
    rw [(V_weights m c).1]
    exact (congrArg (shapeCast S512x1024 (argWA m c) shapeCasts_S1x512x1024_S512x1024) (funext fun a => Fin.ext
      ((Window.rect_emb_val win0_10 t _ a).trans (match a with
      | ⟨0, _⟩ => stays rfl
      | ⟨1, _⟩ => stays rfl)))).trans (shapeCast_1ab_ab_apply (argWA m c) _ j k)
  · show V m c main_v13 ((win0_11.rect t).emb (ix2 j k)) = _
    rw [(V_weights m c).2.1]
    exact (congrArg (shapeCast S512x1024 (argWB m c) shapeCasts_S1x512x1024_S512x1024) (funext fun a => Fin.ext
      ((Window.rect_emb_val win0_11 t _ a).trans (match a with
      | ⟨0, _⟩ => stays rfl
      | ⟨1, _⟩ => stays rfl)))).trans (shapeCast_1ab_ab_apply (argWB m c) _ j k)

theorem bias_apply (c : Dev nD) (t : Fin cfg0.N) (k : Fin 1024) :
    (iblk m c 12 t : Vec Ideal S1x1024 .f32) (ix2 (0 : Fin 1) k) = argBP m c (ix2 (0 : Fin 1) k) := by
  show V m c main_v15 ((win0_12.rect t).emb (ix2 (0 : Fin 1) k)) = _
  rw [V_bias]
  rw [broadcastInDim_apply (s := S1024) (t := S1x1024) _ _ _ _ (ix1 k) fun a => match a with
    | ⟨0, _⟩ => by
      refine Eq.trans ?_ (Window.rect_emb_val win0_12 t _ 1).symm
      exact (stays rfl : 0 * 1024 + k.val = k.val).symm]
  exact shapeCast_1a_a_apply (a := 1024) (argBP m c) _ k

theorem last_apply (c : Dev nD) (t : Fin cfg0.N) (j k : Fin 1024) :
    (iblk m c 13 t : Vec Ideal S1024x1024 .bf16) (ix2 j k) = argWO m c (ix3 (0 : Fin 1) j k) := by
  show V m c main_v17 ((win0_13.rect t).emb (ix2 j k)) = _
  rw [(V_weights m c).2.2]
  exact (congrArg (shapeCast S1024x1024 (argWO m c) shapeCasts_S1x1024x1024_S1024x1024) (funext fun a => Fin.ext
    ((Window.rect_emb_val win0_13 t _ a).trans (match a with
    | ⟨0, _⟩ => stays rfl
    | ⟨1, _⟩ => stays rfl)))).trans (shapeCast_1ab_ab_apply (argWO m c) _ j k)

/-! ## The result -/

/-- The result of the arguments at launch. -/
abbrev resultOf (c : Dev nD) : States := results (argX m c) (argO m c) (argS m c) (argU m c) (argGA m c) (argGB m c) (argM m c) (argDW m c) (argDB m c)
  (argLG m c) (argLB m c) (argWA m c) (argWB m c) (argBP m c) (argWO m c)

/-- The convolution of the only point. -/
theorem point_conv (c : Dev nD) (t : Fin cfg0.N) (r : Fin 256) (ch : Fin 512) :
    conv (iblk m c 2 t) (iblk m c 6 t) (iblk m c 7 t) (ix2 r ch)
      = convolved (argS m c) (argU m c) (argDW m c) (argDB m c) (sequence r) (place r) ch := by
  refine (conv_apply _ _ _ r ch).trans ?_
  refine congrArg₂ (· + ·) (Finset.sum_congr rfl fun j _ => congrArg₂ (· * ·) ?_ ?_) (rows_apply m c t ch).1
  · exact (taps_apply m c t _).trans (laidTaps_apply (argDW m c) j ch)
  · exact (lines_apply m c t _).trans (laidLines_apply (argS m c) (argU m c) (sequence r) ch (tapAt j (place r)))

/-- The block that the only point leaves. -/
theorem left_block (c : Dev nD) (t : Fin cfg0.N) (r : Fin 256) (d : Fin 1024) :
    ((dats m 0 c).after 14 t : Vec Ideal S256x1024 .f32) (ix2 r d) = resultOf m c (ix2 r d) := by
  rw [after0_14]
  refine (block_apply _ _ _ _ _ _ _ _ _ _ _ _ _ _ r d).trans ?_
  refine congrArg₂ (· + ·) (x_apply m c t r d) (congrArg₂ (· * ·) (mod_apply m c t _ d) (Finset.sum_congr rfl fun k _ =>
    congrArg₂ (· * ·) ?_ (last_apply m c t k d)))
  have h1 : (fun j => (iblk m c 1 t : Vec Ideal S256x512 .bf16) (ix2 r j)) = fun j => argO m c (ix2 r j) := funext fun j => o_apply m c t r j
  have h2 : (fun j => conv (iblk m c 2 t) (iblk m c 6 t) (iblk m c 7 t) (ix2 r j))
      = convolved (argS m c) (argU m c) (argDW m c) (argDB m c) (sequence r) (place r) := funext fun j => point_conv m c t r j
  have h3 : (fun j => (iblk m c 8 t : Vec Ideal S1x512 .f32) (ix2 (0 : Fin 1) j)) = fun j => argLG m c (ix2 (0 : Fin 1) j) :=
    funext fun j => (rows_apply m c t j).2.1
  have h4 : (fun j => (iblk m c 9 t : Vec Ideal S1x512 .f32) (ix2 (0 : Fin 1) j)) = fun j => argLB m c (ix2 (0 : Fin 1) j) :=
    funext fun j => (rows_apply m c t j).2.2
  have h5 : (fun j => (iblk m c 10 t : Vec Ideal S512x1024 .bf16) (ix2 j k)) = fun j => argWA m c (ix3 (0 : Fin 1) j k) :=
    funext fun j => (weights_apply m c t j k).1
  have h6 : (fun j => (iblk m c 11 t : Vec Ideal S512x1024 .bf16) (ix2 j k)) = fun j => argWB m c (ix3 (0 : Fin 1) j k) :=
    funext fun j => (weights_apply m c t j k).2
  have hb := congr (congr (congrArg layered h2) h3) h4
  have ha := congrArg (fun (f : Fin 512 → EReal) ch => silu (f ch)) hb
  exact congr (congr (congr (congr (congr (congr (congrArg mixed h1) ha) h5) h6) (bias_apply m c t k)) (gates_apply m c t r k).1) (gates_apply m c t r k).2

/-- The array that the output window ends with. -/
theorem array (c : Dev nD) : ((dats m 0 c).arrAt 14 cfg0.N : S256x1024.Idx → EReal) = resultOf m c := by
  funext i
  obtain ⟨r, k, rfl⟩ : ∃ (r : Fin 256) (k : Fin 1024), i = ix2 r k := ⟨i 0, i 1, eq_ix2 i⟩
  let t : Fin cfg0.N := ⟨0, by decide⟩
  have hb : ((dats m 0 c).arrAt 14 cfg0.N : S256x1024.Idx → EReal) ((win0_14.rect t).emb (ix2 r k))
      = ((dats m 0 c).after 14 t : Vec Ideal S256x1024 .f32) (ix2 r k) := congrFun (blocks14 m c t (flush0_14 t)) (ix2 r k)
  rw [left_block] at hb
  have hi : ix2 r k = (win0_14.rect t).emb (ix2 r k) := by
    refine funext fun a => Fin.ext (Eq.trans ?_ (Window.rect_emb_val win0_14 t _ a).symm)
    match a with
    | ⟨0, _⟩ => exact (stays (row_word t) : _ * 256 + r.val = r.val).symm
    | ⟨1, _⟩ => exact (stays rfl : 0 * 1024 + k.val = k.val).symm
  exact (congrArg _ hi).trans hb

/-- Every execution ends with the result at its value and the arguments unchanged. -/
theorem run_results (g : Dev nD → PrngReg) :
    θ_run defs (onTc (τ := τ) (main (F := Ideal))) ⟨m, fun _ => 0, g⟩ fun r => ∀ c : Dev nD,
      r.2.mem ((c.tc : Thread nD τ).loc main_v24) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (array m c), (h c).2⟩) (run_blocks m g)

end Cert.MergeSampleIdeal.Value
-- ==== Proof.MergeIdeal.Result.lean ====
/-
  The gated merge's reference, entry by entry.
-/
module

public import proofs.«01_k».proof.Proof.Gen.MergeIdeal.Run
public import proofs.«01_k».proof.Proof.Merge.Formula
public import Idealize.ShloMosaic.Lib.IdealHost
public import Idealize.ShloMosaic.Lib.ValueLayout
public import Idealize.ShloMosaic.Lib.StackMember
public import Idealize.ShloMosaic.Lib.Pipeline.Value

@[expose] public section

noncomputable section

namespace Cert.MergeIdeal.Value

open Cert.MergeIdeal Cert.MergeIdeal.Gen Cert.Projection Cert.Merge Idealize.ShloMosaic Idealize.ShloMosaic.TcCoe Idealize.ShloMosaic.ValueIdx
open Cert.FeedForward (States sequence sampleRow)
open Cert.ProjectionSample (place)
open scoped BigOperators

/-! ## The convolution -/

/-- The channels' lines. -/
def lines (st : FVec Ideal S1x32x30x512 .f32) (u : FVec Ideal S4x256x128 .f32) : FVec Ideal S32x38x512 .f32 :=
  concatenate S32x38x512 1 [⟨S32x30x512, shapeCast _ st shapeCasts_S1x32x30x512_S32x30x512⟩, ⟨S32x8x512, shapeCast _
    (transpose S32x8x4x128 [1, 2, 0, 3] (shapeCast _ u shapeCasts_S4x256x128_S4x32x8x128) transposes_S4x32x8x128_S32x8x4x128_1_2_0_3)
    shapeCasts_S32x8x4x128_S32x8x512⟩] concatenates_S32x30x512_S32x8x512_S32x38x512_d1

theorem lines_apply (st : FVec Ideal S1x32x30x512 .f32) (u : FVec Ideal S4x256x128 .f32) (s : Fin 32) (ch : Fin 512) (q : Fin 38) :
    lines st u (ix3 s q ch) = timeline st u s ch q := by
  have hq := q.isLt
  unfold lines timeline
  by_cases h : q.val < 30
  · rw [dif_pos h]
    refine (concatenate_pair_apply_left (t := S32x38x512) (s₁ := S32x30x512) (s₂ := S32x8x512) 1 _ _ _ _ rfl
      (ix3 s (⟨q.val, h⟩ : Fin 30) ch) fun b => ?_).trans ?_
    · match b with
      | ⟨0, _⟩ => rfl
      | ⟨1, _⟩ => rfl
      | ⟨2, _⟩ => rfl
    · exact shapeCast_1abc_abc_apply st _ s (⟨q.val, h⟩ : Fin 30) ch
  · rw [dif_neg h]
    refine (concatenate_pair_apply_right (t := S32x38x512) (s₁ := S32x30x512) (s₂ := S32x8x512) 1 _ _ _ _ rfl rfl
      (ix3 s (⟨q.val - 30, by omega⟩ : Fin 8) ch) (fun b hb => ?_) ?_).trans ?_
    · match b with
      | ⟨0, _⟩ => rfl
      | ⟨1, _⟩ => exact absurd rfl hb
      | ⟨2, _⟩ => rfl
    · show q.val - 30 + 30 = q.val
      omega
    · rw [shapeCast_apply (s := S32x8x4x128) (t := S32x8x512) _ _ _ (ix4 s (⟨q.val - 30, by omega⟩ : Fin 8) (slabOf ch) (laneOf ch)) (by
        rw [Shape.rowMajor_val_three, Shape.rowMajor_val_four]
        show ((s.val * 8 + (q.val - 30)) * 4 + ch.val / 128) * 128 + ch.val % 128 = (s.val * 8 + (q.val - 30)) * 512 + ch.val
        omega)]
      rw [transpose_apply (s := S4x32x8x128) (t := S32x8x4x128) _ _ _ _ (ix4 (slabOf ch) s (⟨q.val - 30, by omega⟩ : Fin 8) (laneOf ch)) fun b => match b with
        | ⟨0, _⟩ => rfl
        | ⟨1, _⟩ => rfl
        | ⟨2, _⟩ => rfl
        | ⟨3, _⟩ => rfl]
      refine shapeCast_apply (s := S4x256x128) (t := S4x32x8x128) _ _ _ (ix3 (slabOf ch) (⟨s.val * 8 + (q.val - 30), by omega⟩ : Fin 256) (laneOf ch)) ?_
      rw [Shape.rowMajor_val_three, Shape.rowMajor_val_four]
      show (ch.val / 128 * 256 + (s.val * 8 + (q.val - 30))) * 128 + ch.val % 128
        = ((ch.val / 128 * 32 + s.val) * 8 + (q.val - 30)) * 128 + ch.val % 128
      omega

/-- A value for each channel, everywhere. -/
def everywhere (v : FVec Ideal S512 .f32) : FVec Ideal S32x8x512 .f32 :=
  broadcastInDim S32x8x512 ![0, 1, 2] bcast_S1x1x512_S32x8x512_0_1_2 (broadcastInDim S1x1x512 ![2] bcast_S512_S1x1x512_2 v)

theorem everywhere_apply (v : FVec Ideal S512 .f32) (s : Fin 32) (p : Fin 8) (ch : Fin 512) : everywhere v (ix3 s p ch) = v (ix1 ch) := by
  unfold everywhere
  rw [broadcastInDim_apply (s := S1x1x512) (t := S32x8x512) _ _ _ _ (ix3 (0 : Fin 1) (0 : Fin 1) ch) fun a => match a with
    | ⟨0, _⟩ => rfl
    | ⟨1, _⟩ => rfl
    | ⟨2, _⟩ => rfl]
  exact broadcastInDim_apply (s := S512) (t := S1x1x512) _ _ _ _ (ix1 ch) fun a => match a with | ⟨0, _⟩ => rfl

theorem lines_slices (j : Fin 31) : S32x38x512.Slices ![0, j.val, 0] S32x8x512 := by
  refine ⟨rfl, fun a => ?_⟩
  match a with
  | ⟨0, _⟩ => exact le_refl 32
  | ⟨1, _⟩ =>
    show j.val + 8 ≤ 38
    omega
  | ⟨2, _⟩ => exact le_refl 512

theorem taps_slices (j : Fin 31) : S1x31x512.Slices ![0, j.val, 0] S1x1x512 := by
  refine ⟨rfl, fun a => ?_⟩
  match a with
  | ⟨0, _⟩ => exact le_refl 1
  | ⟨1, _⟩ => exact j.isLt
  | ⟨2, _⟩ => exact le_refl 512

/-- Arrays added one after the other to zero. -/
def added : (n : ℕ) → (Fin n → FVec Ideal S32x8x512 .f32) → FVec Ideal S32x8x512 .f32
  | 0, _ => broadcastInDim S32x8x512 ![] bcast_S_S32x8x512 (constant S_ .f32 0x00000000#32)
  | n + 1, f => addf (added n fun j => f j.castSucc) (f (Fin.last n))

theorem added_apply : ∀ (n : ℕ) (f : Fin n → FVec Ideal S32x8x512 .f32) (i : S32x8x512.Idx), added n f i = ∑ j, f j i
  | 0, _, i => Ideal.ofBits_zero_f32
  | n + 1, f, i => by
    rw [Fin.sum_univ_castSucc, ← added_apply n]
    rfl

section Convolution

variable (st : FVec Ideal S1x32x30x512 .f32) (u : FVec Ideal S4x256x128 .f32) (w : FVec Ideal S1x31x512 .f32) (b : FVec Ideal S1x512 .f32)

/-- One tap. -/
def tapOf (j : Fin 31) : FVec Ideal S32x8x512 .f32 :=
  mulf (extractStridedSlice S32x8x512 ![0, j.val, 0] (lines st u) (lines_slices j))
    (everywhere (shapeCast _ (extractStridedSlice S1x1x512 ![0, j.val, 0] w (taps_slices j)) shapeCasts_S1x1x512_S512))

/-- The convolution with its biases. -/
def conv : FVec Ideal S32x8x512 .f32 := addf (added 31 (tapOf st u w)) (everywhere (shapeCast _ b shapeCasts_S1x512_S512))

theorem tapOf_apply (j : Fin 31) (s : Fin 32) (p : Fin 8) (ch : Fin 512) :
    tapOf st u w j (ix3 s p ch) = w (ix3 (0 : Fin 1) j ch) * timeline st u s ch (tapAt j p) := by
  unfold tapOf
  rw [mulf_apply, everywhere_apply, ← lines_apply, mul_comm]
  refine congrArg₂ (· * ·) ?_ ?_
  · rw [shapeCast_apply (s := S1x1x512) (t := S512) _ _ _ (ix3 (0 : Fin 1) (0 : Fin 1) ch) (by
      rw [Shape.rowMajor_val_three, Shape.rowMajor_val_one]
      show (0 * 1 + 0) * 512 + ch.val = ch.val
      omega)]
    exact extractStridedSlice_apply (s := S1x31x512) (t := S1x1x512) _ _ _ _ _ fun a => match a with
      | ⟨0, _⟩ => rfl
      | ⟨1, _⟩ => rfl
      | ⟨2, _⟩ => (Nat.zero_add _).symm
  · exact extractStridedSlice_apply (s := S32x38x512) (t := S32x8x512) _ _ _ _ _ fun a => match a with
      | ⟨0, _⟩ => (Nat.zero_add _).symm
      | ⟨1, _⟩ => rfl
      | ⟨2, _⟩ => (Nat.zero_add _).symm

theorem conv_apply (s : Fin 32) (p : Fin 8) (ch : Fin 512) : conv st u w b (ix3 s p ch) = convolved st u w b s p ch := by
  unfold conv convolved
  rw [addf_apply, added_apply, everywhere_apply]
  exact congrArg₂ (· + ·) (Finset.sum_congr rfl fun j _ => tapOf_apply st u w j s p ch) (shapeCast_1a_a_apply (a := 512) b _ ch)

end Convolution

/-! ## The normalization -/

theorem reduces_channels : S32x8x512.Reduces [2] S32x8 := by decide

/-- The mean of each position's channels. -/
def mean (x : FVec Ideal S32x8x512 .f32) : FVec Ideal S32x8x1 .f32 :=
  Host.divf (broadcastInDim S32x8x1 ![0, 1] bcast_S32x8_S32x8x1_0_1
    (Host.reduceAdd x (constant S_ .f32 0x00000000#32) reducesTo_S32x8x512_S32x8_d2 h_S_))
    (broadcastInDim S32x8x1 ![] bcast_S_S32x8x1 (constant S_ .f32 0x44000000#32))

theorem mean_apply (x : FVec Ideal S32x8x512 .f32) (s : Fin 32) (p : Fin 8) :
    mean x (ix3 s p (0 : Fin 1)) = Ideal.div (∑ j, x (ix3 s p j)) (word 0x44000000#32) := by
  have e : broadcastInDim S32x8x1 ![0, 1] bcast_S32x8_S32x8x1_0_1
      (Host.reduceAdd x (constant S_ .f32 0x00000000#32) reducesTo_S32x8x512_S32x8_d2 h_S_) (ix3 s p (0 : Fin 1)) = ∑ j, x (ix3 s p j) := by
    rw [broadcastInDim_apply (s := S32x8) (t := S32x8x1) _ _ _ _ (ix2 s p) fun a => match a with
      | ⟨0, _⟩ => rfl
      | ⟨1, _⟩ => rfl]
    rw [hostReduceAdd_apply, Ideal.hostReduceAdd_single (s := S32x8x512) (t := S32x8) _ reduces_channels]
    show Ideal.ofBits .f32 0x00000000#32 + _ = _
    rw [Ideal.ofBits_zero_f32, zero_add]
    exact Finset.sum_congr rfl fun j _ => congrArg x (funext fun a => match a with
      | ⟨0, _⟩ => rfl
      | ⟨1, _⟩ => rfl
      | ⟨2, _⟩ => rfl)
  rw [← e]
  rfl

/-- A value for each position, at every channel. -/
def acrossChannels (v : FVec Ideal S32x8x1 .f32) : FVec Ideal S32x8x512 .f32 :=
  broadcastInDim S32x8x512 ![0, 1, 2] bcast_S32x8x1_S32x8x512_0_1_2 v

theorem acrossChannels_apply (v : FVec Ideal S32x8x1 .f32) (s : Fin 32) (p : Fin 8) (ch : Fin 512) :
    acrossChannels v (ix3 s p ch) = v (ix3 s p (0 : Fin 1)) :=
  broadcastInDim_apply (s := S32x8x1) (t := S32x8x512) _ _ _ _ (ix3 s p (0 : Fin 1)) fun a => match a with
    | ⟨0, _⟩ => rfl
    | ⟨1, _⟩ => rfl
    | ⟨2, _⟩ => rfl

def centre (x : FVec Ideal S32x8x512 .f32) : FVec Ideal S32x8x512 .f32 := subf x (acrossChannels (mean x))

theorem centre_apply (x : FVec Ideal S32x8x512 .f32) (s : Fin 32) (p : Fin 8) (ch : Fin 512) :
    centre x (ix3 s p ch) = centred (fun j => x (ix3 s p j)) ch := by
  unfold centre centred
  rw [subf_apply, acrossChannels_apply, mean_apply]

/-- The normalized channels. -/
def layer (x : FVec Ideal S32x8x512 .f32) (g b : FVec Ideal S1x512 .f32) : FVec Ideal S32x8x512 .f32 :=
  addf (mulf (mulf (centre x) (acrossChannels (Host.rsqrt (addf (mean (mulf (centre x) (centre x)))
    (broadcastInDim S32x8x1 ![] bcast_S_S32x8x1 (constant S_ .f32 0x358637BD#32))))))
    (everywhere (shapeCast _ g shapeCasts_S1x512_S512))) (everywhere (shapeCast _ b shapeCasts_S1x512_S512))

theorem layer_apply (x : FVec Ideal S32x8x512 .f32) (g b : FVec Ideal S1x512 .f32) (s : Fin 32) (p : Fin 8) (ch : Fin 512) :
    layer x g b (ix3 s p ch) = layered (fun j => x (ix3 s p j)) (fun j => g (ix2 (0 : Fin 1) j)) (fun j => b (ix2 (0 : Fin 1) j)) ch := by
  have e : mean (mulf (centre x) (centre x)) (ix3 s p (0 : Fin 1))
      = Ideal.div (∑ j, centred (fun j => x (ix3 s p j)) j * centred (fun j => x (ix3 s p j)) j) (word 0x44000000#32) := by
    rw [mean_apply]
    simp only [mulf_apply, centre_apply]
  unfold layer layered
  rw [addf_apply, mulf_apply, mulf_apply, centre_apply, acrossChannels_apply, everywhere_apply, everywhere_apply, ← e]
  exact congrArg₂ (· + ·) (congrArg (_ * ·) (shapeCast_1a_a_apply (a := 512) g _ ch)) (shapeCast_1a_a_apply (a := 512) b _ ch)

/-- `z · sigmoid z`. -/
def siluOf (z : FVec Ideal S32x8x512 .f32) : FVec Ideal S32x8x512 .f32 :=
  mulf z (Host.divf (broadcastInDim S32x8x512 ![] bcast_S_S32x8x512 (constant S_ .f32 0x3F800000#32))
    (addf (broadcastInDim S32x8x512 ![] bcast_S_S32x8x512 (constant S_ .f32 0x3F800000#32)) (Host.exp (Host.negf z))))

theorem siluOf_apply (z : FVec Ideal S32x8x512 .f32) (i : S32x8x512.Idx) : siluOf z i = silu (z i) := rfl

/-! ## The products -/

/-- Rows against weights with a part in front. -/
theorem rows_product {K : ℕ} (l : FVec Ideal ⟨2, ![256, K]⟩ .f32) (w : FVec Ideal ⟨3, ![1, K, 1024]⟩ .f32)
    (h : (⟨3, ![1, K, 1024]⟩ : Shape).ShapeCasts ⟨2, ![K, 1024]⟩) (n : Fin 256) (k : Fin 1024) :
    Host.dotGeneral (φ₁ := .f32) (φ₂ := .f32) (DotDims.plain 256 K 1024) none l (shapeCast ⟨2, ![K, 1024]⟩ w h) (ix2 n k)
      = ∑ j : Fin K, l (ix2 n j) * w (ix3 (0 : Fin 1) j k) := by
  rw [Idealize.ShloMosaic.StackMember.dotGeneral_plain_apply]
  exact Finset.sum_congr rfl fun j _ => congrArg (_ * ·) (shapeCast_1ab_ab_apply w h j k)

section Entries

variable (x : FVec Ideal S256x1024 .f32) (o : FVec Ideal S256x512 .bf16) (st : FVec Ideal S1x32x30x512 .f32) (u : FVec Ideal S4x256x128 .f32)
  (ga gb : FVec Ideal S256x1024 .bf16) (mo : FVec Ideal S6x40x1024 .f32) (dw : FVec Ideal S1x31x512 .f32) (db lg lb : FVec Ideal S1x512 .f32)
  (wa wb : FVec Ideal S1x512x1024 .f32) (bp : FVec Ideal S1x1024 .f32) (wo : FVec Ideal S1x1024x1024 .f32)

/-- The convolution's branch before its weights. -/
def branch : FVec Ideal S256x512 .f32 :=
  shapeCast _ (siluOf (layer (conv st u dw db) lg lb)) shapeCasts_S32x8x512_S256x512

theorem branch_apply (n : Fin 256) (ch : Fin 512) : branch st u dw db lg lb (ix2 n ch) = active st u dw db lg lb n ch := by
  unfold branch active
  rw [shapeCast_apply (s := S32x8x512) (t := S256x512) _ _ _ (ix3 (sequence n) (place n) ch) (by
    rw [Shape.rowMajor_val_two, Shape.rowMajor_val_three]
    show (n.val / 8 * 8 + n.val % 8) * 512 + ch.val = n.val * 512 + ch.val
    rw [Nat.div_add_mod'])]
  rw [siluOf_apply, layer_apply]
  exact congrArg silu (congrFun (congrArg (layered · _ _) (funext fun j => conv_apply st u dw db (sequence n) (place n) j)) ch)

/-- The merge of the branches. -/
def merge : FVec Ideal S256x1024 .f32 :=
  addf (mulf (extf .f32 ga bitsLt_bf16_f32) (Host.dotGeneral (φ₁ := .f32) (φ₂ := .f32) dot_S256x512_S512x1024_S256x1024_1_0_0_1_n_n none
      (extf .f32 o bitsLt_bf16_f32) (shapeCast _ wa shapeCasts_S1x512x1024_S512x1024)))
    (mulf (extf .f32 gb bitsLt_bf16_f32) (addf (Host.dotGeneral (φ₁ := .f32) (φ₂ := .f32) dot_S256x512_S512x1024_S256x1024_1_0_0_1_n_n none
        (branch st u dw db lg lb) (shapeCast _ wb shapeCasts_S1x512x1024_S512x1024))
      (broadcastInDim S256x1024 ![0, 1] bcast_S1x1024_S256x1024_0_1 (broadcastInDim S1x1024 ![1] bcast_S1024_S1x1024_1
        (shapeCast _ bp shapeCasts_S1x1024_S1024)))))

theorem bias_apply (n : Fin 256) (k : Fin 1024) : broadcastInDim S256x1024 ![0, 1] bcast_S1x1024_S256x1024_0_1 (broadcastInDim S1x1024 ![1]
    bcast_S1024_S1x1024_1 (shapeCast S1024 bp shapeCasts_S1x1024_S1024)) (ix2 n k) = bp (ix2 (0 : Fin 1) k) := by
  rw [broadcastInDim_apply (s := S1x1024) (t := S256x1024) _ _ _ _ (ix2 (0 : Fin 1) k) fun a => match a with
    | ⟨0, _⟩ => rfl
    | ⟨1, _⟩ => rfl]
  rw [broadcastInDim_apply (s := S1024) (t := S1x1024) _ _ _ _ (ix1 k) fun a => match a with | ⟨0, _⟩ => rfl]
  exact shapeCast_1a_a_apply (a := 1024) bp _ k

theorem merge_apply (n : Fin 256) (k : Fin 1024) :
    merge o st u ga gb dw db lg lb wa wb bp (ix2 n k) = mixedAt o st u ga gb dw db lg lb wa wb bp n k := by
  unfold merge mixedAt mixed
  rw [addf_apply, mulf_apply, mulf_apply, addf_apply, bias_apply]
  refine congrArg₂ (· + ·) (congrArg (fun z => ga (ix2 n k) * z) ?_) (congrArg (fun z => gb (ix2 n k) * (z + bp (ix2 (0 : Fin 1) k))) ?_)
  · exact rows_product (extf .f32 o bitsLt_bf16_f32) wa shapeCasts_S1x512x1024_S512x1024 n k
  · refine (rows_product (branch st u dw db lg lb) wb shapeCasts_S1x512x1024_S512x1024 n k).trans ?_
    exact Finset.sum_congr rfl fun j _ => congrArg (· * _) (branch_apply st u dw db lg lb n j)

/-- The rows of the third part of the modulation, each at its sequence's eight rows. -/
def modRows : FVec Ideal S256x1024 .f32 :=
  shapeCast _ (broadcastInDim S32x8x1024 ![0, 1, 2] bcast_S32x1x1024_S32x8x1024_0_1_2 (broadcastInDim S32x1x1024 ![0, 2] bcast_S32x1024_S32x1x1024_0_2
    (shapeCast _ (extractStridedSlice S1x32x1024 ![2, 0, 0] mo slices_S6x40x1024_S1x32x1024_2_0_0) shapeCasts_S1x32x1024_S32x1024)))
    shapeCasts_S32x8x1024_S256x1024

theorem modRows_apply (n : Fin 256) (k : Fin 1024) : modRows mo (ix2 n k) = mo (ix3 (2 : Fin 6) (sampleRow (sequence n)) k) := by
  unfold modRows
  rw [shapeCast_apply (s := S32x8x1024) (t := S256x1024) _ _ _ (ix3 (sequence n) (place n) k) (by
    rw [Shape.rowMajor_val_two, Shape.rowMajor_val_three]
    show (n.val / 8 * 8 + n.val % 8) * 1024 + k.val = n.val * 1024 + k.val
    rw [Nat.div_add_mod'])]
  rw [broadcastInDim_apply (s := S32x1x1024) (t := S32x8x1024) _ _ _ _ (ix3 (sequence n) (0 : Fin 1) k) fun a => match a with
    | ⟨0, _⟩ => rfl
    | ⟨1, _⟩ => rfl
    | ⟨2, _⟩ => rfl]
  rw [broadcastInDim_apply (s := S32x1024) (t := S32x1x1024) _ _ _ _ (ix2 (sequence n) k) fun a => match a with
    | ⟨0, _⟩ => rfl
    | ⟨1, _⟩ => rfl]
  refine (shapeCast_1ab_ab_apply _ _ (sequence n) k).trans ?_
  exact extractStridedSlice_apply (s := S6x40x1024) (t := S1x32x1024) _ _ _ _ _ fun a => match a with
    | ⟨0, _⟩ => rfl
    | ⟨1, _⟩ => (Nat.zero_add _).symm
    | ⟨2, _⟩ => (Nat.zero_add _).symm

/-- The whole reference. -/
def whole : FVec Ideal S256x1024 .f32 :=
  addf x (mulf (modRows mo) (Host.dotGeneral (φ₁ := .f32) (φ₂ := .f32) dot_S256x1024_S1024x1024_S256x1024_1_0_0_1_n_n none
    (merge o st u ga gb dw db lg lb wa wb bp) (shapeCast _ wo shapeCasts_S1x1024x1024_S1024x1024)))

theorem whole_eq : whole x o st u ga gb mo dw db lg lb wa wb bp wo = results x o st u ga gb mo dw db lg lb wa wb bp wo := by
  funext i
  obtain ⟨n, k, rfl⟩ : ∃ (n : Fin 256) (k : Fin 1024), i = ix2 n k := ⟨i 0, i 1, eq_ix2 i⟩
  unfold whole
  rw [addf_apply, mulf_apply, modRows_apply]
  refine congrArg (fun z => x (ix2 n k) + mo (ix3 (2 : Fin 6) (sampleRow (sequence n)) k) * z) ?_
  refine (rows_product (merge o st u ga gb dw db lg lb wa wb bp) wo shapeCasts_S1x1024x1024_S1024x1024 n k).trans ?_
  exact Finset.sum_congr rfl fun j _ => congrArg (· * _) (merge_apply o st u ga gb dw db lg lb wa wb bp n j)

end Entries

/-! ## The run -/

variable (m : (ℓ : Loc nD τ sig) → Buf (Elt Ideal) ℓ)

/-- The result of the arguments at launch. -/
abbrev resultOf (c : Dev nD) : States := results (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg10))
  (m ((c.tc : Thread nD τ).loc main_arg11)) (m ((c.tc : Thread nD τ).loc main_arg12)) (m ((c.tc : Thread nD τ).loc main_arg13))
  (m ((c.tc : Thread nD τ).loc main_arg14))

/-- Every execution ends with the result at its value and the arguments unchanged. -/
theorem run_results (g : Dev nD → PrngReg) :
    θ_run defs (onTc (τ := τ) (main (F := Ideal))) ⟨m, fun _ => 0, g⟩ fun r => ∀ c : Dev nD,
      r.2.mem ((c.tc : Thread nD τ).loc main_v277) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c).1.trans (whole_eq _ _ _ _ _ _ _ _ _ _ _ _ _ _ _), (h c).2⟩) (run m g)

end Cert.MergeIdeal.Value
-- ==== Proof.lean ====
/-
  The certificate: each program runs and leaves its arguments as they were, the idealized kernel is the kernel with its mask read as −∞,
  and on finite queries and keys the idealized kernel and the reference return the same array. The input projection's kernel and its reference
  return the same seven arrays on all arguments, the sample group's feed-forward kernel and its reference the same array, the sample group's
  input projection and its reference the same six arrays, and the sample group's gated merge and its reference the same array.
-/
module

public import proofs.«01_k».proof.Defs
public import proofs.«01_k».proof.Proof.Gen.Kernel
public import proofs.«01_k».proof.Proof.Kernel.Frame
public import proofs.«01_k».proof.Proof.Gen.KernelIdeal
public import proofs.«01_k».proof.Proof.Gen.ReferenceIdeal
public import proofs.«01_k».proof.Proof.KernelIdeal.Array
public import proofs.«01_k».proof.Proof.Reference
public import proofs.«01_k».proof.Proof.Gen.Inproj.Frame
public import proofs.«01_k».proof.Proof.InprojIdeal.Result
public import proofs.«01_k».proof.Proof.ProjectionIdeal.Result
public import proofs.«01_k».proof.Proof.Gen.Ffn.Frame
public import proofs.«01_k».proof.Proof.FfnIdeal.Result
public import proofs.«01_k».proof.Proof.FeedForwardIdeal.Result
public import proofs.«01_k».proof.Proof.Gen.InprojSample.Frame
public import proofs.«01_k».proof.Proof.InprojSampleIdeal.Result
public import proofs.«01_k».proof.Proof.ProjectionSampleIdeal.Result
public import proofs.«01_k».proof.Proof.Gen.MergeSample.Frame
public import proofs.«01_k».proof.Proof.MergeSampleIdeal.Result
public import proofs.«01_k».proof.Proof.MergeIdeal.Result
public import Idealize.ShloMosaic.Lib.ReduceAll
public import Idealize.ShloMosaic.Lib.Quiescent

@[expose] public section

noncomputable section

namespace Cert.Proof

open Idealize.ShloMosaic Idealize.ShloMosaic.TcCoe Idealize.ShloMosaic.ValueIdx Idealize.SL.Sem

/-! ## The precondition -/

/-- The shapes that the precondition's function cites. -/
theorem pre_facts : Cert.Pre_finite_logits.Facts where
  bitsLt_bf16_f32 := by decide
  bcast_S_S2x1024x8192 := by decide
  reducesTo_S2x1024x8192_S_d0_1_2 := by decide
  h_S_ := by decide
  bcast_S_S16384x1024 := by decide
  reducesTo_S16384x1024_S_d0_1 := by decide

/-- An extended real whose absolute value lies below +∞ is a real number. -/
theorem real_of_lt {x : EReal} (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- Where the precondition holds, queries and keys are real. -/
theorem real_of_pre [hPre : Cert.Pre_finite_logits.Facts] (Q : Cert.Attention.Queries) (K : Cert.Attention.Keys) (V : Cert.Attention.Values)
    (h : Cert.Pre_finite_logits.fn (F := Ideal) Q K V = fun _ => 1#1) : Cert.Attention.Real Q ∧ Cert.Attention.Real K := by
  haveI : Subsingleton Cert.Pre_finite_logits.S_.Idx := ⟨fun a b => funext fun i => i.elim0⟩
  have h0 := congrFun h ix0
  unfold Cert.Pre_finite_logits.fn at h0
  obtain ⟨hq, hk⟩ := IntOp.andi_eq_one.1 h0
  exact ⟨fun i => real_of_lt (Host.reduce_andi_all _ _ _ _ _ hq i), fun i => real_of_lt (Host.reduce_andi_all _ _ _ _ _ hk i)⟩

/-! ## The reference's frame -/

/-- The reference runs, leaves its arguments as they were, and has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m g)

/-! ## The equation -/

/-- Each index of the result is a batch, a query, a head and a column. -/
theorem index_eq (j : (⟨3, ![2, 8192, 512]⟩ : Shape).Idx) :
    ∃ (b : Fin 2) (r : Fin 8192) (H : Fin 8) (d : Fin 64), j = ix3 b r (Cert.Attention.column H d) := by
  have h2 : (j 2).val < 512 := (j 2).isLt
  refine ⟨j 0, j 1, ⟨(j 2).val / 64, by omega⟩, ⟨(j 2).val % 64, by omega⟩, (eq_ix3 j).trans (congrArg (ix3 (j 0) (j 1)) (Fin.ext ?_))⟩
  exact (Nat.div_add_mod _ _).symm

/-- Where the precondition holds and the arguments agree, the two arrays are equal. -/
theorem arrays_eq [Cert.Pre_finite_logits.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_finite_logits.fn (F := Ideal) (Cert.KernelIdeal.Value.argQ m c) (Cert.KernelIdeal.Value.argK m c)
      (Cert.KernelIdeal.Value.argV m c) = fun _ => 1#1)
    (hq : Cert.ReferenceIdeal.Value.argQ m' c = Cert.KernelIdeal.Value.argQ m c) (hk : Cert.ReferenceIdeal.Value.argK m' c = Cert.KernelIdeal.Value.argK m c)
    (hv : Cert.ReferenceIdeal.Value.argV m' c = Cert.KernelIdeal.Value.argV m c) :
    (Cert.ReferenceIdeal.Value.res_main_v31 m' c : (⟨3, ![2, 8192, 512]⟩ : Shape).Idx → EReal) = (Cert.KernelIdeal.Gen.dats m 0 c).arrAt 3 Cert.KernelIdeal.cfg0.N := by
  obtain ⟨hQ, hK⟩ := real_of_pre _ _ _ hpre
  funext j
  obtain ⟨b, r, H, d, rfl⟩ := index_eq j
  refine (Cert.ReferenceIdeal.Value.result_apply m' c (hq ▸ hQ) (hk ▸ hK) b r H d).trans ?_
  rw [hq, hk, hv]
  exact (Cert.KernelIdeal.Value.array_apply m c hQ hK b r H d).symm

theorem algebraic [hPre : Cert.Pre_finite_logits.Facts] : Cert.algebraic_KernelIdeal_ReferenceIdeal_pre_finite_logits
    (hKernelIdeal := Cert.KernelIdeal.Gen.facts) (hReferenceIdeal := Cert.ReferenceIdeal.Gen.facts) (hPre_finite_logits := hPre) :=
  fun m g m' g' hpre hargs => ⟨fun c => (Cert.KernelIdeal.Gen.dats m 0 c).arrAt 3 Cert.KernelIdeal.cfg0.N,
    Cert.KernelIdeal.Value.run_blocks m g,
    (θ_run _ _ _).mono (fun _ h c => ⟨(h c).1.trans (arrays_eq m m' c (hpre c) (hargs c).1 (hargs c).2.1 (hargs c).2.2), (h c).2⟩)
      (Cert.ReferenceIdeal.Value.run m' g')⟩

/-! ## The input projection -/

/-- The reference of the projection runs, leaves its arguments as they were, and has no semaphore. -/
theorem projection_frame : Cert.quiescent_ProjectionIdeal (hProjectionIdeal := Cert.ProjectionIdeal.Gen.facts) :=
  fun m g _ => (θ_run _ _ _).mono (fun r h => ⟨fun c => (h c).2, sem_eq_zero_of_no_sems rfl r.2⟩) (Cert.ProjectionIdeal.Value.run_results m g)

/-- Where the arguments agree, the projection's kernel and its reference return the same arrays. -/
theorem projection_algebraic : Cert.algebraic_InprojIdeal_ProjectionIdeal
    (hInprojIdeal := Cert.InprojIdeal.Gen.facts) (hProjectionIdeal := Cert.ProjectionIdeal.Gen.facts) := by
  intro m g m' g' _ hargs
  refine ⟨_, _, _, _, _, _, _, Cert.InprojIdeal.Value.run_results m g, (θ_run _ _ _).mono (fun r h c => ?_) (Cert.ProjectionIdeal.Value.run_results m' g')⟩
  have hx : Cert.ProjectionIdeal.Value.argX m' c = Cert.InprojIdeal.Value.argX m c := (hargs c).1
  have hm : Cert.ProjectionIdeal.Value.argM m' c = Cert.InprojIdeal.Value.argM m c := (hargs c).2.1
  have hg : Cert.ProjectionIdeal.Value.argG m' c = Cert.InprojIdeal.Value.argG m c := (hargs c).2.2.1
  have hw : Cert.ProjectionIdeal.Value.argW m' c = Cert.InprojIdeal.Value.argW m c := (hargs c).2.2.2.1
  have hb : Cert.ProjectionIdeal.Value.argB m' c = Cert.InprojIdeal.Value.argB m c := (hargs c).2.2.2.2.1
  have h' := h c
  rw [hx, hm, hg, hw, hb] at h'
  obtain ⟨⟨h0, h1, h2, h3, h4, h5, h6⟩, hrest⟩ := h'
  exact ⟨h0, h1, h2, h3, h4, h5, h6, hrest⟩

/-! ## The feed-forward part -/

/-- The reference of the feed-forward part runs, leaves its arguments as they were, and has no semaphore. -/
theorem feed_forward_frame : Cert.quiescent_FeedForwardIdeal (hFeedForwardIdeal := Cert.FeedForwardIdeal.Gen.facts) :=
  fun m g _ => (θ_run _ _ _).mono (fun r h => ⟨fun c => (h c).2, sem_eq_zero_of_no_sems rfl r.2⟩) (Cert.FeedForwardIdeal.Value.run_results m g)

/-- Where the arguments agree, the feed-forward kernel and its reference return the same array. -/
theorem feed_forward_algebraic : Cert.algebraic_FfnIdeal_FeedForwardIdeal
    (hFfnIdeal := Cert.FfnIdeal.Gen.facts) (hFeedForwardIdeal := Cert.FeedForwardIdeal.Gen.facts) := by
  intro m g m' g' _ hargs
  refine ⟨_, Cert.FfnIdeal.Value.run_results m g, (θ_run _ _ _).mono (fun r h c => ?_) (Cert.FeedForwardIdeal.Value.run_results m' g')⟩
  have hx : Cert.FeedForwardIdeal.Value.argX m' c = Cert.FfnIdeal.Value.argX m c := (hargs c).1
  have hm : Cert.FeedForwardIdeal.Value.argM m' c = Cert.FfnIdeal.Value.argM m c := (hargs c).2.1
  have hg : Cert.FeedForwardIdeal.Value.argG m' c = Cert.FfnIdeal.Value.argG m c := (hargs c).2.2.1
  have hf : Cert.FeedForwardIdeal.Value.argF m' c = Cert.FfnIdeal.Value.argF m c := (hargs c).2.2.2.1
  have hw : Cert.FeedForwardIdeal.Value.argW m' c = Cert.FfnIdeal.Value.argW m c := (hargs c).2.2.2.2.1
  have hv : Cert.FeedForwardIdeal.Value.argV m' c = Cert.FfnIdeal.Value.argV m c := (hargs c).2.2.2.2.2
  have h' := h c
  rw [hx, hm, hg, hf, hw, hv] at h'
  exact h'

/-! ## The sample group's input projection -/

/-- The reference of the sample group's projection runs, leaves its arguments as they were, and has no semaphore. -/
theorem sample_projection_frame : Cert.quiescent_ProjectionSampleIdeal (hProjectionSampleIdeal := Cert.ProjectionSampleIdeal.Gen.facts) :=
  fun m g _ => (θ_run _ _ _).mono (fun r h => ⟨fun c => (h c).2, sem_eq_zero_of_no_sems rfl r.2⟩) (Cert.ProjectionSampleIdeal.Value.run_results m g)

open Cert.ProjectionSample Cert.InprojSampleIdeal.Value in
/-- Where the arguments agree, the kernel of the sample group's projection and its reference return the same arrays. -/
theorem sample_projection_algebraic : Cert.algebraic_InprojSampleIdeal_ProjectionSampleIdeal
    (hInprojSampleIdeal := Cert.InprojSampleIdeal.Gen.facts) (hProjectionSampleIdeal := Cert.ProjectionSampleIdeal.Gen.facts) := by
  intro m g m' g' _ hargs
  refine ⟨fun c => columnsFrom (argX m c) (argM m c) (argG m c) (argW m c) (argB m c) 512 (by decide),
    fun c => columnsFrom (argX m c) (argM m c) (argG m c) (argW m c) (argB m c) 1024 (by decide),
    fun c => forgetRows (argX m c) (argM m c) (argG m c) (argW m c) (argB m c),
    fun c => sampleSlabs (argX m c) (argM m c) (argG m c) (argW m c) (argB m c),
    fun c => sampleGates (argX m c) (argM m c) (argG m c) (argW m c) (argB m c) 2568 (by decide),
    fun c => sampleGates (argX m c) (argM m c) (argG m c) (argW m c) (argB m c) 3592 (by decide),
    (θ_run _ _ _).mono (fun r h c => ?_) (Cert.InprojSampleIdeal.Value.run_results m g),
    (θ_run _ _ _).mono (fun r h c => ?_) (Cert.ProjectionSampleIdeal.Value.run_results m' g')⟩
  · obtain ⟨⟨h0, h1, h2, h3, h4, h5⟩, hrest⟩ := h c
    exact ⟨h0, h1, h2, h3, h4, h5, hrest⟩
  have hx : Cert.ProjectionSampleIdeal.Value.argX m' c = Cert.InprojSampleIdeal.Value.argX m c := (hargs c).1
  have hm : Cert.ProjectionSampleIdeal.Value.argM m' c = Cert.InprojSampleIdeal.Value.argM m c := (hargs c).2.1
  have hg : Cert.ProjectionSampleIdeal.Value.argG m' c = Cert.InprojSampleIdeal.Value.argG m c := (hargs c).2.2.1
  have hw : Cert.ProjectionSampleIdeal.Value.argW m' c = Cert.InprojSampleIdeal.Value.argW m c := (hargs c).2.2.2.1
  have hb : Cert.ProjectionSampleIdeal.Value.argB m' c = Cert.InprojSampleIdeal.Value.argB m c := (hargs c).2.2.2.2.1
  have h' := h c
  rw [hx, hm, hg, hw, hb] at h'
  obtain ⟨⟨h0, h1, h2, h3, h4, h5⟩, hrest⟩ := h'
  exact ⟨h0, h1, h2, h3, h4, h5, hrest⟩

/-! ## The sample group's gated merge -/

/-- The reference of the gated merge runs, leaves its arguments as they were, and has no semaphore. -/
theorem merge_frame : Cert.quiescent_MergeIdeal (hMergeIdeal := Cert.MergeIdeal.Gen.facts) :=
  fun m g _ => (θ_run _ _ _).mono (fun r h => ⟨fun c => (h c).2, sem_eq_zero_of_no_sems rfl r.2⟩) (Cert.MergeIdeal.Value.run_results m g)

/-- Where the arguments agree, the gated merge's kernel and its reference return the same array. -/
theorem merge_algebraic : Cert.algebraic_MergeSampleIdeal_MergeIdeal
    (hMergeSampleIdeal := Cert.MergeSampleIdeal.Gen.facts) (hMergeIdeal := Cert.MergeIdeal.Gen.facts) := by
  intro m g m' g' _ hargs
  refine ⟨_, Cert.MergeSampleIdeal.Value.run_results m g, (θ_run _ _ _).mono (fun r h c => ?_) (Cert.MergeIdeal.Value.run_results m' g')⟩
  obtain ⟨hx, ho, hs, hu, hga, hgb, hm, hdw, hdb, hlg, hlb, hwa, hwb, hbp, hwo⟩ := hargs c
  refine ⟨(h c).1.trans ?_, (h c).2⟩
  unfold Cert.MergeIdeal.Value.resultOf
  rw [hx, ho, hs, hu, hga, hgb, hm, hdw, hdb, hlg, hlb, hwa, hwb, hbp, hwo]

/-! ## The claim -/

theorem claim : Cert.Claim :=
  ⟨Cert.Kernel.Gen.facts, Cert.KernelIdeal.Gen.facts, Cert.ReferenceIdeal.Gen.facts, Cert.Inproj.Gen.facts, Cert.InprojIdeal.Gen.facts,
    Cert.ProjectionIdeal.Gen.facts, Cert.Ffn.Gen.facts, Cert.FfnIdeal.Gen.facts, Cert.FeedForwardIdeal.Gen.facts,
    Cert.InprojSample.Gen.facts, Cert.InprojSampleIdeal.Gen.facts, Cert.ProjectionSampleIdeal.Gen.facts,
    Cert.MergeSample.Gen.facts, Cert.MergeSampleIdeal.Gen.facts, Cert.MergeIdeal.Gen.facts, pre_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.Inproj.Gen.frame m g,
    fun m g _ => Cert.InprojIdeal.Gen.frame m g,
    projection_frame,
    fun m g _ => Cert.Ffn.Gen.frame m g,
    fun m g _ => Cert.FfnIdeal.Gen.frame m g,
    feed_forward_frame,
    fun m g _ => Cert.InprojSample.Gen.frame m g,
    fun m g _ => Cert.InprojSampleIdeal.Gen.frame m g,
    sample_projection_frame,
    fun m g _ => Cert.MergeSample.Gen.frame m g,
    fun m g _ => Cert.MergeSampleIdeal.Gen.frame m g,
    merge_frame,
    IdealRules.named_const.statement _ _ _ _ _ rfl,
    algebraic (hPre := pre_facts),
    trivial,
    projection_algebraic,
    trivial,
    feed_forward_algebraic,
    trivial,
    sample_projection_algebraic,
    trivial,
    merge_algebraic⟩

end Cert.Proof

end
